-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_KernelDwo (m : (ℓ : Loc Cert.KernelDwo.nD Cert.KernelDwo.τ Cert.KernelDwo.sig) → Buf (Elt Bits) ℓ) : Prop :=
  True

def Pre_KernelDwoIdeal (m : (ℓ : Loc Cert.KernelDwoIdeal.nD Cert.KernelDwoIdeal.τ Cert.KernelDwoIdeal.sig) → Buf (Elt Ideal) ℓ) : Prop :=
  True

def Pre_ReferenceDwoIdeal (m : (ℓ : Loc Cert.ReferenceDwoIdeal.nD Cert.ReferenceDwoIdeal.τ Cert.ReferenceDwoIdeal.sig) → Buf (Elt Ideal) ℓ) : Prop :=
  True

def Pre_KernelDwg (m : (ℓ : Loc Cert.KernelDwg.nD Cert.KernelDwg.τ Cert.KernelDwg.sig) → Buf (Elt Bits) ℓ) : Prop :=
  True

def Pre_KernelDwgIdeal (m : (ℓ : Loc Cert.KernelDwgIdeal.nD Cert.KernelDwgIdeal.τ Cert.KernelDwgIdeal.sig) → Buf (Elt Ideal) ℓ) : Prop :=
  True

def Pre_ReferenceDwgIdeal (m : (ℓ : Loc Cert.ReferenceDwgIdeal.nD Cert.ReferenceDwgIdeal.τ Cert.ReferenceDwgIdeal.sig) → Buf (Elt Ideal) ℓ) : Prop :=
  True

def Pre_KernelDwu (m : (ℓ : Loc Cert.KernelDwu.nD Cert.KernelDwu.τ Cert.KernelDwu.sig) → Buf (Elt Bits) ℓ) : Prop :=
  True

def Pre_KernelDwuIdeal (m : (ℓ : Loc Cert.KernelDwuIdeal.nD Cert.KernelDwuIdeal.τ Cert.KernelDwuIdeal.sig) → Buf (Elt Ideal) ℓ) : Prop :=
  True

def Pre_ReferenceDwuIdeal (m : (ℓ : Loc Cert.ReferenceDwuIdeal.nD Cert.ReferenceDwuIdeal.τ Cert.ReferenceDwuIdeal.sig) → Buf (Elt Ideal) ℓ) : Prop :=
  True

def Pre_KernelMdo (m : (ℓ : Loc Cert.KernelMdo.nD Cert.KernelMdo.τ Cert.KernelMdo.sig) → Buf (Elt Bits) ℓ) : Prop :=
  True

def Pre_KernelMdoIdeal (m : (ℓ : Loc Cert.KernelMdoIdeal.nD Cert.KernelMdoIdeal.τ Cert.KernelMdoIdeal.sig) → Buf (Elt Ideal) ℓ) : Prop :=
  True

def Pre_ReferenceMdoIdeal (m : (ℓ : Loc Cert.ReferenceMdoIdeal.nD Cert.ReferenceMdoIdeal.τ Cert.ReferenceMdoIdeal.sig) → Buf (Elt Ideal) ℓ) : Prop :=
  True

def Pre_KernelMdi (m : (ℓ : Loc Cert.KernelMdi.nD Cert.KernelMdi.τ Cert.KernelMdi.sig) → Buf (Elt Bits) ℓ) : Prop :=
  True

def Pre_KernelMdiIdeal (m : (ℓ : Loc Cert.KernelMdiIdeal.nD Cert.KernelMdiIdeal.τ Cert.KernelMdiIdeal.sig) → Buf (Elt Ideal) ℓ) : Prop :=
  True

def Pre_ReferenceMdiIdeal (m : (ℓ : Loc Cert.ReferenceMdiIdeal.nD Cert.ReferenceMdiIdeal.τ Cert.ReferenceMdiIdeal.sig) → Buf (Elt Ideal) ℓ) : Prop :=
  True

def Pre_KernelFin (m : (ℓ : Loc Cert.KernelFin.nD Cert.KernelFin.τ Cert.KernelFin.sig) → Buf (Elt Bits) ℓ) : Prop :=
  True

def Pre_KernelFinIdeal (m : (ℓ : Loc Cert.KernelFinIdeal.nD Cert.KernelFinIdeal.τ Cert.KernelFinIdeal.sig) → Buf (Elt Ideal) ℓ) : Prop :=
  True

def Pre_ReferenceFinIdeal (m : (ℓ : Loc Cert.ReferenceFinIdeal.nD Cert.ReferenceFinIdeal.τ Cert.ReferenceFinIdeal.sig) → Buf (Elt Ideal) ℓ) : Prop :=
  True

def Pre_KernelFout (m : (ℓ : Loc Cert.KernelFout.nD Cert.KernelFout.τ Cert.KernelFout.sig) → Buf (Elt Bits) ℓ) : Prop :=
  True

def Pre_KernelFoutIdeal (m : (ℓ : Loc Cert.KernelFoutIdeal.nD Cert.KernelFoutIdeal.τ Cert.KernelFoutIdeal.sig) → Buf (Elt Ideal) ℓ) : Prop :=
  True

def Pre_ReferenceFoutIdeal (m : (ℓ : Loc Cert.ReferenceFoutIdeal.nD Cert.ReferenceFoutIdeal.τ Cert.ReferenceFoutIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.2 = (fun _ => 1#1)

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_KernelLossIdeal_finite_loss [hPre_finite_loss : Cert.Pre_finite_loss.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10))).1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10))).2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10))).2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10))).2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10))).2.2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10))).2.2.2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10))).2.2.2.2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10))).2.2.2.2.2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10))).2.2.2.2.2.2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10))).2.2.2.2.2.2.2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10))).2.2.2.2.2.2.2.2.2.2 = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_finite_loss [hPre_finite_loss : Cert.Pre_finite_loss.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10))).1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10))).2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10))).2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10))).2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10))).2.2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10))).2.2.2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10))).2.2.2.2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10))).2.2.2.2.2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10))).2.2.2.2.2.2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10))).2.2.2.2.2.2.2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10))).2.2.2.2.2.2.2.2.2.2 = (fun _ => 1#1)

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelAcm (m : (ℓ : Loc Cert.KernelAcm.nD Cert.KernelAcm.τ Cert.KernelAcm.sig) → Buf (Elt Bits) ℓ) : Prop :=
  True

def Pre_KernelAcmIdeal (m : (ℓ : Loc Cert.KernelAcmIdeal.nD Cert.KernelAcmIdeal.τ Cert.KernelAcmIdeal.sig) → Buf (Elt Ideal) ℓ) : Prop :=
  True

def Pre_ReferenceAcmIdeal (m : (ℓ : Loc Cert.ReferenceAcmIdeal.nD Cert.ReferenceAcmIdeal.τ Cert.ReferenceAcmIdeal.sig) → Buf (Elt Ideal) ℓ) : Prop :=
  True

def Pre_KernelAcf (m : (ℓ : Loc Cert.KernelAcf.nD Cert.KernelAcf.τ Cert.KernelAcf.sig) → Buf (Elt Bits) ℓ) : Prop :=
  True

def Pre_KernelAcfIdeal (m : (ℓ : Loc Cert.KernelAcfIdeal.nD Cert.KernelAcfIdeal.τ Cert.KernelAcfIdeal.sig) → Buf (Elt Ideal) ℓ) : Prop :=
  True

def Pre_ReferenceAcfIdeal (m : (ℓ : Loc Cert.ReferenceAcfIdeal.nD Cert.ReferenceAcfIdeal.τ Cert.ReferenceAcfIdeal.sig) → Buf (Elt Ideal) ℓ) : Prop :=
  True

def Pre_KernelAbm (m : (ℓ : Loc Cert.KernelAbm.nD Cert.KernelAbm.τ Cert.KernelAbm.sig) → Buf (Elt Bits) ℓ) : Prop :=
  True

def Pre_KernelAbmIdeal (m : (ℓ : Loc Cert.KernelAbmIdeal.nD Cert.KernelAbmIdeal.τ Cert.KernelAbmIdeal.sig) → Buf (Elt Ideal) ℓ) : Prop :=
  True

def Pre_ReferenceAbmIdeal (m : (ℓ : Loc Cert.ReferenceAbmIdeal.nD Cert.ReferenceAbmIdeal.τ Cert.ReferenceAbmIdeal.sig) → Buf (Elt Ideal) ℓ) : Prop :=
  True

def Pre_KernelAbf (m : (ℓ : Loc Cert.KernelAbf.nD Cert.KernelAbf.τ Cert.KernelAbf.sig) → Buf (Elt Bits) ℓ) : Prop :=
  True

def Pre_KernelAbfIdeal (m : (ℓ : Loc Cert.KernelAbfIdeal.nD Cert.KernelAbfIdeal.τ Cert.KernelAbfIdeal.sig) → Buf (Elt Ideal) ℓ) : Prop :=
  True

def Pre_ReferenceAbfIdeal (m : (ℓ : Loc Cert.ReferenceAbfIdeal.nD Cert.ReferenceAbfIdeal.τ Cert.ReferenceAbfIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelDwo [hKernelDwo : Cert.KernelDwo.Facts] : Prop :=
  ∀ (m : (ℓ : Loc Cert.KernelDwo.nD Cert.KernelDwo.τ Cert.KernelDwo.sig) → Buf (Elt Bits) ℓ) (g : Dev Cert.KernelDwo.nD → PrngReg), Pre_KernelDwo m →
    θ_run (Cert.KernelDwo.defs (F := Bits)) (onTc (τ := Cert.KernelDwo.τ) (Cert.KernelDwo.main (F := Bits))) ⟨m, fun _ => 0, g⟩ (fun r => (∀ c : Dev Cert.KernelDwo.nD,
      r.2.mem ((c.tc : Thread Cert.KernelDwo.nD Cert.KernelDwo.τ).loc Cert.KernelDwo.main_arg0) = m ((c.tc : Thread Cert.KernelDwo.nD Cert.KernelDwo.τ).loc Cert.KernelDwo.main_arg0)
      ∧ r.2.mem ((c.tc : Thread Cert.KernelDwo.nD Cert.KernelDwo.τ).loc Cert.KernelDwo.main_arg1) = m ((c.tc : Thread Cert.KernelDwo.nD Cert.KernelDwo.τ).loc Cert.KernelDwo.main_arg1))
      ∧ r.2.sem = fun _ => 0)

def quiescent_KernelDwoIdeal [hKernelDwoIdeal : Cert.KernelDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg), Pre_KernelDwoIdeal m →
    θ_run (Cert.KernelDwoIdeal.defs (F := Ideal)) (onTc (τ := Cert.KernelDwoIdeal.τ) (Cert.KernelDwoIdeal.main (F := Ideal))) ⟨m, fun _ => 0, g⟩ (fun r => (∀ c : Dev Cert.KernelDwoIdeal.nD,
      r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
      ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1))
      ∧ r.2.sem = fun _ => 0)

def quiescent_ReferenceDwoIdeal [hReferenceDwoIdeal : Cert.ReferenceDwoIdeal.Facts] : Prop :=
  ∀ (m : (ℓ : Loc Cert.ReferenceDwoIdeal.nD Cert.ReferenceDwoIdeal.τ Cert.ReferenceDwoIdeal.sig) → Buf (Elt Ideal) ℓ) (g : Dev Cert.ReferenceDwoIdeal.nD → PrngReg), Pre_ReferenceDwoIdeal m →
    θ_run (Cert.ReferenceDwoIdeal.defs (F := Ideal)) (onTc (τ := Cert.ReferenceDwoIdeal.τ) (Cert.ReferenceDwoIdeal.main (F := Ideal))) ⟨m, fun _ => 0, g⟩ (fun r => (∀ c : Dev Cert.ReferenceDwoIdeal.nD,
      r.2.mem ((c.tc : Thread Cert.ReferenceDwoIdeal.nD Cert.ReferenceDwoIdeal.τ).loc Cert.ReferenceDwoIdeal.main_arg0) = m ((c.tc : Thread Cert.ReferenceDwoIdeal.nD Cert.ReferenceDwoIdeal.τ).loc Cert.ReferenceDwoIdeal.main_arg0)
      ∧ r.2.mem ((c.tc : Thread Cert.ReferenceDwoIdeal.nD Cert.ReferenceDwoIdeal.τ).loc Cert.ReferenceDwoIdeal.main_arg1) = m ((c.tc : Thread Cert.ReferenceDwoIdeal.nD Cert.ReferenceDwoIdeal.τ).loc Cert.ReferenceDwoIdeal.main_arg1))
      ∧ r.2.sem = fun _ => 0)

def quiescent_KernelDwg [hKernelDwg : Cert.KernelDwg.Facts] : Prop :=
  ∀ (m : (ℓ : Loc Cert.KernelDwg.nD Cert.KernelDwg.τ Cert.KernelDwg.sig) → Buf (Elt Bits) ℓ) (g : Dev Cert.KernelDwg.nD → PrngReg), Pre_KernelDwg m →
    θ_run (Cert.KernelDwg.defs (F := Bits)) (onTc (τ := Cert.KernelDwg.τ) (Cert.KernelDwg.main (F := Bits))) ⟨m, fun _ => 0, g⟩ (fun r => (∀ c : Dev Cert.KernelDwg.nD,
      r.2.mem ((c.tc : Thread Cert.KernelDwg.nD Cert.KernelDwg.τ).loc Cert.KernelDwg.main_arg0) = m ((c.tc : Thread Cert.KernelDwg.nD Cert.KernelDwg.τ).loc Cert.KernelDwg.main_arg0)
      ∧ r.2.mem ((c.tc : Thread Cert.KernelDwg.nD Cert.KernelDwg.τ).loc Cert.KernelDwg.main_arg1) = m ((c.tc : Thread Cert.KernelDwg.nD Cert.KernelDwg.τ).loc Cert.KernelDwg.main_arg1))
      ∧ r.2.sem = fun _ => 0)

def quiescent_KernelDwgIdeal [hKernelDwgIdeal : Cert.KernelDwgIdeal.Facts] : Prop :=
  ∀ (m : (ℓ : Loc Cert.KernelDwgIdeal.nD Cert.KernelDwgIdeal.τ Cert.KernelDwgIdeal.sig) → Buf (Elt Ideal) ℓ) (g : Dev Cert.KernelDwgIdeal.nD → PrngReg), Pre_KernelDwgIdeal m →
    θ_run (Cert.KernelDwgIdeal.defs (F := Ideal)) (onTc (τ := Cert.KernelDwgIdeal.τ) (Cert.KernelDwgIdeal.main (F := Ideal))) ⟨m, fun _ => 0, g⟩ (fun r => (∀ c : Dev Cert.KernelDwgIdeal.nD,
      r.2.mem ((c.tc : Thread Cert.KernelDwgIdeal.nD Cert.KernelDwgIdeal.τ).loc Cert.KernelDwgIdeal.main_arg0) = m ((c.tc : Thread Cert.KernelDwgIdeal.nD Cert.KernelDwgIdeal.τ).loc Cert.KernelDwgIdeal.main_arg0)
      ∧ r.2.mem ((c.tc : Thread Cert.KernelDwgIdeal.nD Cert.KernelDwgIdeal.τ).loc Cert.KernelDwgIdeal.main_arg1) = m ((c.tc : Thread Cert.KernelDwgIdeal.nD Cert.KernelDwgIdeal.τ).loc Cert.KernelDwgIdeal.main_arg1))
      ∧ r.2.sem = fun _ => 0)

def quiescent_ReferenceDwgIdeal [hReferenceDwgIdeal : Cert.ReferenceDwgIdeal.Facts] : Prop :=
  ∀ (m : (ℓ : Loc Cert.ReferenceDwgIdeal.nD Cert.ReferenceDwgIdeal.τ Cert.ReferenceDwgIdeal.sig) → Buf (Elt Ideal) ℓ) (g : Dev Cert.ReferenceDwgIdeal.nD → PrngReg), Pre_ReferenceDwgIdeal m →
    θ_run (Cert.ReferenceDwgIdeal.defs (F := Ideal)) (onTc (τ := Cert.ReferenceDwgIdeal.τ) (Cert.ReferenceDwgIdeal.main (F := Ideal))) ⟨m, fun _ => 0, g⟩ (fun r => (∀ c : Dev Cert.ReferenceDwgIdeal.nD,
      r.2.mem ((c.tc : Thread Cert.ReferenceDwgIdeal.nD Cert.ReferenceDwgIdeal.τ).loc Cert.ReferenceDwgIdeal.main_arg0) = m ((c.tc : Thread Cert.ReferenceDwgIdeal.nD Cert.ReferenceDwgIdeal.τ).loc Cert.ReferenceDwgIdeal.main_arg0)
      ∧ r.2.mem ((c.tc : Thread Cert.ReferenceDwgIdeal.nD Cert.ReferenceDwgIdeal.τ).loc Cert.ReferenceDwgIdeal.main_arg1) = m ((c.tc : Thread Cert.ReferenceDwgIdeal.nD Cert.ReferenceDwgIdeal.τ).loc Cert.ReferenceDwgIdeal.main_arg1))
      ∧ r.2.sem = fun _ => 0)

def quiescent_KernelDwu [hKernelDwu : Cert.KernelDwu.Facts] : Prop :=
  ∀ (m : (ℓ : Loc Cert.KernelDwu.nD Cert.KernelDwu.τ Cert.KernelDwu.sig) → Buf (Elt Bits) ℓ) (g : Dev Cert.KernelDwu.nD → PrngReg), Pre_KernelDwu m →
    θ_run (Cert.KernelDwu.defs (F := Bits)) (onTc (τ := Cert.KernelDwu.τ) (Cert.KernelDwu.main (F := Bits))) ⟨m, fun _ => 0, g⟩ (fun r => (∀ c : Dev Cert.KernelDwu.nD,
      r.2.mem ((c.tc : Thread Cert.KernelDwu.nD Cert.KernelDwu.τ).loc Cert.KernelDwu.main_arg0) = m ((c.tc : Thread Cert.KernelDwu.nD Cert.KernelDwu.τ).loc Cert.KernelDwu.main_arg0)
      ∧ r.2.mem ((c.tc : Thread Cert.KernelDwu.nD Cert.KernelDwu.τ).loc Cert.KernelDwu.main_arg1) = m ((c.tc : Thread Cert.KernelDwu.nD Cert.KernelDwu.τ).loc Cert.KernelDwu.main_arg1)
      ∧ r.2.mem ((c.tc : Thread Cert.KernelDwu.nD Cert.KernelDwu.τ).loc Cert.KernelDwu.main_arg2) = m ((c.tc : Thread Cert.KernelDwu.nD Cert.KernelDwu.τ).loc Cert.KernelDwu.main_arg2))
      ∧ r.2.sem = fun _ => 0)

def quiescent_KernelDwuIdeal [hKernelDwuIdeal : Cert.KernelDwuIdeal.Facts] : Prop :=
  ∀ (m : (ℓ : Loc Cert.KernelDwuIdeal.nD Cert.KernelDwuIdeal.τ Cert.KernelDwuIdeal.sig) → Buf (Elt Ideal) ℓ) (g : Dev Cert.KernelDwuIdeal.nD → PrngReg), Pre_KernelDwuIdeal m →
    θ_run (Cert.KernelDwuIdeal.defs (F := Ideal)) (onTc (τ := Cert.KernelDwuIdeal.τ) (Cert.KernelDwuIdeal.main (F := Ideal))) ⟨m, fun _ => 0, g⟩ (fun r => (∀ c : Dev Cert.KernelDwuIdeal.nD,
      r.2.mem ((c.tc : Thread Cert.KernelDwuIdeal.nD Cert.KernelDwuIdeal.τ).loc Cert.KernelDwuIdeal.main_arg0) = m ((c.tc : Thread Cert.KernelDwuIdeal.nD Cert.KernelDwuIdeal.τ).loc Cert.KernelDwuIdeal.main_arg0)
      ∧ r.2.mem ((c.tc : Thread Cert.KernelDwuIdeal.nD Cert.KernelDwuIdeal.τ).loc Cert.KernelDwuIdeal.main_arg1) = m ((c.tc : Thread Cert.KernelDwuIdeal.nD Cert.KernelDwuIdeal.τ).loc Cert.KernelDwuIdeal.main_arg1)
      ∧ r.2.mem ((c.tc : Thread Cert.KernelDwuIdeal.nD Cert.KernelDwuIdeal.τ).loc Cert.KernelDwuIdeal.main_arg2) = m ((c.tc : Thread Cert.KernelDwuIdeal.nD Cert.KernelDwuIdeal.τ).loc Cert.KernelDwuIdeal.main_arg2))
      ∧ r.2.sem = fun _ => 0)

def quiescent_ReferenceDwuIdeal [hReferenceDwuIdeal : Cert.ReferenceDwuIdeal.Facts] : Prop :=
  ∀ (m : (ℓ : Loc Cert.ReferenceDwuIdeal.nD Cert.ReferenceDwuIdeal.τ Cert.ReferenceDwuIdeal.sig) → Buf (Elt Ideal) ℓ) (g : Dev Cert.ReferenceDwuIdeal.nD → PrngReg), Pre_ReferenceDwuIdeal m →
    θ_run (Cert.ReferenceDwuIdeal.defs (F := Ideal)) (onTc (τ := Cert.ReferenceDwuIdeal.τ) (Cert.ReferenceDwuIdeal.main (F := Ideal))) ⟨m, fun _ => 0, g⟩ (fun r => (∀ c : Dev Cert.ReferenceDwuIdeal.nD,
      r.2.mem ((c.tc : Thread Cert.ReferenceDwuIdeal.nD Cert.ReferenceDwuIdeal.τ).loc Cert.ReferenceDwuIdeal.main_arg0) = m ((c.tc : Thread Cert.ReferenceDwuIdeal.nD Cert.ReferenceDwuIdeal.τ).loc Cert.ReferenceDwuIdeal.main_arg0)
      ∧ r.2.mem ((c.tc : Thread Cert.ReferenceDwuIdeal.nD Cert.ReferenceDwuIdeal.τ).loc Cert.ReferenceDwuIdeal.main_arg1) = m ((c.tc : Thread Cert.ReferenceDwuIdeal.nD Cert.ReferenceDwuIdeal.τ).loc Cert.ReferenceDwuIdeal.main_arg1)
      ∧ r.2.mem ((c.tc : Thread Cert.ReferenceDwuIdeal.nD Cert.ReferenceDwuIdeal.τ).loc Cert.ReferenceDwuIdeal.main_arg2) = m ((c.tc : Thread Cert.ReferenceDwuIdeal.nD Cert.ReferenceDwuIdeal.τ).loc Cert.ReferenceDwuIdeal.main_arg2))
      ∧ r.2.sem = fun _ => 0)

def quiescent_KernelMdo [hKernelMdo : Cert.KernelMdo.Facts] : Prop :=
  ∀ (m : (ℓ : Loc Cert.KernelMdo.nD Cert.KernelMdo.τ Cert.KernelMdo.sig) → Buf (Elt Bits) ℓ) (g : Dev Cert.KernelMdo.nD → PrngReg), Pre_KernelMdo m →
    θ_run (Cert.KernelMdo.defs (F := Bits)) (onTc (τ := Cert.KernelMdo.τ) (Cert.KernelMdo.main (F := Bits))) ⟨m, fun _ => 0, g⟩ (fun r => (∀ c : Dev Cert.KernelMdo.nD,
      r.2.mem ((c.tc : Thread Cert.KernelMdo.nD Cert.KernelMdo.τ).loc Cert.KernelMdo.main_arg0) = m ((c.tc : Thread Cert.KernelMdo.nD Cert.KernelMdo.τ).loc Cert.KernelMdo.main_arg0)
      ∧ r.2.mem ((c.tc : Thread Cert.KernelMdo.nD Cert.KernelMdo.τ).loc Cert.KernelMdo.main_arg1) = m ((c.tc : Thread Cert.KernelMdo.nD Cert.KernelMdo.τ).loc Cert.KernelMdo.main_arg1))
      ∧ r.2.sem = fun _ => 0)

def quiescent_KernelMdoIdeal [hKernelMdoIdeal : Cert.KernelMdoIdeal.Facts] : Prop :=
  ∀ (m : (ℓ : Loc Cert.KernelMdoIdeal.nD Cert.KernelMdoIdeal.τ Cert.KernelMdoIdeal.sig) → Buf (Elt Ideal) ℓ) (g : Dev Cert.KernelMdoIdeal.nD → PrngReg), Pre_KernelMdoIdeal m →
    θ_run (Cert.KernelMdoIdeal.defs (F := Ideal)) (onTc (τ := Cert.KernelMdoIdeal.τ) (Cert.KernelMdoIdeal.main (F := Ideal))) ⟨m, fun _ => 0, g⟩ (fun r => (∀ c : Dev Cert.KernelMdoIdeal.nD,
      r.2.mem ((c.tc : Thread Cert.KernelMdoIdeal.nD Cert.KernelMdoIdeal.τ).loc Cert.KernelMdoIdeal.main_arg0) = m ((c.tc : Thread Cert.KernelMdoIdeal.nD Cert.KernelMdoIdeal.τ).loc Cert.KernelMdoIdeal.main_arg0)
      ∧ r.2.mem ((c.tc : Thread Cert.KernelMdoIdeal.nD Cert.KernelMdoIdeal.τ).loc Cert.KernelMdoIdeal.main_arg1) = m ((c.tc : Thread Cert.KernelMdoIdeal.nD Cert.KernelMdoIdeal.τ).loc Cert.KernelMdoIdeal.main_arg1))
      ∧ r.2.sem = fun _ => 0)

def quiescent_ReferenceMdoIdeal [hReferenceMdoIdeal : Cert.ReferenceMdoIdeal.Facts] : Prop :=
  ∀ (m : (ℓ : Loc Cert.ReferenceMdoIdeal.nD Cert.ReferenceMdoIdeal.τ Cert.ReferenceMdoIdeal.sig) → Buf (Elt Ideal) ℓ) (g : Dev Cert.ReferenceMdoIdeal.nD → PrngReg), Pre_ReferenceMdoIdeal m →
    θ_run (Cert.ReferenceMdoIdeal.defs (F := Ideal)) (onTc (τ := Cert.ReferenceMdoIdeal.τ) (Cert.ReferenceMdoIdeal.main (F := Ideal))) ⟨m, fun _ => 0, g⟩ (fun r => (∀ c : Dev Cert.ReferenceMdoIdeal.nD,
      r.2.mem ((c.tc : Thread Cert.ReferenceMdoIdeal.nD Cert.ReferenceMdoIdeal.τ).loc Cert.ReferenceMdoIdeal.main_arg0) = m ((c.tc : Thread Cert.ReferenceMdoIdeal.nD Cert.ReferenceMdoIdeal.τ).loc Cert.ReferenceMdoIdeal.main_arg0)
      ∧ r.2.mem ((c.tc : Thread Cert.ReferenceMdoIdeal.nD Cert.ReferenceMdoIdeal.τ).loc Cert.ReferenceMdoIdeal.main_arg1) = m ((c.tc : Thread Cert.ReferenceMdoIdeal.nD Cert.ReferenceMdoIdeal.τ).loc Cert.ReferenceMdoIdeal.main_arg1))
      ∧ r.2.sem = fun _ => 0)

def quiescent_KernelMdi [hKernelMdi : Cert.KernelMdi.Facts] : Prop :=
  ∀ (m : (ℓ : Loc Cert.KernelMdi.nD Cert.KernelMdi.τ Cert.KernelMdi.sig) → Buf (Elt Bits) ℓ) (g : Dev Cert.KernelMdi.nD → PrngReg), Pre_KernelMdi m →
    θ_run (Cert.KernelMdi.defs (F := Bits)) (onTc (τ := Cert.KernelMdi.τ) (Cert.KernelMdi.main (F := Bits))) ⟨m, fun _ => 0, g⟩ (fun r => (∀ c : Dev Cert.KernelMdi.nD,
      r.2.mem ((c.tc : Thread Cert.KernelMdi.nD Cert.KernelMdi.τ).loc Cert.KernelMdi.main_arg0) = m ((c.tc : Thread Cert.KernelMdi.nD Cert.KernelMdi.τ).loc Cert.KernelMdi.main_arg0)
      ∧ r.2.mem ((c.tc : Thread Cert.KernelMdi.nD Cert.KernelMdi.τ).loc Cert.KernelMdi.main_arg1) = m ((c.tc : Thread Cert.KernelMdi.nD Cert.KernelMdi.τ).loc Cert.KernelMdi.main_arg1))
      ∧ r.2.sem = fun _ => 0)

def quiescent_KernelMdiIdeal [hKernelMdiIdeal : Cert.KernelMdiIdeal.Facts] : Prop :=
  ∀ (m : (ℓ : Loc Cert.KernelMdiIdeal.nD Cert.KernelMdiIdeal.τ Cert.KernelMdiIdeal.sig) → Buf (Elt Ideal) ℓ) (g : Dev Cert.KernelMdiIdeal.nD → PrngReg), Pre_KernelMdiIdeal m →
    θ_run (Cert.KernelMdiIdeal.defs (F := Ideal)) (onTc (τ := Cert.KernelMdiIdeal.τ) (Cert.KernelMdiIdeal.main (F := Ideal))) ⟨m, fun _ => 0, g⟩ (fun r => (∀ c : Dev Cert.KernelMdiIdeal.nD,
      r.2.mem ((c.tc : Thread Cert.KernelMdiIdeal.nD Cert.KernelMdiIdeal.τ).loc Cert.KernelMdiIdeal.main_arg0) = m ((c.tc : Thread Cert.KernelMdiIdeal.nD Cert.KernelMdiIdeal.τ).loc Cert.KernelMdiIdeal.main_arg0)
      ∧ r.2.mem ((c.tc : Thread Cert.KernelMdiIdeal.nD Cert.KernelMdiIdeal.τ).loc Cert.KernelMdiIdeal.main_arg1) = m ((c.tc : Thread Cert.KernelMdiIdeal.nD Cert.KernelMdiIdeal.τ).loc Cert.KernelMdiIdeal.main_arg1))
      ∧ r.2.sem = fun _ => 0)

def quiescent_ReferenceMdiIdeal [hReferenceMdiIdeal : Cert.ReferenceMdiIdeal.Facts] : Prop :=
  ∀ (m : (ℓ : Loc Cert.ReferenceMdiIdeal.nD Cert.ReferenceMdiIdeal.τ Cert.ReferenceMdiIdeal.sig) → Buf (Elt Ideal) ℓ) (g : Dev Cert.ReferenceMdiIdeal.nD → PrngReg), Pre_ReferenceMdiIdeal m →
    θ_run (Cert.ReferenceMdiIdeal.defs (F := Ideal)) (onTc (τ := Cert.ReferenceMdiIdeal.τ) (Cert.ReferenceMdiIdeal.main (F := Ideal))) ⟨m, fun _ => 0, g⟩ (fun r => (∀ c : Dev Cert.ReferenceMdiIdeal.nD,
      r.2.mem ((c.tc : Thread Cert.ReferenceMdiIdeal.nD Cert.ReferenceMdiIdeal.τ).loc Cert.ReferenceMdiIdeal.main_arg0) = m ((c.tc : Thread Cert.ReferenceMdiIdeal.nD Cert.ReferenceMdiIdeal.τ).loc Cert.ReferenceMdiIdeal.main_arg0)
      ∧ r.2.mem ((c.tc : Thread Cert.ReferenceMdiIdeal.nD Cert.ReferenceMdiIdeal.τ).loc Cert.ReferenceMdiIdeal.main_arg1) = m ((c.tc : Thread Cert.ReferenceMdiIdeal.nD Cert.ReferenceMdiIdeal.τ).loc Cert.ReferenceMdiIdeal.main_arg1))
      ∧ r.2.sem = fun _ => 0)

def quiescent_KernelFin [hKernelFin : Cert.KernelFin.Facts] : Prop :=
  ∀ (m : (ℓ : Loc Cert.KernelFin.nD Cert.KernelFin.τ Cert.KernelFin.sig) → Buf (Elt Bits) ℓ) (g : Dev Cert.KernelFin.nD → PrngReg), Pre_KernelFin m →
    θ_run (Cert.KernelFin.defs (F := Bits)) (onTc (τ := Cert.KernelFin.τ) (Cert.KernelFin.main (F := Bits))) ⟨m, fun _ => 0, g⟩ (fun r => (∀ c : Dev Cert.KernelFin.nD,
      r.2.mem ((c.tc : Thread Cert.KernelFin.nD Cert.KernelFin.τ).loc Cert.KernelFin.main_arg0) = m ((c.tc : Thread Cert.KernelFin.nD Cert.KernelFin.τ).loc Cert.KernelFin.main_arg0)
      ∧ r.2.mem ((c.tc : Thread Cert.KernelFin.nD Cert.KernelFin.τ).loc Cert.KernelFin.main_arg1) = m ((c.tc : Thread Cert.KernelFin.nD Cert.KernelFin.τ).loc Cert.KernelFin.main_arg1)
      ∧ r.2.mem ((c.tc : Thread Cert.KernelFin.nD Cert.KernelFin.τ).loc Cert.KernelFin.main_arg2) = m ((c.tc : Thread Cert.KernelFin.nD Cert.KernelFin.τ).loc Cert.KernelFin.main_arg2)
      ∧ r.2.mem ((c.tc : Thread Cert.KernelFin.nD Cert.KernelFin.τ).loc Cert.KernelFin.main_arg3) = m ((c.tc : Thread Cert.KernelFin.nD Cert.KernelFin.τ).loc Cert.KernelFin.main_arg3)
      ∧ r.2.mem ((c.tc : Thread Cert.KernelFin.nD Cert.KernelFin.τ).loc Cert.KernelFin.main_arg4) = m ((c.tc : Thread Cert.KernelFin.nD Cert.KernelFin.τ).loc Cert.KernelFin.main_arg4))
      ∧ r.2.sem = fun _ => 0)

def quiescent_KernelFinIdeal [hKernelFinIdeal : Cert.KernelFinIdeal.Facts] : Prop :=
  ∀ (m : (ℓ : Loc Cert.KernelFinIdeal.nD Cert.KernelFinIdeal.τ Cert.KernelFinIdeal.sig) → Buf (Elt Ideal) ℓ) (g : Dev Cert.KernelFinIdeal.nD → PrngReg), Pre_KernelFinIdeal m →
    θ_run (Cert.KernelFinIdeal.defs (F := Ideal)) (onTc (τ := Cert.KernelFinIdeal.τ) (Cert.KernelFinIdeal.main (F := Ideal))) ⟨m, fun _ => 0, g⟩ (fun r => (∀ c : Dev Cert.KernelFinIdeal.nD,
      r.2.mem ((c.tc : Thread Cert.KernelFinIdeal.nD Cert.KernelFinIdeal.τ).loc Cert.KernelFinIdeal.main_arg0) = m ((c.tc : Thread Cert.KernelFinIdeal.nD Cert.KernelFinIdeal.τ).loc Cert.KernelFinIdeal.main_arg0)
      ∧ r.2.mem ((c.tc : Thread Cert.KernelFinIdeal.nD Cert.KernelFinIdeal.τ).loc Cert.KernelFinIdeal.main_arg1) = m ((c.tc : Thread Cert.KernelFinIdeal.nD Cert.KernelFinIdeal.τ).loc Cert.KernelFinIdeal.main_arg1)
      ∧ r.2.mem ((c.tc : Thread Cert.KernelFinIdeal.nD Cert.KernelFinIdeal.τ).loc Cert.KernelFinIdeal.main_arg2) = m ((c.tc : Thread Cert.KernelFinIdeal.nD Cert.KernelFinIdeal.τ).loc Cert.KernelFinIdeal.main_arg2)
      ∧ r.2.mem ((c.tc : Thread Cert.KernelFinIdeal.nD Cert.KernelFinIdeal.τ).loc Cert.KernelFinIdeal.main_arg3) = m ((c.tc : Thread Cert.KernelFinIdeal.nD Cert.KernelFinIdeal.τ).loc Cert.KernelFinIdeal.main_arg3)
      ∧ r.2.mem ((c.tc : Thread Cert.KernelFinIdeal.nD Cert.KernelFinIdeal.τ).loc Cert.KernelFinIdeal.main_arg4) = m ((c.tc : Thread Cert.KernelFinIdeal.nD Cert.KernelFinIdeal.τ).loc Cert.KernelFinIdeal.main_arg4))
      ∧ r.2.sem = fun _ => 0)

def quiescent_ReferenceFinIdeal [hReferenceFinIdeal : Cert.ReferenceFinIdeal.Facts] : Prop :=
  ∀ (m : (ℓ : Loc Cert.ReferenceFinIdeal.nD Cert.ReferenceFinIdeal.τ Cert.ReferenceFinIdeal.sig) → Buf (Elt Ideal) ℓ) (g : Dev Cert.ReferenceFinIdeal.nD → PrngReg), Pre_ReferenceFinIdeal m →
    θ_run (Cert.ReferenceFinIdeal.defs (F := Ideal)) (onTc (τ := Cert.ReferenceFinIdeal.τ) (Cert.ReferenceFinIdeal.main (F := Ideal))) ⟨m, fun _ => 0, g⟩ (fun r => (∀ c : Dev Cert.ReferenceFinIdeal.nD,
      r.2.mem ((c.tc : Thread Cert.ReferenceFinIdeal.nD Cert.ReferenceFinIdeal.τ).loc Cert.ReferenceFinIdeal.main_arg0) = m ((c.tc : Thread Cert.ReferenceFinIdeal.nD Cert.ReferenceFinIdeal.τ).loc Cert.ReferenceFinIdeal.main_arg0)
      ∧ r.2.mem ((c.tc : Thread Cert.ReferenceFinIdeal.nD Cert.ReferenceFinIdeal.τ).loc Cert.ReferenceFinIdeal.main_arg1) = m ((c.tc : Thread Cert.ReferenceFinIdeal.nD Cert.ReferenceFinIdeal.τ).loc Cert.ReferenceFinIdeal.main_arg1)
      ∧ r.2.mem ((c.tc : Thread Cert.ReferenceFinIdeal.nD Cert.ReferenceFinIdeal.τ).loc Cert.ReferenceFinIdeal.main_arg2) = m ((c.tc : Thread Cert.ReferenceFinIdeal.nD Cert.ReferenceFinIdeal.τ).loc Cert.ReferenceFinIdeal.main_arg2)
      ∧ r.2.mem ((c.tc : Thread Cert.ReferenceFinIdeal.nD Cert.ReferenceFinIdeal.τ).loc Cert.ReferenceFinIdeal.main_arg3) = m ((c.tc : Thread Cert.ReferenceFinIdeal.nD Cert.ReferenceFinIdeal.τ).loc Cert.ReferenceFinIdeal.main_arg3)
      ∧ r.2.mem ((c.tc : Thread Cert.ReferenceFinIdeal.nD Cert.ReferenceFinIdeal.τ).loc Cert.ReferenceFinIdeal.main_arg4) = m ((c.tc : Thread Cert.ReferenceFinIdeal.nD Cert.ReferenceFinIdeal.τ).loc Cert.ReferenceFinIdeal.main_arg4))
      ∧ r.2.sem = fun _ => 0)

def quiescent_KernelFout [hKernelFout : Cert.KernelFout.Facts] : Prop :=
  ∀ (m : (ℓ : Loc Cert.KernelFout.nD Cert.KernelFout.τ Cert.KernelFout.sig) → Buf (Elt Bits) ℓ) (g : Dev Cert.KernelFout.nD → PrngReg), Pre_KernelFout m →
    θ_run (Cert.KernelFout.defs (F := Bits)) (onTc (τ := Cert.KernelFout.τ) (Cert.KernelFout.main (F := Bits))) ⟨m, fun _ => 0, g⟩ (fun r => (∀ c : Dev Cert.KernelFout.nD,
      r.2.mem ((c.tc : Thread Cert.KernelFout.nD Cert.KernelFout.τ).loc Cert.KernelFout.main_arg0) = m ((c.tc : Thread Cert.KernelFout.nD Cert.KernelFout.τ).loc Cert.KernelFout.main_arg0)
      ∧ r.2.mem ((c.tc : Thread Cert.KernelFout.nD Cert.KernelFout.τ).loc Cert.KernelFout.main_arg1) = m ((c.tc : Thread Cert.KernelFout.nD Cert.KernelFout.τ).loc Cert.KernelFout.main_arg1)
      ∧ r.2.mem ((c.tc : Thread Cert.KernelFout.nD Cert.KernelFout.τ).loc Cert.KernelFout.main_arg2) = m ((c.tc : Thread Cert.KernelFout.nD Cert.KernelFout.τ).loc Cert.KernelFout.main_arg2)
      ∧ r.2.mem ((c.tc : Thread Cert.KernelFout.nD Cert.KernelFout.τ).loc Cert.KernelFout.main_arg3) = m ((c.tc : Thread Cert.KernelFout.nD Cert.KernelFout.τ).loc Cert.KernelFout.main_arg3))
      ∧ r.2.sem = fun _ => 0)

def quiescent_KernelFoutIdeal [hKernelFoutIdeal : Cert.KernelFoutIdeal.Facts] : Prop :=
  ∀ (m : (ℓ : Loc Cert.KernelFoutIdeal.nD Cert.KernelFoutIdeal.τ Cert.KernelFoutIdeal.sig) → Buf (Elt Ideal) ℓ) (g : Dev Cert.KernelFoutIdeal.nD → PrngReg), Pre_KernelFoutIdeal m →
    θ_run (Cert.KernelFoutIdeal.defs (F := Ideal)) (onTc (τ := Cert.KernelFoutIdeal.τ) (Cert.KernelFoutIdeal.main (F := Ideal))) ⟨m, fun _ => 0, g⟩ (fun r => (∀ c : Dev Cert.KernelFoutIdeal.nD,
      r.2.mem ((c.tc : Thread Cert.KernelFoutIdeal.nD Cert.KernelFoutIdeal.τ).loc Cert.KernelFoutIdeal.main_arg0) = m ((c.tc : Thread Cert.KernelFoutIdeal.nD Cert.KernelFoutIdeal.τ).loc Cert.KernelFoutIdeal.main_arg0)
      ∧ r.2.mem ((c.tc : Thread Cert.KernelFoutIdeal.nD Cert.KernelFoutIdeal.τ).loc Cert.KernelFoutIdeal.main_arg1) = m ((c.tc : Thread Cert.KernelFoutIdeal.nD Cert.KernelFoutIdeal.τ).loc Cert.KernelFoutIdeal.main_arg1)
      ∧ r.2.mem ((c.tc : Thread Cert.KernelFoutIdeal.nD Cert.KernelFoutIdeal.τ).loc Cert.KernelFoutIdeal.main_arg2) = m ((c.tc : Thread Cert.KernelFoutIdeal.nD Cert.KernelFoutIdeal.τ).loc Cert.KernelFoutIdeal.main_arg2)
      ∧ r.2.mem ((c.tc : Thread Cert.KernelFoutIdeal.nD Cert.KernelFoutIdeal.τ).loc Cert.KernelFoutIdeal.main_arg3) = m ((c.tc : Thread Cert.KernelFoutIdeal.nD Cert.KernelFoutIdeal.τ).loc Cert.KernelFoutIdeal.main_arg3))
      ∧ r.2.sem = fun _ => 0)

def quiescent_ReferenceFoutIdeal [hReferenceFoutIdeal : Cert.ReferenceFoutIdeal.Facts] : Prop :=
  ∀ (m : (ℓ : Loc Cert.ReferenceFoutIdeal.nD Cert.ReferenceFoutIdeal.τ Cert.ReferenceFoutIdeal.sig) → Buf (Elt Ideal) ℓ) (g : Dev Cert.ReferenceFoutIdeal.nD → PrngReg), Pre_ReferenceFoutIdeal m →
    θ_run (Cert.ReferenceFoutIdeal.defs (F := Ideal)) (onTc (τ := Cert.ReferenceFoutIdeal.τ) (Cert.ReferenceFoutIdeal.main (F := Ideal))) ⟨m, fun _ => 0, g⟩ (fun r => (∀ c : Dev Cert.ReferenceFoutIdeal.nD,
      r.2.mem ((c.tc : Thread Cert.ReferenceFoutIdeal.nD Cert.ReferenceFoutIdeal.τ).loc Cert.ReferenceFoutIdeal.main_arg0) = m ((c.tc : Thread Cert.ReferenceFoutIdeal.nD Cert.ReferenceFoutIdeal.τ).loc Cert.ReferenceFoutIdeal.main_arg0)
      ∧ r.2.mem ((c.tc : Thread Cert.ReferenceFoutIdeal.nD Cert.ReferenceFoutIdeal.τ).loc Cert.ReferenceFoutIdeal.main_arg1) = m ((c.tc : Thread Cert.ReferenceFoutIdeal.nD Cert.ReferenceFoutIdeal.τ).loc Cert.ReferenceFoutIdeal.main_arg1)
      ∧ r.2.mem ((c.tc : Thread Cert.ReferenceFoutIdeal.nD Cert.ReferenceFoutIdeal.τ).loc Cert.ReferenceFoutIdeal.main_arg2) = m ((c.tc : Thread Cert.ReferenceFoutIdeal.nD Cert.ReferenceFoutIdeal.τ).loc Cert.ReferenceFoutIdeal.main_arg2)
      ∧ r.2.mem ((c.tc : Thread Cert.ReferenceFoutIdeal.nD Cert.ReferenceFoutIdeal.τ).loc Cert.ReferenceFoutIdeal.main_arg3) = m ((c.tc : Thread Cert.ReferenceFoutIdeal.nD Cert.ReferenceFoutIdeal.τ).loc Cert.ReferenceFoutIdeal.main_arg3))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4)
      ∧ r.2.mem ((c.tc : Thread Cert.KernelLoss.nD Cert.KernelLoss.τ).loc Cert.KernelLoss.main_arg5) = m ((c.tc : Thread Cert.KernelLoss.nD Cert.KernelLoss.τ).loc Cert.KernelLoss.main_arg5)
      ∧ r.2.mem ((c.tc : Thread Cert.KernelLoss.nD Cert.KernelLoss.τ).loc Cert.KernelLoss.main_arg6) = m ((c.tc : Thread Cert.KernelLoss.nD Cert.KernelLoss.τ).loc Cert.KernelLoss.main_arg6)
      ∧ r.2.mem ((c.tc : Thread Cert.KernelLoss.nD Cert.KernelLoss.τ).loc Cert.KernelLoss.main_arg7) = m ((c.tc : Thread Cert.KernelLoss.nD Cert.KernelLoss.τ).loc Cert.KernelLoss.main_arg7)
      ∧ r.2.mem ((c.tc : Thread Cert.KernelLoss.nD Cert.KernelLoss.τ).loc Cert.KernelLoss.main_arg8) = m ((c.tc : Thread Cert.KernelLoss.nD Cert.KernelLoss.τ).loc Cert.KernelLoss.main_arg8)
      ∧ r.2.mem ((c.tc : Thread Cert.KernelLoss.nD Cert.KernelLoss.τ).loc Cert.KernelLoss.main_arg9) = m ((c.tc : Thread Cert.KernelLoss.nD Cert.KernelLoss.τ).loc Cert.KernelLoss.main_arg9)
      ∧ r.2.mem ((c.tc : Thread Cert.KernelLoss.nD Cert.KernelLoss.τ).loc Cert.KernelLoss.main_arg10) = m ((c.tc : Thread Cert.KernelLoss.nD Cert.KernelLoss.τ).loc Cert.KernelLoss.main_arg10))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5)
      ∧ r.2.mem ((c.tc : Thread Cert.KernelLossIdeal.nD Cert.KernelLossIdeal.τ).loc Cert.KernelLossIdeal.main_arg6) = m ((c.tc : Thread Cert.KernelLossIdeal.nD Cert.KernelLossIdeal.τ).loc Cert.KernelLossIdeal.main_arg6)
      ∧ r.2.mem ((c.tc : Thread Cert.KernelLossIdeal.nD Cert.KernelLossIdeal.τ).loc Cert.KernelLossIdeal.main_arg7) = m ((c.tc : Thread Cert.KernelLossIdeal.nD Cert.KernelLossIdeal.τ).loc Cert.KernelLossIdeal.main_arg7)
      ∧ r.2.mem ((c.tc : Thread Cert.KernelLossIdeal.nD Cert.KernelLossIdeal.τ).loc Cert.KernelLossIdeal.main_arg8) = m ((c.tc : Thread Cert.KernelLossIdeal.nD Cert.KernelLossIdeal.τ).loc Cert.KernelLossIdeal.main_arg8)
      ∧ r.2.mem ((c.tc : Thread Cert.KernelLossIdeal.nD Cert.KernelLossIdeal.τ).loc Cert.KernelLossIdeal.main_arg9) = m ((c.tc : Thread Cert.KernelLossIdeal.nD Cert.KernelLossIdeal.τ).loc Cert.KernelLossIdeal.main_arg9)
      ∧ r.2.mem ((c.tc : Thread Cert.KernelLossIdeal.nD Cert.KernelLossIdeal.τ).loc Cert.KernelLossIdeal.main_arg10) = m ((c.tc : Thread Cert.KernelLossIdeal.nD Cert.KernelLossIdeal.τ).loc Cert.KernelLossIdeal.main_arg10))
      ∧ r.2.sem = fun _ => 0)

def quiescent_KernelLossIdeal_pre_finite_loss [hKernelLossIdeal : Cert.KernelLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_finite_loss m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5)
      ∧ r.2.mem ((c.tc : Thread Cert.KernelLossIdeal.nD Cert.KernelLossIdeal.τ).loc Cert.KernelLossIdeal.main_arg6) = m ((c.tc : Thread Cert.KernelLossIdeal.nD Cert.KernelLossIdeal.τ).loc Cert.KernelLossIdeal.main_arg6)
      ∧ r.2.mem ((c.tc : Thread Cert.KernelLossIdeal.nD Cert.KernelLossIdeal.τ).loc Cert.KernelLossIdeal.main_arg7) = m ((c.tc : Thread Cert.KernelLossIdeal.nD Cert.KernelLossIdeal.τ).loc Cert.KernelLossIdeal.main_arg7)
      ∧ r.2.mem ((c.tc : Thread Cert.KernelLossIdeal.nD Cert.KernelLossIdeal.τ).loc Cert.KernelLossIdeal.main_arg8) = m ((c.tc : Thread Cert.KernelLossIdeal.nD Cert.KernelLossIdeal.τ).loc Cert.KernelLossIdeal.main_arg8)
      ∧ r.2.mem ((c.tc : Thread Cert.KernelLossIdeal.nD Cert.KernelLossIdeal.τ).loc Cert.KernelLossIdeal.main_arg9) = m ((c.tc : Thread Cert.KernelLossIdeal.nD Cert.KernelLossIdeal.τ).loc Cert.KernelLossIdeal.main_arg9)
      ∧ r.2.mem ((c.tc : Thread Cert.KernelLossIdeal.nD Cert.KernelLossIdeal.τ).loc Cert.KernelLossIdeal.main_arg10) = m ((c.tc : Thread Cert.KernelLossIdeal.nD Cert.KernelLossIdeal.τ).loc Cert.KernelLossIdeal.main_arg10))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5)
      ∧ r.2.mem ((c.tc : Thread Cert.ReferenceLossIdeal.nD Cert.ReferenceLossIdeal.τ).loc Cert.ReferenceLossIdeal.main_arg6) = m ((c.tc : Thread Cert.ReferenceLossIdeal.nD Cert.ReferenceLossIdeal.τ).loc Cert.ReferenceLossIdeal.main_arg6)
      ∧ r.2.mem ((c.tc : Thread Cert.ReferenceLossIdeal.nD Cert.ReferenceLossIdeal.τ).loc Cert.ReferenceLossIdeal.main_arg7) = m ((c.tc : Thread Cert.ReferenceLossIdeal.nD Cert.ReferenceLossIdeal.τ).loc Cert.ReferenceLossIdeal.main_arg7)
      ∧ r.2.mem ((c.tc : Thread Cert.ReferenceLossIdeal.nD Cert.ReferenceLossIdeal.τ).loc Cert.ReferenceLossIdeal.main_arg8) = m ((c.tc : Thread Cert.ReferenceLossIdeal.nD Cert.ReferenceLossIdeal.τ).loc Cert.ReferenceLossIdeal.main_arg8)
      ∧ r.2.mem ((c.tc : Thread Cert.ReferenceLossIdeal.nD Cert.ReferenceLossIdeal.τ).loc Cert.ReferenceLossIdeal.main_arg9) = m ((c.tc : Thread Cert.ReferenceLossIdeal.nD Cert.ReferenceLossIdeal.τ).loc Cert.ReferenceLossIdeal.main_arg9)
      ∧ r.2.mem ((c.tc : Thread Cert.ReferenceLossIdeal.nD Cert.ReferenceLossIdeal.τ).loc Cert.ReferenceLossIdeal.main_arg10) = m ((c.tc : Thread Cert.ReferenceLossIdeal.nD Cert.ReferenceLossIdeal.τ).loc Cert.ReferenceLossIdeal.main_arg10))
      ∧ r.2.sem = fun _ => 0)

def quiescent_ReferenceLossIdeal_pre_finite_loss [hReferenceLossIdeal : Cert.ReferenceLossIdeal.Facts] [hPre_finite_loss : Cert.Pre_finite_loss.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_finite_loss m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5)
      ∧ r.2.mem ((c.tc : Thread Cert.ReferenceLossIdeal.nD Cert.ReferenceLossIdeal.τ).loc Cert.ReferenceLossIdeal.main_arg6) = m ((c.tc : Thread Cert.ReferenceLossIdeal.nD Cert.ReferenceLossIdeal.τ).loc Cert.ReferenceLossIdeal.main_arg6)
      ∧ r.2.mem ((c.tc : Thread Cert.ReferenceLossIdeal.nD Cert.ReferenceLossIdeal.τ).loc Cert.ReferenceLossIdeal.main_arg7) = m ((c.tc : Thread Cert.ReferenceLossIdeal.nD Cert.ReferenceLossIdeal.τ).loc Cert.ReferenceLossIdeal.main_arg7)
      ∧ r.2.mem ((c.tc : Thread Cert.ReferenceLossIdeal.nD Cert.ReferenceLossIdeal.τ).loc Cert.ReferenceLossIdeal.main_arg8) = m ((c.tc : Thread Cert.ReferenceLossIdeal.nD Cert.ReferenceLossIdeal.τ).loc Cert.ReferenceLossIdeal.main_arg8)
      ∧ r.2.mem ((c.tc : Thread Cert.ReferenceLossIdeal.nD Cert.ReferenceLossIdeal.τ).loc Cert.ReferenceLossIdeal.main_arg9) = m ((c.tc : Thread Cert.ReferenceLossIdeal.nD Cert.ReferenceLossIdeal.τ).loc Cert.ReferenceLossIdeal.main_arg9)
      ∧ r.2.mem ((c.tc : Thread Cert.ReferenceLossIdeal.nD Cert.ReferenceLossIdeal.τ).loc Cert.ReferenceLossIdeal.main_arg10) = m ((c.tc : Thread Cert.ReferenceLossIdeal.nD Cert.ReferenceLossIdeal.τ).loc Cert.ReferenceLossIdeal.main_arg10))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7))
      ∧ r.2.sem = fun _ => 0)

def quiescent_KernelAcm [hKernelAcm : Cert.KernelAcm.Facts] : Prop :=
  ∀ (m : (ℓ : Loc Cert.KernelAcm.nD Cert.KernelAcm.τ Cert.KernelAcm.sig) → Buf (Elt Bits) ℓ) (g : Dev Cert.KernelAcm.nD → PrngReg), Pre_KernelAcm m →
    θ_run (Cert.KernelAcm.defs (F := Bits)) (onTc (τ := Cert.KernelAcm.τ) (Cert.KernelAcm.main (F := Bits))) ⟨m, fun _ => 0, g⟩ (fun r => (∀ c : Dev Cert.KernelAcm.nD,
      r.2.mem ((c.tc : Thread Cert.KernelAcm.nD Cert.KernelAcm.τ).loc Cert.KernelAcm.main_arg0) = m ((c.tc : Thread Cert.KernelAcm.nD Cert.KernelAcm.τ).loc Cert.KernelAcm.main_arg0)
      ∧ r.2.mem ((c.tc : Thread Cert.KernelAcm.nD Cert.KernelAcm.τ).loc Cert.KernelAcm.main_arg1) = m ((c.tc : Thread Cert.KernelAcm.nD Cert.KernelAcm.τ).loc Cert.KernelAcm.main_arg1)
      ∧ r.2.mem ((c.tc : Thread Cert.KernelAcm.nD Cert.KernelAcm.τ).loc Cert.KernelAcm.main_arg2) = m ((c.tc : Thread Cert.KernelAcm.nD Cert.KernelAcm.τ).loc Cert.KernelAcm.main_arg2)
      ∧ r.2.mem ((c.tc : Thread Cert.KernelAcm.nD Cert.KernelAcm.τ).loc Cert.KernelAcm.main_arg3) = m ((c.tc : Thread Cert.KernelAcm.nD Cert.KernelAcm.τ).loc Cert.KernelAcm.main_arg3)
      ∧ r.2.mem ((c.tc : Thread Cert.KernelAcm.nD Cert.KernelAcm.τ).loc Cert.KernelAcm.main_arg4) = m ((c.tc : Thread Cert.KernelAcm.nD Cert.KernelAcm.τ).loc Cert.KernelAcm.main_arg4))
      ∧ r.2.sem = fun _ => 0)

def quiescent_KernelAcmIdeal [hKernelAcmIdeal : Cert.KernelAcmIdeal.Facts] : Prop :=
  ∀ (m : (ℓ : Loc Cert.KernelAcmIdeal.nD Cert.KernelAcmIdeal.τ Cert.KernelAcmIdeal.sig) → Buf (Elt Ideal) ℓ) (g : Dev Cert.KernelAcmIdeal.nD → PrngReg), Pre_KernelAcmIdeal m →
    θ_run (Cert.KernelAcmIdeal.defs (F := Ideal)) (onTc (τ := Cert.KernelAcmIdeal.τ) (Cert.KernelAcmIdeal.main (F := Ideal))) ⟨m, fun _ => 0, g⟩ (fun r => (∀ c : Dev Cert.KernelAcmIdeal.nD,
      r.2.mem ((c.tc : Thread Cert.KernelAcmIdeal.nD Cert.KernelAcmIdeal.τ).loc Cert.KernelAcmIdeal.main_arg0) = m ((c.tc : Thread Cert.KernelAcmIdeal.nD Cert.KernelAcmIdeal.τ).loc Cert.KernelAcmIdeal.main_arg0)
      ∧ r.2.mem ((c.tc : Thread Cert.KernelAcmIdeal.nD Cert.KernelAcmIdeal.τ).loc Cert.KernelAcmIdeal.main_arg1) = m ((c.tc : Thread Cert.KernelAcmIdeal.nD Cert.KernelAcmIdeal.τ).loc Cert.KernelAcmIdeal.main_arg1)
      ∧ r.2.mem ((c.tc : Thread Cert.KernelAcmIdeal.nD Cert.KernelAcmIdeal.τ).loc Cert.KernelAcmIdeal.main_arg2) = m ((c.tc : Thread Cert.KernelAcmIdeal.nD Cert.KernelAcmIdeal.τ).loc Cert.KernelAcmIdeal.main_arg2)
      ∧ r.2.mem ((c.tc : Thread Cert.KernelAcmIdeal.nD Cert.KernelAcmIdeal.τ).loc Cert.KernelAcmIdeal.main_arg3) = m ((c.tc : Thread Cert.KernelAcmIdeal.nD Cert.KernelAcmIdeal.τ).loc Cert.KernelAcmIdeal.main_arg3)
      ∧ r.2.mem ((c.tc : Thread Cert.KernelAcmIdeal.nD Cert.KernelAcmIdeal.τ).loc Cert.KernelAcmIdeal.main_arg4) = m ((c.tc : Thread Cert.KernelAcmIdeal.nD Cert.KernelAcmIdeal.τ).loc Cert.KernelAcmIdeal.main_arg4))
      ∧ r.2.sem = fun _ => 0)

def quiescent_ReferenceAcmIdeal [hReferenceAcmIdeal : Cert.ReferenceAcmIdeal.Facts] : Prop :=
  ∀ (m : (ℓ : Loc Cert.ReferenceAcmIdeal.nD Cert.ReferenceAcmIdeal.τ Cert.ReferenceAcmIdeal.sig) → Buf (Elt Ideal) ℓ) (g : Dev Cert.ReferenceAcmIdeal.nD → PrngReg), Pre_ReferenceAcmIdeal m →
    θ_run (Cert.ReferenceAcmIdeal.defs (F := Ideal)) (onTc (τ := Cert.ReferenceAcmIdeal.τ) (Cert.ReferenceAcmIdeal.main (F := Ideal))) ⟨m, fun _ => 0, g⟩ (fun r => (∀ c : Dev Cert.ReferenceAcmIdeal.nD,
      r.2.mem ((c.tc : Thread Cert.ReferenceAcmIdeal.nD Cert.ReferenceAcmIdeal.τ).loc Cert.ReferenceAcmIdeal.main_arg0) = m ((c.tc : Thread Cert.ReferenceAcmIdeal.nD Cert.ReferenceAcmIdeal.τ).loc Cert.ReferenceAcmIdeal.main_arg0)
      ∧ r.2.mem ((c.tc : Thread Cert.ReferenceAcmIdeal.nD Cert.ReferenceAcmIdeal.τ).loc Cert.ReferenceAcmIdeal.main_arg1) = m ((c.tc : Thread Cert.ReferenceAcmIdeal.nD Cert.ReferenceAcmIdeal.τ).loc Cert.ReferenceAcmIdeal.main_arg1)
      ∧ r.2.mem ((c.tc : Thread Cert.ReferenceAcmIdeal.nD Cert.ReferenceAcmIdeal.τ).loc Cert.ReferenceAcmIdeal.main_arg2) = m ((c.tc : Thread Cert.ReferenceAcmIdeal.nD Cert.ReferenceAcmIdeal.τ).loc Cert.ReferenceAcmIdeal.main_arg2)
      ∧ r.2.mem ((c.tc : Thread Cert.ReferenceAcmIdeal.nD Cert.ReferenceAcmIdeal.τ).loc Cert.ReferenceAcmIdeal.main_arg3) = m ((c.tc : Thread Cert.ReferenceAcmIdeal.nD Cert.ReferenceAcmIdeal.τ).loc Cert.ReferenceAcmIdeal.main_arg3)
      ∧ r.2.mem ((c.tc : Thread Cert.ReferenceAcmIdeal.nD Cert.ReferenceAcmIdeal.τ).loc Cert.ReferenceAcmIdeal.main_arg4) = m ((c.tc : Thread Cert.ReferenceAcmIdeal.nD Cert.ReferenceAcmIdeal.τ).loc Cert.ReferenceAcmIdeal.main_arg4))
      ∧ r.2.sem = fun _ => 0)

def quiescent_KernelAcf [hKernelAcf : Cert.KernelAcf.Facts] : Prop :=
  ∀ (m : (ℓ : Loc Cert.KernelAcf.nD Cert.KernelAcf.τ Cert.KernelAcf.sig) → Buf (Elt Bits) ℓ) (g : Dev Cert.KernelAcf.nD → PrngReg), Pre_KernelAcf m →
    θ_run (Cert.KernelAcf.defs (F := Bits)) (onTc (τ := Cert.KernelAcf.τ) (Cert.KernelAcf.main (F := Bits))) ⟨m, fun _ => 0, g⟩ (fun r => (∀ c : Dev Cert.KernelAcf.nD,
      r.2.mem ((c.tc : Thread Cert.KernelAcf.nD Cert.KernelAcf.τ).loc Cert.KernelAcf.main_arg0) = m ((c.tc : Thread Cert.KernelAcf.nD Cert.KernelAcf.τ).loc Cert.KernelAcf.main_arg0)
      ∧ r.2.mem ((c.tc : Thread Cert.KernelAcf.nD Cert.KernelAcf.τ).loc Cert.KernelAcf.main_arg1) = m ((c.tc : Thread Cert.KernelAcf.nD Cert.KernelAcf.τ).loc Cert.KernelAcf.main_arg1)
      ∧ r.2.mem ((c.tc : Thread Cert.KernelAcf.nD Cert.KernelAcf.τ).loc Cert.KernelAcf.main_arg2) = m ((c.tc : Thread Cert.KernelAcf.nD Cert.KernelAcf.τ).loc Cert.KernelAcf.main_arg2)
      ∧ r.2.mem ((c.tc : Thread Cert.KernelAcf.nD Cert.KernelAcf.τ).loc Cert.KernelAcf.main_arg3) = m ((c.tc : Thread Cert.KernelAcf.nD Cert.KernelAcf.τ).loc Cert.KernelAcf.main_arg3)
      ∧ r.2.mem ((c.tc : Thread Cert.KernelAcf.nD Cert.KernelAcf.τ).loc Cert.KernelAcf.main_arg4) = m ((c.tc : Thread Cert.KernelAcf.nD Cert.KernelAcf.τ).loc Cert.KernelAcf.main_arg4))
      ∧ r.2.sem = fun _ => 0)

def quiescent_KernelAcfIdeal [hKernelAcfIdeal : Cert.KernelAcfIdeal.Facts] : Prop :=
  ∀ (m : (ℓ : Loc Cert.KernelAcfIdeal.nD Cert.KernelAcfIdeal.τ Cert.KernelAcfIdeal.sig) → Buf (Elt Ideal) ℓ) (g : Dev Cert.KernelAcfIdeal.nD → PrngReg), Pre_KernelAcfIdeal m →
    θ_run (Cert.KernelAcfIdeal.defs (F := Ideal)) (onTc (τ := Cert.KernelAcfIdeal.τ) (Cert.KernelAcfIdeal.main (F := Ideal))) ⟨m, fun _ => 0, g⟩ (fun r => (∀ c : Dev Cert.KernelAcfIdeal.nD,
      r.2.mem ((c.tc : Thread Cert.KernelAcfIdeal.nD Cert.KernelAcfIdeal.τ).loc Cert.KernelAcfIdeal.main_arg0) = m ((c.tc : Thread Cert.KernelAcfIdeal.nD Cert.KernelAcfIdeal.τ).loc Cert.KernelAcfIdeal.main_arg0)
      ∧ r.2.mem ((c.tc : Thread Cert.KernelAcfIdeal.nD Cert.KernelAcfIdeal.τ).loc Cert.KernelAcfIdeal.main_arg1) = m ((c.tc : Thread Cert.KernelAcfIdeal.nD Cert.KernelAcfIdeal.τ).loc Cert.KernelAcfIdeal.main_arg1)
      ∧ r.2.mem ((c.tc : Thread Cert.KernelAcfIdeal.nD Cert.KernelAcfIdeal.τ).loc Cert.KernelAcfIdeal.main_arg2) = m ((c.tc : Thread Cert.KernelAcfIdeal.nD Cert.KernelAcfIdeal.τ).loc Cert.KernelAcfIdeal.main_arg2)
      ∧ r.2.mem ((c.tc : Thread Cert.KernelAcfIdeal.nD Cert.KernelAcfIdeal.τ).loc Cert.KernelAcfIdeal.main_arg3) = m ((c.tc : Thread Cert.KernelAcfIdeal.nD Cert.KernelAcfIdeal.τ).loc Cert.KernelAcfIdeal.main_arg3)
      ∧ r.2.mem ((c.tc : Thread Cert.KernelAcfIdeal.nD Cert.KernelAcfIdeal.τ).loc Cert.KernelAcfIdeal.main_arg4) = m ((c.tc : Thread Cert.KernelAcfIdeal.nD Cert.KernelAcfIdeal.τ).loc Cert.KernelAcfIdeal.main_arg4))
      ∧ r.2.sem = fun _ => 0)

def quiescent_ReferenceAcfIdeal [hReferenceAcfIdeal : Cert.ReferenceAcfIdeal.Facts] : Prop :=
  ∀ (m : (ℓ : Loc Cert.ReferenceAcfIdeal.nD Cert.ReferenceAcfIdeal.τ Cert.ReferenceAcfIdeal.sig) → Buf (Elt Ideal) ℓ) (g : Dev Cert.ReferenceAcfIdeal.nD → PrngReg), Pre_ReferenceAcfIdeal m →
    θ_run (Cert.ReferenceAcfIdeal.defs (F := Ideal)) (onTc (τ := Cert.ReferenceAcfIdeal.τ) (Cert.ReferenceAcfIdeal.main (F := Ideal))) ⟨m, fun _ => 0, g⟩ (fun r => (∀ c : Dev Cert.ReferenceAcfIdeal.nD,
      r.2.mem ((c.tc : Thread Cert.ReferenceAcfIdeal.nD Cert.ReferenceAcfIdeal.τ).loc Cert.ReferenceAcfIdeal.main_arg0) = m ((c.tc : Thread Cert.ReferenceAcfIdeal.nD Cert.ReferenceAcfIdeal.τ).loc Cert.ReferenceAcfIdeal.main_arg0)
      ∧ r.2.mem ((c.tc : Thread Cert.ReferenceAcfIdeal.nD Cert.ReferenceAcfIdeal.τ).loc Cert.ReferenceAcfIdeal.main_arg1) = m ((c.tc : Thread Cert.ReferenceAcfIdeal.nD Cert.ReferenceAcfIdeal.τ).loc Cert.ReferenceAcfIdeal.main_arg1)
      ∧ r.2.mem ((c.tc : Thread Cert.ReferenceAcfIdeal.nD Cert.ReferenceAcfIdeal.τ).loc Cert.ReferenceAcfIdeal.main_arg2) = m ((c.tc : Thread Cert.ReferenceAcfIdeal.nD Cert.ReferenceAcfIdeal.τ).loc Cert.ReferenceAcfIdeal.main_arg2)
      ∧ r.2.mem ((c.tc : Thread Cert.ReferenceAcfIdeal.nD Cert.ReferenceAcfIdeal.τ).loc Cert.ReferenceAcfIdeal.main_arg3) = m ((c.tc : Thread Cert.ReferenceAcfIdeal.nD Cert.ReferenceAcfIdeal.τ).loc Cert.ReferenceAcfIdeal.main_arg3)
      ∧ r.2.mem ((c.tc : Thread Cert.ReferenceAcfIdeal.nD Cert.ReferenceAcfIdeal.τ).loc Cert.ReferenceAcfIdeal.main_arg4) = m ((c.tc : Thread Cert.ReferenceAcfIdeal.nD Cert.ReferenceAcfIdeal.τ).loc Cert.ReferenceAcfIdeal.main_arg4))
      ∧ r.2.sem = fun _ => 0)

def quiescent_KernelAbm [hKernelAbm : Cert.KernelAbm.Facts] : Prop :=
  ∀ (m : (ℓ : Loc Cert.KernelAbm.nD Cert.KernelAbm.τ Cert.KernelAbm.sig) → Buf (Elt Bits) ℓ) (g : Dev Cert.KernelAbm.nD → PrngReg), Pre_KernelAbm m →
    θ_run (Cert.KernelAbm.defs (F := Bits)) (onTc (τ := Cert.KernelAbm.τ) (Cert.KernelAbm.main (F := Bits))) ⟨m, fun _ => 0, g⟩ (fun r => (∀ c : Dev Cert.KernelAbm.nD,
      r.2.mem ((c.tc : Thread Cert.KernelAbm.nD Cert.KernelAbm.τ).loc Cert.KernelAbm.main_arg0) = m ((c.tc : Thread Cert.KernelAbm.nD Cert.KernelAbm.τ).loc Cert.KernelAbm.main_arg0)
      ∧ r.2.mem ((c.tc : Thread Cert.KernelAbm.nD Cert.KernelAbm.τ).loc Cert.KernelAbm.main_arg1) = m ((c.tc : Thread Cert.KernelAbm.nD Cert.KernelAbm.τ).loc Cert.KernelAbm.main_arg1)
      ∧ r.2.mem ((c.tc : Thread Cert.KernelAbm.nD Cert.KernelAbm.τ).loc Cert.KernelAbm.main_arg2) = m ((c.tc : Thread Cert.KernelAbm.nD Cert.KernelAbm.τ).loc Cert.KernelAbm.main_arg2)
      ∧ r.2.mem ((c.tc : Thread Cert.KernelAbm.nD Cert.KernelAbm.τ).loc Cert.KernelAbm.main_arg3) = m ((c.tc : Thread Cert.KernelAbm.nD Cert.KernelAbm.τ).loc Cert.KernelAbm.main_arg3)
      ∧ r.2.mem ((c.tc : Thread Cert.KernelAbm.nD Cert.KernelAbm.τ).loc Cert.KernelAbm.main_arg4) = m ((c.tc : Thread Cert.KernelAbm.nD Cert.KernelAbm.τ).loc Cert.KernelAbm.main_arg4)
      ∧ r.2.mem ((c.tc : Thread Cert.KernelAbm.nD Cert.KernelAbm.τ).loc Cert.KernelAbm.main_arg5) = m ((c.tc : Thread Cert.KernelAbm.nD Cert.KernelAbm.τ).loc Cert.KernelAbm.main_arg5))
      ∧ r.2.sem = fun _ => 0)

def quiescent_KernelAbmIdeal [hKernelAbmIdeal : Cert.KernelAbmIdeal.Facts] : Prop :=
  ∀ (m : (ℓ : Loc Cert.KernelAbmIdeal.nD Cert.KernelAbmIdeal.τ Cert.KernelAbmIdeal.sig) → Buf (Elt Ideal) ℓ) (g : Dev Cert.KernelAbmIdeal.nD → PrngReg), Pre_KernelAbmIdeal m →
    θ_run (Cert.KernelAbmIdeal.defs (F := Ideal)) (onTc (τ := Cert.KernelAbmIdeal.τ) (Cert.KernelAbmIdeal.main (F := Ideal))) ⟨m, fun _ => 0, g⟩ (fun r => (∀ c : Dev Cert.KernelAbmIdeal.nD,
      r.2.mem ((c.tc : Thread Cert.KernelAbmIdeal.nD Cert.KernelAbmIdeal.τ).loc Cert.KernelAbmIdeal.main_arg0) = m ((c.tc : Thread Cert.KernelAbmIdeal.nD Cert.KernelAbmIdeal.τ).loc Cert.KernelAbmIdeal.main_arg0)
      ∧ r.2.mem ((c.tc : Thread Cert.KernelAbmIdeal.nD Cert.KernelAbmIdeal.τ).loc Cert.KernelAbmIdeal.main_arg1) = m ((c.tc : Thread Cert.KernelAbmIdeal.nD Cert.KernelAbmIdeal.τ).loc Cert.KernelAbmIdeal.main_arg1)
      ∧ r.2.mem ((c.tc : Thread Cert.KernelAbmIdeal.nD Cert.KernelAbmIdeal.τ).loc Cert.KernelAbmIdeal.main_arg2) = m ((c.tc : Thread Cert.KernelAbmIdeal.nD Cert.KernelAbmIdeal.τ).loc Cert.KernelAbmIdeal.main_arg2)
      ∧ r.2.mem ((c.tc : Thread Cert.KernelAbmIdeal.nD Cert.KernelAbmIdeal.τ).loc Cert.KernelAbmIdeal.main_arg3) = m ((c.tc : Thread Cert.KernelAbmIdeal.nD Cert.KernelAbmIdeal.τ).loc Cert.KernelAbmIdeal.main_arg3)
      ∧ r.2.mem ((c.tc : Thread Cert.KernelAbmIdeal.nD Cert.KernelAbmIdeal.τ).loc Cert.KernelAbmIdeal.main_arg4) = m ((c.tc : Thread Cert.KernelAbmIdeal.nD Cert.KernelAbmIdeal.τ).loc Cert.KernelAbmIdeal.main_arg4)
      ∧ r.2.mem ((c.tc : Thread Cert.KernelAbmIdeal.nD Cert.KernelAbmIdeal.τ).loc Cert.KernelAbmIdeal.main_arg5) = m ((c.tc : Thread Cert.KernelAbmIdeal.nD Cert.KernelAbmIdeal.τ).loc Cert.KernelAbmIdeal.main_arg5))
      ∧ r.2.sem = fun _ => 0)

def quiescent_ReferenceAbmIdeal [hReferenceAbmIdeal : Cert.ReferenceAbmIdeal.Facts] : Prop :=
  ∀ (m : (ℓ : Loc Cert.ReferenceAbmIdeal.nD Cert.ReferenceAbmIdeal.τ Cert.ReferenceAbmIdeal.sig) → Buf (Elt Ideal) ℓ) (g : Dev Cert.ReferenceAbmIdeal.nD → PrngReg), Pre_ReferenceAbmIdeal m →
    θ_run (Cert.ReferenceAbmIdeal.defs (F := Ideal)) (onTc (τ := Cert.ReferenceAbmIdeal.τ) (Cert.ReferenceAbmIdeal.main (F := Ideal))) ⟨m, fun _ => 0, g⟩ (fun r => (∀ c : Dev Cert.ReferenceAbmIdeal.nD,
      r.2.mem ((c.tc : Thread Cert.ReferenceAbmIdeal.nD Cert.ReferenceAbmIdeal.τ).loc Cert.ReferenceAbmIdeal.main_arg0) = m ((c.tc : Thread Cert.ReferenceAbmIdeal.nD Cert.ReferenceAbmIdeal.τ).loc Cert.ReferenceAbmIdeal.main_arg0)
      ∧ r.2.mem ((c.tc : Thread Cert.ReferenceAbmIdeal.nD Cert.ReferenceAbmIdeal.τ).loc Cert.ReferenceAbmIdeal.main_arg1) = m ((c.tc : Thread Cert.ReferenceAbmIdeal.nD Cert.ReferenceAbmIdeal.τ).loc Cert.ReferenceAbmIdeal.main_arg1)
      ∧ r.2.mem ((c.tc : Thread Cert.ReferenceAbmIdeal.nD Cert.ReferenceAbmIdeal.τ).loc Cert.ReferenceAbmIdeal.main_arg2) = m ((c.tc : Thread Cert.ReferenceAbmIdeal.nD Cert.ReferenceAbmIdeal.τ).loc Cert.ReferenceAbmIdeal.main_arg2)
      ∧ r.2.mem ((c.tc : Thread Cert.ReferenceAbmIdeal.nD Cert.ReferenceAbmIdeal.τ).loc Cert.ReferenceAbmIdeal.main_arg3) = m ((c.tc : Thread Cert.ReferenceAbmIdeal.nD Cert.ReferenceAbmIdeal.τ).loc Cert.ReferenceAbmIdeal.main_arg3)
      ∧ r.2.mem ((c.tc : Thread Cert.ReferenceAbmIdeal.nD Cert.ReferenceAbmIdeal.τ).loc Cert.ReferenceAbmIdeal.main_arg4) = m ((c.tc : Thread Cert.ReferenceAbmIdeal.nD Cert.ReferenceAbmIdeal.τ).loc Cert.ReferenceAbmIdeal.main_arg4)
      ∧ r.2.mem ((c.tc : Thread Cert.ReferenceAbmIdeal.nD Cert.ReferenceAbmIdeal.τ).loc Cert.ReferenceAbmIdeal.main_arg5) = m ((c.tc : Thread Cert.ReferenceAbmIdeal.nD Cert.ReferenceAbmIdeal.τ).loc Cert.ReferenceAbmIdeal.main_arg5))
      ∧ r.2.sem = fun _ => 0)

def quiescent_KernelAbf [hKernelAbf : Cert.KernelAbf.Facts] : Prop :=
  ∀ (m : (ℓ : Loc Cert.KernelAbf.nD Cert.KernelAbf.τ Cert.KernelAbf.sig) → Buf (Elt Bits) ℓ) (g : Dev Cert.KernelAbf.nD → PrngReg), Pre_KernelAbf m →
    θ_run (Cert.KernelAbf.defs (F := Bits)) (onTc (τ := Cert.KernelAbf.τ) (Cert.KernelAbf.main (F := Bits))) ⟨m, fun _ => 0, g⟩ (fun r => (∀ c : Dev Cert.KernelAbf.nD,
      r.2.mem ((c.tc : Thread Cert.KernelAbf.nD Cert.KernelAbf.τ).loc Cert.KernelAbf.main_arg0) = m ((c.tc : Thread Cert.KernelAbf.nD Cert.KernelAbf.τ).loc Cert.KernelAbf.main_arg0)
      ∧ r.2.mem ((c.tc : Thread Cert.KernelAbf.nD Cert.KernelAbf.τ).loc Cert.KernelAbf.main_arg1) = m ((c.tc : Thread Cert.KernelAbf.nD Cert.KernelAbf.τ).loc Cert.KernelAbf.main_arg1)
      ∧ r.2.mem ((c.tc : Thread Cert.KernelAbf.nD Cert.KernelAbf.τ).loc Cert.KernelAbf.main_arg2) = m ((c.tc : Thread Cert.KernelAbf.nD Cert.KernelAbf.τ).loc Cert.KernelAbf.main_arg2)
      ∧ r.2.mem ((c.tc : Thread Cert.KernelAbf.nD Cert.KernelAbf.τ).loc Cert.KernelAbf.main_arg3) = m ((c.tc : Thread Cert.KernelAbf.nD Cert.KernelAbf.τ).loc Cert.KernelAbf.main_arg3)
      ∧ r.2.mem ((c.tc : Thread Cert.KernelAbf.nD Cert.KernelAbf.τ).loc Cert.KernelAbf.main_arg4) = m ((c.tc : Thread Cert.KernelAbf.nD Cert.KernelAbf.τ).loc Cert.KernelAbf.main_arg4)
      ∧ r.2.mem ((c.tc : Thread Cert.KernelAbf.nD Cert.KernelAbf.τ).loc Cert.KernelAbf.main_arg5) = m ((c.tc : Thread Cert.KernelAbf.nD Cert.KernelAbf.τ).loc Cert.KernelAbf.main_arg5))
      ∧ r.2.sem = fun _ => 0)

def quiescent_KernelAbfIdeal [hKernelAbfIdeal : Cert.KernelAbfIdeal.Facts] : Prop :=
  ∀ (m : (ℓ : Loc Cert.KernelAbfIdeal.nD Cert.KernelAbfIdeal.τ Cert.KernelAbfIdeal.sig) → Buf (Elt Ideal) ℓ) (g : Dev Cert.KernelAbfIdeal.nD → PrngReg), Pre_KernelAbfIdeal m →
    θ_run (Cert.KernelAbfIdeal.defs (F := Ideal)) (onTc (τ := Cert.KernelAbfIdeal.τ) (Cert.KernelAbfIdeal.main (F := Ideal))) ⟨m, fun _ => 0, g⟩ (fun r => (∀ c : Dev Cert.KernelAbfIdeal.nD,
      r.2.mem ((c.tc : Thread Cert.KernelAbfIdeal.nD Cert.KernelAbfIdeal.τ).loc Cert.KernelAbfIdeal.main_arg0) = m ((c.tc : Thread Cert.KernelAbfIdeal.nD Cert.KernelAbfIdeal.τ).loc Cert.KernelAbfIdeal.main_arg0)
      ∧ r.2.mem ((c.tc : Thread Cert.KernelAbfIdeal.nD Cert.KernelAbfIdeal.τ).loc Cert.KernelAbfIdeal.main_arg1) = m ((c.tc : Thread Cert.KernelAbfIdeal.nD Cert.KernelAbfIdeal.τ).loc Cert.KernelAbfIdeal.main_arg1)
      ∧ r.2.mem ((c.tc : Thread Cert.KernelAbfIdeal.nD Cert.KernelAbfIdeal.τ).loc Cert.KernelAbfIdeal.main_arg2) = m ((c.tc : Thread Cert.KernelAbfIdeal.nD Cert.KernelAbfIdeal.τ).loc Cert.KernelAbfIdeal.main_arg2)
      ∧ r.2.mem ((c.tc : Thread Cert.KernelAbfIdeal.nD Cert.KernelAbfIdeal.τ).loc Cert.KernelAbfIdeal.main_arg3) = m ((c.tc : Thread Cert.KernelAbfIdeal.nD Cert.KernelAbfIdeal.τ).loc Cert.KernelAbfIdeal.main_arg3)
      ∧ r.2.mem ((c.tc : Thread Cert.KernelAbfIdeal.nD Cert.KernelAbfIdeal.τ).loc Cert.KernelAbfIdeal.main_arg4) = m ((c.tc : Thread Cert.KernelAbfIdeal.nD Cert.KernelAbfIdeal.τ).loc Cert.KernelAbfIdeal.main_arg4)
      ∧ r.2.mem ((c.tc : Thread Cert.KernelAbfIdeal.nD Cert.KernelAbfIdeal.τ).loc Cert.KernelAbfIdeal.main_arg5) = m ((c.tc : Thread Cert.KernelAbfIdeal.nD Cert.KernelAbfIdeal.τ).loc Cert.KernelAbfIdeal.main_arg5))
      ∧ r.2.sem = fun _ => 0)

def quiescent_ReferenceAbfIdeal [hReferenceAbfIdeal : Cert.ReferenceAbfIdeal.Facts] : Prop :=
  ∀ (m : (ℓ : Loc Cert.ReferenceAbfIdeal.nD Cert.ReferenceAbfIdeal.τ Cert.ReferenceAbfIdeal.sig) → Buf (Elt Ideal) ℓ) (g : Dev Cert.ReferenceAbfIdeal.nD → PrngReg), Pre_ReferenceAbfIdeal m →
    θ_run (Cert.ReferenceAbfIdeal.defs (F := Ideal)) (onTc (τ := Cert.ReferenceAbfIdeal.τ) (Cert.ReferenceAbfIdeal.main (F := Ideal))) ⟨m, fun _ => 0, g⟩ (fun r => (∀ c : Dev Cert.ReferenceAbfIdeal.nD,
      r.2.mem ((c.tc : Thread Cert.ReferenceAbfIdeal.nD Cert.ReferenceAbfIdeal.τ).loc Cert.ReferenceAbfIdeal.main_arg0) = m ((c.tc : Thread Cert.ReferenceAbfIdeal.nD Cert.ReferenceAbfIdeal.τ).loc Cert.ReferenceAbfIdeal.main_arg0)
      ∧ r.2.mem ((c.tc : Thread Cert.ReferenceAbfIdeal.nD Cert.ReferenceAbfIdeal.τ).loc Cert.ReferenceAbfIdeal.main_arg1) = m ((c.tc : Thread Cert.ReferenceAbfIdeal.nD Cert.ReferenceAbfIdeal.τ).loc Cert.ReferenceAbfIdeal.main_arg1)
      ∧ r.2.mem ((c.tc : Thread Cert.ReferenceAbfIdeal.nD Cert.ReferenceAbfIdeal.τ).loc Cert.ReferenceAbfIdeal.main_arg2) = m ((c.tc : Thread Cert.ReferenceAbfIdeal.nD Cert.ReferenceAbfIdeal.τ).loc Cert.ReferenceAbfIdeal.main_arg2)
      ∧ r.2.mem ((c.tc : Thread Cert.ReferenceAbfIdeal.nD Cert.ReferenceAbfIdeal.τ).loc Cert.ReferenceAbfIdeal.main_arg3) = m ((c.tc : Thread Cert.ReferenceAbfIdeal.nD Cert.ReferenceAbfIdeal.τ).loc Cert.ReferenceAbfIdeal.main_arg3)
      ∧ r.2.mem ((c.tc : Thread Cert.ReferenceAbfIdeal.nD Cert.ReferenceAbfIdeal.τ).loc Cert.ReferenceAbfIdeal.main_arg4) = m ((c.tc : Thread Cert.ReferenceAbfIdeal.nD Cert.ReferenceAbfIdeal.τ).loc Cert.ReferenceAbfIdeal.main_arg4)
      ∧ r.2.mem ((c.tc : Thread Cert.ReferenceAbfIdeal.nD Cert.ReferenceAbfIdeal.τ).loc Cert.ReferenceAbfIdeal.main_arg5) = m ((c.tc : Thread Cert.ReferenceAbfIdeal.nD Cert.ReferenceAbfIdeal.τ).loc Cert.ReferenceAbfIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)) (v3 : (c : Dev Cert.KernelIdeal.nD) → Buf (Elt Ideal) ((c.tc : Thread Cert.KernelIdeal.nD Cert.KernelIdeal.τ).loc Cert.KernelIdeal.main_v34_3)) (v4 : (c : Dev Cert.KernelIdeal.nD) → Buf (Elt Ideal) ((c.tc : Thread Cert.KernelIdeal.nD Cert.KernelIdeal.τ).loc Cert.KernelIdeal.main_v34_4)) (v5 : (c : Dev Cert.KernelIdeal.nD) → Buf (Elt Ideal) ((c.tc : Thread Cert.KernelIdeal.nD Cert.KernelIdeal.τ).loc Cert.KernelIdeal.main_v34_5)) (v6 : (c : Dev Cert.KernelIdeal.nD) → Buf (Elt Ideal) ((c.tc : Thread Cert.KernelIdeal.nD Cert.KernelIdeal.τ).loc Cert.KernelIdeal.main_v34_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_v34_3) = v3 c
          ∧ r.2.mem ((c.tc : Thread Cert.KernelIdeal.nD Cert.KernelIdeal.τ).loc Cert.KernelIdeal.main_v34_4) = v4 c
          ∧ r.2.mem ((c.tc : Thread Cert.KernelIdeal.nD Cert.KernelIdeal.τ).loc Cert.KernelIdeal.main_v34_5) = v5 c
          ∧ r.2.mem ((c.tc : Thread Cert.KernelIdeal.nD Cert.KernelIdeal.τ).loc Cert.KernelIdeal.main_v34_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_v80) = v4 c
          ∧ r.2.mem ((c.tc : Thread Cert.ReferenceIdeal.nD Cert.ReferenceIdeal.τ).loc Cert.ReferenceIdeal.main_v81) = v5 c
          ∧ r.2.mem ((c.tc : Thread Cert.ReferenceIdeal.nD Cert.ReferenceIdeal.τ).loc Cert.ReferenceIdeal.main_v75) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelDwo_KernelDwoIdeal : Prop :=
  True

def algebraic_KernelDwoIdeal_ReferenceDwoIdeal [hKernelDwoIdeal : Cert.KernelDwoIdeal.Facts] [hReferenceDwoIdeal : Cert.ReferenceDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg)
    (m' : (ℓ : Loc Cert.ReferenceDwoIdeal.nD Cert.ReferenceDwoIdeal.τ Cert.ReferenceDwoIdeal.sig) → Buf (Elt Ideal) ℓ) (g' : Dev Cert.ReferenceDwoIdeal.nD → PrngReg), Pre_KernelDwoIdeal m →
    (∀ c : Dev Cert.KernelDwoIdeal.nD,
      m' ((c.tc : Thread Cert.ReferenceDwoIdeal.nD Cert.ReferenceDwoIdeal.τ).loc Cert.ReferenceDwoIdeal.main_arg0) = m ((c.tc : Thread Cert.KernelDwoIdeal.nD Cert.KernelDwoIdeal.τ).loc Cert.KernelDwoIdeal.main_arg0)
      ∧ m' ((c.tc : Thread Cert.ReferenceDwoIdeal.nD Cert.ReferenceDwoIdeal.τ).loc Cert.ReferenceDwoIdeal.main_arg1) = m ((c.tc : Thread Cert.KernelDwoIdeal.nD Cert.KernelDwoIdeal.τ).loc Cert.KernelDwoIdeal.main_arg1)) →
    ∃ (v0 : (c : Dev Cert.KernelDwoIdeal.nD) → Buf (Elt Ideal) ((c.tc : Thread Cert.KernelDwoIdeal.nD Cert.KernelDwoIdeal.τ).loc Cert.KernelDwoIdeal.main_v0)),
      θ_run (Cert.KernelDwoIdeal.defs (F := Ideal)) (onTc (τ := Cert.KernelDwoIdeal.τ) (Cert.KernelDwoIdeal.main (F := Ideal))) ⟨m, fun _ => 0, g⟩ (fun r => ∀ c : Dev Cert.KernelDwoIdeal.nD,
          r.2.mem ((c.tc : Thread Cert.KernelDwoIdeal.nD Cert.KernelDwoIdeal.τ).loc Cert.KernelDwoIdeal.main_v0) = v0 c
          ∧ r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
          ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1))
      ∧ θ_run (Cert.ReferenceDwoIdeal.defs (F := Ideal)) (onTc (τ := Cert.ReferenceDwoIdeal.τ) (Cert.ReferenceDwoIdeal.main (F := Ideal))) ⟨m', fun _ => 0, g'⟩ (fun r => ∀ c : Dev Cert.ReferenceDwoIdeal.nD,
          r.2.mem ((c.tc : Thread Cert.ReferenceDwoIdeal.nD Cert.ReferenceDwoIdeal.τ).loc Cert.ReferenceDwoIdeal.main_v6) = v0 c
          ∧ r.2.mem ((c.tc : Thread Cert.ReferenceDwoIdeal.nD Cert.ReferenceDwoIdeal.τ).loc Cert.ReferenceDwoIdeal.main_arg0) = m' ((c.tc : Thread Cert.ReferenceDwoIdeal.nD Cert.ReferenceDwoIdeal.τ).loc Cert.ReferenceDwoIdeal.main_arg0)
          ∧ r.2.mem ((c.tc : Thread Cert.ReferenceDwoIdeal.nD Cert.ReferenceDwoIdeal.τ).loc Cert.ReferenceDwoIdeal.main_arg1) = m' ((c.tc : Thread Cert.ReferenceDwoIdeal.nD Cert.ReferenceDwoIdeal.τ).loc Cert.ReferenceDwoIdeal.main_arg1))

def preserves_KernelDwg_KernelDwgIdeal : Prop :=
  True

def algebraic_KernelDwgIdeal_ReferenceDwgIdeal_on_gate_columns [hKernelDwgIdeal : Cert.KernelDwgIdeal.Facts] [hReferenceDwgIdeal : Cert.ReferenceDwgIdeal.Facts] [hOn_gate_columns : Cert.On_gate_columns.Facts] : Prop :=
  ∀ (m : (ℓ : Loc Cert.KernelDwgIdeal.nD Cert.KernelDwgIdeal.τ Cert.KernelDwgIdeal.sig) → Buf (Elt Ideal) ℓ) (g : Dev Cert.KernelDwgIdeal.nD → PrngReg)
    (m' : (ℓ : Loc Cert.ReferenceDwgIdeal.nD Cert.ReferenceDwgIdeal.τ Cert.ReferenceDwgIdeal.sig) → Buf (Elt Ideal) ℓ) (g' : Dev Cert.ReferenceDwgIdeal.nD → PrngReg), Pre_KernelDwgIdeal m →
    (∀ c : Dev Cert.KernelDwgIdeal.nD,
      m' ((c.tc : Thread Cert.ReferenceDwgIdeal.nD Cert.ReferenceDwgIdeal.τ).loc Cert.ReferenceDwgIdeal.main_arg0) = m ((c.tc : Thread Cert.KernelDwgIdeal.nD Cert.KernelDwgIdeal.τ).loc Cert.KernelDwgIdeal.main_arg0)
      ∧ m' ((c.tc : Thread Cert.ReferenceDwgIdeal.nD Cert.ReferenceDwgIdeal.τ).loc Cert.ReferenceDwgIdeal.main_arg1) = m ((c.tc : Thread Cert.KernelDwgIdeal.nD Cert.KernelDwgIdeal.τ).loc Cert.KernelDwgIdeal.main_arg1)) →
    ∃ (v0 : (c : Dev Cert.KernelDwgIdeal.nD) → Buf (Elt Ideal) ((c.tc : Thread Cert.KernelDwgIdeal.nD Cert.KernelDwgIdeal.τ).loc Cert.KernelDwgIdeal.main_v0)),
      θ_run (Cert.KernelDwgIdeal.defs (F := Ideal)) (onTc (τ := Cert.KernelDwgIdeal.τ) (Cert.KernelDwgIdeal.main (F := Ideal))) ⟨m, fun _ => 0, g⟩ (fun r => ∀ c : Dev Cert.KernelDwgIdeal.nD,
          (∀ i : (⟨2, ![1024, 5632]⟩ : Shape).Idx, (Cert.On_gate_columns.fn (F := Ideal) (m ((c.tc : Thread Cert.KernelDwgIdeal.nD Cert.KernelDwgIdeal.τ).loc Cert.KernelDwgIdeal.main_arg0)) (m ((c.tc : Thread Cert.KernelDwgIdeal.nD Cert.KernelDwgIdeal.τ).loc Cert.KernelDwgIdeal.main_arg1))) i = 1#1 → r.2.mem ((c.tc : Thread Cert.KernelDwgIdeal.nD Cert.KernelDwgIdeal.τ).loc Cert.KernelDwgIdeal.main_v0) i = v0 c i)
          ∧ r.2.mem ((c.tc : Thread Cert.KernelDwgIdeal.nD Cert.KernelDwgIdeal.τ).loc Cert.KernelDwgIdeal.main_arg0) = m ((c.tc : Thread Cert.KernelDwgIdeal.nD Cert.KernelDwgIdeal.τ).loc Cert.KernelDwgIdeal.main_arg0)
          ∧ r.2.mem ((c.tc : Thread Cert.KernelDwgIdeal.nD Cert.KernelDwgIdeal.τ).loc Cert.KernelDwgIdeal.main_arg1) = m ((c.tc : Thread Cert.KernelDwgIdeal.nD Cert.KernelDwgIdeal.τ).loc Cert.KernelDwgIdeal.main_arg1))
      ∧ θ_run (Cert.ReferenceDwgIdeal.defs (F := Ideal)) (onTc (τ := Cert.ReferenceDwgIdeal.τ) (Cert.ReferenceDwgIdeal.main (F := Ideal))) ⟨m', fun _ => 0, g'⟩ (fun r => ∀ c : Dev Cert.ReferenceDwgIdeal.nD,
          (∀ i : (⟨2, ![1024, 5632]⟩ : Shape).Idx, (Cert.On_gate_columns.fn (F := Ideal) (m ((c.tc : Thread Cert.KernelDwgIdeal.nD Cert.KernelDwgIdeal.τ).loc Cert.KernelDwgIdeal.main_arg0)) (m ((c.tc : Thread Cert.KernelDwgIdeal.nD Cert.KernelDwgIdeal.τ).loc Cert.KernelDwgIdeal.main_arg1))) i = 1#1 → r.2.mem ((c.tc : Thread Cert.ReferenceDwgIdeal.nD Cert.ReferenceDwgIdeal.τ).loc Cert.ReferenceDwgIdeal.main_v7) i = v0 c i)
          ∧ r.2.mem ((c.tc : Thread Cert.ReferenceDwgIdeal.nD Cert.ReferenceDwgIdeal.τ).loc Cert.ReferenceDwgIdeal.main_arg0) = m' ((c.tc : Thread Cert.ReferenceDwgIdeal.nD Cert.ReferenceDwgIdeal.τ).loc Cert.ReferenceDwgIdeal.main_arg0)
          ∧ r.2.mem ((c.tc : Thread Cert.ReferenceDwgIdeal.nD Cert.ReferenceDwgIdeal.τ).loc Cert.ReferenceDwgIdeal.main_arg1) = m' ((c.tc : Thread Cert.ReferenceDwgIdeal.nD Cert.ReferenceDwgIdeal.τ).loc Cert.ReferenceDwgIdeal.main_arg1))

def preserves_KernelDwu_KernelDwuIdeal : Prop :=
  True

def algebraic_KernelDwuIdeal_ReferenceDwuIdeal [hKernelDwuIdeal : Cert.KernelDwuIdeal.Facts] [hReferenceDwuIdeal : Cert.ReferenceDwuIdeal.Facts] : Prop :=
  ∀ (m : (ℓ : Loc Cert.KernelDwuIdeal.nD Cert.KernelDwuIdeal.τ Cert.KernelDwuIdeal.sig) → Buf (Elt Ideal) ℓ) (g : Dev Cert.KernelDwuIdeal.nD → PrngReg)
    (m' : (ℓ : Loc Cert.ReferenceDwuIdeal.nD Cert.ReferenceDwuIdeal.τ Cert.ReferenceDwuIdeal.sig) → Buf (Elt Ideal) ℓ) (g' : Dev Cert.ReferenceDwuIdeal.nD → PrngReg), Pre_KernelDwuIdeal m →
    (∀ c : Dev Cert.KernelDwuIdeal.nD,
      m' ((c.tc : Thread Cert.ReferenceDwuIdeal.nD Cert.ReferenceDwuIdeal.τ).loc Cert.ReferenceDwuIdeal.main_arg0) = m ((c.tc : Thread Cert.KernelDwuIdeal.nD Cert.KernelDwuIdeal.τ).loc Cert.KernelDwuIdeal.main_arg0)
      ∧ m' ((c.tc : Thread Cert.ReferenceDwuIdeal.nD Cert.ReferenceDwuIdeal.τ).loc Cert.ReferenceDwuIdeal.main_arg1) = m ((c.tc : Thread Cert.KernelDwuIdeal.nD Cert.KernelDwuIdeal.τ).loc Cert.KernelDwuIdeal.main_arg1)
      ∧ m' ((c.tc : Thread Cert.ReferenceDwuIdeal.nD Cert.ReferenceDwuIdeal.τ).loc Cert.ReferenceDwuIdeal.main_arg2) = m ((c.tc : Thread Cert.KernelDwuIdeal.nD Cert.KernelDwuIdeal.τ).loc Cert.KernelDwuIdeal.main_arg2)) →
    ∃ (v0 : (c : Dev Cert.KernelDwuIdeal.nD) → Buf (Elt Ideal) ((c.tc : Thread Cert.KernelDwuIdeal.nD Cert.KernelDwuIdeal.τ).loc Cert.KernelDwuIdeal.main_v0)),
      θ_run (Cert.KernelDwuIdeal.defs (F := Ideal)) (onTc (τ := Cert.KernelDwuIdeal.τ) (Cert.KernelDwuIdeal.main (F := Ideal))) ⟨m, fun _ => 0, g⟩ (fun r => ∀ c : Dev Cert.KernelDwuIdeal.nD,
          r.2.mem ((c.tc : Thread Cert.KernelDwuIdeal.nD Cert.KernelDwuIdeal.τ).loc Cert.KernelDwuIdeal.main_v0) = v0 c
          ∧ r.2.mem ((c.tc : Thread Cert.KernelDwuIdeal.nD Cert.KernelDwuIdeal.τ).loc Cert.KernelDwuIdeal.main_arg0) = m ((c.tc : Thread Cert.KernelDwuIdeal.nD Cert.KernelDwuIdeal.τ).loc Cert.KernelDwuIdeal.main_arg0)
          ∧ r.2.mem ((c.tc : Thread Cert.KernelDwuIdeal.nD Cert.KernelDwuIdeal.τ).loc Cert.KernelDwuIdeal.main_arg1) = m ((c.tc : Thread Cert.KernelDwuIdeal.nD Cert.KernelDwuIdeal.τ).loc Cert.KernelDwuIdeal.main_arg1)
          ∧ r.2.mem ((c.tc : Thread Cert.KernelDwuIdeal.nD Cert.KernelDwuIdeal.τ).loc Cert.KernelDwuIdeal.main_arg2) = m ((c.tc : Thread Cert.KernelDwuIdeal.nD Cert.KernelDwuIdeal.τ).loc Cert.KernelDwuIdeal.main_arg2))
      ∧ θ_run (Cert.ReferenceDwuIdeal.defs (F := Ideal)) (onTc (τ := Cert.ReferenceDwuIdeal.τ) (Cert.ReferenceDwuIdeal.main (F := Ideal))) ⟨m', fun _ => 0, g'⟩ (fun r => ∀ c : Dev Cert.ReferenceDwuIdeal.nD,
          r.2.mem ((c.tc : Thread Cert.ReferenceDwuIdeal.nD Cert.ReferenceDwuIdeal.τ).loc Cert.ReferenceDwuIdeal.main_v8) = v0 c
          ∧ r.2.mem ((c.tc : Thread Cert.ReferenceDwuIdeal.nD Cert.ReferenceDwuIdeal.τ).loc Cert.ReferenceDwuIdeal.main_arg0) = m' ((c.tc : Thread Cert.ReferenceDwuIdeal.nD Cert.ReferenceDwuIdeal.τ).loc Cert.ReferenceDwuIdeal.main_arg0)
          ∧ r.2.mem ((c.tc : Thread Cert.ReferenceDwuIdeal.nD Cert.ReferenceDwuIdeal.τ).loc Cert.ReferenceDwuIdeal.main_arg1) = m' ((c.tc : Thread Cert.ReferenceDwuIdeal.nD Cert.ReferenceDwuIdeal.τ).loc Cert.ReferenceDwuIdeal.main_arg1)
          ∧ r.2.mem ((c.tc : Thread Cert.ReferenceDwuIdeal.nD Cert.ReferenceDwuIdeal.τ).loc Cert.ReferenceDwuIdeal.main_arg2) = m' ((c.tc : Thread Cert.ReferenceDwuIdeal.nD Cert.ReferenceDwuIdeal.τ).loc Cert.ReferenceDwuIdeal.main_arg2))

def preserves_KernelMdo_KernelMdoIdeal : Prop :=
  True

def algebraic_KernelMdoIdeal_ReferenceMdoIdeal [hKernelMdoIdeal : Cert.KernelMdoIdeal.Facts] [hReferenceMdoIdeal : Cert.ReferenceMdoIdeal.Facts] : Prop :=
  ∀ (m : (ℓ : Loc Cert.KernelMdoIdeal.nD Cert.KernelMdoIdeal.τ Cert.KernelMdoIdeal.sig) → Buf (Elt Ideal) ℓ) (g : Dev Cert.KernelMdoIdeal.nD → PrngReg)
    (m' : (ℓ : Loc Cert.ReferenceMdoIdeal.nD Cert.ReferenceMdoIdeal.τ Cert.ReferenceMdoIdeal.sig) → Buf (Elt Ideal) ℓ) (g' : Dev Cert.ReferenceMdoIdeal.nD → PrngReg), Pre_KernelMdoIdeal m →
    (∀ c : Dev Cert.KernelMdoIdeal.nD,
      m' ((c.tc : Thread Cert.ReferenceMdoIdeal.nD Cert.ReferenceMdoIdeal.τ).loc Cert.ReferenceMdoIdeal.main_arg0) = m ((c.tc : Thread Cert.KernelMdoIdeal.nD Cert.KernelMdoIdeal.τ).loc Cert.KernelMdoIdeal.main_arg0)
      ∧ m' ((c.tc : Thread Cert.ReferenceMdoIdeal.nD Cert.ReferenceMdoIdeal.τ).loc Cert.ReferenceMdoIdeal.main_arg1) = m ((c.tc : Thread Cert.KernelMdoIdeal.nD Cert.KernelMdoIdeal.τ).loc Cert.KernelMdoIdeal.main_arg1)) →
    ∃ (v0 : (c : Dev Cert.KernelMdoIdeal.nD) → Buf (Elt Ideal) ((c.tc : Thread Cert.KernelMdoIdeal.nD Cert.KernelMdoIdeal.τ).loc Cert.KernelMdoIdeal.main_v0)),
      θ_run (Cert.KernelMdoIdeal.defs (F := Ideal)) (onTc (τ := Cert.KernelMdoIdeal.τ) (Cert.KernelMdoIdeal.main (F := Ideal))) ⟨m, fun _ => 0, g⟩ (fun r => ∀ c : Dev Cert.KernelMdoIdeal.nD,
          r.2.mem ((c.tc : Thread Cert.KernelMdoIdeal.nD Cert.KernelMdoIdeal.τ).loc Cert.KernelMdoIdeal.main_v0) = v0 c
          ∧ r.2.mem ((c.tc : Thread Cert.KernelMdoIdeal.nD Cert.KernelMdoIdeal.τ).loc Cert.KernelMdoIdeal.main_arg0) = m ((c.tc : Thread Cert.KernelMdoIdeal.nD Cert.KernelMdoIdeal.τ).loc Cert.KernelMdoIdeal.main_arg0)
          ∧ r.2.mem ((c.tc : Thread Cert.KernelMdoIdeal.nD Cert.KernelMdoIdeal.τ).loc Cert.KernelMdoIdeal.main_arg1) = m ((c.tc : Thread Cert.KernelMdoIdeal.nD Cert.KernelMdoIdeal.τ).loc Cert.KernelMdoIdeal.main_arg1))
      ∧ θ_run (Cert.ReferenceMdoIdeal.defs (F := Ideal)) (onTc (τ := Cert.ReferenceMdoIdeal.τ) (Cert.ReferenceMdoIdeal.main (F := Ideal))) ⟨m', fun _ => 0, g'⟩ (fun r => ∀ c : Dev Cert.ReferenceMdoIdeal.nD,
          r.2.mem ((c.tc : Thread Cert.ReferenceMdoIdeal.nD Cert.ReferenceMdoIdeal.τ).loc Cert.ReferenceMdoIdeal.main_v6) = v0 c
          ∧ r.2.mem ((c.tc : Thread Cert.ReferenceMdoIdeal.nD Cert.ReferenceMdoIdeal.τ).loc Cert.ReferenceMdoIdeal.main_arg0) = m' ((c.tc : Thread Cert.ReferenceMdoIdeal.nD Cert.ReferenceMdoIdeal.τ).loc Cert.ReferenceMdoIdeal.main_arg0)
          ∧ r.2.mem ((c.tc : Thread Cert.ReferenceMdoIdeal.nD Cert.ReferenceMdoIdeal.τ).loc Cert.ReferenceMdoIdeal.main_arg1) = m' ((c.tc : Thread Cert.ReferenceMdoIdeal.nD Cert.ReferenceMdoIdeal.τ).loc Cert.ReferenceMdoIdeal.main_arg1))

def preserves_KernelMdi_KernelMdiIdeal : Prop :=
  True

def algebraic_KernelMdiIdeal_ReferenceMdiIdeal [hKernelMdiIdeal : Cert.KernelMdiIdeal.Facts] [hReferenceMdiIdeal : Cert.ReferenceMdiIdeal.Facts] : Prop :=
  ∀ (m : (ℓ : Loc Cert.KernelMdiIdeal.nD Cert.KernelMdiIdeal.τ Cert.KernelMdiIdeal.sig) → Buf (Elt Ideal) ℓ) (g : Dev Cert.KernelMdiIdeal.nD → PrngReg)
    (m' : (ℓ : Loc Cert.ReferenceMdiIdeal.nD Cert.ReferenceMdiIdeal.τ Cert.ReferenceMdiIdeal.sig) → Buf (Elt Ideal) ℓ) (g' : Dev Cert.ReferenceMdiIdeal.nD → PrngReg), Pre_KernelMdiIdeal m →
    (∀ c : Dev Cert.KernelMdiIdeal.nD,
      m' ((c.tc : Thread Cert.ReferenceMdiIdeal.nD Cert.ReferenceMdiIdeal.τ).loc Cert.ReferenceMdiIdeal.main_arg0) = m ((c.tc : Thread Cert.KernelMdiIdeal.nD Cert.KernelMdiIdeal.τ).loc Cert.KernelMdiIdeal.main_arg0)
      ∧ m' ((c.tc : Thread Cert.ReferenceMdiIdeal.nD Cert.ReferenceMdiIdeal.τ).loc Cert.ReferenceMdiIdeal.main_arg1) = m ((c.tc : Thread Cert.KernelMdiIdeal.nD Cert.KernelMdiIdeal.τ).loc Cert.KernelMdiIdeal.main_arg1)) →
    ∃ (v0 : (c : Dev Cert.KernelMdiIdeal.nD) → Buf (Elt Ideal) ((c.tc : Thread Cert.KernelMdiIdeal.nD Cert.KernelMdiIdeal.τ).loc Cert.KernelMdiIdeal.main_v0)),
      θ_run (Cert.KernelMdiIdeal.defs (F := Ideal)) (onTc (τ := Cert.KernelMdiIdeal.τ) (Cert.KernelMdiIdeal.main (F := Ideal))) ⟨m, fun _ => 0, g⟩ (fun r => ∀ c : Dev Cert.KernelMdiIdeal.nD,
          r.2.mem ((c.tc : Thread Cert.KernelMdiIdeal.nD Cert.KernelMdiIdeal.τ).loc Cert.KernelMdiIdeal.main_v0) = v0 c
          ∧ r.2.mem ((c.tc : Thread Cert.KernelMdiIdeal.nD Cert.KernelMdiIdeal.τ).loc Cert.KernelMdiIdeal.main_arg0) = m ((c.tc : Thread Cert.KernelMdiIdeal.nD Cert.KernelMdiIdeal.τ).loc Cert.KernelMdiIdeal.main_arg0)
          ∧ r.2.mem ((c.tc : Thread Cert.KernelMdiIdeal.nD Cert.KernelMdiIdeal.τ).loc Cert.KernelMdiIdeal.main_arg1) = m ((c.tc : Thread Cert.KernelMdiIdeal.nD Cert.KernelMdiIdeal.τ).loc Cert.KernelMdiIdeal.main_arg1))
      ∧ θ_run (Cert.ReferenceMdiIdeal.defs (F := Ideal)) (onTc (τ := Cert.ReferenceMdiIdeal.τ) (Cert.ReferenceMdiIdeal.main (F := Ideal))) ⟨m', fun _ => 0, g'⟩ (fun r => ∀ c : Dev Cert.ReferenceMdiIdeal.nD,
          r.2.mem ((c.tc : Thread Cert.ReferenceMdiIdeal.nD Cert.ReferenceMdiIdeal.τ).loc Cert.ReferenceMdiIdeal.main_v6) = v0 c
          ∧ r.2.mem ((c.tc : Thread Cert.ReferenceMdiIdeal.nD Cert.ReferenceMdiIdeal.τ).loc Cert.ReferenceMdiIdeal.main_arg0) = m' ((c.tc : Thread Cert.ReferenceMdiIdeal.nD Cert.ReferenceMdiIdeal.τ).loc Cert.ReferenceMdiIdeal.main_arg0)
          ∧ r.2.mem ((c.tc : Thread Cert.ReferenceMdiIdeal.nD Cert.ReferenceMdiIdeal.τ).loc Cert.ReferenceMdiIdeal.main_arg1) = m' ((c.tc : Thread Cert.ReferenceMdiIdeal.nD Cert.ReferenceMdiIdeal.τ).loc Cert.ReferenceMdiIdeal.main_arg1))

def preserves_KernelFin_KernelFinIdeal : Prop :=
  True

def algebraic_KernelFinIdeal_ReferenceFinIdeal [hKernelFinIdeal : Cert.KernelFinIdeal.Facts] [hReferenceFinIdeal : Cert.ReferenceFinIdeal.Facts] : Prop :=
  ∀ (m : (ℓ : Loc Cert.KernelFinIdeal.nD Cert.KernelFinIdeal.τ Cert.KernelFinIdeal.sig) → Buf (Elt Ideal) ℓ) (g : Dev Cert.KernelFinIdeal.nD → PrngReg)
    (m' : (ℓ : Loc Cert.ReferenceFinIdeal.nD Cert.ReferenceFinIdeal.τ Cert.ReferenceFinIdeal.sig) → Buf (Elt Ideal) ℓ) (g' : Dev Cert.ReferenceFinIdeal.nD → PrngReg), Pre_KernelFinIdeal m →
    (∀ c : Dev Cert.KernelFinIdeal.nD,
      m' ((c.tc : Thread Cert.ReferenceFinIdeal.nD Cert.ReferenceFinIdeal.τ).loc Cert.ReferenceFinIdeal.main_arg0) = m ((c.tc : Thread Cert.KernelFinIdeal.nD Cert.KernelFinIdeal.τ).loc Cert.KernelFinIdeal.main_arg0)
      ∧ m' ((c.tc : Thread Cert.ReferenceFinIdeal.nD Cert.ReferenceFinIdeal.τ).loc Cert.ReferenceFinIdeal.main_arg1) = m ((c.tc : Thread Cert.KernelFinIdeal.nD Cert.KernelFinIdeal.τ).loc Cert.KernelFinIdeal.main_arg1)
      ∧ m' ((c.tc : Thread Cert.ReferenceFinIdeal.nD Cert.ReferenceFinIdeal.τ).loc Cert.ReferenceFinIdeal.main_arg2) = m ((c.tc : Thread Cert.KernelFinIdeal.nD Cert.KernelFinIdeal.τ).loc Cert.KernelFinIdeal.main_arg2)
      ∧ m' ((c.tc : Thread Cert.ReferenceFinIdeal.nD Cert.ReferenceFinIdeal.τ).loc Cert.ReferenceFinIdeal.main_arg3) = m ((c.tc : Thread Cert.KernelFinIdeal.nD Cert.KernelFinIdeal.τ).loc Cert.KernelFinIdeal.main_arg3)
      ∧ m' ((c.tc : Thread Cert.ReferenceFinIdeal.nD Cert.ReferenceFinIdeal.τ).loc Cert.ReferenceFinIdeal.main_arg4) = m ((c.tc : Thread Cert.KernelFinIdeal.nD Cert.KernelFinIdeal.τ).loc Cert.KernelFinIdeal.main_arg4)) →
    ∃ (v0 : (c : Dev Cert.KernelFinIdeal.nD) → Buf (Elt Ideal) ((c.tc : Thread Cert.KernelFinIdeal.nD Cert.KernelFinIdeal.τ).loc Cert.KernelFinIdeal.main_v4_0)) (v1 : (c : Dev Cert.KernelFinIdeal.nD) → Buf (Elt Ideal) ((c.tc : Thread Cert.KernelFinIdeal.nD Cert.KernelFinIdeal.τ).loc Cert.KernelFinIdeal.main_v4_1)) (v2 : (c : Dev Cert.KernelFinIdeal.nD) → Buf (Elt Ideal) ((c.tc : Thread Cert.KernelFinIdeal.nD Cert.KernelFinIdeal.τ).loc Cert.KernelFinIdeal.main_v4_2)),
      θ_run (Cert.KernelFinIdeal.defs (F := Ideal)) (onTc (τ := Cert.KernelFinIdeal.τ) (Cert.KernelFinIdeal.main (F := Ideal))) ⟨m, fun _ => 0, g⟩ (fun r => ∀ c : Dev Cert.KernelFinIdeal.nD,
          r.2.mem ((c.tc : Thread Cert.KernelFinIdeal.nD Cert.KernelFinIdeal.τ).loc Cert.KernelFinIdeal.main_v4_0) = v0 c
          ∧ r.2.mem ((c.tc : Thread Cert.KernelFinIdeal.nD Cert.KernelFinIdeal.τ).loc Cert.KernelFinIdeal.main_v4_1) = v1 c
          ∧ r.2.mem ((c.tc : Thread Cert.KernelFinIdeal.nD Cert.KernelFinIdeal.τ).loc Cert.KernelFinIdeal.main_v4_2) = v2 c
          ∧ r.2.mem ((c.tc : Thread Cert.KernelFinIdeal.nD Cert.KernelFinIdeal.τ).loc Cert.KernelFinIdeal.main_arg0) = m ((c.tc : Thread Cert.KernelFinIdeal.nD Cert.KernelFinIdeal.τ).loc Cert.KernelFinIdeal.main_arg0)
          ∧ r.2.mem ((c.tc : Thread Cert.KernelFinIdeal.nD Cert.KernelFinIdeal.τ).loc Cert.KernelFinIdeal.main_arg1) = m ((c.tc : Thread Cert.KernelFinIdeal.nD Cert.KernelFinIdeal.τ).loc Cert.KernelFinIdeal.main_arg1)
          ∧ r.2.mem ((c.tc : Thread Cert.KernelFinIdeal.nD Cert.KernelFinIdeal.τ).loc Cert.KernelFinIdeal.main_arg2) = m ((c.tc : Thread Cert.KernelFinIdeal.nD Cert.KernelFinIdeal.τ).loc Cert.KernelFinIdeal.main_arg2)
          ∧ r.2.mem ((c.tc : Thread Cert.KernelFinIdeal.nD Cert.KernelFinIdeal.τ).loc Cert.KernelFinIdeal.main_arg3) = m ((c.tc : Thread Cert.KernelFinIdeal.nD Cert.KernelFinIdeal.τ).loc Cert.KernelFinIdeal.main_arg3)
          ∧ r.2.mem ((c.tc : Thread Cert.KernelFinIdeal.nD Cert.KernelFinIdeal.τ).loc Cert.KernelFinIdeal.main_arg4) = m ((c.tc : Thread Cert.KernelFinIdeal.nD Cert.KernelFinIdeal.τ).loc Cert.KernelFinIdeal.main_arg4))
      ∧ θ_run (Cert.ReferenceFinIdeal.defs (F := Ideal)) (onTc (τ := Cert.ReferenceFinIdeal.τ) (Cert.ReferenceFinIdeal.main (F := Ideal))) ⟨m', fun _ => 0, g'⟩ (fun r => ∀ c : Dev Cert.ReferenceFinIdeal.nD,
          r.2.mem ((c.tc : Thread Cert.ReferenceFinIdeal.nD Cert.ReferenceFinIdeal.τ).loc Cert.ReferenceFinIdeal.main_v21) = v0 c
          ∧ r.2.mem ((c.tc : Thread Cert.ReferenceFinIdeal.nD Cert.ReferenceFinIdeal.τ).loc Cert.ReferenceFinIdeal.main_v22) = v1 c
          ∧ r.2.mem ((c.tc : Thread Cert.ReferenceFinIdeal.nD Cert.ReferenceFinIdeal.τ).loc Cert.ReferenceFinIdeal.main_v27) = v2 c
          ∧ r.2.mem ((c.tc : Thread Cert.ReferenceFinIdeal.nD Cert.ReferenceFinIdeal.τ).loc Cert.ReferenceFinIdeal.main_arg0) = m' ((c.tc : Thread Cert.ReferenceFinIdeal.nD Cert.ReferenceFinIdeal.τ).loc Cert.ReferenceFinIdeal.main_arg0)
          ∧ r.2.mem ((c.tc : Thread Cert.ReferenceFinIdeal.nD Cert.ReferenceFinIdeal.τ).loc Cert.ReferenceFinIdeal.main_arg1) = m' ((c.tc : Thread Cert.ReferenceFinIdeal.nD Cert.ReferenceFinIdeal.τ).loc Cert.ReferenceFinIdeal.main_arg1)
          ∧ r.2.mem ((c.tc : Thread Cert.ReferenceFinIdeal.nD Cert.ReferenceFinIdeal.τ).loc Cert.ReferenceFinIdeal.main_arg2) = m' ((c.tc : Thread Cert.ReferenceFinIdeal.nD Cert.ReferenceFinIdeal.τ).loc Cert.ReferenceFinIdeal.main_arg2)
          ∧ r.2.mem ((c.tc : Thread Cert.ReferenceFinIdeal.nD Cert.ReferenceFinIdeal.τ).loc Cert.ReferenceFinIdeal.main_arg3) = m' ((c.tc : Thread Cert.ReferenceFinIdeal.nD Cert.ReferenceFinIdeal.τ).loc Cert.ReferenceFinIdeal.main_arg3)
          ∧ r.2.mem ((c.tc : Thread Cert.ReferenceFinIdeal.nD Cert.ReferenceFinIdeal.τ).loc Cert.ReferenceFinIdeal.main_arg4) = m' ((c.tc : Thread Cert.ReferenceFinIdeal.nD Cert.ReferenceFinIdeal.τ).loc Cert.ReferenceFinIdeal.main_arg4))

def preserves_KernelFout_KernelFoutIdeal : Prop :=
  True

def algebraic_KernelFoutIdeal_ReferenceFoutIdeal [hKernelFoutIdeal : Cert.KernelFoutIdeal.Facts] [hReferenceFoutIdeal : Cert.ReferenceFoutIdeal.Facts] : Prop :=
  ∀ (m : (ℓ : Loc Cert.KernelFoutIdeal.nD Cert.KernelFoutIdeal.τ Cert.KernelFoutIdeal.sig) → Buf (Elt Ideal) ℓ) (g : Dev Cert.KernelFoutIdeal.nD → PrngReg)
    (m' : (ℓ : Loc Cert.ReferenceFoutIdeal.nD Cert.ReferenceFoutIdeal.τ Cert.ReferenceFoutIdeal.sig) → Buf (Elt Ideal) ℓ) (g' : Dev Cert.ReferenceFoutIdeal.nD → PrngReg), Pre_KernelFoutIdeal m →
    (∀ c : Dev Cert.KernelFoutIdeal.nD,
      m' ((c.tc : Thread Cert.ReferenceFoutIdeal.nD Cert.ReferenceFoutIdeal.τ).loc Cert.ReferenceFoutIdeal.main_arg0) = m ((c.tc : Thread Cert.KernelFoutIdeal.nD Cert.KernelFoutIdeal.τ).loc Cert.KernelFoutIdeal.main_arg0)
      ∧ m' ((c.tc : Thread Cert.ReferenceFoutIdeal.nD Cert.ReferenceFoutIdeal.τ).loc Cert.ReferenceFoutIdeal.main_arg1) = m ((c.tc : Thread Cert.KernelFoutIdeal.nD Cert.KernelFoutIdeal.τ).loc Cert.KernelFoutIdeal.main_arg1)
      ∧ m' ((c.tc : Thread Cert.ReferenceFoutIdeal.nD Cert.ReferenceFoutIdeal.τ).loc Cert.ReferenceFoutIdeal.main_arg2) = m ((c.tc : Thread Cert.KernelFoutIdeal.nD Cert.KernelFoutIdeal.τ).loc Cert.KernelFoutIdeal.main_arg2)
      ∧ m' ((c.tc : Thread Cert.ReferenceFoutIdeal.nD Cert.ReferenceFoutIdeal.τ).loc Cert.ReferenceFoutIdeal.main_arg3) = m ((c.tc : Thread Cert.KernelFoutIdeal.nD Cert.KernelFoutIdeal.τ).loc Cert.KernelFoutIdeal.main_arg3)) →
    ∃ (v0 : (c : Dev Cert.KernelFoutIdeal.nD) → Buf (Elt Ideal) ((c.tc : Thread Cert.KernelFoutIdeal.nD Cert.KernelFoutIdeal.τ).loc Cert.KernelFoutIdeal.main_v4_0)) (v1 : (c : Dev Cert.KernelFoutIdeal.nD) → Buf (Elt Ideal) ((c.tc : Thread Cert.KernelFoutIdeal.nD Cert.KernelFoutIdeal.τ).loc Cert.KernelFoutIdeal.main_v4_1)),
      θ_run (Cert.KernelFoutIdeal.defs (F := Ideal)) (onTc (τ := Cert.KernelFoutIdeal.τ) (Cert.KernelFoutIdeal.main (F := Ideal))) ⟨m, fun _ => 0, g⟩ (fun r => ∀ c : Dev Cert.KernelFoutIdeal.nD,
          r.2.mem ((c.tc : Thread Cert.KernelFoutIdeal.nD Cert.KernelFoutIdeal.τ).loc Cert.KernelFoutIdeal.main_v4_0) = v0 c
          ∧ r.2.mem ((c.tc : Thread Cert.KernelFoutIdeal.nD Cert.KernelFoutIdeal.τ).loc Cert.KernelFoutIdeal.main_v4_1) = v1 c
          ∧ r.2.mem ((c.tc : Thread Cert.KernelFoutIdeal.nD Cert.KernelFoutIdeal.τ).loc Cert.KernelFoutIdeal.main_arg0) = m ((c.tc : Thread Cert.KernelFoutIdeal.nD Cert.KernelFoutIdeal.τ).loc Cert.KernelFoutIdeal.main_arg0)
          ∧ r.2.mem ((c.tc : Thread Cert.KernelFoutIdeal.nD Cert.KernelFoutIdeal.τ).loc Cert.KernelFoutIdeal.main_arg1) = m ((c.tc : Thread Cert.KernelFoutIdeal.nD Cert.KernelFoutIdeal.τ).loc Cert.KernelFoutIdeal.main_arg1)
          ∧ r.2.mem ((c.tc : Thread Cert.KernelFoutIdeal.nD Cert.KernelFoutIdeal.τ).loc Cert.KernelFoutIdeal.main_arg2) = m ((c.tc : Thread Cert.KernelFoutIdeal.nD Cert.KernelFoutIdeal.τ).loc Cert.KernelFoutIdeal.main_arg2)
          ∧ r.2.mem ((c.tc : Thread Cert.KernelFoutIdeal.nD Cert.KernelFoutIdeal.τ).loc Cert.KernelFoutIdeal.main_arg3) = m ((c.tc : Thread Cert.KernelFoutIdeal.nD Cert.KernelFoutIdeal.τ).loc Cert.KernelFoutIdeal.main_arg3))
      ∧ θ_run (Cert.ReferenceFoutIdeal.defs (F := Ideal)) (onTc (τ := Cert.ReferenceFoutIdeal.τ) (Cert.ReferenceFoutIdeal.main (F := Ideal))) ⟨m', fun _ => 0, g'⟩ (fun r => ∀ c : Dev Cert.ReferenceFoutIdeal.nD,
          r.2.mem ((c.tc : Thread Cert.ReferenceFoutIdeal.nD Cert.ReferenceFoutIdeal.τ).loc Cert.ReferenceFoutIdeal.main_v6) = v0 c
          ∧ r.2.mem ((c.tc : Thread Cert.ReferenceFoutIdeal.nD Cert.ReferenceFoutIdeal.τ).loc Cert.ReferenceFoutIdeal.main_v7) = v1 c
          ∧ r.2.mem ((c.tc : Thread Cert.ReferenceFoutIdeal.nD Cert.ReferenceFoutIdeal.τ).loc Cert.ReferenceFoutIdeal.main_arg0) = m' ((c.tc : Thread Cert.ReferenceFoutIdeal.nD Cert.ReferenceFoutIdeal.τ).loc Cert.ReferenceFoutIdeal.main_arg0)
          ∧ r.2.mem ((c.tc : Thread Cert.ReferenceFoutIdeal.nD Cert.ReferenceFoutIdeal.τ).loc Cert.ReferenceFoutIdeal.main_arg1) = m' ((c.tc : Thread Cert.ReferenceFoutIdeal.nD Cert.ReferenceFoutIdeal.τ).loc Cert.ReferenceFoutIdeal.main_arg1)
          ∧ r.2.mem ((c.tc : Thread Cert.ReferenceFoutIdeal.nD Cert.ReferenceFoutIdeal.τ).loc Cert.ReferenceFoutIdeal.main_arg2) = m' ((c.tc : Thread Cert.ReferenceFoutIdeal.nD Cert.ReferenceFoutIdeal.τ).loc Cert.ReferenceFoutIdeal.main_arg2)
          ∧ r.2.mem ((c.tc : Thread Cert.ReferenceFoutIdeal.nD Cert.ReferenceFoutIdeal.τ).loc Cert.ReferenceFoutIdeal.main_arg3) = m' ((c.tc : Thread Cert.ReferenceFoutIdeal.nD Cert.ReferenceFoutIdeal.τ).loc Cert.ReferenceFoutIdeal.main_arg3))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)) →
    ∃ (v0 : (c : Dev Cert.KernelProjIdeal.nD) → Buf (Elt Ideal) ((c.tc : Thread Cert.KernelProjIdeal.nD Cert.KernelProjIdeal.τ).loc Cert.KernelProjIdeal.main_v5)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v5) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v19) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4))

def preserves_Kernel2_Kernel2Ideal : Prop :=
  True

def algebraic_Kernel2Ideal_ReferenceIdeal_pre_finite [hKernel2Ideal : Cert.Kernel2Ideal.Facts] [hReferenceIdeal : Cert.ReferenceIdeal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_Kernel2Ideal_finite m →
    (∀ c : Dev Cert.Kernel2Ideal.nD,
      m' ((c.tc : Thread Cert.ReferenceIdeal.nD Cert.ReferenceIdeal.τ).loc Cert.ReferenceIdeal.main_arg0) = m ((c.tc : Thread Cert.Kernel2Ideal.nD Cert.Kernel2Ideal.τ).loc Cert.Kernel2Ideal.main_arg0)
      ∧ m' ((c.tc : Thread Cert.ReferenceIdeal.nD Cert.ReferenceIdeal.τ).loc Cert.ReferenceIdeal.main_arg1) = m ((c.tc : Thread Cert.Kernel2Ideal.nD Cert.Kernel2Ideal.τ).loc Cert.Kernel2Ideal.main_arg1)
      ∧ m' ((c.tc : Thread Cert.ReferenceIdeal.nD Cert.ReferenceIdeal.τ).loc Cert.ReferenceIdeal.main_arg2) = m ((c.tc : Thread Cert.Kernel2Ideal.nD Cert.Kernel2Ideal.τ).loc Cert.Kernel2Ideal.main_arg2)
      ∧ m' ((c.tc : Thread Cert.ReferenceIdeal.nD Cert.ReferenceIdeal.τ).loc Cert.ReferenceIdeal.main_arg3) = m ((c.tc : Thread Cert.Kernel2Ideal.nD Cert.Kernel2Ideal.τ).loc Cert.Kernel2Ideal.main_arg3)
      ∧ m' ((c.tc : Thread Cert.ReferenceIdeal.nD Cert.ReferenceIdeal.τ).loc Cert.ReferenceIdeal.main_arg4) = m ((c.tc : Thread Cert.Kernel2Ideal.nD Cert.Kernel2Ideal.τ).loc Cert.Kernel2Ideal.main_arg4)
      ∧ m' ((c.tc : Thread Cert.ReferenceIdeal.nD Cert.ReferenceIdeal.τ).loc Cert.ReferenceIdeal.main_arg5) = m ((c.tc : Thread Cert.Kernel2Ideal.nD Cert.Kernel2Ideal.τ).loc Cert.Kernel2Ideal.main_arg5)
      ∧ m' ((c.tc : Thread Cert.ReferenceIdeal.nD Cert.ReferenceIdeal.τ).loc Cert.ReferenceIdeal.main_arg6) = m ((c.tc : Thread Cert.Kernel2Ideal.nD Cert.Kernel2Ideal.τ).loc Cert.Kernel2Ideal.main_arg6)
      ∧ m' ((c.tc : Thread Cert.ReferenceIdeal.nD Cert.ReferenceIdeal.τ).loc Cert.ReferenceIdeal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v35_0)) (v1 : (c : Dev Cert.Kernel2Ideal.nD) → Buf (Elt Ideal) ((c.tc : Thread Cert.Kernel2Ideal.nD Cert.Kernel2Ideal.τ).loc Cert.Kernel2Ideal.main_v35_1)) (v2 : (c : Dev Cert.Kernel2Ideal.nD) → Buf (Elt Ideal) ((c.tc : Thread Cert.Kernel2Ideal.nD Cert.Kernel2Ideal.τ).loc Cert.Kernel2Ideal.main_v35_2)) (v3 : (c : Dev Cert.Kernel2Ideal.nD) → Buf (Elt Ideal) ((c.tc : Thread Cert.Kernel2Ideal.nD Cert.Kernel2Ideal.τ).loc Cert.Kernel2Ideal.main_v35_3)) (v4 : (c : Dev Cert.Kernel2Ideal.nD) → Buf (Elt Ideal) ((c.tc : Thread Cert.Kernel2Ideal.nD Cert.Kernel2Ideal.τ).loc Cert.Kernel2Ideal.main_v35_4)) (v5 : (c : Dev Cert.Kernel2Ideal.nD) → Buf (Elt Ideal) ((c.tc : Thread Cert.Kernel2Ideal.nD Cert.Kernel2Ideal.τ).loc Cert.Kernel2Ideal.main_v35_5)) (v6 : (c : Dev Cert.Kernel2Ideal.nD) → Buf (Elt Ideal) ((c.tc : Thread Cert.Kernel2Ideal.nD Cert.Kernel2Ideal.τ).loc Cert.Kernel2Ideal.main_v35_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v35_0) = v0 c
          ∧ r.2.mem ((c.tc : Thread Cert.Kernel2Ideal.nD Cert.Kernel2Ideal.τ).loc Cert.Kernel2Ideal.main_v35_1) = v1 c
          ∧ r.2.mem ((c.tc : Thread Cert.Kernel2Ideal.nD Cert.Kernel2Ideal.τ).loc Cert.Kernel2Ideal.main_v35_2) = v2 c
          ∧ r.2.mem ((c.tc : Thread Cert.Kernel2Ideal.nD Cert.Kernel2Ideal.τ).loc Cert.Kernel2Ideal.main_v35_3) = v3 c
          ∧ r.2.mem ((c.tc : Thread Cert.Kernel2Ideal.nD Cert.Kernel2Ideal.τ).loc Cert.Kernel2Ideal.main_v35_4) = v4 c
          ∧ r.2.mem ((c.tc : Thread Cert.Kernel2Ideal.nD Cert.Kernel2Ideal.τ).loc Cert.Kernel2Ideal.main_v35_5) = v5 c
          ∧ r.2.mem ((c.tc : Thread Cert.Kernel2Ideal.nD Cert.Kernel2Ideal.τ).loc Cert.Kernel2Ideal.main_v35_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_v80) = v4 c
          ∧ r.2.mem ((c.tc : Thread Cert.ReferenceIdeal.nD Cert.ReferenceIdeal.τ).loc Cert.ReferenceIdeal.main_v81) = v5 c
          ∧ r.2.mem ((c.tc : Thread Cert.ReferenceIdeal.nD Cert.ReferenceIdeal.τ).loc Cert.ReferenceIdeal.main_v75) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelLoss_KernelLossIdeal : Prop :=
  True

def algebraic_KernelLossIdeal_ReferenceLossIdeal_pre_finite_loss [hKernelLossIdeal : Cert.KernelLossIdeal.Facts] [hReferenceLossIdeal : Cert.ReferenceLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_finite_loss m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)
      ∧ m' ((c.tc : Thread Cert.ReferenceLossIdeal.nD Cert.ReferenceLossIdeal.τ).loc Cert.ReferenceLossIdeal.main_arg5) = m ((c.tc : Thread Cert.KernelLossIdeal.nD Cert.KernelLossIdeal.τ).loc Cert.KernelLossIdeal.main_arg5)
      ∧ m' ((c.tc : Thread Cert.ReferenceLossIdeal.nD Cert.ReferenceLossIdeal.τ).loc Cert.ReferenceLossIdeal.main_arg6) = m ((c.tc : Thread Cert.KernelLossIdeal.nD Cert.KernelLossIdeal.τ).loc Cert.KernelLossIdeal.main_arg6)
      ∧ m' ((c.tc : Thread Cert.ReferenceLossIdeal.nD Cert.ReferenceLossIdeal.τ).loc Cert.ReferenceLossIdeal.main_arg7) = m ((c.tc : Thread Cert.KernelLossIdeal.nD Cert.KernelLossIdeal.τ).loc Cert.KernelLossIdeal.main_arg7)
      ∧ m' ((c.tc : Thread Cert.ReferenceLossIdeal.nD Cert.ReferenceLossIdeal.τ).loc Cert.ReferenceLossIdeal.main_arg8) = m ((c.tc : Thread Cert.KernelLossIdeal.nD Cert.KernelLossIdeal.τ).loc Cert.KernelLossIdeal.main_arg8)
      ∧ m' ((c.tc : Thread Cert.ReferenceLossIdeal.nD Cert.ReferenceLossIdeal.τ).loc Cert.ReferenceLossIdeal.main_arg9) = m ((c.tc : Thread Cert.KernelLossIdeal.nD Cert.KernelLossIdeal.τ).loc Cert.KernelLossIdeal.main_arg9)
      ∧ m' ((c.tc : Thread Cert.ReferenceLossIdeal.nD Cert.ReferenceLossIdeal.τ).loc Cert.ReferenceLossIdeal.main_arg10) = m ((c.tc : Thread Cert.KernelLossIdeal.nD Cert.KernelLossIdeal.τ).loc Cert.KernelLossIdeal.main_arg10)) →
    ∃ (v0 : (c : Dev Cert.KernelLossIdeal.nD) → Buf (Elt Ideal) ((c.tc : Thread Cert.KernelLossIdeal.nD Cert.KernelLossIdeal.τ).loc Cert.KernelLossIdeal.main_v6_0)) (v1 : (c : Dev Cert.KernelLossIdeal.nD) → Buf (Elt Ideal) ((c.tc : Thread Cert.KernelLossIdeal.nD Cert.KernelLossIdeal.τ).loc Cert.KernelLossIdeal.main_v6_1)) (v2 : (c : Dev Cert.KernelLossIdeal.nD) → Buf (Elt Ideal) ((c.tc : Thread Cert.KernelLossIdeal.nD Cert.KernelLossIdeal.τ).loc Cert.KernelLossIdeal.main_v6_2)) (v3 : (c : Dev Cert.KernelLossIdeal.nD) → Buf (Elt Ideal) ((c.tc : Thread Cert.KernelLossIdeal.nD Cert.KernelLossIdeal.τ).loc Cert.KernelLossIdeal.main_v6_3)) (v4 : (c : Dev Cert.KernelLossIdeal.nD) → Buf (Elt Ideal) ((c.tc : Thread Cert.KernelLossIdeal.nD Cert.KernelLossIdeal.τ).loc Cert.KernelLossIdeal.main_v6_4)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v6_0) = v0 c
          ∧ r.2.mem ((c.tc : Thread Cert.KernelLossIdeal.nD Cert.KernelLossIdeal.τ).loc Cert.KernelLossIdeal.main_v6_1) = v1 c
          ∧ r.2.mem ((c.tc : Thread Cert.KernelLossIdeal.nD Cert.KernelLossIdeal.τ).loc Cert.KernelLossIdeal.main_v6_2) = v2 c
          ∧ r.2.mem ((c.tc : Thread Cert.KernelLossIdeal.nD Cert.KernelLossIdeal.τ).loc Cert.KernelLossIdeal.main_v6_3) = v3 c
          ∧ r.2.mem ((c.tc : Thread Cert.KernelLossIdeal.nD Cert.KernelLossIdeal.τ).loc Cert.KernelLossIdeal.main_v6_4) = v4 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
          ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5)
          ∧ r.2.mem ((c.tc : Thread Cert.KernelLossIdeal.nD Cert.KernelLossIdeal.τ).loc Cert.KernelLossIdeal.main_arg6) = m ((c.tc : Thread Cert.KernelLossIdeal.nD Cert.KernelLossIdeal.τ).loc Cert.KernelLossIdeal.main_arg6)
          ∧ r.2.mem ((c.tc : Thread Cert.KernelLossIdeal.nD Cert.KernelLossIdeal.τ).loc Cert.KernelLossIdeal.main_arg7) = m ((c.tc : Thread Cert.KernelLossIdeal.nD Cert.KernelLossIdeal.τ).loc Cert.KernelLossIdeal.main_arg7)
          ∧ r.2.mem ((c.tc : Thread Cert.KernelLossIdeal.nD Cert.KernelLossIdeal.τ).loc Cert.KernelLossIdeal.main_arg8) = m ((c.tc : Thread Cert.KernelLossIdeal.nD Cert.KernelLossIdeal.τ).loc Cert.KernelLossIdeal.main_arg8)
          ∧ r.2.mem ((c.tc : Thread Cert.KernelLossIdeal.nD Cert.KernelLossIdeal.τ).loc Cert.KernelLossIdeal.main_arg9) = m ((c.tc : Thread Cert.KernelLossIdeal.nD Cert.KernelLossIdeal.τ).loc Cert.KernelLossIdeal.main_arg9)
          ∧ r.2.mem ((c.tc : Thread Cert.KernelLossIdeal.nD Cert.KernelLossIdeal.τ).loc Cert.KernelLossIdeal.main_arg10) = m ((c.tc : Thread Cert.KernelLossIdeal.nD Cert.KernelLossIdeal.τ).loc Cert.KernelLossIdeal.main_arg10))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v92) = v0 c
          ∧ r.2.mem ((c.tc : Thread Cert.ReferenceLossIdeal.nD Cert.ReferenceLossIdeal.τ).loc Cert.ReferenceLossIdeal.main_v97) = v1 c
          ∧ r.2.mem ((c.tc : Thread Cert.ReferenceLossIdeal.nD Cert.ReferenceLossIdeal.τ).loc Cert.ReferenceLossIdeal.main_v98) = v2 c
          ∧ r.2.mem ((c.tc : Thread Cert.ReferenceLossIdeal.nD Cert.ReferenceLossIdeal.τ).loc Cert.ReferenceLossIdeal.main_v99) = v3 c
          ∧ r.2.mem ((c.tc : Thread Cert.ReferenceLossIdeal.nD Cert.ReferenceLossIdeal.τ).loc Cert.ReferenceLossIdeal.main_v96) = v4 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4)
          ∧ r.2.mem ((c.tc : Thread Cert.ReferenceLossIdeal.nD Cert.ReferenceLossIdeal.τ).loc Cert.ReferenceLossIdeal.main_arg5) = m' ((c.tc : Thread Cert.ReferenceLossIdeal.nD Cert.ReferenceLossIdeal.τ).loc Cert.ReferenceLossIdeal.main_arg5)
          ∧ r.2.mem ((c.tc : Thread Cert.ReferenceLossIdeal.nD Cert.ReferenceLossIdeal.τ).loc Cert.ReferenceLossIdeal.main_arg6) = m' ((c.tc : Thread Cert.ReferenceLossIdeal.nD Cert.ReferenceLossIdeal.τ).loc Cert.ReferenceLossIdeal.main_arg6)
          ∧ r.2.mem ((c.tc : Thread Cert.ReferenceLossIdeal.nD Cert.ReferenceLossIdeal.τ).loc Cert.ReferenceLossIdeal.main_arg7) = m' ((c.tc : Thread Cert.ReferenceLossIdeal.nD Cert.ReferenceLossIdeal.τ).loc Cert.ReferenceLossIdeal.main_arg7)
          ∧ r.2.mem ((c.tc : Thread Cert.ReferenceLossIdeal.nD Cert.ReferenceLossIdeal.τ).loc Cert.ReferenceLossIdeal.main_arg8) = m' ((c.tc : Thread Cert.ReferenceLossIdeal.nD Cert.ReferenceLossIdeal.τ).loc Cert.ReferenceLossIdeal.main_arg8)
          ∧ r.2.mem ((c.tc : Thread Cert.ReferenceLossIdeal.nD Cert.ReferenceLossIdeal.τ).loc Cert.ReferenceLossIdeal.main_arg9) = m' ((c.tc : Thread Cert.ReferenceLossIdeal.nD Cert.ReferenceLossIdeal.τ).loc Cert.ReferenceLossIdeal.main_arg9)
          ∧ r.2.mem ((c.tc : Thread Cert.ReferenceLossIdeal.nD Cert.ReferenceLossIdeal.τ).loc Cert.ReferenceLossIdeal.main_arg10) = m' ((c.tc : Thread Cert.ReferenceLossIdeal.nD Cert.ReferenceLossIdeal.τ).loc Cert.ReferenceLossIdeal.main_arg10))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)
      ∧ m' ((c.tc : Thread Cert.ReferenceMixIdeal.nD Cert.ReferenceMixIdeal.τ).loc Cert.ReferenceMixIdeal.main_arg7) = m ((c.tc : Thread Cert.KernelMixIdeal.nD Cert.KernelMixIdeal.τ).loc Cert.KernelMixIdeal.main_arg7)) →
    ∃ (v0 : (c : Dev Cert.KernelMixIdeal.nD) → Buf (Elt Ideal) ((c.tc : Thread Cert.KernelMixIdeal.nD Cert.KernelMixIdeal.τ).loc Cert.KernelMixIdeal.main_v6_0)) (v1 : (c : Dev Cert.KernelMixIdeal.nD) → Buf (Elt Ideal) ((c.tc : Thread Cert.KernelMixIdeal.nD Cert.KernelMixIdeal.τ).loc Cert.KernelMixIdeal.main_v6_1)) (v2 : (c : Dev Cert.KernelMixIdeal.nD) → Buf (Elt Ideal) ((c.tc : Thread Cert.KernelMixIdeal.nD Cert.KernelMixIdeal.τ).loc Cert.KernelMixIdeal.main_v6_2)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v6_0) = v0 c
          ∧ r.2.mem ((c.tc : Thread Cert.KernelMixIdeal.nD Cert.KernelMixIdeal.τ).loc Cert.KernelMixIdeal.main_v6_1) = v1 c
          ∧ r.2.mem ((c.tc : Thread Cert.KernelMixIdeal.nD Cert.KernelMixIdeal.τ).loc Cert.KernelMixIdeal.main_v6_2) = v2 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
          ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v46) = v0 c
          ∧ r.2.mem ((c.tc : Thread Cert.ReferenceMixIdeal.nD Cert.ReferenceMixIdeal.τ).loc Cert.ReferenceMixIdeal.main_v47) = v1 c
          ∧ r.2.mem ((c.tc : Thread Cert.ReferenceMixIdeal.nD Cert.ReferenceMixIdeal.τ).loc Cert.ReferenceMixIdeal.main_v48) = v2 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6)
          ∧ r.2.mem ((c.tc : Thread Cert.ReferenceMixIdeal.nD Cert.ReferenceMixIdeal.τ).loc Cert.ReferenceMixIdeal.main_arg7) = m' ((c.tc : Thread Cert.ReferenceMixIdeal.nD Cert.ReferenceMixIdeal.τ).loc Cert.ReferenceMixIdeal.main_arg7))

def preserves_KernelAcm_KernelAcmIdeal : Prop :=
  True

def algebraic_KernelAcmIdeal_ReferenceAcmIdeal [hKernelAcmIdeal : Cert.KernelAcmIdeal.Facts] [hReferenceAcmIdeal : Cert.ReferenceAcmIdeal.Facts] : Prop :=
  ∀ (m : (ℓ : Loc Cert.KernelAcmIdeal.nD Cert.KernelAcmIdeal.τ Cert.KernelAcmIdeal.sig) → Buf (Elt Ideal) ℓ) (g : Dev Cert.KernelAcmIdeal.nD → PrngReg)
    (m' : (ℓ : Loc Cert.ReferenceAcmIdeal.nD Cert.ReferenceAcmIdeal.τ Cert.ReferenceAcmIdeal.sig) → Buf (Elt Ideal) ℓ) (g' : Dev Cert.ReferenceAcmIdeal.nD → PrngReg), Pre_KernelAcmIdeal m →
    (∀ c : Dev Cert.KernelAcmIdeal.nD,
      m' ((c.tc : Thread Cert.ReferenceAcmIdeal.nD Cert.ReferenceAcmIdeal.τ).loc Cert.ReferenceAcmIdeal.main_arg0) = m ((c.tc : Thread Cert.KernelAcmIdeal.nD Cert.KernelAcmIdeal.τ).loc Cert.KernelAcmIdeal.main_arg0)
      ∧ m' ((c.tc : Thread Cert.ReferenceAcmIdeal.nD Cert.ReferenceAcmIdeal.τ).loc Cert.ReferenceAcmIdeal.main_arg1) = m ((c.tc : Thread Cert.KernelAcmIdeal.nD Cert.KernelAcmIdeal.τ).loc Cert.KernelAcmIdeal.main_arg1)
      ∧ m' ((c.tc : Thread Cert.ReferenceAcmIdeal.nD Cert.ReferenceAcmIdeal.τ).loc Cert.ReferenceAcmIdeal.main_arg2) = m ((c.tc : Thread Cert.KernelAcmIdeal.nD Cert.KernelAcmIdeal.τ).loc Cert.KernelAcmIdeal.main_arg2)
      ∧ m' ((c.tc : Thread Cert.ReferenceAcmIdeal.nD Cert.ReferenceAcmIdeal.τ).loc Cert.ReferenceAcmIdeal.main_arg3) = m ((c.tc : Thread Cert.KernelAcmIdeal.nD Cert.KernelAcmIdeal.τ).loc Cert.KernelAcmIdeal.main_arg3)
      ∧ m' ((c.tc : Thread Cert.ReferenceAcmIdeal.nD Cert.ReferenceAcmIdeal.τ).loc Cert.ReferenceAcmIdeal.main_arg4) = m ((c.tc : Thread Cert.KernelAcmIdeal.nD Cert.KernelAcmIdeal.τ).loc Cert.KernelAcmIdeal.main_arg4)) →
    ∃ (v0 : (c : Dev Cert.KernelAcmIdeal.nD) → Buf (Elt Ideal) ((c.tc : Thread Cert.KernelAcmIdeal.nD Cert.KernelAcmIdeal.τ).loc Cert.KernelAcmIdeal.main_v0_0)) (v1 : (c : Dev Cert.KernelAcmIdeal.nD) → Buf (Elt Ideal) ((c.tc : Thread Cert.KernelAcmIdeal.nD Cert.KernelAcmIdeal.τ).loc Cert.KernelAcmIdeal.main_v0_1)) (v2 : (c : Dev Cert.KernelAcmIdeal.nD) → Buf (Elt Ideal) ((c.tc : Thread Cert.KernelAcmIdeal.nD Cert.KernelAcmIdeal.τ).loc Cert.KernelAcmIdeal.main_v0_2)) (v3 : (c : Dev Cert.KernelAcmIdeal.nD) → Buf (Elt Ideal) ((c.tc : Thread Cert.KernelAcmIdeal.nD Cert.KernelAcmIdeal.τ).loc Cert.KernelAcmIdeal.main_v0_3)),
      θ_run (Cert.KernelAcmIdeal.defs (F := Ideal)) (onTc (τ := Cert.KernelAcmIdeal.τ) (Cert.KernelAcmIdeal.main (F := Ideal))) ⟨m, fun _ => 0, g⟩ (fun r => ∀ c : Dev Cert.KernelAcmIdeal.nD,
          r.2.mem ((c.tc : Thread Cert.KernelAcmIdeal.nD Cert.KernelAcmIdeal.τ).loc Cert.KernelAcmIdeal.main_v0_0) = v0 c
          ∧ r.2.mem ((c.tc : Thread Cert.KernelAcmIdeal.nD Cert.KernelAcmIdeal.τ).loc Cert.KernelAcmIdeal.main_v0_1) = v1 c
          ∧ r.2.mem ((c.tc : Thread Cert.KernelAcmIdeal.nD Cert.KernelAcmIdeal.τ).loc Cert.KernelAcmIdeal.main_v0_2) = v2 c
          ∧ r.2.mem ((c.tc : Thread Cert.KernelAcmIdeal.nD Cert.KernelAcmIdeal.τ).loc Cert.KernelAcmIdeal.main_v0_3) = v3 c
          ∧ r.2.mem ((c.tc : Thread Cert.KernelAcmIdeal.nD Cert.KernelAcmIdeal.τ).loc Cert.KernelAcmIdeal.main_arg0) = m ((c.tc : Thread Cert.KernelAcmIdeal.nD Cert.KernelAcmIdeal.τ).loc Cert.KernelAcmIdeal.main_arg0)
          ∧ r.2.mem ((c.tc : Thread Cert.KernelAcmIdeal.nD Cert.KernelAcmIdeal.τ).loc Cert.KernelAcmIdeal.main_arg1) = m ((c.tc : Thread Cert.KernelAcmIdeal.nD Cert.KernelAcmIdeal.τ).loc Cert.KernelAcmIdeal.main_arg1)
          ∧ r.2.mem ((c.tc : Thread Cert.KernelAcmIdeal.nD Cert.KernelAcmIdeal.τ).loc Cert.KernelAcmIdeal.main_arg2) = m ((c.tc : Thread Cert.KernelAcmIdeal.nD Cert.KernelAcmIdeal.τ).loc Cert.KernelAcmIdeal.main_arg2)
          ∧ r.2.mem ((c.tc : Thread Cert.KernelAcmIdeal.nD Cert.KernelAcmIdeal.τ).loc Cert.KernelAcmIdeal.main_arg3) = m ((c.tc : Thread Cert.KernelAcmIdeal.nD Cert.KernelAcmIdeal.τ).loc Cert.KernelAcmIdeal.main_arg3)
          ∧ r.2.mem ((c.tc : Thread Cert.KernelAcmIdeal.nD Cert.KernelAcmIdeal.τ).loc Cert.KernelAcmIdeal.main_arg4) = m ((c.tc : Thread Cert.KernelAcmIdeal.nD Cert.KernelAcmIdeal.τ).loc Cert.KernelAcmIdeal.main_arg4))
      ∧ θ_run (Cert.ReferenceAcmIdeal.defs (F := Ideal)) (onTc (τ := Cert.ReferenceAcmIdeal.τ) (Cert.ReferenceAcmIdeal.main (F := Ideal))) ⟨m', fun _ => 0, g'⟩ (fun r => ∀ c : Dev Cert.ReferenceAcmIdeal.nD,
          r.2.mem ((c.tc : Thread Cert.ReferenceAcmIdeal.nD Cert.ReferenceAcmIdeal.τ).loc Cert.ReferenceAcmIdeal.main_v3) = v0 c
          ∧ r.2.mem ((c.tc : Thread Cert.ReferenceAcmIdeal.nD Cert.ReferenceAcmIdeal.τ).loc Cert.ReferenceAcmIdeal.main_v27) = v1 c
          ∧ r.2.mem ((c.tc : Thread Cert.ReferenceAcmIdeal.nD Cert.ReferenceAcmIdeal.τ).loc Cert.ReferenceAcmIdeal.main_v8) = v2 c
          ∧ r.2.mem ((c.tc : Thread Cert.ReferenceAcmIdeal.nD Cert.ReferenceAcmIdeal.τ).loc Cert.ReferenceAcmIdeal.main_v14) = v3 c
          ∧ r.2.mem ((c.tc : Thread Cert.ReferenceAcmIdeal.nD Cert.ReferenceAcmIdeal.τ).loc Cert.ReferenceAcmIdeal.main_arg0) = m' ((c.tc : Thread Cert.ReferenceAcmIdeal.nD Cert.ReferenceAcmIdeal.τ).loc Cert.ReferenceAcmIdeal.main_arg0)
          ∧ r.2.mem ((c.tc : Thread Cert.ReferenceAcmIdeal.nD Cert.ReferenceAcmIdeal.τ).loc Cert.ReferenceAcmIdeal.main_arg1) = m' ((c.tc : Thread Cert.ReferenceAcmIdeal.nD Cert.ReferenceAcmIdeal.τ).loc Cert.ReferenceAcmIdeal.main_arg1)
          ∧ r.2.mem ((c.tc : Thread Cert.ReferenceAcmIdeal.nD Cert.ReferenceAcmIdeal.τ).loc Cert.ReferenceAcmIdeal.main_arg2) = m' ((c.tc : Thread Cert.ReferenceAcmIdeal.nD Cert.ReferenceAcmIdeal.τ).loc Cert.ReferenceAcmIdeal.main_arg2)
          ∧ r.2.mem ((c.tc : Thread Cert.ReferenceAcmIdeal.nD Cert.ReferenceAcmIdeal.τ).loc Cert.ReferenceAcmIdeal.main_arg3) = m' ((c.tc : Thread Cert.ReferenceAcmIdeal.nD Cert.ReferenceAcmIdeal.τ).loc Cert.ReferenceAcmIdeal.main_arg3)
          ∧ r.2.mem ((c.tc : Thread Cert.ReferenceAcmIdeal.nD Cert.ReferenceAcmIdeal.τ).loc Cert.ReferenceAcmIdeal.main_arg4) = m' ((c.tc : Thread Cert.ReferenceAcmIdeal.nD Cert.ReferenceAcmIdeal.τ).loc Cert.ReferenceAcmIdeal.main_arg4))

def preserves_KernelAcf_KernelAcfIdeal : Prop :=
  True

def algebraic_KernelAcfIdeal_ReferenceAcfIdeal [hKernelAcfIdeal : Cert.KernelAcfIdeal.Facts] [hReferenceAcfIdeal : Cert.ReferenceAcfIdeal.Facts] : Prop :=
  ∀ (m : (ℓ : Loc Cert.KernelAcfIdeal.nD Cert.KernelAcfIdeal.τ Cert.KernelAcfIdeal.sig) → Buf (Elt Ideal) ℓ) (g : Dev Cert.KernelAcfIdeal.nD → PrngReg)
    (m' : (ℓ : Loc Cert.ReferenceAcfIdeal.nD Cert.ReferenceAcfIdeal.τ Cert.ReferenceAcfIdeal.sig) → Buf (Elt Ideal) ℓ) (g' : Dev Cert.ReferenceAcfIdeal.nD → PrngReg), Pre_KernelAcfIdeal m →
    (∀ c : Dev Cert.KernelAcfIdeal.nD,
      m' ((c.tc : Thread Cert.ReferenceAcfIdeal.nD Cert.ReferenceAcfIdeal.τ).loc Cert.ReferenceAcfIdeal.main_arg0) = m ((c.tc : Thread Cert.KernelAcfIdeal.nD Cert.KernelAcfIdeal.τ).loc Cert.KernelAcfIdeal.main_arg0)
      ∧ m' ((c.tc : Thread Cert.ReferenceAcfIdeal.nD Cert.ReferenceAcfIdeal.τ).loc Cert.ReferenceAcfIdeal.main_arg1) = m ((c.tc : Thread Cert.KernelAcfIdeal.nD Cert.KernelAcfIdeal.τ).loc Cert.KernelAcfIdeal.main_arg1)
      ∧ m' ((c.tc : Thread Cert.ReferenceAcfIdeal.nD Cert.ReferenceAcfIdeal.τ).loc Cert.ReferenceAcfIdeal.main_arg2) = m ((c.tc : Thread Cert.KernelAcfIdeal.nD Cert.KernelAcfIdeal.τ).loc Cert.KernelAcfIdeal.main_arg2)
      ∧ m' ((c.tc : Thread Cert.ReferenceAcfIdeal.nD Cert.ReferenceAcfIdeal.τ).loc Cert.ReferenceAcfIdeal.main_arg3) = m ((c.tc : Thread Cert.KernelAcfIdeal.nD Cert.KernelAcfIdeal.τ).loc Cert.KernelAcfIdeal.main_arg3)
      ∧ m' ((c.tc : Thread Cert.ReferenceAcfIdeal.nD Cert.ReferenceAcfIdeal.τ).loc Cert.ReferenceAcfIdeal.main_arg4) = m ((c.tc : Thread Cert.KernelAcfIdeal.nD Cert.KernelAcfIdeal.τ).loc Cert.KernelAcfIdeal.main_arg4)) →
    ∃ (v0 : (c : Dev Cert.KernelAcfIdeal.nD) → Buf (Elt Ideal) ((c.tc : Thread Cert.KernelAcfIdeal.nD Cert.KernelAcfIdeal.τ).loc Cert.KernelAcfIdeal.main_v0_0)) (v1 : (c : Dev Cert.KernelAcfIdeal.nD) → Buf (Elt Ideal) ((c.tc : Thread Cert.KernelAcfIdeal.nD Cert.KernelAcfIdeal.τ).loc Cert.KernelAcfIdeal.main_v0_1)) (v2 : (c : Dev Cert.KernelAcfIdeal.nD) → Buf (Elt Ideal) ((c.tc : Thread Cert.KernelAcfIdeal.nD Cert.KernelAcfIdeal.τ).loc Cert.KernelAcfIdeal.main_v0_2)) (v3 : (c : Dev Cert.KernelAcfIdeal.nD) → Buf (Elt Ideal) ((c.tc : Thread Cert.KernelAcfIdeal.nD Cert.KernelAcfIdeal.τ).loc Cert.KernelAcfIdeal.main_v0_3)),
      θ_run (Cert.KernelAcfIdeal.defs (F := Ideal)) (onTc (τ := Cert.KernelAcfIdeal.τ) (Cert.KernelAcfIdeal.main (F := Ideal))) ⟨m, fun _ => 0, g⟩ (fun r => ∀ c : Dev Cert.KernelAcfIdeal.nD,
          r.2.mem ((c.tc : Thread Cert.KernelAcfIdeal.nD Cert.KernelAcfIdeal.τ).loc Cert.KernelAcfIdeal.main_v0_0) = v0 c
          ∧ r.2.mem ((c.tc : Thread Cert.KernelAcfIdeal.nD Cert.KernelAcfIdeal.τ).loc Cert.KernelAcfIdeal.main_v0_1) = v1 c
          ∧ r.2.mem ((c.tc : Thread Cert.KernelAcfIdeal.nD Cert.KernelAcfIdeal.τ).loc Cert.KernelAcfIdeal.main_v0_2) = v2 c
          ∧ r.2.mem ((c.tc : Thread Cert.KernelAcfIdeal.nD Cert.KernelAcfIdeal.τ).loc Cert.KernelAcfIdeal.main_v0_3) = v3 c
          ∧ r.2.mem ((c.tc : Thread Cert.KernelAcfIdeal.nD Cert.KernelAcfIdeal.τ).loc Cert.KernelAcfIdeal.main_arg0) = m ((c.tc : Thread Cert.KernelAcfIdeal.nD Cert.KernelAcfIdeal.τ).loc Cert.KernelAcfIdeal.main_arg0)
          ∧ r.2.mem ((c.tc : Thread Cert.KernelAcfIdeal.nD Cert.KernelAcfIdeal.τ).loc Cert.KernelAcfIdeal.main_arg1) = m ((c.tc : Thread Cert.KernelAcfIdeal.nD Cert.KernelAcfIdeal.τ).loc Cert.KernelAcfIdeal.main_arg1)
          ∧ r.2.mem ((c.tc : Thread Cert.KernelAcfIdeal.nD Cert.KernelAcfIdeal.τ).loc Cert.KernelAcfIdeal.main_arg2) = m ((c.tc : Thread Cert.KernelAcfIdeal.nD Cert.KernelAcfIdeal.τ).loc Cert.KernelAcfIdeal.main_arg2)
          ∧ r.2.mem ((c.tc : Thread Cert.KernelAcfIdeal.nD Cert.KernelAcfIdeal.τ).loc Cert.KernelAcfIdeal.main_arg3) = m ((c.tc : Thread Cert.KernelAcfIdeal.nD Cert.KernelAcfIdeal.τ).loc Cert.KernelAcfIdeal.main_arg3)
          ∧ r.2.mem ((c.tc : Thread Cert.KernelAcfIdeal.nD Cert.KernelAcfIdeal.τ).loc Cert.KernelAcfIdeal.main_arg4) = m ((c.tc : Thread Cert.KernelAcfIdeal.nD Cert.KernelAcfIdeal.τ).loc Cert.KernelAcfIdeal.main_arg4))
      ∧ θ_run (Cert.ReferenceAcfIdeal.defs (F := Ideal)) (onTc (τ := Cert.ReferenceAcfIdeal.τ) (Cert.ReferenceAcfIdeal.main (F := Ideal))) ⟨m', fun _ => 0, g'⟩ (fun r => ∀ c : Dev Cert.ReferenceAcfIdeal.nD,
          r.2.mem ((c.tc : Thread Cert.ReferenceAcfIdeal.nD Cert.ReferenceAcfIdeal.τ).loc Cert.ReferenceAcfIdeal.main_v3) = v0 c
          ∧ r.2.mem ((c.tc : Thread Cert.ReferenceAcfIdeal.nD Cert.ReferenceAcfIdeal.τ).loc Cert.ReferenceAcfIdeal.main_v27) = v1 c
          ∧ r.2.mem ((c.tc : Thread Cert.ReferenceAcfIdeal.nD Cert.ReferenceAcfIdeal.τ).loc Cert.ReferenceAcfIdeal.main_v8) = v2 c
          ∧ r.2.mem ((c.tc : Thread Cert.ReferenceAcfIdeal.nD Cert.ReferenceAcfIdeal.τ).loc Cert.ReferenceAcfIdeal.main_v14) = v3 c
          ∧ r.2.mem ((c.tc : Thread Cert.ReferenceAcfIdeal.nD Cert.ReferenceAcfIdeal.τ).loc Cert.ReferenceAcfIdeal.main_arg0) = m' ((c.tc : Thread Cert.ReferenceAcfIdeal.nD Cert.ReferenceAcfIdeal.τ).loc Cert.ReferenceAcfIdeal.main_arg0)
          ∧ r.2.mem ((c.tc : Thread Cert.ReferenceAcfIdeal.nD Cert.ReferenceAcfIdeal.τ).loc Cert.ReferenceAcfIdeal.main_arg1) = m' ((c.tc : Thread Cert.ReferenceAcfIdeal.nD Cert.ReferenceAcfIdeal.τ).loc Cert.ReferenceAcfIdeal.main_arg1)
          ∧ r.2.mem ((c.tc : Thread Cert.ReferenceAcfIdeal.nD Cert.ReferenceAcfIdeal.τ).loc Cert.ReferenceAcfIdeal.main_arg2) = m' ((c.tc : Thread Cert.ReferenceAcfIdeal.nD Cert.ReferenceAcfIdeal.τ).loc Cert.ReferenceAcfIdeal.main_arg2)
          ∧ r.2.mem ((c.tc : Thread Cert.ReferenceAcfIdeal.nD Cert.ReferenceAcfIdeal.τ).loc Cert.ReferenceAcfIdeal.main_arg3) = m' ((c.tc : Thread Cert.ReferenceAcfIdeal.nD Cert.ReferenceAcfIdeal.τ).loc Cert.ReferenceAcfIdeal.main_arg3)
          ∧ r.2.mem ((c.tc : Thread Cert.ReferenceAcfIdeal.nD Cert.ReferenceAcfIdeal.τ).loc Cert.ReferenceAcfIdeal.main_arg4) = m' ((c.tc : Thread Cert.ReferenceAcfIdeal.nD Cert.ReferenceAcfIdeal.τ).loc Cert.ReferenceAcfIdeal.main_arg4))

def preserves_KernelAbm_KernelAbmIdeal : Prop :=
  True

def algebraic_KernelAbmIdeal_ReferenceAbmIdeal [hKernelAbmIdeal : Cert.KernelAbmIdeal.Facts] [hReferenceAbmIdeal : Cert.ReferenceAbmIdeal.Facts] : Prop :=
  ∀ (m : (ℓ : Loc Cert.KernelAbmIdeal.nD Cert.KernelAbmIdeal.τ Cert.KernelAbmIdeal.sig) → Buf (Elt Ideal) ℓ) (g : Dev Cert.KernelAbmIdeal.nD → PrngReg)
    (m' : (ℓ : Loc Cert.ReferenceAbmIdeal.nD Cert.ReferenceAbmIdeal.τ Cert.ReferenceAbmIdeal.sig) → Buf (Elt Ideal) ℓ) (g' : Dev Cert.ReferenceAbmIdeal.nD → PrngReg), Pre_KernelAbmIdeal m →
    (∀ c : Dev Cert.KernelAbmIdeal.nD,
      m' ((c.tc : Thread Cert.ReferenceAbmIdeal.nD Cert.ReferenceAbmIdeal.τ).loc Cert.ReferenceAbmIdeal.main_arg0) = m ((c.tc : Thread Cert.KernelAbmIdeal.nD Cert.KernelAbmIdeal.τ).loc Cert.KernelAbmIdeal.main_arg0)
      ∧ m' ((c.tc : Thread Cert.ReferenceAbmIdeal.nD Cert.ReferenceAbmIdeal.τ).loc Cert.ReferenceAbmIdeal.main_arg1) = m ((c.tc : Thread Cert.KernelAbmIdeal.nD Cert.KernelAbmIdeal.τ).loc Cert.KernelAbmIdeal.main_arg1)
      ∧ m' ((c.tc : Thread Cert.ReferenceAbmIdeal.nD Cert.ReferenceAbmIdeal.τ).loc Cert.ReferenceAbmIdeal.main_arg2) = m ((c.tc : Thread Cert.KernelAbmIdeal.nD Cert.KernelAbmIdeal.τ).loc Cert.KernelAbmIdeal.main_arg2)
      ∧ m' ((c.tc : Thread Cert.ReferenceAbmIdeal.nD Cert.ReferenceAbmIdeal.τ).loc Cert.ReferenceAbmIdeal.main_arg3) = m ((c.tc : Thread Cert.KernelAbmIdeal.nD Cert.KernelAbmIdeal.τ).loc Cert.KernelAbmIdeal.main_arg3)
      ∧ m' ((c.tc : Thread Cert.ReferenceAbmIdeal.nD Cert.ReferenceAbmIdeal.τ).loc Cert.ReferenceAbmIdeal.main_arg4) = m ((c.tc : Thread Cert.KernelAbmIdeal.nD Cert.KernelAbmIdeal.τ).loc Cert.KernelAbmIdeal.main_arg4)
      ∧ m' ((c.tc : Thread Cert.ReferenceAbmIdeal.nD Cert.ReferenceAbmIdeal.τ).loc Cert.ReferenceAbmIdeal.main_arg5) = m ((c.tc : Thread Cert.KernelAbmIdeal.nD Cert.KernelAbmIdeal.τ).loc Cert.KernelAbmIdeal.main_arg5)) →
    ∃ (v0 : (c : Dev Cert.KernelAbmIdeal.nD) → Buf (Elt Ideal) ((c.tc : Thread Cert.KernelAbmIdeal.nD Cert.KernelAbmIdeal.τ).loc Cert.KernelAbmIdeal.main_v0_0)) (v1 : (c : Dev Cert.KernelAbmIdeal.nD) → Buf (Elt Ideal) ((c.tc : Thread Cert.KernelAbmIdeal.nD Cert.KernelAbmIdeal.τ).loc Cert.KernelAbmIdeal.main_v0_1)) (v2 : (c : Dev Cert.KernelAbmIdeal.nD) → Buf (Elt Ideal) ((c.tc : Thread Cert.KernelAbmIdeal.nD Cert.KernelAbmIdeal.τ).loc Cert.KernelAbmIdeal.main_v0_2)) (v3 : (c : Dev Cert.KernelAbmIdeal.nD) → Buf (Elt Ideal) ((c.tc : Thread Cert.KernelAbmIdeal.nD Cert.KernelAbmIdeal.τ).loc Cert.KernelAbmIdeal.main_v0_3)),
      θ_run (Cert.KernelAbmIdeal.defs (F := Ideal)) (onTc (τ := Cert.KernelAbmIdeal.τ) (Cert.KernelAbmIdeal.main (F := Ideal))) ⟨m, fun _ => 0, g⟩ (fun r => ∀ c : Dev Cert.KernelAbmIdeal.nD,
          r.2.mem ((c.tc : Thread Cert.KernelAbmIdeal.nD Cert.KernelAbmIdeal.τ).loc Cert.KernelAbmIdeal.main_v0_0) = v0 c
          ∧ r.2.mem ((c.tc : Thread Cert.KernelAbmIdeal.nD Cert.KernelAbmIdeal.τ).loc Cert.KernelAbmIdeal.main_v0_1) = v1 c
          ∧ r.2.mem ((c.tc : Thread Cert.KernelAbmIdeal.nD Cert.KernelAbmIdeal.τ).loc Cert.KernelAbmIdeal.main_v0_2) = v2 c
          ∧ r.2.mem ((c.tc : Thread Cert.KernelAbmIdeal.nD Cert.KernelAbmIdeal.τ).loc Cert.KernelAbmIdeal.main_v0_3) = v3 c
          ∧ r.2.mem ((c.tc : Thread Cert.KernelAbmIdeal.nD Cert.KernelAbmIdeal.τ).loc Cert.KernelAbmIdeal.main_arg0) = m ((c.tc : Thread Cert.KernelAbmIdeal.nD Cert.KernelAbmIdeal.τ).loc Cert.KernelAbmIdeal.main_arg0)
          ∧ r.2.mem ((c.tc : Thread Cert.KernelAbmIdeal.nD Cert.KernelAbmIdeal.τ).loc Cert.KernelAbmIdeal.main_arg1) = m ((c.tc : Thread Cert.KernelAbmIdeal.nD Cert.KernelAbmIdeal.τ).loc Cert.KernelAbmIdeal.main_arg1)
          ∧ r.2.mem ((c.tc : Thread Cert.KernelAbmIdeal.nD Cert.KernelAbmIdeal.τ).loc Cert.KernelAbmIdeal.main_arg2) = m ((c.tc : Thread Cert.KernelAbmIdeal.nD Cert.KernelAbmIdeal.τ).loc Cert.KernelAbmIdeal.main_arg2)
          ∧ r.2.mem ((c.tc : Thread Cert.KernelAbmIdeal.nD Cert.KernelAbmIdeal.τ).loc Cert.KernelAbmIdeal.main_arg3) = m ((c.tc : Thread Cert.KernelAbmIdeal.nD Cert.KernelAbmIdeal.τ).loc Cert.KernelAbmIdeal.main_arg3)
          ∧ r.2.mem ((c.tc : Thread Cert.KernelAbmIdeal.nD Cert.KernelAbmIdeal.τ).loc Cert.KernelAbmIdeal.main_arg4) = m ((c.tc : Thread Cert.KernelAbmIdeal.nD Cert.KernelAbmIdeal.τ).loc Cert.KernelAbmIdeal.main_arg4)
          ∧ r.2.mem ((c.tc : Thread Cert.KernelAbmIdeal.nD Cert.KernelAbmIdeal.τ).loc Cert.KernelAbmIdeal.main_arg5) = m ((c.tc : Thread Cert.KernelAbmIdeal.nD Cert.KernelAbmIdeal.τ).loc Cert.KernelAbmIdeal.main_arg5))
      ∧ θ_run (Cert.ReferenceAbmIdeal.defs (F := Ideal)) (onTc (τ := Cert.ReferenceAbmIdeal.τ) (Cert.ReferenceAbmIdeal.main (F := Ideal))) ⟨m', fun _ => 0, g'⟩ (fun r => ∀ c : Dev Cert.ReferenceAbmIdeal.nD,
          r.2.mem ((c.tc : Thread Cert.ReferenceAbmIdeal.nD Cert.ReferenceAbmIdeal.τ).loc Cert.ReferenceAbmIdeal.main_v8) = v0 c
          ∧ r.2.mem ((c.tc : Thread Cert.ReferenceAbmIdeal.nD Cert.ReferenceAbmIdeal.τ).loc Cert.ReferenceAbmIdeal.main_v32) = v1 c
          ∧ r.2.mem ((c.tc : Thread Cert.ReferenceAbmIdeal.nD Cert.ReferenceAbmIdeal.τ).loc Cert.ReferenceAbmIdeal.main_v13) = v2 c
          ∧ r.2.mem ((c.tc : Thread Cert.ReferenceAbmIdeal.nD Cert.ReferenceAbmIdeal.τ).loc Cert.ReferenceAbmIdeal.main_v19) = v3 c
          ∧ r.2.mem ((c.tc : Thread Cert.ReferenceAbmIdeal.nD Cert.ReferenceAbmIdeal.τ).loc Cert.ReferenceAbmIdeal.main_arg0) = m' ((c.tc : Thread Cert.ReferenceAbmIdeal.nD Cert.ReferenceAbmIdeal.τ).loc Cert.ReferenceAbmIdeal.main_arg0)
          ∧ r.2.mem ((c.tc : Thread Cert.ReferenceAbmIdeal.nD Cert.ReferenceAbmIdeal.τ).loc Cert.ReferenceAbmIdeal.main_arg1) = m' ((c.tc : Thread Cert.ReferenceAbmIdeal.nD Cert.ReferenceAbmIdeal.τ).loc Cert.ReferenceAbmIdeal.main_arg1)
          ∧ r.2.mem ((c.tc : Thread Cert.ReferenceAbmIdeal.nD Cert.ReferenceAbmIdeal.τ).loc Cert.ReferenceAbmIdeal.main_arg2) = m' ((c.tc : Thread Cert.ReferenceAbmIdeal.nD Cert.ReferenceAbmIdeal.τ).loc Cert.ReferenceAbmIdeal.main_arg2)
          ∧ r.2.mem ((c.tc : Thread Cert.ReferenceAbmIdeal.nD Cert.ReferenceAbmIdeal.τ).loc Cert.ReferenceAbmIdeal.main_arg3) = m' ((c.tc : Thread Cert.ReferenceAbmIdeal.nD Cert.ReferenceAbmIdeal.τ).loc Cert.ReferenceAbmIdeal.main_arg3)
          ∧ r.2.mem ((c.tc : Thread Cert.ReferenceAbmIdeal.nD Cert.ReferenceAbmIdeal.τ).loc Cert.ReferenceAbmIdeal.main_arg4) = m' ((c.tc : Thread Cert.ReferenceAbmIdeal.nD Cert.ReferenceAbmIdeal.τ).loc Cert.ReferenceAbmIdeal.main_arg4)
          ∧ r.2.mem ((c.tc : Thread Cert.ReferenceAbmIdeal.nD Cert.ReferenceAbmIdeal.τ).loc Cert.ReferenceAbmIdeal.main_arg5) = m' ((c.tc : Thread Cert.ReferenceAbmIdeal.nD Cert.ReferenceAbmIdeal.τ).loc Cert.ReferenceAbmIdeal.main_arg5))

def preserves_KernelAbf_KernelAbfIdeal : Prop :=
  True

def algebraic_KernelAbfIdeal_ReferenceAbfIdeal [hKernelAbfIdeal : Cert.KernelAbfIdeal.Facts] [hReferenceAbfIdeal : Cert.ReferenceAbfIdeal.Facts] : Prop :=
  ∀ (m : (ℓ : Loc Cert.KernelAbfIdeal.nD Cert.KernelAbfIdeal.τ Cert.KernelAbfIdeal.sig) → Buf (Elt Ideal) ℓ) (g : Dev Cert.KernelAbfIdeal.nD → PrngReg)
    (m' : (ℓ : Loc Cert.ReferenceAbfIdeal.nD Cert.ReferenceAbfIdeal.τ Cert.ReferenceAbfIdeal.sig) → Buf (Elt Ideal) ℓ) (g' : Dev Cert.ReferenceAbfIdeal.nD → PrngReg), Pre_KernelAbfIdeal m →
    (∀ c : Dev Cert.KernelAbfIdeal.nD,
      m' ((c.tc : Thread Cert.ReferenceAbfIdeal.nD Cert.ReferenceAbfIdeal.τ).loc Cert.ReferenceAbfIdeal.main_arg0) = m ((c.tc : Thread Cert.KernelAbfIdeal.nD Cert.KernelAbfIdeal.τ).loc Cert.KernelAbfIdeal.main_arg0)
      ∧ m' ((c.tc : Thread Cert.ReferenceAbfIdeal.nD Cert.ReferenceAbfIdeal.τ).loc Cert.ReferenceAbfIdeal.main_arg1) = m ((c.tc : Thread Cert.KernelAbfIdeal.nD Cert.KernelAbfIdeal.τ).loc Cert.KernelAbfIdeal.main_arg1)
      ∧ m' ((c.tc : Thread Cert.ReferenceAbfIdeal.nD Cert.ReferenceAbfIdeal.τ).loc Cert.ReferenceAbfIdeal.main_arg2) = m ((c.tc : Thread Cert.KernelAbfIdeal.nD Cert.KernelAbfIdeal.τ).loc Cert.KernelAbfIdeal.main_arg2)
      ∧ m' ((c.tc : Thread Cert.ReferenceAbfIdeal.nD Cert.ReferenceAbfIdeal.τ).loc Cert.ReferenceAbfIdeal.main_arg3) = m ((c.tc : Thread Cert.KernelAbfIdeal.nD Cert.KernelAbfIdeal.τ).loc Cert.KernelAbfIdeal.main_arg3)
      ∧ m' ((c.tc : Thread Cert.ReferenceAbfIdeal.nD Cert.ReferenceAbfIdeal.τ).loc Cert.ReferenceAbfIdeal.main_arg4) = m ((c.tc : Thread Cert.KernelAbfIdeal.nD Cert.KernelAbfIdeal.τ).loc Cert.KernelAbfIdeal.main_arg4)
      ∧ m' ((c.tc : Thread Cert.ReferenceAbfIdeal.nD Cert.ReferenceAbfIdeal.τ).loc Cert.ReferenceAbfIdeal.main_arg5) = m ((c.tc : Thread Cert.KernelAbfIdeal.nD Cert.KernelAbfIdeal.τ).loc Cert.KernelAbfIdeal.main_arg5)) →
    ∃ (v0 : (c : Dev Cert.KernelAbfIdeal.nD) → Buf (Elt Ideal) ((c.tc : Thread Cert.KernelAbfIdeal.nD Cert.KernelAbfIdeal.τ).loc Cert.KernelAbfIdeal.main_v0_0)) (v1 : (c : Dev Cert.KernelAbfIdeal.nD) → Buf (Elt Ideal) ((c.tc : Thread Cert.KernelAbfIdeal.nD Cert.KernelAbfIdeal.τ).loc Cert.KernelAbfIdeal.main_v0_1)) (v2 : (c : Dev Cert.KernelAbfIdeal.nD) → Buf (Elt Ideal) ((c.tc : Thread Cert.KernelAbfIdeal.nD Cert.KernelAbfIdeal.τ).loc Cert.KernelAbfIdeal.main_v0_2)) (v3 : (c : Dev Cert.KernelAbfIdeal.nD) → Buf (Elt Ideal) ((c.tc : Thread Cert.KernelAbfIdeal.nD Cert.KernelAbfIdeal.τ).loc Cert.KernelAbfIdeal.main_v0_3)),
      θ_run (Cert.KernelAbfIdeal.defs (F := Ideal)) (onTc (τ := Cert.KernelAbfIdeal.τ) (Cert.KernelAbfIdeal.main (F := Ideal))) ⟨m, fun _ => 0, g⟩ (fun r => ∀ c : Dev Cert.KernelAbfIdeal.nD,
          r.2.mem ((c.tc : Thread Cert.KernelAbfIdeal.nD Cert.KernelAbfIdeal.τ).loc Cert.KernelAbfIdeal.main_v0_0) = v0 c
          ∧ r.2.mem ((c.tc : Thread Cert.KernelAbfIdeal.nD Cert.KernelAbfIdeal.τ).loc Cert.KernelAbfIdeal.main_v0_1) = v1 c
          ∧ r.2.mem ((c.tc : Thread Cert.KernelAbfIdeal.nD Cert.KernelAbfIdeal.τ).loc Cert.KernelAbfIdeal.main_v0_2) = v2 c
          ∧ r.2.mem ((c.tc : Thread Cert.KernelAbfIdeal.nD Cert.KernelAbfIdeal.τ).loc Cert.KernelAbfIdeal.main_v0_3) = v3 c
          ∧ r.2.mem ((c.tc : Thread Cert.KernelAbfIdeal.nD Cert.KernelAbfIdeal.τ).loc Cert.KernelAbfIdeal.main_arg0) = m ((c.tc : Thread Cert.KernelAbfIdeal.nD Cert.KernelAbfIdeal.τ).loc Cert.KernelAbfIdeal.main_arg0)
          ∧ r.2.mem ((c.tc : Thread Cert.KernelAbfIdeal.nD Cert.KernelAbfIdeal.τ).loc Cert.KernelAbfIdeal.main_arg1) = m ((c.tc : Thread Cert.KernelAbfIdeal.nD Cert.KernelAbfIdeal.τ).loc Cert.KernelAbfIdeal.main_arg1)
          ∧ r.2.mem ((c.tc : Thread Cert.KernelAbfIdeal.nD Cert.KernelAbfIdeal.τ).loc Cert.KernelAbfIdeal.main_arg2) = m ((c.tc : Thread Cert.KernelAbfIdeal.nD Cert.KernelAbfIdeal.τ).loc Cert.KernelAbfIdeal.main_arg2)
          ∧ r.2.mem ((c.tc : Thread Cert.KernelAbfIdeal.nD Cert.KernelAbfIdeal.τ).loc Cert.KernelAbfIdeal.main_arg3) = m ((c.tc : Thread Cert.KernelAbfIdeal.nD Cert.KernelAbfIdeal.τ).loc Cert.KernelAbfIdeal.main_arg3)
          ∧ r.2.mem ((c.tc : Thread Cert.KernelAbfIdeal.nD Cert.KernelAbfIdeal.τ).loc Cert.KernelAbfIdeal.main_arg4) = m ((c.tc : Thread Cert.KernelAbfIdeal.nD Cert.KernelAbfIdeal.τ).loc Cert.KernelAbfIdeal.main_arg4)
          ∧ r.2.mem ((c.tc : Thread Cert.KernelAbfIdeal.nD Cert.KernelAbfIdeal.τ).loc Cert.KernelAbfIdeal.main_arg5) = m ((c.tc : Thread Cert.KernelAbfIdeal.nD Cert.KernelAbfIdeal.τ).loc Cert.KernelAbfIdeal.main_arg5))
      ∧ θ_run (Cert.ReferenceAbfIdeal.defs (F := Ideal)) (onTc (τ := Cert.ReferenceAbfIdeal.τ) (Cert.ReferenceAbfIdeal.main (F := Ideal))) ⟨m', fun _ => 0, g'⟩ (fun r => ∀ c : Dev Cert.ReferenceAbfIdeal.nD,
          r.2.mem ((c.tc : Thread Cert.ReferenceAbfIdeal.nD Cert.ReferenceAbfIdeal.τ).loc Cert.ReferenceAbfIdeal.main_v8) = v0 c
          ∧ r.2.mem ((c.tc : Thread Cert.ReferenceAbfIdeal.nD Cert.ReferenceAbfIdeal.τ).loc Cert.ReferenceAbfIdeal.main_v32) = v1 c
          ∧ r.2.mem ((c.tc : Thread Cert.ReferenceAbfIdeal.nD Cert.ReferenceAbfIdeal.τ).loc Cert.ReferenceAbfIdeal.main_v13) = v2 c
          ∧ r.2.mem ((c.tc : Thread Cert.ReferenceAbfIdeal.nD Cert.ReferenceAbfIdeal.τ).loc Cert.ReferenceAbfIdeal.main_v19) = v3 c
          ∧ r.2.mem ((c.tc : Thread Cert.ReferenceAbfIdeal.nD Cert.ReferenceAbfIdeal.τ).loc Cert.ReferenceAbfIdeal.main_arg0) = m' ((c.tc : Thread Cert.ReferenceAbfIdeal.nD Cert.ReferenceAbfIdeal.τ).loc Cert.ReferenceAbfIdeal.main_arg0)
          ∧ r.2.mem ((c.tc : Thread Cert.ReferenceAbfIdeal.nD Cert.ReferenceAbfIdeal.τ).loc Cert.ReferenceAbfIdeal.main_arg1) = m' ((c.tc : Thread Cert.ReferenceAbfIdeal.nD Cert.ReferenceAbfIdeal.τ).loc Cert.ReferenceAbfIdeal.main_arg1)
          ∧ r.2.mem ((c.tc : Thread Cert.ReferenceAbfIdeal.nD Cert.ReferenceAbfIdeal.τ).loc Cert.ReferenceAbfIdeal.main_arg2) = m' ((c.tc : Thread Cert.ReferenceAbfIdeal.nD Cert.ReferenceAbfIdeal.τ).loc Cert.ReferenceAbfIdeal.main_arg2)
          ∧ r.2.mem ((c.tc : Thread Cert.ReferenceAbfIdeal.nD Cert.ReferenceAbfIdeal.τ).loc Cert.ReferenceAbfIdeal.main_arg3) = m' ((c.tc : Thread Cert.ReferenceAbfIdeal.nD Cert.ReferenceAbfIdeal.τ).loc Cert.ReferenceAbfIdeal.main_arg3)
          ∧ r.2.mem ((c.tc : Thread Cert.ReferenceAbfIdeal.nD Cert.ReferenceAbfIdeal.τ).loc Cert.ReferenceAbfIdeal.main_arg4) = m' ((c.tc : Thread Cert.ReferenceAbfIdeal.nD Cert.ReferenceAbfIdeal.τ).loc Cert.ReferenceAbfIdeal.main_arg4)
          ∧ r.2.mem ((c.tc : Thread Cert.ReferenceAbfIdeal.nD Cert.ReferenceAbfIdeal.τ).loc Cert.ReferenceAbfIdeal.main_arg5) = m' ((c.tc : Thread Cert.ReferenceAbfIdeal.nD Cert.ReferenceAbfIdeal.τ).loc Cert.ReferenceAbfIdeal.main_arg5))

def Claim : Prop :=
  ∃ (hKernel : Cert.Kernel.Facts) (hKernelIdeal : Cert.KernelIdeal.Facts) (hReferenceIdeal : Cert.ReferenceIdeal.Facts) (hKernelDwo : Cert.KernelDwo.Facts) (hKernelDwoIdeal : Cert.KernelDwoIdeal.Facts) (hReferenceDwoIdeal : Cert.ReferenceDwoIdeal.Facts) (hKernelDwg : Cert.KernelDwg.Facts) (hKernelDwgIdeal : Cert.KernelDwgIdeal.Facts) (hReferenceDwgIdeal : Cert.ReferenceDwgIdeal.Facts) (hKernelDwu : Cert.KernelDwu.Facts) (hKernelDwuIdeal : Cert.KernelDwuIdeal.Facts) (hReferenceDwuIdeal : Cert.ReferenceDwuIdeal.Facts) (hKernelMdo : Cert.KernelMdo.Facts) (hKernelMdoIdeal : Cert.KernelMdoIdeal.Facts) (hReferenceMdoIdeal : Cert.ReferenceMdoIdeal.Facts) (hKernelMdi : Cert.KernelMdi.Facts) (hKernelMdiIdeal : Cert.KernelMdiIdeal.Facts) (hReferenceMdiIdeal : Cert.ReferenceMdiIdeal.Facts) (hKernelFin : Cert.KernelFin.Facts) (hKernelFinIdeal : Cert.KernelFinIdeal.Facts) (hReferenceFinIdeal : Cert.ReferenceFinIdeal.Facts) (hKernelFout : Cert.KernelFout.Facts) (hKernelFoutIdeal : Cert.KernelFoutIdeal.Facts) (hReferenceFoutIdeal : Cert.ReferenceFoutIdeal.Facts) (hKernelProj : Cert.KernelProj.Facts) (hKernelProjIdeal : Cert.KernelProjIdeal.Facts) (hReferenceProjIdeal : Cert.ReferenceProjIdeal.Facts) (hKernel2 : Cert.Kernel2.Facts) (hKernel2Ideal : Cert.Kernel2Ideal.Facts) (hKernelLoss : Cert.KernelLoss.Facts) (hKernelLossIdeal : Cert.KernelLossIdeal.Facts) (hReferenceLossIdeal : Cert.ReferenceLossIdeal.Facts) (hKernelMix : Cert.KernelMix.Facts) (hKernelMixIdeal : Cert.KernelMixIdeal.Facts) (hReferenceMixIdeal : Cert.ReferenceMixIdeal.Facts) (hKernelAcm : Cert.KernelAcm.Facts) (hKernelAcmIdeal : Cert.KernelAcmIdeal.Facts) (hReferenceAcmIdeal : Cert.ReferenceAcmIdeal.Facts) (hKernelAcf : Cert.KernelAcf.Facts) (hKernelAcfIdeal : Cert.KernelAcfIdeal.Facts) (hReferenceAcfIdeal : Cert.ReferenceAcfIdeal.Facts) (hKernelAbm : Cert.KernelAbm.Facts) (hKernelAbmIdeal : Cert.KernelAbmIdeal.Facts) (hReferenceAbmIdeal : Cert.ReferenceAbmIdeal.Facts) (hKernelAbf : Cert.KernelAbf.Facts) (hKernelAbfIdeal : Cert.KernelAbfIdeal.Facts) (hReferenceAbfIdeal : Cert.ReferenceAbfIdeal.Facts) (hPre_finite : Cert.Pre_finite.Facts) (hPre_finite_loss : Cert.Pre_finite_loss.Facts) (hOn_gate_columns : Cert.On_gate_columns.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDwo (hKernelDwo := hKernelDwo)
    ∧ quiescent_KernelDwoIdeal (hKernelDwoIdeal := hKernelDwoIdeal)
    ∧ quiescent_ReferenceDwoIdeal (hReferenceDwoIdeal := hReferenceDwoIdeal)
    ∧ quiescent_KernelDwg (hKernelDwg := hKernelDwg)
    ∧ quiescent_KernelDwgIdeal (hKernelDwgIdeal := hKernelDwgIdeal)
    ∧ quiescent_ReferenceDwgIdeal (hReferenceDwgIdeal := hReferenceDwgIdeal)
    ∧ quiescent_KernelDwu (hKernelDwu := hKernelDwu)
    ∧ quiescent_KernelDwuIdeal (hKernelDwuIdeal := hKernelDwuIdeal)
    ∧ quiescent_ReferenceDwuIdeal (hReferenceDwuIdeal := hReferenceDwuIdeal)
    ∧ quiescent_KernelMdo (hKernelMdo := hKernelMdo)
    ∧ quiescent_KernelMdoIdeal (hKernelMdoIdeal := hKernelMdoIdeal)
    ∧ quiescent_ReferenceMdoIdeal (hReferenceMdoIdeal := hReferenceMdoIdeal)
    ∧ quiescent_KernelMdi (hKernelMdi := hKernelMdi)
    ∧ quiescent_KernelMdiIdeal (hKernelMdiIdeal := hKernelMdiIdeal)
    ∧ quiescent_ReferenceMdiIdeal (hReferenceMdiIdeal := hReferenceMdiIdeal)
    ∧ quiescent_KernelFin (hKernelFin := hKernelFin)
    ∧ quiescent_KernelFinIdeal (hKernelFinIdeal := hKernelFinIdeal)
    ∧ quiescent_ReferenceFinIdeal (hReferenceFinIdeal := hReferenceFinIdeal)
    ∧ quiescent_KernelFout (hKernelFout := hKernelFout)
    ∧ quiescent_KernelFoutIdeal (hKernelFoutIdeal := hKernelFoutIdeal)
    ∧ quiescent_ReferenceFoutIdeal (hReferenceFoutIdeal := hReferenceFoutIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_KernelLoss (hKernelLoss := hKernelLoss)
    ∧ quiescent_KernelLossIdeal (hKernelLossIdeal := hKernelLossIdeal)
    ∧ quiescent_KernelLossIdeal_pre_finite_loss (hKernelLossIdeal := hKernelLossIdeal) (hPre_finite_loss := hPre_finite_loss)
    ∧ quiescent_ReferenceLossIdeal (hReferenceLossIdeal := hReferenceLossIdeal)
    ∧ quiescent_ReferenceLossIdeal_pre_finite_loss (hReferenceLossIdeal := hReferenceLossIdeal) (hPre_finite_loss := hPre_finite_loss)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelAcm (hKernelAcm := hKernelAcm)
    ∧ quiescent_KernelAcmIdeal (hKernelAcmIdeal := hKernelAcmIdeal)
    ∧ quiescent_ReferenceAcmIdeal (hReferenceAcmIdeal := hReferenceAcmIdeal)
    ∧ quiescent_KernelAcf (hKernelAcf := hKernelAcf)
    ∧ quiescent_KernelAcfIdeal (hKernelAcfIdeal := hKernelAcfIdeal)
    ∧ quiescent_ReferenceAcfIdeal (hReferenceAcfIdeal := hReferenceAcfIdeal)
    ∧ quiescent_KernelAbm (hKernelAbm := hKernelAbm)
    ∧ quiescent_KernelAbmIdeal (hKernelAbmIdeal := hKernelAbmIdeal)
    ∧ quiescent_ReferenceAbmIdeal (hReferenceAbmIdeal := hReferenceAbmIdeal)
    ∧ quiescent_KernelAbf (hKernelAbf := hKernelAbf)
    ∧ quiescent_KernelAbfIdeal (hKernelAbfIdeal := hKernelAbfIdeal)
    ∧ quiescent_ReferenceAbfIdeal (hReferenceAbfIdeal := hReferenceAbfIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDwo_KernelDwoIdeal
    ∧ algebraic_KernelDwoIdeal_ReferenceDwoIdeal (hKernelDwoIdeal := hKernelDwoIdeal) (hReferenceDwoIdeal := hReferenceDwoIdeal)
    ∧ preserves_KernelDwg_KernelDwgIdeal
    ∧ algebraic_KernelDwgIdeal_ReferenceDwgIdeal_on_gate_columns (hKernelDwgIdeal := hKernelDwgIdeal) (hReferenceDwgIdeal := hReferenceDwgIdeal) (hOn_gate_columns := hOn_gate_columns)
    ∧ preserves_KernelDwu_KernelDwuIdeal
    ∧ algebraic_KernelDwuIdeal_ReferenceDwuIdeal (hKernelDwuIdeal := hKernelDwuIdeal) (hReferenceDwuIdeal := hReferenceDwuIdeal)
    ∧ preserves_KernelMdo_KernelMdoIdeal
    ∧ algebraic_KernelMdoIdeal_ReferenceMdoIdeal (hKernelMdoIdeal := hKernelMdoIdeal) (hReferenceMdoIdeal := hReferenceMdoIdeal)
    ∧ preserves_KernelMdi_KernelMdiIdeal
    ∧ algebraic_KernelMdiIdeal_ReferenceMdiIdeal (hKernelMdiIdeal := hKernelMdiIdeal) (hReferenceMdiIdeal := hReferenceMdiIdeal)
    ∧ preserves_KernelFin_KernelFinIdeal
    ∧ algebraic_KernelFinIdeal_ReferenceFinIdeal (hKernelFinIdeal := hKernelFinIdeal) (hReferenceFinIdeal := hReferenceFinIdeal)
    ∧ preserves_KernelFout_KernelFoutIdeal
    ∧ algebraic_KernelFoutIdeal_ReferenceFoutIdeal (hKernelFoutIdeal := hKernelFoutIdeal) (hReferenceFoutIdeal := hReferenceFoutIdeal)
    ∧ preserves_KernelProj_KernelProjIdeal
    ∧ algebraic_KernelProjIdeal_ReferenceProjIdeal (hKernelProjIdeal := hKernelProjIdeal) (hReferenceProjIdeal := hReferenceProjIdeal)
    ∧ preserves_Kernel2_Kernel2Ideal
    ∧ algebraic_Kernel2Ideal_ReferenceIdeal_pre_finite (hKernel2Ideal := hKernel2Ideal) (hReferenceIdeal := hReferenceIdeal) (hPre_finite := hPre_finite)
    ∧ preserves_KernelLoss_KernelLossIdeal
    ∧ algebraic_KernelLossIdeal_ReferenceLossIdeal_pre_finite_loss (hKernelLossIdeal := hKernelLossIdeal) (hReferenceLossIdeal := hReferenceLossIdeal) (hPre_finite_loss := hPre_finite_loss)
    ∧ preserves_KernelMix_KernelMixIdeal
    ∧ algebraic_KernelMixIdeal_ReferenceMixIdeal (hKernelMixIdeal := hKernelMixIdeal) (hReferenceMixIdeal := hReferenceMixIdeal)
    ∧ preserves_KernelAcm_KernelAcmIdeal
    ∧ algebraic_KernelAcmIdeal_ReferenceAcmIdeal (hKernelAcmIdeal := hKernelAcmIdeal) (hReferenceAcmIdeal := hReferenceAcmIdeal)
    ∧ preserves_KernelAcf_KernelAcfIdeal
    ∧ algebraic_KernelAcfIdeal_ReferenceAcfIdeal (hKernelAcfIdeal := hKernelAcfIdeal) (hReferenceAcfIdeal := hReferenceAcfIdeal)
    ∧ preserves_KernelAbm_KernelAbmIdeal
    ∧ algebraic_KernelAbmIdeal_ReferenceAbmIdeal (hKernelAbmIdeal := hKernelAbmIdeal) (hReferenceAbmIdeal := hReferenceAbmIdeal)
    ∧ preserves_KernelAbf_KernelAbfIdeal
    ∧ algebraic_KernelAbfIdeal_ReferenceAbfIdeal (hKernelAbfIdeal := hKernelAbfIdeal) (hReferenceAbfIdeal := hReferenceAbfIdeal)
-- ==== On_gate_columns.lean ====
abbrev S4096x1024 : Shape := ⟨2, ![4096, 1024]⟩
abbrev S4096x2816 : Shape := ⟨2, ![4096, 2816]⟩
abbrev S1024x5632 : Shape := ⟨2, ![1024, 5632]⟩
abbrev S_ : Shape := ⟨0, ![]⟩

class Facts : Prop where
  bcast_S_S1024x5632 : S_.BroadcastsInDim S1024x5632 (![] : Fin 0 → Fin S1024x5632.rank)

variable [Facts]

def fn {F : FTy → Type} [FloatOps F] (main_arg0 : FVec F S4096x1024 .bf16) (main_arg1 : FVec F S4096x2816 .bf16) : IVec S1024x5632 1 :=
  let main_v0 : IVec S1024x5632 32 := iotaInDim S1024x5632 32 1
  let main_c : IVec S_ 32 := constantI S_ 32 2816#32
  let main_v1 : IVec S1024x5632 32 := broadcastInDim S1024x5632 ![] bcast_S_S1024x5632 main_c
  let main_v2 : IVec S1024x5632 1 := cmpi .slt main_v0 main_v1
  main_v2
-- ==== Pre_finite.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part2 {F : FTy → Type} [FloatOps F] (main_arg7 : FVec F S4096x1024 .f32) (main_v4 : IVec S4096x1024 1) (main_v9 : IVec S1x1024 1) (main_v14 : IVec S1x1024 1) (main_v19 : IVec S1x1024 1) (main_v24 : IVec S1x1024 1) (main_v29 : IVec S1024x5632 1) (main_v31 : IVec S2816x1024 1) (main_v33 : IVec S2816x1024 1) : IVec S4096x1024 1 × IVec S1x1024 1 × IVec S1x1024 1 × IVec S1x1024 1 × IVec S1x1024 1 × IVec S1024x5632 1 × IVec S2816x1024 1 × IVec S4096x1024 1 :=
  let main_v34 : IVec S2816x1024 1 := andi main_v31 main_v33
  let main_cst_13 : FVec F S_ .f32 := constant S_ .f32 0xFF800000#32
  let main_v35 : FVec F S4096x1024 .f32 := broadcastInDim S4096x1024 ![] bcast_S_S4096x1024 main_cst_13
  let main_v36 : IVec S4096x1024 1 := cmpf .ogt main_arg7 main_v35
  let main_cst_14 : FVec F S_ .f32 := constant S_ .f32 0x7F800000#32
  let main_v37 : FVec F S4096x1024 .f32 := broadcastInDim S4096x1024 ![] bcast_S_S4096x1024 main_cst_14
  let main_v38 : IVec S4096x1024 1 := cmpf .olt main_arg7 main_v37
  let main_v39 : IVec S4096x1024 1 := andi main_v36 main_v38
  (main_v4, main_v9, main_v14, main_v19, main_v24, main_v29, main_v34, main_v39)

def fn_part1 {F : FTy → Type} [FloatOps F] (main_arg3 : FVec F S1x1024 .f32) (main_arg4 : FVec F S1x1024 .f32) (main_arg5 : FVec F S1024x5632 .f32) (main_arg6 : FVec F S2816x1024 .f32) (main_arg7 : FVec F S4096x1024 .f32) (main_v4 : IVec S4096x1024 1) (main_v9 : IVec S1x1024 1) (main_v14 : IVec S1x1024 1) (main_v16 : IVec S1x1024 1) : IVec S4096x1024 1 × IVec S1x1024 1 × IVec S1x1024 1 × IVec S1x1024 1 × IVec S1x1024 1 × IVec S1024x5632 1 × IVec S2816x1024 1 × IVec S4096x1024 1 :=
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_arg3 main_v17
  let main_v19 : IVec S1x1024 1 := andi main_v16 main_v18
  let main_cst_7 : FVec F S_ .f32 := constant S_ .f32 0xFF800000#32
  let main_v20 : FVec F S1x1024 .f32 := broadcastInDim S1x1024 ![] bcast_S_S1x1024 main_cst_7
  let main_v21 : IVec S1x1024 1 := cmpf .ogt main_arg4 main_v20
  let main_cst_8 : FVec F S_ .f32 := constant S_ .f32 0x7F800000#32
  let main_v22 : FVec F S1x1024 .f32 := broadcastInDim S1x1024 ![] bcast_S_S1x1024 main_cst_8
  let main_v23 : IVec S1x1024 1 := cmpf .olt main_arg4 main_v22
  let main_v24 : IVec S1x1024 1 := andi main_v21 main_v23
  let main_cst_9 : FVec F S_ .f32 := constant S_ .f32 0xFF800000#32
  let main_v25 : FVec F S1024x5632 .f32 := broadcastInDim S1024x5632 ![] bcast_S_S1024x5632 main_cst_9
  let main_v26 : IVec S1024x5632 1 := cmpf .ogt main_arg5 main_v25
  let main_cst_10 : FVec F S_ .f32 := constant S_ .f32 0x7F800000#32
  let main_v27 : FVec F S1024x5632 .f32 := broadcastInDim S1024x5632 ![] bcast_S_S1024x5632 main_cst_10
  let main_v28 : IVec S1024x5632 1 := cmpf .olt main_arg5 main_v27
  let main_v29 : IVec S1024x5632 1 := andi main_v26 main_v28
  let main_cst_11 : FVec F S_ .f32 := constant S_ .f32 0xFF800000#32
  let main_v30 : FVec F S2816x1024 .f32 := broadcastInDim S2816x1024 ![] bcast_S_S2816x1024 main_cst_11
  let main_v31 : IVec S2816x1024 1 := cmpf .ogt main_arg6 main_v30
  let main_cst_12 : FVec F S_ .f32 := constant S_ .f32 0x7F800000#32
  let main_v32 : FVec F S2816x1024 .f32 := broadcastInDim S2816x1024 ![] bcast_S_S2816x1024 main_cst_12
  let main_v33 : IVec S2816x1024 1 := cmpf .olt main_arg6 main_v32
  fn_part2 (F := F) main_arg7 main_v4 main_v9 main_v14 main_v19 main_v24 main_v29 main_v31 main_v33

def fn {F : FTy → Type} [FloatOps F] (main_arg0 : FVec F S4096x1024 .f32) (main_arg1 : FVec F S1x1024 .f32) (main_arg2 : FVec F S1x1024 .f32) (main_arg3 : FVec F S1x1024 .f32) (main_arg4 : FVec F S1x1024 .f32) (main_arg5 : FVec F S1024x5632 .f32) (main_arg6 : FVec F S2816x1024 .f32) (main_arg7 : FVec F S4096x1024 .f32) : IVec S4096x1024 1 × IVec S1x1024 1 × IVec S1x1024 1 × IVec S1x1024 1 × IVec S1x1024 1 × IVec S1024x5632 1 × IVec S2816x1024 1 × IVec S4096x1024 1 :=
  let main_cst : FVec F S_ .f32 := constant S_ .f32 0xFF800000#32
  let main_v0 : FVec F S4096x1024 .f32 := broadcastInDim S4096x1024 ![] bcast_S_S4096x1024 main_cst
  let main_v1 : IVec S4096x1024 1 := cmpf .ogt main_arg0 main_v0
  let main_cst_0 : FVec F S_ .f32 := constant S_ .f32 0x7F800000#32
  let main_v2 : FVec F S4096x1024 .f32 := broadcastInDim S4096x1024 ![] bcast_S_S4096x1024 main_cst_0
  let main_v3 : IVec S4096x1024 1 := cmpf .olt main_arg0 main_v2
  let main_v4 : IVec S4096x1024 1 := andi main_v1 main_v3
  let main_cst_1 : FVec F S_ .f32 := constant S_ .f32 0xFF800000#32
  let main_v5 : FVec F S1x1024 .f32 := broadcastInDim S1x1024 ![] bcast_S_S1x1024 main_cst_1
  let main_v6 : IVec S1x1024 1 := cmpf .ogt main_arg1 main_v5
  let main_cst_2 : FVec F S_ .f32 := constant S_ .f32 0x7F800000#32
  let main_v7 : FVec F S1x1024 .f32 := broadcastInDim S1x1024 ![] bcast_S_S1x1024 main_cst_2
  let main_v8 : IVec S1x1024 1 := cmpf .olt main_arg1 main_v7
  let main_v9 : IVec S1x1024 1 := andi main_v6 main_v8
  let main_cst_3 : FVec F S_ .f32 := constant S_ .f32 0xFF800000#32
  let main_v10 : FVec F S1x1024 .f32 := broadcastInDim S1x1024 ![] bcast_S_S1x1024 main_cst_3
  let main_v11 : IVec S1x1024 1 := cmpf .ogt main_arg2 main_v10
  let main_cst_4 : FVec F S_ .f32 := constant S_ .f32 0x7F800000#32
  let main_v12 : FVec F S1x1024 .f32 := broadcastInDim S1x1024 ![] bcast_S_S1x1024 main_cst_4
  let main_v13 : IVec S1x1024 1 := cmpf .olt main_arg2 main_v12
  let main_v14 : IVec S1x1024 1 := andi main_v11 main_v13
  let main_cst_5 : FVec F S_ .f32 := constant S_ .f32 0xFF800000#32
  let main_v15 : FVec F S1x1024 .f32 := broadcastInDim S1x1024 ![] bcast_S_S1x1024 main_cst_5
  let main_v16 : IVec S1x1024 1 := cmpf .ogt main_arg3 main_v15
  fn_part1 (F := F) main_arg3 main_arg4 main_arg5 main_arg6 main_arg7 main_v4 main_v9 main_v14 main_v16
-- ==== Pre_finite_loss.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part3 {F : FTy → Type} [FloatOps F] (main_arg10 : FVec F S4096x1024 .f32) (main_v4 : IVec S4096x1024 1) (main_v9 : IVec S1x1024 1) (main_v14 : IVec S1x1024 1) (main_v19 : IVec S1x1024 1) (main_v24 : IVec S1x1024 1) (main_v29 : IVec S1x1024 1) (main_v34 : IVec S1x1024 1) (main_v39 : IVec S1x1024 1) (main_v44 : IVec S1024x5632 1) (main_v49 : IVec S2816x1024 1) (main_v50 : FVec F S4096x1024 .f32) : IVec S4096x1024 1 × IVec S1x1024 1 × IVec S1x1024 1 × IVec S1x1024 1 × IVec S1x1024 1 × IVec S1x1024 1 × IVec S1x1024 1 × IVec S1x1024 1 × IVec S1024x5632 1 × IVec S2816x1024 1 × IVec S4096x1024 1 :=
  let main_v51 : IVec S4096x1024 1 := cmpf .ogt main_arg10 main_v50
  let main_cst_20 : FVec F S_ .f32 := constant S_ .f32 0x7F800000#32
  let main_v52 : FVec F S4096x1024 .f32 := broadcastInDim S4096x1024 ![] bcast_S_S4096x1024 main_cst_20
  let main_v53 : IVec S4096x1024 1 := cmpf .olt main_arg10 main_v52
  let main_v54 : IVec S4096x1024 1 := andi main_v51 main_v53
  (main_v4, main_v9, main_v14, main_v19, main_v24, main_v29, main_v34, main_v39, main_v44, main_v49, main_v54)

def fn_part2 {F : FTy → Type} [FloatOps F] (main_arg7 : FVec F S1x1024 .f32) (main_arg8 : FVec F S1024x5632 .f32) (main_arg9 : FVec F S2816x1024 .f32) (main_arg10 : FVec F S4096x1024 .f32) (main_v4 : IVec S4096x1024 1) (main_v9 : IVec S1x1024 1) (main_v14 : IVec S1x1024 1) (main_v19 : IVec S1x1024 1) (main_v24 : IVec S1x1024 1) (main_v29 : IVec S1x1024 1) (main_v31 : IVec S1x1024 1) (main_v33 : IVec S1x1024 1) : IVec S4096x1024 1 × IVec S1x1024 1 × IVec S1x1024 1 × IVec S1x1024 1 × IVec S1x1024 1 × IVec S1x1024 1 × IVec S1x1024 1 × IVec S1x1024 1 × IVec S1024x5632 1 × IVec S2816x1024 1 × IVec S4096x1024 1 :=
  let main_v34 : IVec S1x1024 1 := andi main_v31 main_v33
  let main_cst_13 : FVec F S_ .f32 := constant S_ .f32 0xFF800000#32
  let main_v35 : FVec F S1x1024 .f32 := broadcastInDim S1x1024 ![] bcast_S_S1x1024 main_cst_13
  let main_v36 : IVec S1x1024 1 := cmpf .ogt main_arg7 main_v35
  let main_cst_14 : FVec F S_ .f32 := constant S_ .f32 0x7F800000#32
  let main_v37 : FVec F S1x1024 .f32 := broadcastInDim S1x1024 ![] bcast_S_S1x1024 main_cst_14
  let main_v38 : IVec S1x1024 1 := cmpf .olt main_arg7 main_v37
  let main_v39 : IVec S1x1024 1 := andi main_v36 main_v38
  let main_cst_15 : FVec F S_ .f32 := constant S_ .f32 0xFF800000#32
  let main_v40 : FVec F S1024x5632 .f32 := broadcastInDim S1024x5632 ![] bcast_S_S1024x5632 main_cst_15
  let main_v41 : IVec S1024x5632 1 := cmpf .ogt main_arg8 main_v40
  let main_cst_16 : FVec F S_ .f32 := constant S_ .f32 0x7F800000#32
  let main_v42 : FVec F S1024x5632 .f32 := broadcastInDim S1024x5632 ![] bcast_S_S1024x5632 main_cst_16
  let main_v43 : IVec S1024x5632 1 := cmpf .olt main_arg8 main_v42
  let main_v44 : IVec S1024x5632 1 := andi main_v41 main_v43
  let main_cst_17 : FVec F S_ .f32 := constant S_ .f32 0xFF800000#32
  let main_v45 : FVec F S2816x1024 .f32 := broadcastInDim S2816x1024 ![] bcast_S_S2816x1024 main_cst_17
  let main_v46 : IVec S2816x1024 1 := cmpf .ogt main_arg9 main_v45
  let main_cst_18 : FVec F S_ .f32 := constant S_ .f32 0x7F800000#32
  let main_v47 : FVec F S2816x1024 .f32 := broadcastInDim S2816x1024 ![] bcast_S_S2816x1024 main_cst_18
  let main_v48 : IVec S2816x1024 1 := cmpf .olt main_arg9 main_v47
  let main_v49 : IVec S2816x1024 1 := andi main_v46 main_v48
  let main_cst_19 : FVec F S_ .f32 := constant S_ .f32 0xFF800000#32
  let main_v50 : FVec F S4096x1024 .f32 := broadcastInDim S4096x1024 ![] bcast_S_S4096x1024 main_cst_19
  fn_part3 (F := F) main_arg10 main_v4 main_v9 main_v14 main_v19 main_v24 main_v29 main_v34 main_v39 main_v44 main_v49 main_v50

def fn_part1 {F : FTy → Type} [FloatOps F] (main_arg3 : FVec F S1x1024 .f32) (main_arg4 : FVec F S1x1024 .f32) (main_arg5 : FVec F S1x1024 .f32) (main_arg6 : FVec F S1x1024 .f32) (main_arg7 : FVec F S1x1024 .f32) (main_arg8 : FVec F S1024x5632 .f32) (main_arg9 : FVec F S2816x1024 .f32) (main_arg10 : FVec F S4096x1024 .f32) (main_v4 : IVec S4096x1024 1) (main_v9 : IVec S1x1024 1) (main_v14 : IVec S1x1024 1) (main_v16 : IVec S1x1024 1) : IVec S4096x1024 1 × IVec S1x1024 1 × IVec S1x1024 1 × IVec S1x1024 1 × IVec S1x1024 1 × IVec S1x1024 1 × IVec S1x1024 1 × IVec S1x1024 1 × IVec S1024x5632 1 × IVec S2816x1024 1 × IVec S4096x1024 1 :=
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_arg3 main_v17
  let main_v19 : IVec S1x1024 1 := andi main_v16 main_v18
  let main_cst_7 : FVec F S_ .f32 := constant S_ .f32 0xFF800000#32
  let main_v20 : FVec F S1x1024 .f32 := broadcastInDim S1x1024 ![] bcast_S_S1x1024 main_cst_7
  let main_v21 : IVec S1x1024 1 := cmpf .ogt main_arg4 main_v20
  let main_cst_8 : FVec F S_ .f32 := constant S_ .f32 0x7F800000#32
  let main_v22 : FVec F S1x1024 .f32 := broadcastInDim S1x1024 ![] bcast_S_S1x1024 main_cst_8
  let main_v23 : IVec S1x1024 1 := cmpf .olt main_arg4 main_v22
  let main_v24 : IVec S1x1024 1 := andi main_v21 main_v23
  let main_cst_9 : FVec F S_ .f32 := constant S_ .f32 0xFF800000#32
  let main_v25 : FVec F S1x1024 .f32 := broadcastInDim S1x1024 ![] bcast_S_S1x1024 main_cst_9
  let main_v26 : IVec S1x1024 1 := cmpf .ogt main_arg5 main_v25
  let main_cst_10 : FVec F S_ .f32 := constant S_ .f32 0x7F800000#32
  let main_v27 : FVec F S1x1024 .f32 := broadcastInDim S1x1024 ![] bcast_S_S1x1024 main_cst_10
  let main_v28 : IVec S1x1024 1 := cmpf .olt main_arg5 main_v27
  let main_v29 : IVec S1x1024 1 := andi main_v26 main_v28
  let main_cst_11 : FVec F S_ .f32 := constant S_ .f32 0xFF800000#32
  let main_v30 : FVec F S1x1024 .f32 := broadcastInDim S1x1024 ![] bcast_S_S1x1024 main_cst_11
  let main_v31 : IVec S1x1024 1 := cmpf .ogt main_arg6 main_v30
  let main_cst_12 : FVec F S_ .f32 := constant S_ .f32 0x7F800000#32
  let main_v32 : FVec F S1x1024 .f32 := broadcastInDim S1x1024 ![] bcast_S_S1x1024 main_cst_12
  let main_v33 : IVec S1x1024 1 := cmpf .olt main_arg6 main_v32
  fn_part2 (F := F) main_arg7 main_arg8 main_arg9 main_arg10 main_v4 main_v9 main_v14 main_v19 main_v24 main_v29 main_v31 main_v33

def fn {F : FTy → Type} [FloatOps F] (main_arg0 : FVec F S4096x1024 .f32) (main_arg1 : FVec F S1x1024 .f32) (main_arg2 : FVec F S1x1024 .f32) (main_arg3 : FVec F S1x1024 .f32) (main_arg4 : FVec F S1x1024 .f32) (main_arg5 : FVec F S1x1024 .f32) (main_arg6 : FVec F S1x1024 .f32) (main_arg7 : FVec F S1x1024 .f32) (main_arg8 : FVec F S1024x5632 .f32) (main_arg9 : FVec F S2816x1024 .f32) (main_arg10 : FVec F S4096x1024 .f32) : IVec S4096x1024 1 × IVec S1x1024 1 × IVec S1x1024 1 × IVec S1x1024 1 × IVec S1x1024 1 × IVec S1x1024 1 × IVec S1x1024 1 × IVec S1x1024 1 × IVec S1024x5632 1 × IVec S2816x1024 1 × IVec S4096x1024 1 :=
  let main_cst : FVec F S_ .f32 := constant S_ .f32 0xFF800000#32
  let main_v0 : FVec F S4096x1024 .f32 := broadcastInDim S4096x1024 ![] bcast_S_S4096x1024 main_cst
  let main_v1 : IVec S4096x1024 1 := cmpf .ogt main_arg0 main_v0
  let main_cst_0 : FVec F S_ .f32 := constant S_ .f32 0x7F800000#32
  let main_v2 : FVec F S4096x1024 .f32 := broadcastInDim S4096x1024 ![] bcast_S_S4096x1024 main_cst_0
  let main_v3 : IVec S4096x1024 1 := cmpf .olt main_arg0 main_v2
  let main_v4 : IVec S4096x1024 1 := andi main_v1 main_v3
  let main_cst_1 : FVec F S_ .f32 := constant S_ .f32 0xFF800000#32
  let main_v5 : FVec F S1x1024 .f32 := broadcastInDim S1x1024 ![] bcast_S_S1x1024 main_cst_1
  let main_v6 : IVec S1x1024 1 := cmpf .ogt main_arg1 main_v5
  let main_cst_2 : FVec F S_ .f32 := constant S_ .f32 0x7F800000#32
  let main_v7 : FVec F S1x1024 .f32 := broadcastInDim S1x1024 ![] bcast_S_S1x1024 main_cst_2
  let main_v8 : IVec S1x1024 1 := cmpf .olt main_arg1 main_v7
  let main_v9 : IVec S1x1024 1 := andi main_v6 main_v8
  let main_cst_3 : FVec F S_ .f32 := constant S_ .f32 0xFF800000#32
  let main_v10 : FVec F S1x1024 .f32 := broadcastInDim S1x1024 ![] bcast_S_S1x1024 main_cst_3
  let main_v11 : IVec S1x1024 1 := cmpf .ogt main_arg2 main_v10
  let main_cst_4 : FVec F S_ .f32 := constant S_ .f32 0x7F800000#32
  let main_v12 : FVec F S1x1024 .f32 := broadcastInDim S1x1024 ![] bcast_S_S1x1024 main_cst_4
  let main_v13 : IVec S1x1024 1 := cmpf .olt main_arg2 main_v12
  let main_v14 : IVec S1x1024 1 := andi main_v11 main_v13
  let main_cst_5 : FVec F S_ .f32 := constant S_ .f32 0xFF800000#32
  let main_v15 : FVec F S1x1024 .f32 := broadcastInDim S1x1024 ![] bcast_S_S1x1024 main_cst_5
  let main_v16 : IVec S1x1024 1 := cmpf .ogt main_arg3 main_v15
  fn_part1 (F := F) main_arg3 main_arg4 main_arg5 main_arg6 main_arg7 main_arg8 main_arg9 main_arg10 main_v4 main_v9 main_v14 main_v16
-- ==== Kernel.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S8x1024 : Shape := ⟨2, ![8, 1024]⟩
abbrev S4x1024 : Shape := ⟨2, ![4, 1024]⟩
abbrev S16x1024 : Shape := ⟨2, ![16, 1024]⟩
abbrev S256x1024 : Shape := ⟨2, ![256, 1024]⟩
abbrev S256x2816 : Shape := ⟨2, ![256, 2816]⟩
abbrev S1024x2816 : Shape := ⟨2, ![1024, 2816]⟩
abbrev S1024 : Shape := ⟨1, ![1024]⟩
abbrev S256 : Shape := ⟨1, ![256]⟩
abbrev S256x1 : Shape := ⟨2, ![256, 1]⟩

abbrev nBuf : Space → Nat
  | .hbm => 63
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x5632, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x1024, .f32⟩
  | .hbm, ⟨46, _⟩ => ⟨S_, .f32⟩
  | .hbm, ⟨47, _⟩ => ⟨S8x1024, .f32⟩
  | .hbm, ⟨48, _⟩ => ⟨S_, .f32⟩
  | .hbm, ⟨49, _⟩ => ⟨S4x1024, .f32⟩
  | .hbm, ⟨50, _⟩ => ⟨S16x1024, .f32⟩
  | .hbm, ⟨51, _⟩ => ⟨S1024x5632, .bf16⟩
  | .hbm, ⟨52, _⟩ => ⟨S2816x1024, .bf16⟩
  | .hbm, ⟨53, _⟩ => ⟨S4096x2816, .bf16⟩
  | .hbm, ⟨54, _⟩ => ⟨S4096x2816, .bf16⟩
  | .hbm, ⟨55, _⟩ => ⟨S4096x1024, .bf16⟩
  | .hbm, ⟨56, _⟩ => ⟨S4096x1024, .f32⟩
  | .hbm, ⟨57, _⟩ => ⟨S4096x2816, .bf16⟩
  | .hbm, ⟨58, _⟩ => ⟨S4096x2816, .bf16⟩
  | .hbm, ⟨59, _⟩ => ⟨S4096x2816, .bf16⟩
  | .hbm, ⟨60, _⟩ => ⟨S4096x1024, .bf16⟩
  | .hbm, ⟨61, _⟩ => ⟨S4096x1024, .bf16⟩
  | .hbm, ⟨62, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S16x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x1024, .bf16⟩
  | .local _ .vmem, ⟨10, _⟩ => ⟨S256x1024, .bf16⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S256x1024, .f32⟩
  | .local _ .vmem, ⟨15, _⟩ => ⟨S256x1024, .f32⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34_0 : Ref sig .tc := ⟨.hbm, 56, rfl⟩
abbrev main_v34_1 : Ref sig .tc := ⟨.hbm, 57, rfl⟩
abbrev main_v34_2 : Ref sig .tc := ⟨.hbm, 58, rfl⟩
abbrev main_v34_3 : Ref sig .tc := ⟨.hbm, 59, rfl⟩
abbrev main_v34_4 : Ref sig .tc := ⟨.hbm, 60, rfl⟩
abbrev main_v34_5 : Ref sig .tc := ⟨.hbm, 61, rfl⟩
abbrev main_v34_6 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024 : Shape := ⟨1, ![1024]⟩
abbrev S4x1024 : Shape := ⟨2, ![4, 1024]⟩
abbrev S8x1024 : Shape := ⟨2, ![8, 1024]⟩

abbrev nBuf : Space → Nat
  | .hbm => 120
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x5632, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S1x1024, .f32⟩
  | .hbm, ⟨67, _⟩ => ⟨S1x1024, .f32⟩
  | .hbm, ⟨68, _⟩ => ⟨S4096x2816, .f32⟩
  | .hbm, ⟨69, _⟩ => ⟨S4096x2816, .f32⟩
  | .hbm, ⟨70, _⟩ => ⟨S4096x2816, .f32⟩
  | .hbm, ⟨71, _⟩ => ⟨S4096x2816, .f32⟩
  | .hbm, ⟨72, _⟩ => ⟨S4096x2816, .f32⟩
  | .hbm, ⟨73, _⟩ => ⟨S4096x2816, .f32⟩
  | .hbm, ⟨74, _⟩ => ⟨S4096x2816, .f32⟩
  | .hbm, ⟨75, _⟩ => ⟨S4096x5632, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S4096x1024, .f32⟩
  | .hbm, ⟨97, _⟩ => ⟨S4096x1024, .f32⟩
  | .hbm, ⟨98, _⟩ => ⟨S4096x1, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S_, .f32⟩
  | .hbm, ⟨103, _⟩ => ⟨S4096, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S4096x1024, .f32⟩
  | .hbm, ⟨109, _⟩ => ⟨S4096x2816, .f32⟩
  | .hbm, ⟨110, _⟩ => ⟨S4096x2816, .f32⟩
  | .hbm, ⟨111, _⟩ => ⟨S_, .f32⟩
  | .hbm, ⟨112, _⟩ => ⟨S4x1024, .f32⟩
  | .hbm, ⟨113, _⟩ => ⟨S8x1024, .f32⟩
  | .hbm, ⟨114, _⟩ => ⟨S4096x1024, .f32⟩
  | .hbm, ⟨115, _⟩ => ⟨S4096x2816, .bf16⟩
  | .hbm, ⟨116, _⟩ => ⟨S4096x2816, .bf16⟩
  | .hbm, ⟨117, _⟩ => ⟨S4096x2816, .bf16⟩
  | .hbm, ⟨118, _⟩ => ⟨S4096x1024, .bf16⟩
  | .hbm, ⟨119, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v24_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v24_1 : Ref sig .tc := ⟨.hbm, 48, rfl⟩
abbrev main_v24_0 : Ref sig .tc := ⟨.hbm, 49, rfl⟩
abbrev main_v25 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_7 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_8 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_9 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_10 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_11 : Ref sig .tc := ⟨.hbm, 99, rfl⟩
abbrev main_v64 : Ref sig .tc := ⟨.hbm, 100, rfl⟩
abbrev main_v65 : Ref sig .tc := ⟨.hbm, 101, rfl⟩
abbrev main_cst_12 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_13 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩

abbrev nD : Nat := 1
abbrev τ : Topo := Topo.v7x

variable {F : FTy → Type} [FloatOps F]
-- ==== KernelDwo.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwoIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwg.lean ====
abbrev S4096x1024 : Shape := ⟨2, ![4096, 1024]⟩
abbrev S4096x2816 : Shape := ⟨2, ![4096, 2816]⟩
abbrev S1024x5632 : Shape := ⟨2, ![1024, 5632]⟩
abbrev S4096x256 : Shape := ⟨2, ![4096, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x5632, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwgIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S1024x5632 : Shape := ⟨2, ![1024, 5632]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | .hbm, ⟨10, _⟩ => ⟨S_, .i32⟩
  | .hbm, ⟨11, _⟩ => ⟨S_, .bf16⟩
  | .hbm, ⟨12, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== KernelDwu.lean ====
abbrev S4096x1024 : Shape := ⟨2, ![4096, 1024]⟩
abbrev S4096x2816 : Shape := ⟨2, ![4096, 2816]⟩
abbrev S1024x5632 : Shape := ⟨2, ![1024, 5632]⟩
abbrev S4096x256 : Shape := ⟨2, ![4096, 256]⟩
abbrev S1024x256 : Shape := ⟨2, ![1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x5632, .bf16⟩
  | .hbm, ⟨3, _⟩ => ⟨S1024x5632, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg1 c11_i32
  let c0_i32 : BitVec 32 := 0#32
  ![arg0.toNat, v0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwuIdeal.lean ====
abbrev S4096x1024 : Shape := ⟨2, ![4096, 1024]⟩
abbrev S4096x2816 : Shape := ⟨2, ![4096, 2816]⟩
abbrev S1024x5632 : Shape := ⟨2, ![1024, 5632]⟩
abbrev S_ : Shape := ⟨0, ![]⟩
abbrev S1024x2816 : Shape := ⟨2, ![1024, 2816]⟩
abbrev S2816x1024 : Shape := ⟨2, ![2816, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x5632, .bf16⟩
  | .hbm, ⟨3, _⟩ => ⟨S_, .f32⟩
  | .hbm, ⟨4, _⟩ => ⟨S1024x2816, .f32⟩
  | .hbm, ⟨5, _⟩ => ⟨S4096x1024, .f32⟩
  | .hbm, ⟨6, _⟩ => ⟨S4096x2816, .f32⟩
  | .hbm, ⟨7, _⟩ => ⟨S1024x2816, .bf16⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S1024x2816, .bf16⟩
  | .hbm, ⟨12, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KernelMdo.lean ====
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMdoIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelMdi.lean ====
abbrev S4096x1024 : Shape := ⟨2, ![4096, 1024]⟩
abbrev S4096x2048 : Shape := ⟨2, ![4096, 2048]⟩
abbrev S1024x2048 : Shape := ⟨2, ![1024, 2048]⟩
abbrev S4096x256 : Shape := ⟨2, ![4096, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMdiIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelFin.lean ====
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S9x1024 : Shape := ⟨2, ![9, 1024]⟩
abbrev S4x1024 : Shape := ⟨2, ![4, 1024]⟩
abbrev S16x1024 : Shape := ⟨2, ![16, 1024]⟩
abbrev S4096x2816 : Shape := ⟨2, ![4096, 2816]⟩
abbrev S512x1024 : Shape := ⟨2, ![512, 1024]⟩
abbrev S1024x2816 : Shape := ⟨2, ![1024, 2816]⟩
abbrev S512x2816 : Shape := ⟨2, ![512, 2816]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S_, .f32⟩
  | .hbm, ⟨6, _⟩ => ⟨S9x1024, .f32⟩
  | .hbm, ⟨7, _⟩ => ⟨S_, .f32⟩
  | .hbm, ⟨8, _⟩ => ⟨S4x1024, .f32⟩
  | .hbm, ⟨9, _⟩ => ⟨S16x1024, .f32⟩
  | .hbm, ⟨10, _⟩ => ⟨S1024x5632, .bf16⟩
  | .hbm, ⟨11, _⟩ => ⟨S4096x2816, .bf16⟩
  | .hbm, ⟨12, _⟩ => ⟨S4096x2816, .bf16⟩
  | .hbm, ⟨13, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S1024x2816, .bf16⟩
  | .local _ .vmem, ⟨4, _⟩ => ⟨S1024x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceFinIdeal.lean ====
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x5632, .f32⟩
  | .hbm, ⟨28, _⟩ => ⟨S4096x2816, .f32⟩
  | .hbm, ⟨29, _⟩ => ⟨S4096x2816, .f32⟩
  | .hbm, ⟨30, _⟩ => ⟨S4096x2816, .bf16⟩
  | .hbm, ⟨31, _⟩ => ⟨S4096x2816, .bf16⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== KernelFout.lean ====
abbrev S4096x2816 : Shape := ⟨2, ![4096, 2816]⟩
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S2x1024 : Shape := ⟨2, ![2, 1024]⟩
abbrev S13x1024 : Shape := ⟨2, ![13, 1024]⟩
abbrev S16x1024 : Shape := ⟨2, ![16, 1024]⟩
abbrev S512x2816 : Shape := ⟨2, ![512, 2816]⟩
abbrev S512x1024 : Shape := ⟨2, ![512, 1024]⟩

abbrev nBuf : Space → Nat
  | .hbm => 12
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S1x1024, .f32⟩
  | .hbm, ⟨3, _⟩ => ⟨S2816x1024, .f32⟩
  | .hbm, ⟨4, _⟩ => ⟨S_, .f32⟩
  | .hbm, ⟨5, _⟩ => ⟨S2x1024, .f32⟩
  | .hbm, ⟨6, _⟩ => ⟨S_, .f32⟩
  | .hbm, ⟨7, _⟩ => ⟨S13x1024, .f32⟩
  | .hbm, ⟨8, _⟩ => ⟨S16x1024, .f32⟩
  | .hbm, ⟨9, _⟩ => ⟨S2816x1024, .bf16⟩
  | .hbm, ⟨10, _⟩ => ⟨S4096x1024, .f32⟩
  | .hbm, ⟨11, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFoutIdeal.lean ====
abbrev S4096x2816 : Shape := ⟨2, ![4096, 2816]⟩
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S1x1024, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== KernelProj.lean ====
abbrev S4096x1024 : Shape := ⟨2, ![4096, 1024]⟩
abbrev S1x1024 : Shape := ⟨2, ![1, 1024]⟩
abbrev S1024x2048 : Shape := ⟨2, ![1024, 2048]⟩
abbrev S_ : Shape := ⟨0, ![]⟩
abbrev S3x1024 : Shape := ⟨2, ![3, 1024]⟩
abbrev S7x1024 : Shape := ⟨2, ![7, 1024]⟩
abbrev S16x1024 : Shape := ⟨2, ![16, 1024]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .f32⟩
  | .hbm, ⟨5, _⟩ => ⟨S_, .f32⟩
  | .hbm, ⟨6, _⟩ => ⟨S3x1024, .f32⟩
  | .hbm, ⟨7, _⟩ => ⟨S_, .f32⟩
  | .hbm, ⟨8, _⟩ => ⟨S7x1024, .f32⟩
  | .hbm, ⟨9, _⟩ => ⟨S_, .f32⟩
  | .hbm, ⟨10, _⟩ => ⟨S3x1024, .f32⟩
  | .hbm, ⟨11, _⟩ => ⟨S16x1024, .f32⟩
  | .hbm, ⟨12, _⟩ => ⟨S1024x2048, .bf16⟩
  | .hbm, ⟨13, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceProjIdeal.lean ====
abbrev S4096x1024 : Shape := ⟨2, ![4096, 1024]⟩
abbrev S1x1024 : Shape := ⟨2, ![1, 1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x2048, .f32⟩
  | .hbm, ⟨28, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S6x1024 : Shape := ⟨2, ![6, 1024]⟩
abbrev S4x1024 : Shape := ⟨2, ![4, 1024]⟩
abbrev S2x1024 : Shape := ⟨2, ![2, 1024]⟩
abbrev S16x1024 : Shape := ⟨2, ![16, 1024]⟩
abbrev S8x1024 : Shape := ⟨2, ![8, 1024]⟩
abbrev S256x1024 : Shape := ⟨2, ![256, 1024]⟩
abbrev S256x2816 : Shape := ⟨2, ![256, 2816]⟩
abbrev S1024x2816 : Shape := ⟨2, ![1024, 2816]⟩
abbrev S1024 : Shape := ⟨1, ![1024]⟩
abbrev S256 : Shape := ⟨1, ![256]⟩
abbrev S256x1 : Shape := ⟨2, ![256, 1]⟩

abbrev nBuf : Space → Nat
  | .hbm => 65
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x5632, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x1024, .f32⟩
  | .hbm, ⟨46, _⟩ => ⟨S_, .f32⟩
  | .hbm, ⟨47, _⟩ => ⟨S6x1024, .f32⟩
  | .hbm, ⟨48, _⟩ => ⟨S_, .f32⟩
  | .hbm, ⟨49, _⟩ => ⟨S4x1024, .f32⟩
  | .hbm, ⟨50, _⟩ => ⟨S_, .f32⟩
  | .hbm, ⟨51, _⟩ => ⟨S2x1024, .f32⟩
  | .hbm, ⟨52, _⟩ => ⟨S16x1024, .f32⟩
  | .hbm, ⟨53, _⟩ => ⟨S1024x5632, .bf16⟩
  | .hbm, ⟨54, _⟩ => ⟨S2816x1024, .bf16⟩
  | .hbm, ⟨55, _⟩ => ⟨S4096x2816, .bf16⟩
  | .hbm, ⟨56, _⟩ => ⟨S4096x2816, .bf16⟩
  | .hbm, ⟨57, _⟩ => ⟨S4096x1024, .bf16⟩
  | .hbm, ⟨58, _⟩ => ⟨S4096x1024, .f32⟩
  | .hbm, ⟨59, _⟩ => ⟨S4096x2816, .bf16⟩
  | .hbm, ⟨60, _⟩ => ⟨S4096x2816, .bf16⟩
  | .hbm, ⟨61, _⟩ => ⟨S4096x2816, .bf16⟩
  | .hbm, ⟨62, _⟩ => ⟨S4096x1024, .bf16⟩
  | .hbm, ⟨63, _⟩ => ⟨S4096x1024, .bf16⟩
  | .hbm, ⟨64, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S16x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x1024, .bf16⟩
  | .local _ .vmem, ⟨10, _⟩ => ⟨S256x1024, .bf16⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S256x1024, .f32⟩
  | .local _ .vmem, ⟨15, _⟩ => ⟨S256x1024, .f32⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35_0 : Ref sig .tc := ⟨.hbm, 58, rfl⟩
abbrev main_v35_1 : Ref sig .tc := ⟨.hbm, 59, rfl⟩
abbrev main_v35_2 : Ref sig .tc := ⟨.hbm, 60, rfl⟩
abbrev main_v35_3 : Ref sig .tc := ⟨.hbm, 61, rfl⟩
abbrev main_v35_4 : Ref sig .tc := ⟨.hbm, 62, rfl⟩
abbrev main_v35_5 : Ref sig .tc := ⟨.hbm, 63, rfl⟩
abbrev main_v35_6 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelLoss.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S6x1024 : Shape := ⟨2, ![6, 1024]⟩
abbrev S2x1024 : Shape := ⟨2, ![2, 1024]⟩
abbrev S16x1024 : Shape := ⟨2, ![16, 1024]⟩
abbrev S4096x2816 : Shape := ⟨2, ![4096, 2816]⟩
abbrev S8x1024 : Shape := ⟨2, ![8, 1024]⟩
abbrev S512x1024 : Shape := ⟨2, ![512, 1024]⟩
abbrev S1024x2816 : Shape := ⟨2, ![1024, 2816]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 25
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x5632, .f32⟩
  | .hbm, ⟨9, _⟩ => ⟨S2816x1024, .f32⟩
  | .hbm, ⟨10, _⟩ => ⟨S4096x1024, .f32⟩
  | .hbm, ⟨11, _⟩ => ⟨S_, .f32⟩
  | .hbm, ⟨12, _⟩ => ⟨S6x1024, .f32⟩
  | .hbm, ⟨13, _⟩ => ⟨S_, .f32⟩
  | .hbm, ⟨14, _⟩ => ⟨S2x1024, .f32⟩
  | .hbm, ⟨15, _⟩ => ⟨S_, .f32⟩
  | .hbm, ⟨16, _⟩ => ⟨S1x1024, .f32⟩
  | .hbm, ⟨17, _⟩ => ⟨S16x1024, .f32⟩
  | .hbm, ⟨18, _⟩ => ⟨S1024x5632, .bf16⟩
  | .hbm, ⟨19, _⟩ => ⟨S2816x1024, .bf16⟩
  | .hbm, ⟨20, _⟩ => ⟨S4096x1024, .f32⟩
  | .hbm, ⟨21, _⟩ => ⟨S4096x2816, .bf16⟩
  | .hbm, ⟨22, _⟩ => ⟨S4096x2816, .bf16⟩
  | .hbm, ⟨23, _⟩ => ⟨S4096x1024, .bf16⟩
  | .hbm, ⟨24, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v6_2 : Ref sig .tc := ⟨.hbm, 22, rfl⟩
abbrev main_v6_3 : Ref sig .tc := ⟨.hbm, 23, rfl⟩
abbrev main_v6_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceLossIdeal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024 : Shape := ⟨1, ![1024]⟩
abbrev S4x1024 : Shape := ⟨2, ![4, 1024]⟩
abbrev S8x1024 : Shape := ⟨2, ![8, 1024]⟩

abbrev nBuf : Space → Nat
  | .hbm => 145
  | .vmem => 0
  | .smem => 0
  | _ => 0

abbrev hbmTy0_0 (i : Nat) : BufTy := match i % 128 with
  | 0 => ⟨S4096x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1024x5632, .f32⟩
  | 9 => ⟨S2816x1024, .f32⟩
  | 10 => ⟨S4096x1024, .f32⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1, .f32⟩
  | 22 => ⟨S4096x1024, .f32⟩
  | 23 => ⟨S4096x1024, .f32⟩
  | 24 => ⟨S4096x1024, .f32⟩
  | 25 => ⟨S4096x1024, .f32⟩
  | 26 => ⟨S_, .f32⟩
  | 27 => ⟨S1x1024, .f32⟩
  | 28 => ⟨S1x1024, .f32⟩
  | 29 => ⟨S4096x1024, .f32⟩
  | 30 => ⟨S4096x1024, .f32⟩
  | 31 => ⟨S4096x1024, .f32⟩
  | 32 => ⟨S4096x1024, .f32⟩
  | 33 => ⟨S4096x5632, .f32⟩
  | 34 => ⟨S4096x2816, .f32⟩
  | 35 => ⟨S4096x2816, .f32⟩
  | 36 => ⟨S4096x2816, .f32⟩
  | 37 => ⟨S4096x2816, .f32⟩
  | 38 => ⟨S4096x2816, .f32⟩
  | 39 => ⟨S4096x2816, .f32⟩
  | 40 => ⟨S_, .f32⟩
  | 41 => ⟨S4096x2816, .f32⟩
  | 42 => ⟨S4096x2816, .f32⟩
  | 43 => ⟨S_, .f32⟩
  | 44 => ⟨S4096x2816, .f32⟩
  | 45 => ⟨S4096x2816, .f32⟩
  | 46 => ⟨S4096x2816, .f32⟩
  | 47 => ⟨S4096x2816, .f32⟩
  | 48 => ⟨S4096x1024, .f32⟩
  | 49 => ⟨S_, .f32⟩
  | 50 => ⟨S1x1024, .f32⟩
  | 51 => ⟨S1x1024, .f32⟩
  | 52 => ⟨S4096x1024, .f32⟩
  | 53 => ⟨S4096x1024, .f32⟩
  | 54 => ⟨S4096x1024, .f32⟩
  | 55 => ⟨S4096x1024, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1024, .f32⟩
  | 71 => ⟨S4096x1024, .f32⟩
  | 72 => ⟨S4096x1024, .f32⟩
  | 73 => ⟨S4096x1024, .f32⟩
  | 74 => ⟨S_, .f32⟩
  | 75 => ⟨S1x1024, .f32⟩
  | 76 => ⟨S1x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S_, .f32⟩
  | 84 => ⟨S4096x1024, .f32⟩
  | 85 => ⟨S4096x1024, .f32⟩
  | 86 => ⟨S_, .f32⟩
  | 87 => ⟨S4096, .f32⟩
  | 88 => ⟨S_, .f32⟩
  | 89 => ⟨S4096, .f32⟩
  | 90 => ⟨S4096, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S4096, .f32⟩
  | 99 => ⟨S_, .f32⟩
  | 100 => ⟨S4096, .f32⟩
  | 101 => ⟨S4096, .f32⟩
  | 102 => ⟨S4096x1024, .f32⟩
  | 103 => ⟨S4096x1024, .f32⟩
  | 104 => ⟨S_, .f32⟩
  | 105 => ⟨S1024, .f32⟩
  | 106 => ⟨S1x1024, .f32⟩
  | 107 => ⟨S4096x1024, .f32⟩
  | 108 => ⟨S_, .f32⟩
  | 109 => ⟨S1024, .f32⟩
  | 110 => ⟨S1x1024, .f32⟩
  | 111 => ⟨S4096x1024, .f32⟩
  | 112 => ⟨S4096x1024, .f32⟩
  | 113 => ⟨S4096x1024, .f32⟩
  | 114 => ⟨S_, .f32⟩
  | 115 => ⟨S1024, .f32⟩
  | 116 => ⟨S1x1024, .f32⟩
  | 117 => ⟨S4096x1024, .f32⟩
  | 118 => ⟨S4096x1024, .f32⟩
  | 119 => ⟨S4096x1024, .f32⟩
  | 120 => ⟨S_, .f32⟩
  | 121 => ⟨S4096, .f32⟩
  | 122 => ⟨S4096x1, .f32⟩
  | 123 => ⟨S4096x1024, .f32⟩
  | 124 => ⟨S4096x1024, .f32⟩
  | 125 => ⟨S4096x1, .f32⟩
  | 126 => ⟨S_, .f32⟩
  | 127 => ⟨S4096x1, .f32⟩
  | _ => ⟨S4096x1024, .f32⟩

abbrev hbmTy0_1 (i : Nat) : BufTy := match i % 128 with
  | 0 => ⟨S4096x1, .f32⟩
  | 1 => ⟨S_, .f32⟩
  | 2 => ⟨S4096, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S_, .f32⟩
  | 9 => ⟨S1024, .f32⟩
  | 10 => ⟨S1x1024, .f32⟩
  | 11 => ⟨S_, .f32⟩
  | 12 => ⟨S4x1024, .f32⟩
  | 13 => ⟨S8x1024, .f32⟩
  | 14 => ⟨S4096x2816, .bf16⟩
  | 15 => ⟨S4096x2816, .bf16⟩
  | 16 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_cst_13 : Ref sig .tc := ⟨.hbm, 93, rfl⟩
abbrev main_v60 : Ref sig .tc := ⟨.hbm, 94, rfl⟩
abbrev main_cst_14 : Ref sig .tc := ⟨.hbm, 95, rfl⟩
abbrev main_cst_15 : Ref sig .tc := ⟨.hbm, 96, rfl⟩
abbrev main_v61 : Ref sig .tc := ⟨.hbm, 97, rfl⟩
abbrev main_v62 : Ref sig .tc := ⟨.hbm, 98, rfl⟩
abbrev main_cst_16 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_17 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_18 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_19 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_20 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_21 : Ref sig .tc := ⟨.hbm, 126, rfl⟩
abbrev main_v85 : Ref sig .tc := ⟨.hbm, 127, rfl⟩
abbrev main_v86 : Ref sig .tc := ⟨.hbm, 128, rfl⟩
abbrev main_cst_22 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_23 : Ref sig .tc := ⟨.hbm, 136, rfl⟩
abbrev main_v93 : Ref sig .tc := ⟨.hbm, 137, rfl⟩
abbrev main_v94 : Ref sig .tc := ⟨.hbm, 138, rfl⟩
abbrev main_cst_24 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩

abbrev nD : Nat := 1
abbrev τ : Topo := Topo.v7x

variable {F : FTy → Type} [FloatOps F]
-- ==== KernelMix.lean ====
abbrev S4096x512 : Shape := ⟨2, ![4096, 512]⟩
abbrev S4096x2048 : Shape := ⟨2, ![4096, 2048]⟩
abbrev S4096x1024 : Shape := ⟨2, ![4096, 1024]⟩
abbrev S1x1024 : Shape := ⟨2, ![1, 1024]⟩
abbrev S1x512 : Shape := ⟨2, ![1, 512]⟩
abbrev S1024x1024 : Shape := ⟨2, ![1024, 1024]⟩
abbrev S_ : Shape := ⟨0, ![]⟩
abbrev S5x1024 : Shape := ⟨2, ![5, 1024]⟩
abbrev S10x1024 : Shape := ⟨2, ![10, 1024]⟩
abbrev S16x1024 : Shape := ⟨2, ![16, 1024]⟩
abbrev S6x512 : Shape := ⟨2, ![6, 512]⟩
abbrev S8x512 : Shape := ⟨2, ![8, 512]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 20
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x2048, .bf16⟩
  | .hbm, ⟨2, _⟩ => ⟨S4096x512, .f32⟩
  | .hbm, ⟨3, _⟩ => ⟨S4096x1024, .f32⟩
  | .hbm, ⟨4, _⟩ => ⟨S1x1024, .f32⟩
  | .hbm, ⟨5, _⟩ => ⟨S1x512, .f32⟩
  | .hbm, ⟨6, _⟩ => ⟨S1x512, .f32⟩
  | .hbm, ⟨7, _⟩ => ⟨S1024x1024, .f32⟩
  | .hbm, ⟨8, _⟩ => ⟨S_, .f32⟩
  | .hbm, ⟨9, _⟩ => ⟨S5x1024, .f32⟩
  | .hbm, ⟨10, _⟩ => ⟨S_, .f32⟩
  | .hbm, ⟨11, _⟩ => ⟨S10x1024, .f32⟩
  | .hbm, ⟨12, _⟩ => ⟨S16x1024, .f32⟩
  | .hbm, ⟨13, _⟩ => ⟨S_, .f32⟩
  | .hbm, ⟨14, _⟩ => ⟨S6x512, .f32⟩
  | .hbm, ⟨15, _⟩ => ⟨S8x512, .f32⟩
  | .hbm, ⟨16, _⟩ => ⟨S1024x1024, .bf16⟩
  | .hbm, ⟨17, _⟩ => ⟨S4096x1024, .f32⟩
  | .hbm, ⟨18, _⟩ => ⟨S4096x1024, .bf16⟩
  | .hbm, ⟨19, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S16x1024, .f32⟩
  | .local _ .vmem, ⟨9, _⟩ => ⟨S8x512, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceMixIdeal.lean ====
abbrev S4096x512 : Shape := ⟨2, ![4096, 512]⟩
abbrev S4096x2048 : Shape := ⟨2, ![4096, 2048]⟩
abbrev S4096x1024 : Shape := ⟨2, ![4096, 1024]⟩
abbrev S1x1024 : Shape := ⟨2, ![1, 1024]⟩
abbrev S1x512 : Shape := ⟨2, ![1, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .bf16⟩
  | .hbm, ⟨2, _⟩ => ⟨S4096x512, .f32⟩
  | .hbm, ⟨3, _⟩ => ⟨S4096x1024, .f32⟩
  | .hbm, ⟨4, _⟩ => ⟨S1x1024, .f32⟩
  | .hbm, ⟨5, _⟩ => ⟨S1x512, .f32⟩
  | .hbm, ⟨6, _⟩ => ⟨S1x512, .f32⟩
  | .hbm, ⟨7, _⟩ => ⟨S1024x1024, .f32⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S_, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S_, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S_, .f32⟩
  | .hbm, ⟨60, _⟩ => ⟨S4096x512, .f32⟩
  | .hbm, ⟨61, _⟩ => ⟨S4096x512, .f32⟩
  | .hbm, ⟨62, _⟩ => ⟨S_, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .bf16⟩
  | .hbm, ⟨73, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]
-- ==== KernelAcm.lean ====
abbrev S8x1024 : Shape := ⟨2, ![8, 1024]⟩
abbrev S8x2304 : Shape := ⟨2, ![8, 2304]⟩
abbrev S1024x2304 : Shape := ⟨2, ![1024, 2304]⟩
abbrev S8x768 : Shape := ⟨2, ![8, 768]⟩
abbrev S1024x768 : Shape := ⟨2, ![1024, 768]⟩

abbrev nBuf : Space → Nat
  | .hbm => 9
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x2304, .f32⟩
  | .hbm, ⟨2, _⟩ => ⟨S1024x2304, .f32⟩
  | .hbm, ⟨3, _⟩ => ⟨S1024x2304, .f32⟩
  | .hbm, ⟨4, _⟩ => ⟨S1024x2304, .f32⟩
  | .hbm, ⟨5, _⟩ => ⟨S1024x2304, .f32⟩
  | .hbm, ⟨6, _⟩ => ⟨S1024x2304, .f32⟩
  | .hbm, ⟨7, _⟩ => ⟨S1024x2304, .f32⟩
  | .hbm, ⟨8, _⟩ => ⟨S1024x2304, .f32⟩
  | .local _ .vmem, ⟨0, _⟩ => ⟨S8x1024, .f32⟩
  | .local _ .vmem, ⟨1, _⟩ => ⟨S8x768, .f32⟩
  | .local _ .vmem, ⟨2, _⟩ => ⟨S8x768, .f32⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | .local _ .vmem, ⟨7, _⟩ => ⟨S1024x768, .f32⟩
  | .local _ .vmem, ⟨8, _⟩ => ⟨S1024x768, .f32⟩
  | .local _ .vmem, ⟨9, _⟩ => ⟨S1024x768, .f32⟩
  | .local _ .vmem, ⟨10, _⟩ => ⟨S1024x768, .f32⟩
  | .local _ .vmem, ⟨11, _⟩ => ⟨S1024x768, .f32⟩
  | .local _ .vmem, ⟨12, _⟩ => ⟨S1024x768, .f32⟩
  | .local _ .vmem, ⟨13, _⟩ => ⟨S1024x768, .f32⟩
  | .local _ .vmem, ⟨14, _⟩ => ⟨S1024x768, .f32⟩
  | .local _ .vmem, ⟨15, _⟩ => ⟨S1024x768, .f32⟩
  | .local _ .vmem, ⟨16, _⟩ => ⟨S1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAcmIdeal.lean ====
abbrev S8x1024 : Shape := ⟨2, ![8, 1024]⟩
abbrev S8x2304 : Shape := ⟨2, ![8, 2304]⟩
abbrev S1024x2304 : Shape := ⟨2, ![1024, 2304]⟩
abbrev S_ : Shape := ⟨0, ![]⟩
abbrev S2304x1024 : Shape := ⟨2, ![2304, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x2304, .f32⟩
  | .hbm, ⟨2, _⟩ => ⟨S1024x2304, .f32⟩
  | .hbm, ⟨3, _⟩ => ⟨S1024x2304, .f32⟩
  | .hbm, ⟨4, _⟩ => ⟨S1024x2304, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x2304, .f32⟩
  | .hbm, ⟨15, _⟩ => ⟨S2304x1024, .f32⟩
  | .hbm, ⟨16, _⟩ => ⟨S1024x2304, .f32⟩
  | .hbm, ⟨17, _⟩ => ⟨S_, .f32⟩
  | .hbm, ⟨18, _⟩ => ⟨S1024x2304, .f32⟩
  | .hbm, ⟨19, _⟩ => ⟨S1024x2304, .f32⟩
  | .hbm, ⟨20, _⟩ => ⟨S_, .f32⟩
  | .hbm, ⟨21, _⟩ => ⟨S1024x2304, .f32⟩
  | .hbm, ⟨22, _⟩ => ⟨S1024x2304, .f32⟩
  | .hbm, ⟨23, _⟩ => ⟨S1024x2304, .f32⟩
  | .hbm, ⟨24, _⟩ => ⟨S_, .f32⟩
  | .hbm, ⟨25, _⟩ => ⟨S1024x2304, .f32⟩
  | .hbm, ⟨26, _⟩ => ⟨S1024x2304, .f32⟩
  | .hbm, ⟨27, _⟩ => ⟨S1024x2304, .f32⟩
  | .hbm, ⟨28, _⟩ => ⟨S_, .f32⟩
  | .hbm, ⟨29, _⟩ => ⟨S1024x2304, .f32⟩
  | .hbm, ⟨30, _⟩ => ⟨S1024x2304, .f32⟩
  | .hbm, ⟨31, _⟩ => ⟨S1024x2304, .f32⟩
  | .hbm, ⟨32, _⟩ => ⟨S_, .f32⟩
  | .hbm, ⟨33, _⟩ => ⟨S1024x2304, .f32⟩
  | .hbm, ⟨34, _⟩ => ⟨S1024x2304, .f32⟩
  | .hbm, ⟨35, _⟩ => ⟨S_, .f32⟩
  | .hbm, ⟨36, _⟩ => ⟨S1024x2304, .f32⟩
  | .hbm, ⟨37, _⟩ => ⟨S1024x2304, .f32⟩
  | .hbm, ⟨38, _⟩ => ⟨S1024x2304, .f32⟩
  | .hbm, ⟨39, _⟩ => ⟨S_, .f32⟩
  | .hbm, ⟨40, _⟩ => ⟨S1024x2304, .f32⟩
  | .hbm, ⟨41, _⟩ => ⟨S1024x2304, .f32⟩
  | .hbm, ⟨42, _⟩ => ⟨S1024x2304, .f32⟩
  | .hbm, ⟨43, _⟩ => ⟨S_, .f32⟩
  | .hbm, ⟨44, _⟩ => ⟨S1024x2304, .f32⟩
  | .hbm, ⟨45, _⟩ => ⟨S1024x2304, .f32⟩
  | .hbm, ⟨46, _⟩ => ⟨S1024x2304, .f32⟩
  | .hbm, ⟨47, _⟩ => ⟨S_, .f32⟩
  | .hbm, ⟨48, _⟩ => ⟨S1024x2304, .f32⟩
  | .hbm, ⟨49, _⟩ => ⟨S1024x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== KernelAcf.lean ====
abbrev S8x1024 : Shape := ⟨2, ![8, 1024]⟩
abbrev S8x512 : Shape := ⟨2, ![8, 512]⟩
abbrev S1024x512 : Shape := ⟨2, ![1024, 512]⟩
abbrev S8x256 : Shape := ⟨2, ![8, 256]⟩
abbrev S1024x256 : Shape := ⟨2, ![1024, 256]⟩

abbrev nBuf : Space → Nat
  | .hbm => 9
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S8x1024, .f32⟩
  | .local _ .vmem, ⟨1, _⟩ => ⟨S8x256, .f32⟩
  | .local _ .vmem, ⟨2, _⟩ => ⟨S8x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAcfIdeal.lean ====
abbrev S8x1024 : Shape := ⟨2, ![8, 1024]⟩
abbrev S8x512 : Shape := ⟨2, ![8, 512]⟩
abbrev S1024x512 : Shape := ⟨2, ![1024, 512]⟩
abbrev S_ : Shape := ⟨0, ![]⟩
abbrev S512x1024 : Shape := ⟨2, ![512, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x512, .f32⟩
  | .hbm, ⟨15, _⟩ => ⟨S512x1024, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S_, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S_, .f32⟩
  | .hbm, ⟨44, _⟩ => ⟨S1024x512, .f32⟩
  | .hbm, ⟨45, _⟩ => ⟨S1024x512, .f32⟩
  | .hbm, ⟨46, _⟩ => ⟨S1024x512, .f32⟩
  | .hbm, ⟨47, _⟩ => ⟨S_, .f32⟩
  | .hbm, ⟨48, _⟩ => ⟨S1024x512, .f32⟩
  | .hbm, ⟨49, _⟩ => ⟨S1024x512, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== KernelAbm.lean ====
abbrev S1024x512 : Shape := ⟨2, ![1024, 512]⟩
abbrev S512x512 : Shape := ⟨2, ![512, 512]⟩
abbrev S2 : Shape := ⟨1, ![2]⟩
abbrev S256x512 : Shape := ⟨2, ![256, 512]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .smem, ⟨0, _⟩ => ⟨S2, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S2) ![0] S1.size inb_S2_S1_0) numel1_S1
  let v18 : BitVec 1 := Scalar.cmpi .eq v16 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 v28 c0_i32_10
  let c0_i32_11 : BitVec 32 := 0#32
  ![v29.toNat, arg1.toNat]

def cc0_transform_2 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S2) ![0] S1.size inb_S2_S1_0) numel1_S1
  let v18 : BitVec 1 := Scalar.cmpi .eq v16 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 c0_i32_10 v28
  let c0_i32_11 : BitVec 32 := 0#32
  ![v29.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAbmIdeal.lean ====
abbrev S1024x512 : Shape := ⟨2, ![1024, 512]⟩
abbrev S512x512 : Shape := ⟨2, ![512, 512]⟩
abbrev S2 : Shape := ⟨1, ![2]⟩
abbrev S1 : Shape := ⟨1, ![1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512x512, .f32⟩
  | .hbm, ⟨3, _⟩ => ⟨S1024x512, .f32⟩
  | .hbm, ⟨4, _⟩ => ⟨S1024x512, .f32⟩
  | .hbm, ⟨5, _⟩ => ⟨S2, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S512x512, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S512x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S_, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S_, .f32⟩
  | .hbm, ⟨44, _⟩ => ⟨S1024x512, .f32⟩
  | .hbm, ⟨45, _⟩ => ⟨S1024x512, .f32⟩
  | .hbm, ⟨46, _⟩ => ⟨S1024x512, .f32⟩
  | .hbm, ⟨47, _⟩ => ⟨S_, .f32⟩
  | .hbm, ⟨48, _⟩ => ⟨S1024x512, .f32⟩
  | .hbm, ⟨49, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== KernelAbf.lean ====
abbrev S1024x1408 : Shape := ⟨2, ![1024, 1408]⟩
abbrev S512x1408 : Shape := ⟨2, ![512, 1408]⟩
abbrev S2 : Shape := ⟨1, ![2]⟩
abbrev S256x1408 : Shape := ⟨2, ![256, 1408]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1024x1408, .f32⟩
  | .hbm, ⟨1, _⟩ => ⟨S512x1408, .f32⟩
  | .hbm, ⟨2, _⟩ => ⟨S512x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | .local _ .smem, ⟨0, _⟩ => ⟨S2, .i32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S2) ![0] S1.size inb_S2_S1_0) numel1_S1
  let v18 : BitVec 1 := Scalar.cmpi .eq v16 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 v28 c0_i32_10
  let c0_i32_11 : BitVec 32 := 0#32
  ![v29.toNat, arg1.toNat]

def cc0_transform_2 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S2) ![0] S1.size inb_S2_S1_0) numel1_S1
  let v18 : BitVec 1 := Scalar.cmpi .eq v16 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 c0_i32_10 v28
  let c0_i32_11 : BitVec 32 := 0#32
  ![v29.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAbfIdeal.lean ====
abbrev S1024x1408 : Shape := ⟨2, ![1024, 1408]⟩
abbrev S512x1408 : Shape := ⟨2, ![512, 1408]⟩
abbrev S2 : Shape := ⟨1, ![2]⟩
abbrev S1 : Shape := ⟨1, ![1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S512x1408, .f32⟩
  | .hbm, ⟨2, _⟩ => ⟨S512x1408, .f32⟩
  | .hbm, ⟨3, _⟩ => ⟨S1024x1408, .f32⟩
  | .hbm, ⟨4, _⟩ => ⟨S1024x1408, .f32⟩
  | .hbm, ⟨5, _⟩ => ⟨S2, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S512x1408, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S512x1408, .f32⟩
  | .hbm, ⟨16, _⟩ => ⟨S1024x1408, .f32⟩
  | .hbm, ⟨17, _⟩ => ⟨S_, .f32⟩
  | .hbm, ⟨18, _⟩ => ⟨S1024x1408, .f32⟩
  | .hbm, ⟨19, _⟩ => ⟨S1024x1408, .f32⟩
  | .hbm, ⟨20, _⟩ => ⟨S_, .f32⟩
  | .hbm, ⟨21, _⟩ => ⟨S1024x1408, .f32⟩
  | .hbm, ⟨22, _⟩ => ⟨S1024x1408, .f32⟩
  | .hbm, ⟨23, _⟩ => ⟨S1024x1408, .f32⟩
  | .hbm, ⟨24, _⟩ => ⟨S_, .f32⟩
  | .hbm, ⟨25, _⟩ => ⟨S1024x1408, .f32⟩
  | .hbm, ⟨26, _⟩ => ⟨S1024x1408, .f32⟩
  | .hbm, ⟨27, _⟩ => ⟨S1024x1408, .f32⟩
  | .hbm, ⟨28, _⟩ => ⟨S_, .f32⟩
  | .hbm, ⟨29, _⟩ => ⟨S1024x1408, .f32⟩
  | .hbm, ⟨30, _⟩ => ⟨S1024x1408, .f32⟩
  | .hbm, ⟨31, _⟩ => ⟨S1024x1408, .f32⟩
  | .hbm, ⟨32, _⟩ => ⟨S_, .f32⟩
  | .hbm, ⟨33, _⟩ => ⟨S1024x1408, .f32⟩
  | .hbm, ⟨34, _⟩ => ⟨S1024x1408, .f32⟩
  | .hbm, ⟨35, _⟩ => ⟨S_, .f32⟩
  | .hbm, ⟨36, _⟩ => ⟨S1024x1408, .f32⟩
  | .hbm, ⟨37, _⟩ => ⟨S1024x1408, .f32⟩
  | .hbm, ⟨38, _⟩ => ⟨S1024x1408, .f32⟩
  | .hbm, ⟨39, _⟩ => ⟨S_, .f32⟩
  | .hbm, ⟨40, _⟩ => ⟨S1024x1408, .f32⟩
  | .hbm, ⟨41, _⟩ => ⟨S1024x1408, .f32⟩
  | .hbm, ⟨42, _⟩ => ⟨S1024x1408, .f32⟩
  | .hbm, ⟨43, _⟩ => ⟨S_, .f32⟩
  | .hbm, ⟨44, _⟩ => ⟨S1024x1408, .f32⟩
  | .hbm, ⟨45, _⟩ => ⟨S1024x1408, .f32⟩
  | .hbm, ⟨46, _⟩ => ⟨S1024x1408, .f32⟩
  | .hbm, ⟨47, _⟩ => ⟨S_, .f32⟩
  | .hbm, ⟨48, _⟩ => ⟨S1024x1408, .f32⟩
  | .hbm, ⟨49, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Proof.Block.lean ====
/- What one grid point of the kernel leaves in its seven output blocks, as named values of the nine input blocks. -/
module

public import proofs.«01_k».proof.Proof.Gen.KernelIdeal.Value
public import Idealize.ShloMosaic.Lib.Pipeline.ReadBack
public import Idealize.ShloMosaic.Lib.Pipeline.RowLoads
public import Idealize.ShloMosaic.Lib.WritesUnit
public import Idealize.ShloMosaic.Lib.Pointwise.Index

@[expose] public section

set_option maxRecDepth 16384

noncomputable section

open Idealize.ShloMosaic Idealize.ShloMosaic.TcCoe Idealize.SL.Sem

namespace Cert.KernelIdeal.Block

open Cert.KernelIdeal Cert.KernelIdeal.Gen

variable {F : FTy → Type} [FloatOps F]

/-- The zero offsets of a whole rank-2 block. -/
theorem hz : (![0, 0] : Fin 2 → Nat) = fun _ => 0 := funext fun a => by fin_cases a <;> rfl

/-! ## Four rows written over an array of eight -/

/-- Rows 0 to 3 of `Z` replaced by the four given rows. -/
def rows4 {α : Type} (p0 p1 p2 p3 : S1x1024.Idx → α) (Z : S8x1024.Idx → α) : S8x1024.Idx → α := fun y =>
  let j : S1x1024.Idx := ix2 (0 : Fin 1) (y 1 : Fin 1024)
  if (y 0).val = 0 then p0 j else if (y 0).val = 1 then p1 j else if (y 0).val = 2 then p2 j else if (y 0).val = 3 then p3 j else Z y

/-- One row written newest: read in that row, and off it. -/
theorem read_row {Val : EltTy → Type} {sig : RefSig} {κ : Kind} {sp : Space} {e : EltTy} (v : View sig κ sp S8x1024 e) (f : v.ty.Contents Val)
    (o : ℕ) (inb : ∀ a, (![o, 0] : Fin 2 → Nat) a + (![1, 1024] : Fin 2 → Nat) a ≤ S8x1024.size a)
    (w : S1x1024.Idx → Val e) (L : List (View.Piece Val S8x1024 e)) (y : S8x1024.Idx) :
    v.read Val (v.writes Val f ((⟨Rect.unit (s := S8x1024) ![o, 0] ![1, 1024] inb, w⟩ : View.Piece Val S8x1024 e) :: L)) y
      = if (y 0).val = o then w (ix2 (0 : Fin 1) (y 1 : Fin 1024))
        else v.read Val (v.writes Val f L) y := by
  split
  · rename_i h
    exact View.read_writes_cons_rows_of_mem (d := ![8, 1024]) v f inb w L y
      (ix2 (0 : Fin 1) (y 1 : Fin 1024)) rfl (by show (y 0).val = o + 0; omega) rfl
  · rename_i h
    exact View.read_writes_cons_rows_of_not_mem (d := ![8, 1024]) (o := o) (W := 1) v f inb w L y rfl rfl (by omega)

/-- The four row stores, newest last row, over what the earlier stores left. -/
theorem read_rows4 {Val : EltTy → Type} {sig : RefSig} {κ : Kind} {sp : Space} {e : EltTy} (v : View sig κ sp S8x1024 e) (f : v.ty.Contents Val)
    (i0 i1 i2 i3) (p0 p1 p2 p3 : S1x1024.Idx → Val e) (L : List (View.Piece Val S8x1024 e)) :
    v.read Val (v.writes Val f (⟨Rect.unit (s := S8x1024) ![3, 0] ![1, 1024] i3, p3⟩ :: ⟨Rect.unit (s := S8x1024) ![2, 0] ![1, 1024] i2, p2⟩
        :: ⟨Rect.unit (s := S8x1024) ![1, 0] ![1, 1024] i1, p1⟩ :: ⟨Rect.unit (s := S8x1024) ![0, 0] ![1, 1024] i0, p0⟩ :: L))
      = rows4 p0 p1 p2 p3 (v.read Val (v.writes Val f L)) := by
  funext y
  rw [read_row, read_row, read_row, read_row]
  unfold rows4
  dsimp only
  split_ifs <;> first | rfl | omega

/-- A load of a row does not see a store of another row. -/
theorem readCov_row_skip {Val : EltTy → Type} [∀ e, Nonempty (Val e)] {sig : RefSig} {κ : Kind} {sp : Space} {e : EltTy} (v : View sig κ sp S8x1024 e)
    (o o' : ℕ) (h : o ≠ o') (i i') (w : S1x1024.Idx → Val e) (L : List (View.Piece Val S8x1024 e)) :
    v.readCov (⟨Rect.unit (s := S8x1024) ![o, 0] ![1, 1024] i, w⟩ :: L) (Rect.unit (s := S8x1024) ![o', 0] ![1, 1024] i').toLoadRect
      = v.readCov L (Rect.unit (s := S8x1024) ![o', 0] ![1, 1024] i').toLoadRect :=
  View.readCov_cons_of_rows_disjoint (m := 8) (n := 1024) (k := 1) (k' := 1) v o o' (by omega) w L i i'

/-- A load of a row after a fill of the whole array reads the fill. -/
theorem readCov_row_fill {Val : EltTy → Type} [∀ e, Nonempty (Val e)] {sig : RefSig} {κ : Kind} {sp : Space} {e : EltTy} (v : View sig κ sp S8x1024 e)
    (o : ℕ) (i i') (Z : S8x1024.Idx → Val e) (L : List (View.Piece Val S8x1024 e)) :
    v.readCov (⟨Rect.unit (s := S8x1024) ![0, 0] ![8, 1024] i, Z⟩ :: L) (Rect.unit (s := S8x1024) ![o, 0] ![1, 1024] i').toLoadRect
      = View.ld Z (Rect.unit (s := S8x1024) ![o, 0] ![1, 1024] i') :=
  View.readCov_fill v i Z L _ (fun a => congrFun hz a)

/-! ## The values of a grid point -/

/-- Row `o` of the table of per-channel vectors. -/
def vrow (o : ℕ) (h : ∀ a, (![o, 0] : Fin 2 → Nat) a + (![1, 1024] : Fin 2 → Nat) a ≤ S16x1024.size a) (v : Vec F S16x1024 .f32) :
    Vec F S1x1024 .f32 := View.ld v (Rect.unit (s := S16x1024) ![o, 0] ![1, 1024] h)

/-- Row `o` of the running sums. -/
def srow (o : ℕ) (h : ∀ a, (![o, 0] : Fin 2 → Nat) a + (![1, 1024] : Fin 2 → Nat) a ≤ S8x1024.size a) (v : Vec F S8x1024 .f32) :
    Vec F S1x1024 .f32 := View.ld v (Rect.unit (s := S8x1024) ![o, 0] ![1, 1024] h)

section Point

variable (ct x : Vec F S256x1024 .f32) (v : Vec F S16x1024 .f32) (g u : Vec F S256x2816 .bf16) (y : Vec F S256x1024 .bf16)
    (wg wu : Vec F S1024x2816 .bf16) (wo : Vec F S2816x1024 .bf16)

/-- The gate's channel vector: the shift, the scale, the residual gate and the norm's gain. -/
def vSh : Vec F S1x1024 .f32 := vrow 0 inb_S16x1024_S1x1024_0_0 v
def vSc : Vec F S1x1024 .f32 := vrow 1 inb_S16x1024_S1x1024_1_0 v
def vGt : Vec F S1x1024 .f32 := vrow 2 inb_S16x1024_S1x1024_2_0 v
def vG : Vec F S1x1024 .f32 := vrow 11 inb_S16x1024_S1x1024_11_0 v

/-- The literal 1024. -/
def w1024 : F .f32 := FloatOps.ofBits FTy.f32 1149239296#32

/-- The gradient of the hidden activations. -/
def bDA : Vec F S256x2816 .f32 := k0_pay6 ct (vGt v) wo
/-- The gradient of the normed input. -/
def bDH : Vec F S256x1024 .f32 := k0_pay15 (bDA ct v wo) (k0_pay7 g) (k0_pay8 u) wg wu
/-- The normed input times the gradient of the normed input. -/
def bDHN : Vec F S256x1024 .f32 := k0_pay23 (bDH ct v g u wg wu wo) x (k0_pay16 x) w1024
/-- The block of the gradient of the sub-layer's input. -/
def bDX : Vec F S256x1024 .f32 :=
  k0_pay2 ct (bDH ct v g u wg wu wo) (k0_pay17 (k0_pay16 x) w1024) (k0_pay18 x (k0_pay16 x) w1024) (k0_pay21 (vG v) (vSc v))
/-- The running sums after this point, `acc` before it. -/
def bSum (acc : Vec F S8x1024 .f32) : Vec F S8x1024 .f32 :=
  rows4 (k0_pay5 ct (srow 0 inb_S8x1024_S1x1024_0_0 acc) y)
    (k0_pay24 (bDH ct v g u wg wu wo) (srow 1 inb_S8x1024_S1x1024_1_0 acc))
    (k0_pay25 (bDH ct v g u wg wu wo) x (k0_pay16 x) w1024 (vG v) (srow 2 inb_S8x1024_S1x1024_2_0 acc))
    (k0_pay1 (k0_pay20 (vSc v)) (bDHN ct x v g u wg wu wo) (srow 3 inb_S8x1024_S1x1024_3_0 acc)) acc

/-- All seven output blocks. -/
def outs (acc : Vec F S8x1024 .f32) : Vec F S256x1024 .f32 × Vec F S256x2816 .bf16 × Vec F S256x2816 .bf16 × Vec F S256x2816 .bf16
    × Vec F S256x1024 .bf16 × Vec F S256x1024 .bf16 × Vec F S8x1024 .f32 :=
  (bDX ct x v g u wg wu wo, k0_pay14 (k0_pay7 g) (k0_pay8 u), k0_pay13 (bDA ct v wo) (k0_pay7 g) (k0_pay8 u),
    k0_pay12 (bDA ct v wo) (k0_pay7 g), k0_pay22 x (k0_pay16 x) w1024 (vG v) (vSc v) (vSh v), k0_pay4 ct (vGt v),
    bSum ct x v g u y wg wu wo acc)

end Point

variable (m : (ℓ : Loc nD τ sig) → Buf (Elt F) ℓ)

/-- The blocks after the first point: the running sums start at zero. -/
theorem outsAt_first (c : Dev nD) (t : Fin cfg0.N) (h0 : t.val % 16 = 0) :
    outsAt0 m c t.val t.isLt = outs (iblk m c 0 t) (iblk m c 1 t) (iblk m c 2 t) (iblk m c 3 t) (iblk m c 4 t) (iblk m c 5 t)
      (iblk m c 6 t) (iblk m c 7 t) (iblk m c 8 t) k0_pay3 := by
  rw [outsAt0_A m c t h0]
  unfold out0_A_9 out0_A_10 out0_A_11 out0_A_12 out0_A_13 out0_A_14 out0_A_15
  unfold kernelRun0_A
  dsimp only
  sl_unfold_words
  simp only [read_rows4]
  simp only [View.read_writes_junk_eq_canon, View.canon_unit_zero (S := S256x1024) hz, View.canon_unit_zero (S := S256x2816) hz,
    View.canon_unit_zero (S := S8x1024) hz]
  simp only [readCov_row_skip, readCov_row_fill, ne_eq, Nat.reduceEqDiff, not_false_eq_true, one_ne_zero, OfNat.ofNat_ne_zero,
    OfNat.zero_ne_ofNat, zero_ne_one, OfNat.ofNat_ne_one, OfNat.one_ne_ofNat, View.readAt_eq_ld,
    (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    View.ld_unit_zero (S := S256x1024) hz, View.ld_unit_zero (S := S256x2816) hz, View.ld_unit_zero (S := S1024x2816) hz,
    View.ld_unit_zero (S := S2816x1024) hz]
  rfl

/-- The blocks after a later point: the running sums go on from the point before. -/
theorem outsAt_next (c : Dev nD) (t : Fin cfg0.N) (h0 : ¬ t.val % 16 = 0) :
    outsAt0 m c t.val t.isLt = outs (iblk m c 0 t) (iblk m c 1 t) (iblk m c 2 t) (iblk m c 3 t) (iblk m c 4 t) (iblk m c 5 t)
      (iblk m c 6 t) (iblk m c 7 t) (iblk m c 8 t)
      (outsAt0 m c (t.val - 1) (Nat.lt_of_le_of_lt (Nat.sub_le _ _) t.isLt)).2.2.2.2.2.2 := by
  rw [outsAt0_B m c t h0]
  unfold out0_B_9 out0_B_10 out0_B_11 out0_B_12 out0_B_13 out0_B_14 out0_B_15
  unfold kernelRun0_B
  dsimp only
  sl_unfold_words
  simp only [read_rows4]
  simp only [View.read_writes_junk_eq_canon, View.canon_unit_zero (S := S256x1024) hz, View.canon_unit_zero (S := S256x2816) hz,
    View.writes_nil]
  simp only [View.readAt_eq_ld,
    (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread, (hs0_15 t).read_unread,
    View.ld_unit_zero (S := S256x1024) hz, View.ld_unit_zero (S := S256x2816) hz, View.ld_unit_zero (S := S1024x2816) hz,
    View.ld_unit_zero (S := S2816x1024) hz]
  rfl

end Cert.KernelIdeal.Block

end
-- ==== Proof.Reals.lean ====
/- Arithmetic of the extended reals at real arguments: sums, quotients, roots, the literals the programs write. -/
module

public import Idealize.ShloMosaic.PureOps.Ideal.Laws
public import Idealize.ShloMosaic.Lib.IdealHost
public import Mathlib.Data.EReal.Operations
public import Mathlib.Analysis.SpecialFunctions.Trigonometric.Basic
public import Mathlib.Algebra.BigOperators.Fin

@[expose] public section

noncomputable section

open Idealize.ShloMosaic

namespace Cert.Reals

/-- A finite sum of reals, taken among the extended reals, is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A quotient of reals by a real that is not zero. -/
theorem div_real (x y : ℝ) (h : y ≠ 0) : Ideal.div (x : EReal) (y : EReal) = ((x / y : ℝ) : EReal) := by
  rw [Ideal.div_coe h, ← EReal.coe_mul, mul_one_div]

/-- The reciprocal root of a positive real. -/
theorem rsqrt_real (x : ℝ) (h : 0 < x) : Ideal.rsqrt (x : EReal) = (((Real.sqrt x)⁻¹ : ℝ) : EReal) := by
  rw [Ideal.rsqrt_coe, if_neg h.not_gt, if_neg h.ne']

/-- The stabiliser the norm adds to the mean square: the f32 nearest 10⁻⁶. -/
def eps : ℝ := 8796093 / 2 ^ 43

theorem eps_pos : 0 < eps := by unfold eps; positivity

theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul, -EReal.coe_neg]; norm_num
theorem lit_1024 : Ideal.ofBits .f32 0x44800000#32 = ((1024 : ℝ) : EReal) := by
  simp [Ideal.ofBits, Ideal.ieee, -EReal.coe_mul]; norm_num
theorem lit_one : Ideal.ofBits .f32 0x3F800000#32 = ((1 : ℝ) : EReal) := by
  rw [Ideal.ofBits_one_f32]; rfl
theorem lit_zero : Ideal.ofBits .f32 0x00000000#32 = ((0 : ℝ) : EReal) := by
  rw [Ideal.ofBits_zero_f32]; rfl
theorem lit_eps : Ideal.ofBits .f32 0x358637BD#32 = ((eps : ℝ) : EReal) := by
  simp [Ideal.ofBits, Ideal.ieee, -EReal.coe_mul, eps]; norm_num

/-- The logistic function. -/
def sig (x : ℝ) : ℝ := 1 / (1 + Real.exp (-x))

/-- The logistic function through the hyperbolic tangent of half the argument. -/
theorem sig_tanh (x : ℝ) : 1 / 2 * Real.tanh (1 / 2 * x) + 1 / 2 = sig x := by
  unfold sig
  rw [Real.tanh_eq_sinh_div_cosh, Real.sinh_eq, Real.cosh_eq]
  have h : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  have hp := Real.exp_pos (1 / 2 * x)
  have hn := Real.exp_pos (-(1 / 2 * x))
  rw [h]
  generalize Real.exp (1 / 2 * x) = a at *
  generalize Real.exp (-(1 / 2 * x)) = b at *
  have hd : a + b ≠ 0 := by positivity
  have hd' : 1 + b * b ≠ 0 := by positivity
  field_simp
  linear_combination (2 * b) * h1

end Cert.Reals

end
-- ==== Proof.Spec.lean ====
/- The feed-forward sub-layer's gradient over the reals, one token at a time: what both programs compute. -/
module

public import proofs.«01_k».proof.Proof.Reals
public import Idealize.ShloMosaic.Lib.Pointwise.Index

@[expose] public section

noncomputable section

open Idealize.ShloMosaic

namespace Cert.Spec

open Cert.Reals

/-- A real matrix as an array of extended reals. -/
def up {n m : ℕ} (f : Fin n → Fin m → ℝ) : (⟨2, ![n, m]⟩ : Shape).Idx → EReal := fun i => ((f (i 0) (i 1) : ℝ) : EReal)

theorem up_apply {n m : ℕ} (f : Fin n → Fin m → ℝ) (i : (⟨2, ![n, m]⟩ : Shape).Idx) : up f i = ((f (i 0) (i 1) : ℝ) : EReal) := rfl

theorem up_ix2 {n m : ℕ} (f : Fin n → Fin m → ℝ) (a : Fin n) (b : Fin m) : up f (ix2 a b) = ((f a b : ℝ) : EReal) := rfl

/-- A real vector as an array of one row. -/
def row {m : ℕ} (v : Fin m → ℝ) : (⟨2, ![1, m]⟩ : Shape).Idx → EReal := fun i => ((v (i 1) : ℝ) : EReal)

theorem row_apply {m : ℕ} (v : Fin m → ℝ) (i : (⟨2, ![1, m]⟩ : Shape).Idx) : row v i = ((v (i 1) : ℝ) : EReal) := rfl

theorem row_ix2 {m : ℕ} (v : Fin m → ℝ) (a : Fin 1) (b : Fin m) : row v (ix2 a b) = ((v b : ℝ) : EReal) := rfl

/-- Every array of real entries is a real matrix. -/
theorem exists_up {n m : ℕ} (X : (⟨2, ![n, m]⟩ : Shape).Idx → EReal) (h : ∀ i, ⊥ < X i ∧ X i < ⊤) : ∃ f, X = up f :=
  ⟨fun a b => (X (ix2 a b)).toReal, funext fun i => by
    rw [up_apply, ← eq_ix2 i, EReal.coe_toReal (h i).2.ne (h i).1.ne']⟩

/-- Every array of one row of real entries is a real vector. -/
theorem exists_row {m : ℕ} (X : (⟨2, ![1, m]⟩ : Shape).Idx → EReal) (h : ∀ i, ⊥ < X i ∧ X i < ⊤) : ∃ v, X = row v :=
  ⟨fun b => (X (ix2 0 b)).toReal, funext fun i => by
    obtain ⟨a, b, rfl⟩ : ∃ (a : Fin 1) (b : Fin m), i = ix2 a b := ⟨i 0, i 1, eq_ix2 i⟩
    rw [row_ix2, Subsingleton.elim a 0, EReal.coe_toReal (h _).2.ne (h _).1.ne']⟩

/-- The sub-layer's parameters: the adaptive shift, scale and residual gate, the norm's gain, and the two weight matrices. -/
structure Par where
  sh : Fin 1024 → ℝ
  sc : Fin 1024 → ℝ
  gt : Fin 1024 → ℝ
  g : Fin 1024 → ℝ
  wi : Fin 1024 → Fin 5632 → ℝ
  wo : Fin 2816 → Fin 1024 → ℝ

/-- The gate's column of the first weight matrix, and the up-projection's. -/
def gcol (k : Fin 2816) : Fin 5632 := ⟨k.val, by omega⟩
def ucol (k : Fin 2816) : Fin 5632 := ⟨2816 + k.val, by omega⟩

/-- A sum over the columns of the first weight matrix, by halves. -/
theorem sum_halves (f : Fin 5632 → ℝ) : ∑ q, f q = ∑ k, f (gcol k) + ∑ k, f (ucol k) :=
  Fin.sum_univ_add (a := 2816) (b := 2816) f

section Token

variable (p : Par) (x c : Fin 1024 → ℝ)

/-! ### The norm of a token `x` -/

/-- The mean square, plus the stabiliser. -/
def ms : ℝ := (∑ j, x j * x j) / 1024 + eps
theorem ms_pos : 0 < ms x :=
  add_pos_of_nonneg_of_pos (div_nonneg (Finset.sum_nonneg fun j _ => mul_self_nonneg (x j)) (by norm_num)) eps_pos
/-- The reciprocal root. -/
def rs : ℝ := (Real.sqrt (ms x))⁻¹
theorem rs_sq : rs x * rs x = 1 / ms x := by
  unfold rs; rw [← mul_inv, Real.mul_self_sqrt (ms_pos x).le, one_div]
/-- The normed token. -/
def nrm (j : Fin 1024) : ℝ := x j * rs x
/-- The gain times the scale. -/
def gsc (j : Fin 1024) : ℝ := p.g j * (1 + p.sc j)
/-- The input of the first product. -/
def hid (j : Fin 1024) : ℝ := nrm x j * gsc p j + p.sh j

/-! ### Forward -/

/-- The first product. -/
def proj (q : Fin 5632) : ℝ := ∑ j, hid p x j * p.wi j q
def gate (k : Fin 2816) : ℝ := proj p x (gcol k)
def upp (k : Fin 2816) : ℝ := proj p x (ucol k)
/-- The gate through the logistic-weighted linear unit. -/
def silu (z : ℝ) : ℝ := z * sig z
/-- Its derivative. -/
def dsilu (z : ℝ) : ℝ := sig z * (1 + z * (1 - sig z))
def act (k : Fin 2816) : ℝ := silu (gate p x k) * upp p x k
/-- The second product. -/
def yv (j : Fin 1024) : ℝ := ∑ k, act p x k * p.wo k j

/-! ### Backward, from the gradient `c` of the sub-layer's output -/

def dy (j : Fin 1024) : ℝ := 1 / 2 * p.gt j * c j
def da (k : Fin 2816) : ℝ := ∑ j, dy p c j * p.wo k j
def dup (k : Fin 2816) : ℝ := da p c k * silu (gate p x k)
def dgate (k : Fin 2816) : ℝ := da p c k * upp p x k * dsilu (gate p x k)
/-- The gradient of the first product: its two halves side by side. -/
def dproj (q : Fin 5632) : ℝ := if h : q.val < 2816 then dgate p x c ⟨q.val, h⟩ else dup p x c ⟨q.val - 2816, by have := q.isLt; omega⟩
theorem dproj_gcol (k : Fin 2816) : dproj p x c (gcol k) = dgate p x c k := by
  unfold dproj gcol
  rw [dif_pos k.isLt]
theorem dproj_ucol (k : Fin 2816) : dproj p x c (ucol k) = dup p x c k := by
  unfold dproj ucol
  rw [dif_neg (show ¬ 2816 + k.val < 2816 by omega)]
  exact congrArg _ (Fin.ext (Nat.add_sub_cancel_left 2816 k.val))
def dh (j : Fin 1024) : ℝ := ∑ k, dgate p x c k * p.wi j (gcol k) + ∑ k, dup p x c k * p.wi j (ucol k)
/-- The gradient of the sub-layer's input: through the residual, and through the norm. -/
def dx (j : Fin 1024) : ℝ :=
  c j + rs x * (dh p x c j * gsc p j - nrm x j * ((∑ l, dh p x c l * gsc p l * nrm x l) / 1024))

end Token

/-! ### The gradients of the per-channel vectors: sums over the tokens -/

section Sums

variable {n : ℕ} (p : Par) (x c : Fin n → Fin 1024 → ℝ) (j : Fin 1024)

def dgt : ℝ := 1 / 2 * ∑ i, c i j * yv p (x i) j
def dsh : ℝ := ∑ i, dh p (x i) (c i) j
def dsc : ℝ := (∑ i, dh p (x i) (c i) j * nrm (x i) j) * p.g j
def dgn : ℝ := (∑ i, dh p (x i) (c i) j * nrm (x i) j) * (1 + p.sc j)

/-- The eight rows of summed gradients; the last four are zero. -/
def rows (r : Fin 8) : ℝ :=
  if r.val = 0 then dgt p x c j else if r.val = 1 then dsh p x c j else if r.val = 2 then dsc p x c j else if r.val = 3 then dgn p x c j else 0

end Sums

end Cert.Spec

end
-- ==== Proof.Vals.lean ====
/- The kernel's block values, at real blocks, are the real gradient of the block's tokens. -/
module

public import proofs.«01_k».proof.Proof.Block
public import proofs.«01_k».proof.Proof.Spec
public import Idealize.ShloMosaic.Lib.Pointwise

@[expose] public section

set_option maxRecDepth 16384

noncomputable section

open Idealize.ShloMosaic Idealize.ShloMosaic.TcCoe

namespace Cert.KernelIdeal.Block

open Cert.KernelIdeal Cert.KernelIdeal.Gen Cert.Reals Cert.Spec

variable (x c : Fin 256 → Fin 1024 → ℝ) (p : Par)

/-- The literal the row means divide by. -/
theorem w1024_eq : w1024 (F := Ideal) = ((1024 : ℝ) : EReal) := lit_1024

/-- The block's sums of squares. -/
theorem b_ss : k0_pay16 (F := Ideal) (up x) = up (fun i (_ : Fin 1) => ∑ j, x i j * x i j) := by
  funext i
  pointwise [k0_pay16]
  simp only [up_apply, row_apply, ixApp2, ← EReal.coe_mul, coe_sum]

/-- The block's reciprocal roots. -/
theorem b_rs : k0_pay17 (F := Ideal) (k0_pay16 (up x)) w1024 = up (fun i (_ : Fin 1) => rs (x i)) := by
  funext i
  rw [b_ss, w1024_eq]
  pointwise [k0_pay17]
  simp only [up_apply, row_apply, ixApp2, lit_eps, div_real _ _ (show (1024 : ℝ) ≠ 0 by norm_num), ← EReal.coe_add]
  exact rsqrt_real _ (ms_pos (x (i 0)))

/-- The block's normed tokens. -/
theorem b_nrm : k0_pay18 (F := Ideal) (up x) (k0_pay16 (up x)) w1024 = up (fun i => nrm (x i)) := by
  funext i
  pointwise [k0_pay18, b_rs]
  simp only [up_apply, row_apply, ixApp2, ← EReal.coe_mul]
  rfl

/-- The gain times the scale. -/
theorem b_gsc : k0_pay21 (F := Ideal) (row p.g) (row p.sc) = row (gsc p) := by
  funext i
  pointwise [k0_pay21, k0_pay20, k0_pay19]
  simp only [up_apply, row_apply, ixApp2, ← EReal.coe_one, ← EReal.coe_mul, ← EReal.coe_add]
  rfl

/-- The block of the first product's input. -/
theorem b_hid : k0_pay22 (F := Ideal) (up x) (k0_pay16 (up x)) w1024 (row p.g) (row p.sc) (row p.sh) = up (fun i => hid p (x i)) := by
  funext i
  pointwise [k0_pay22, b_nrm, b_gsc]
  simp only [up_apply, row_apply, ixApp2, ← EReal.coe_mul, ← EReal.coe_add]
  rfl

/-- The block of the second product's gradient. -/
theorem b_dy : k0_pay4 (F := Ideal) (up c) (row p.gt) = up (fun i => dy p (c i)) := by
  funext i
  pointwise [k0_pay4]
  simp only [up_apply, row_apply, ixApp2, lit_half, ← EReal.coe_mul]
  rfl

/-- The block of the hidden activations' gradient. -/
theorem b_da : k0_pay6 (F := Ideal) (up c) (row p.gt) (up p.wo) = up (fun i => da p (c i)) := by
  funext i
  pointwise [k0_pay6, b_dy]
  simp only [up_apply, row_apply, ixApp2, ← EReal.coe_mul, coe_sum]
  rfl

/-- The logistic of the gate, which the kernel takes through the hyperbolic tangent. -/
theorem b_sig (z : Fin 256 → Fin 2816 → ℝ) : k0_pay10 (F := Ideal) (up z) = up (fun i k => Reals.sig (z i k)) := by
  funext i
  pointwise [k0_pay10]
  simp only [up_apply, row_apply, ixApp2, lit_half, ← EReal.coe_mul, Ideal.tanh_coe, ← EReal.coe_add, sig_tanh]

/-- The gated unit. -/
theorem b_silu (z : Fin 256 → Fin 2816 → ℝ) : k0_pay11 (F := Ideal) (up z) = up (fun i k => silu (z i k)) := by
  funext i
  pointwise [k0_pay11, b_sig]
  simp only [up_apply, row_apply, ixApp2, ← EReal.coe_mul]
  rfl

/-- The block of the hidden activations. -/
theorem b_act : k0_pay14 (F := Ideal) (up (fun i => gate p (x i))) (up (fun i => upp p (x i))) = up (fun i => act p (x i)) := by
  funext i
  pointwise [k0_pay14, k0_pay9, b_silu]
  simp only [up_apply, row_apply, ixApp2, ← EReal.coe_mul]
  rfl

/-- The block of the gate's gradient. -/
theorem b_dgate : k0_pay13 (F := Ideal) (up (fun i => da p (c i))) (up (fun i => gate p (x i))) (up (fun i => upp p (x i)))
    = up (fun i => dgate p (x i) (c i)) := by
  funext i
  pointwise [k0_pay13, k0_pay9, b_sig]
  simp only [up_apply, row_apply, ixApp2, ← EReal.coe_one, ← EReal.coe_mul, ← EReal.coe_sub, ← EReal.coe_add]
  rfl

/-- The block of the up-projection's gradient. -/
theorem b_dup : k0_pay12 (F := Ideal) (up (fun i => da p (c i))) (up (fun i => gate p (x i))) = up (fun i => dup p (x i) (c i)) := by
  funext i
  pointwise [k0_pay12, b_silu]
  simp only [up_apply, row_apply, ixApp2, ← EReal.coe_mul]
  rfl

/-- The block of the normed input's gradient. -/
theorem b_dh : k0_pay15 (F := Ideal) (up (fun i => da p (c i))) (up (fun i => gate p (x i))) (up (fun i => upp p (x i)))
    (up (fun j k => p.wi j (gcol k))) (up (fun j k => p.wi j (ucol k))) = up (fun i => dh p (x i) (c i)) := by
  funext i
  pointwise [k0_pay15, b_dgate, b_dup]
  simp only [up_apply, row_apply, ixApp2, ← EReal.coe_mul, coe_sum, ← EReal.coe_add]
  rfl

/-- The normed tokens times that gradient. -/
theorem b_dhn : k0_pay23 (F := Ideal) (up (fun i => dh p (x i) (c i))) (up x) (k0_pay16 (up x)) w1024
    = up (fun i j => dh p (x i) (c i) j * nrm (x i) j) := by
  funext i
  pointwise [k0_pay23, b_nrm]
  simp only [up_apply, row_apply, ixApp2, ← EReal.coe_mul]

/-- The block of the sub-layer's input gradient. -/
theorem b_dx : k0_pay2 (F := Ideal) (up c) (up (fun i => dh p (x i) (c i))) (up (fun i (_ : Fin 1) => rs (x i))) (up (fun i => nrm (x i)))
    (row (gsc p)) = up (fun i => dx p (x i) (c i)) := by
  funext i
  pointwise [k0_pay2]
  simp only [up_apply, row_apply, ixApp2, lit_1024, ← EReal.coe_mul, coe_sum, div_real _ _ (show (1024 : ℝ) ≠ 0 by norm_num),
    ← EReal.coe_sub, ← EReal.coe_add]
  rfl

/-- The residual gate's row of sums takes the block's sum in. -/
theorem b_dgt (a : Fin 1024 → ℝ) : k0_pay5 (F := Ideal) (up c) (row a) (up (fun i => yv p (x i))) = row (fun j => a j + dgt p x c j) := by
  funext i
  pointwise [k0_pay5]
  simp only [up_apply, row_apply, ixApp2, lit_half, ← EReal.coe_mul, coe_sum, ← EReal.coe_add]
  rfl

/-- The shift's row of sums takes the block's sum in. -/
theorem b_dsh (a : Fin 1024 → ℝ) : k0_pay24 (F := Ideal) (up (fun i => dh p (x i) (c i))) (row a) = row (fun j => a j + dsh p x c j) := by
  funext i
  pointwise [k0_pay24]
  simp only [up_apply, row_apply, ixApp2, coe_sum, ← EReal.coe_add]
  rfl

/-- The scale's row of sums takes the block's sum in. -/
theorem b_dsc (a : Fin 1024 → ℝ) : k0_pay25 (F := Ideal) (up (fun i => dh p (x i) (c i))) (up x) (k0_pay16 (up x)) w1024 (row p.g) (row a)
    = row (fun j => a j + dsc p x c j) := by
  funext i
  pointwise [k0_pay25, k0_pay19, b_dhn]
  simp only [up_apply, row_apply, ixApp2, ← EReal.coe_mul, coe_sum, ← EReal.coe_add]
  rfl

/-- The gain's row of sums takes the block's sum in. -/
theorem b_dgn (a : Fin 1024 → ℝ) : k0_pay1 (F := Ideal) (k0_pay20 (row p.sc)) (up (fun i j => dh p (x i) (c i) j * nrm (x i) j)) (row a)
    = row (fun j => a j + dgn p x c j) := by
  funext i
  pointwise [k0_pay1, k0_pay20]
  simp only [up_apply, row_apply, ixApp2, ← EReal.coe_one, ← EReal.coe_mul, coe_sum, ← EReal.coe_add]
  rfl

/-- The gate and the up-projection are read as they are. -/
theorem b_gate (z : Fin 256 → Fin 2816 → ℝ) : k0_pay7 (F := Ideal) (up z) = up z := by
  funext i
  pointwise [k0_pay7]
theorem b_upp (z : Fin 256 → Fin 2816 → ℝ) : k0_pay8 (F := Ideal) (up z) = up z := by
  funext i
  pointwise [k0_pay8]

/-- A row of real sums is a real row. -/
theorem srow_up (o : ℕ) (ho : o < 8) (h) (A : Fin 8 → Fin 1024 → ℝ) : srow (F := Ideal) o h (up A) = row (A ⟨o, ho⟩) := by
  funext i
  pointwise [srow]
  simp only [up_apply, row_apply, ixApp2]
  done

/-- Four real rows over a real array of eight. -/
theorem rows4_up (A : Fin 8 → Fin 1024 → ℝ) (r0 r1 r2 r3 : Fin 1024 → ℝ) :
    rows4 (row r0) (row r1) (row r2) (row r3) (up A)
      = up (fun r j => if r.val = 0 then r0 j else if r.val = 1 then r1 j else if r.val = 2 then r2 j else if r.val = 3 then r3 j else A r j) := by
  funext i
  unfold rows4
  dsimp only [up_apply, row_apply]
  split_ifs <;> rfl

/-- What a grid point computes, of real blocks. -/
theorem outs_real (v : Vec Ideal S16x1024 .f32) (hsh : vSh v = row p.sh) (hsc : vSc v = row p.sc) (hgt : vGt v = row p.gt) (hg : vG v = row p.g)
    (A : Fin 8 → Fin 1024 → ℝ) :
    outs (F := Ideal) (up c) (up x) v (up (fun i => gate p (x i))) (up (fun i => upp p (x i))) (up (fun i => yv p (x i)))
        (up (fun j k => p.wi j (gcol k))) (up (fun j k => p.wi j (ucol k))) (up p.wo) (up A)
      = (up (fun i => dx p (x i) (c i)), up (fun i => act p (x i)), up (fun i => dgate p (x i) (c i)), up (fun i => dup p (x i) (c i)),
          up (fun i => hid p (x i)), up (fun i => dy p (c i)), up (fun r j => A r j + rows p x c j r)) := by
  have hda : bDA (F := Ideal) (up c) v (up p.wo) = up (fun i => da p (c i)) := by unfold bDA; rw [hgt, b_da]
  have hdh : bDH (F := Ideal) (up c) v (up (fun i => gate p (x i))) (up (fun i => upp p (x i)))
      (up (fun j k => p.wi j (gcol k))) (up (fun j k => p.wi j (ucol k))) (up p.wo) = up (fun i => dh p (x i) (c i)) := by
    unfold bDH; rw [hda, b_gate, b_upp, b_dh]
  unfold outs bDX bSum bDHN
  rw [hdh, hda, hsh, hsc, hgt, hg, b_gate, b_upp, b_rs, b_nrm, b_gsc, b_dx, b_act, b_dgate, b_dup, b_hid, b_dy, b_dhn,
    srow_up 0 (by omega), srow_up 1 (by omega), srow_up 2 (by omega), srow_up 3 (by omega), b_dgt, b_dsh, b_dsc, b_dgn, rows4_up]
  congr 6
  refine congrArg up (funext fun r => funext fun j => ?_)
  unfold rows
  split_ifs with h0 h1 h2 h3
  · rw [show r = ⟨0, by omega⟩ from Fin.ext h0]
  · rw [show r = ⟨1, by omega⟩ from Fin.ext h1]
  · rw [show r = ⟨2, by omega⟩ from Fin.ext h2]
  · rw [show r = ⟨3, by omega⟩ from Fin.ext h3]
  · rw [add_zero]

/-- The sums start at zero. -/
theorem zero_real : k0_pay3 (F := Ideal) = up (fun _ _ => 0) := by
  funext i
  pointwise [k0_pay3]
  rfl

end Cert.KernelIdeal.Block

end
-- ==== Proof.Ref.lean ====
/- The reference's values, at real inputs, are the real gradient. -/
module

public import proofs.«01_k».proof.Proof.Gen.ReferenceIdeal.Read
public import proofs.«01_k».proof.Proof.Spec
public import Idealize.ShloMosaic.Lib.Pointwise

@[expose] public section

set_option maxRecDepth 16384

noncomputable section

open Idealize.ShloMosaic

namespace Cert.Ref

open Cert.Reals Cert.Spec Cert.ReferenceIdeal Cert.ReferenceIdeal.Read

variable (x c : Fin 4096 → Fin 1024 → ℝ) (p : Par)

/-! ## Forward -/

/-- The reciprocal root of the norm. -/
theorem r_rs : val_main_v7 (F := Ideal) (up x) = up (fun i (_ : Fin 1) => rs (x i)) := by
  funext i
  pointwise [val_main_v7, val_main_v6, val_main_v5, val_main_v4, val_main_v3, val_main_v2, val_main_v1, val_main_v0, val_main_cst,
    val_main_cst_0, val_main_cst_1]
  simp only [up_apply, row_apply, ixApp2, ← EReal.coe_mul, coe_sum, lit_1024, lit_eps, div_real _ _ (show (1024 : ℝ) ≠ 0 by norm_num), ← EReal.coe_add]
  exact rsqrt_real _ (ms_pos (x (i 0)))

/-- The factor the derivative of the reciprocal root brings. -/
theorem r_drs : val_main_v10 (F := Ideal) (up x) = up (fun i (_ : Fin 1) => -(1 / 2) * (rs (x i) / ms (x i))) := by
  funext i
  pointwise [val_main_v10, val_main_v9, val_main_v8, val_main_cst_2, r_rs, val_main_v6, val_main_v5, val_main_v4, val_main_v3, val_main_v2, val_main_v1,
    val_main_v0, val_main_cst, val_main_cst_0, val_main_cst_1]
  simp only [up_apply, row_apply, ixApp2, ← EReal.coe_mul, coe_sum, lit_1024, lit_eps, lit_neg_half, div_real _ _ (show (1024 : ℝ) ≠ 0 by norm_num),
    ← EReal.coe_add]
  refine (congrArg _ (div_real _ _ (ms_pos (x (i 0))).ne')).trans ?_
  rw [← EReal.coe_mul]

/-- The normed tokens. -/
theorem r_nrm : val_main_v12 (F := Ideal) (up x) = up (fun i => nrm (x i)) := by
  funext i
  pointwise [val_main_v12, val_main_v11, r_rs]
  simp only [up_apply, row_apply, ixApp2, ← EReal.coe_mul]
  rfl

/-- The input of the first product. -/
theorem r_hid : val_main_v20 (F := Ideal) (up x) (row p.sh) (row p.sc) (row p.g) = up (fun i => hid p (x i)) := by
  funext i
  pointwise [val_main_v20, val_main_v19, val_main_v18, val_main_v17, val_main_v16, val_main_v15, val_main_v14, val_main_v13, val_main_cst_3, r_nrm]
  simp only [up_apply, row_apply, ixApp2, ← EReal.coe_one, ← EReal.coe_mul, ← EReal.coe_add]
  congr 1
  unfold hid gsc
  ring

/-- The first product. -/
theorem r_proj : val_main_v21 (F := Ideal) (up x) (row p.sh) (row p.sc) (row p.g) (up p.wi) = up (fun i => proj p (x i)) := by
  funext i
  pointwise [val_main_v21, r_hid]
  simp only [up_apply, row_apply, ixApp2, ← EReal.coe_mul, coe_sum]
  rfl

/-- Its gate half. -/
theorem r_gate : val_main_v22 (F := Ideal) (up x) (row p.sh) (row p.sc) (row p.g) (up p.wi) = up (fun i => gate p (x i)) := by
  funext i
  pointwise [val_main_v22, r_proj]
  simp only [up_apply, row_apply, ixApp2]
  rfl

/-- Its other half. -/
theorem r_upp : val_main_v23 (F := Ideal) (up x) (row p.sh) (row p.sc) (row p.g) (up p.wi) = up (fun i => upp p (x i)) := by
  funext i
  pointwise [val_main_v23, r_proj]
  simp only [up_apply, row_apply, ixApp2]
  rfl

/-- The logistic of the gate. -/
theorem r_sig : val_main_v24_2 (F := Ideal) (up x) (row p.sh) (row p.sc) (row p.g) (up p.wi) = up (fun i k => sig (gate p (x i) k)) := by
  funext i
  pointwise [val_main_v24_2, val_main_call0_v4, val_main_call0_v3, val_main_call0_v2, val_main_call0_v1, val_main_call0_v0, val_main_call0_cst,
    val_main_call0_cst_0, r_gate]
  simp only [up_apply, row_apply, ixApp2, ← EReal.coe_neg, Ideal.exp_coe, ← EReal.coe_one, ← EReal.coe_add]
  exact div_real _ _ (by positivity)

/-- The logistic times its complement. -/
theorem r_sigc : val_main_v24_1 (F := Ideal) (up x) (row p.sh) (row p.sc) (row p.g) (up p.wi)
    = up (fun i k => sig (gate p (x i) k) * (1 - sig (gate p (x i) k))) := by
  funext i
  pointwise [val_main_v24_1, val_main_call0_v7, val_main_call0_v6, val_main_call0_cst_1, r_sig]
  simp only [up_apply, row_apply, ixApp2, ← EReal.coe_one, ← EReal.coe_sub, ← EReal.coe_mul]

/-- The gated unit. -/
theorem r_silu : val_main_v24_0 (F := Ideal) (up x) (row p.sh) (row p.sc) (row p.g) (up p.wi) = up (fun i k => silu (gate p (x i) k)) := by
  funext i
  pointwise [val_main_v24_0, r_sig, r_gate]
  simp only [up_apply, row_apply, ixApp2, ← EReal.coe_mul]
  rfl

/-- The hidden activations. -/
theorem r_act : val_main_v25 (F := Ideal) (up x) (row p.sh) (row p.sc) (row p.g) (up p.wi) = up (fun i => act p (x i)) := by
  funext i
  pointwise [val_main_v25, r_silu, r_upp]
  simp only [up_apply, row_apply, ixApp2, ← EReal.coe_mul]
  rfl

/-- The second product. -/
theorem r_y : val_main_v26 (F := Ideal) (up x) (row p.sh) (row p.sc) (row p.g) (up p.wi) (up p.wo) = up (fun i => yv p (x i)) := by
  funext i
  pointwise [val_main_v26, r_act]
  simp only [up_apply, row_apply, ixApp2, ← EReal.coe_mul, coe_sum]
  rfl

/-! ## Backward -/

/-- The gradient of the second product. -/
theorem r_dy : val_main_v34 (F := Ideal) (row p.gt) (up c) = up (fun i => dy p (c i)) := by
  funext i
  pointwise [val_main_v34, val_main_v33, val_main_v32, val_main_v28, val_main_v27, val_main_cst_4]
  simp only [up_apply, row_apply, ixApp2, lit_half, ← EReal.coe_mul]
  rfl

/-- The gradient of the residual gate. -/
theorem r_dgt : val_main_v39 (F := Ideal) (up x) (row p.sh) (row p.sc) (row p.g) (up p.wi) (up p.wo) (up c) = row (dgt p x c) := by
  funext i
  pointwise [val_main_v39, val_main_v38, val_main_v37, val_main_v36, val_main_v35, val_main_v32, val_main_cst_5, val_main_cst_6, r_y]
  simp only [up_apply, row_apply, ixApp2, lit_half, ← EReal.coe_mul, coe_sum]
  rfl

/-- The gradient of the hidden activations. -/
theorem r_da : val_main_v40 (F := Ideal) (row p.gt) (up p.wo) (up c) = up (fun i => da p (c i)) := by
  funext i
  pointwise [val_main_v40, r_dy]
  simp only [up_apply, row_apply, ixApp2, ← EReal.coe_mul, coe_sum]
  rfl

/-- The gradient of the up-projection. -/
theorem r_dup : val_main_v41 (F := Ideal) (up x) (row p.sh) (row p.sc) (row p.gt) (row p.g) (up p.wi) (up p.wo) (up c) = up (fun i => dup p (x i) (c i)) := by
  funext i
  pointwise [val_main_v41, r_silu, r_da]
  simp only [up_apply, row_apply, ixApp2, ← EReal.coe_mul]
  congr 1
  unfold dup
  ring

/-- The gradient of the gate. -/
theorem r_dgate : val_main_v43 (F := Ideal) (up x) (row p.sh) (row p.sc) (row p.gt) (row p.g) (up p.wi) (up p.wo) (up c)
    = up (fun i => dgate p (x i) (c i)) := by
  funext i
  pointwise [val_main_v43, val_main_v42, val_main_call1_v0, val_main_call1_v1, val_main_call1_v2, r_sig, r_sigc, r_gate, r_upp, r_da]
  simp only [up_apply, row_apply, ixApp2, ← EReal.coe_mul, ← EReal.coe_add]
  congr 1
  unfold dgate dsilu
  ring

/-- The gradient of the first product: its two halves side by side. -/
theorem r_dproj : val_main_v44 (F := Ideal) (up x) (row p.sh) (row p.sc) (row p.gt) (row p.g) (up p.wi) (up p.wo) (up c)
    = up (fun i => dproj p (x i) (c i)) := by
  funext i
  pointwise [val_main_v44, r_dgate, r_dup]
  simp only [up_apply, row_apply, ixApp2]
  unfold dproj
  split_ifs <;> rfl

/-- The gradient of the normed input. -/
theorem r_dh : val_main_v45 (F := Ideal) (up x) (row p.sh) (row p.sc) (row p.gt) (row p.g) (up p.wi) (up p.wo) (up c)
    = up (fun i => dh p (x i) (c i)) := by
  funext i
  pointwise [val_main_v45, r_dproj]
  simp only [up_apply, row_apply, ixApp2, ← EReal.coe_mul, coe_sum]
  congr 1
  rw [sum_halves]
  simp only [dproj_gcol, dproj_ucol]
  rfl

/-- The gradient of the shift. -/
theorem r_dsh : val_main_v47 (F := Ideal) (up x) (row p.sh) (row p.sc) (row p.gt) (row p.g) (up p.wi) (up p.wo) (up c) = row (dsh p x c) := by
  funext i
  pointwise [val_main_v47, val_main_v46, val_main_cst_7, r_dh]
  simp only [up_apply, row_apply, ixApp2, coe_sum]
  rfl

/-- The gradient of the scale. -/
theorem r_dsc : val_main_v50 (F := Ideal) (up x) (row p.sh) (row p.sc) (row p.gt) (row p.g) (up p.wi) (up p.wo) (up c) = row (dsc p x c) := by
  funext i
  pointwise [val_main_v50, val_main_v49, val_main_v48, val_main_v14, val_main_v13, val_main_cst_8, r_nrm, r_dh]
  simp only [up_apply, row_apply, ixApp2, ← EReal.coe_mul, coe_sum]
  congr 1
  unfold dsc
  rw [Finset.sum_mul]
  exact Finset.sum_congr rfl fun k _ => by ring

/-- The gradient of the gain. -/
theorem r_dgn : val_main_v55 (F := Ideal) (up x) (row p.sh) (row p.sc) (row p.gt) (row p.g) (up p.wi) (up p.wo) (up c) = row (dgn p x c) := by
  funext i
  pointwise [val_main_v55, val_main_v54, val_main_v53, val_main_v52, val_main_v51, val_main_v16, val_main_v15, val_main_cst_3, val_main_cst_9, r_nrm, r_dh]
  simp only [up_apply, row_apply, ixApp2, ← EReal.coe_one, ← EReal.coe_mul, ← EReal.coe_add, coe_sum]
  congr 1
  unfold dgn
  rw [Finset.sum_mul]
  exact Finset.sum_congr rfl fun k _ => by ring

/-- The rows of summed gradients. -/
theorem r_rows : val_main_v75 (F := Ideal) (up x) (row p.sh) (row p.sc) (row p.gt) (row p.g) (up p.wi) (up p.wo) (up c) = up (fun r j => rows p x c j r) := by
  funext i
  pointwise [val_main_v75, val_main_v74, val_main_cst_13, r_dgt, r_dsh, r_dsc, r_dgn]
  simp only [up_apply, row_apply, ixApp2]
  unfold rows
  split_ifs <;> first | rfl | exact EReal.coe_zero.symm | omega

/-- The gradient of the sub-layer's input. -/
theorem r_dx : val_main_v76 (F := Ideal) (up x) (row p.sh) (row p.sc) (row p.gt) (row p.g) (up p.wi) (up p.wo) (up c) = up (fun i => dx p (x i) (c i)) := by
  funext i
  pointwise [val_main_v76, val_main_v71, val_main_v70, val_main_v69, val_main_v68, val_main_v67, val_main_v66, val_main_v65, val_main_v64, val_main_v63,
    val_main_v62, val_main_v61, val_main_v60, val_main_v59, val_main_v58, val_main_v57, val_main_v56, val_main_v52, val_main_v51, val_main_v16, val_main_v15,
    val_main_cst_3, val_main_cst_10, val_main_cst_11, val_main_cst_12, r_rs, r_drs, r_dh]
  simp only [up_apply, row_apply, ixApp2, lit_1024, ← EReal.coe_one, ← EReal.coe_mul, ← EReal.coe_add, coe_sum,
    div_real _ _ (show (1024 : ℝ) ≠ 0 by norm_num)]
  congr 1
  simp only [Finset.sum_const, Finset.card_univ, Fintype.card_fin, one_smul]
  unfold dx nrm gsc
  rw [show ∑ l, dh p (x (i 0)) (c (i 0)) l * (p.g l * (1 + p.sc l)) * (x (i 0) l * rs (x (i 0)))
      = (∑ k, x (i 0) k * (dh p (x (i 0)) (c (i 0)) k * (1 + p.sc k) * p.g k)) * rs (x (i 0)) by
        rw [Finset.sum_mul]; exact Finset.sum_congr rfl fun k _ => by ring,
    show rs (x (i 0)) / ms (x (i 0)) = rs (x (i 0)) * (rs (x (i 0)) * rs (x (i 0))) by rw [rs_sq]; ring]
  ring

end Cert.Ref

end
-- ==== Proof.Wins.lean ====
/- The blocks the kernel's windows read, at real arguments: the arguments' token blocks, and what the host saved of the forward pass. -/
module

public import proofs.«01_k».proof.Proof.Vals
public import proofs.«01_k».proof.Proof.Ref
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.KernelIdeal.Block

open Cert.KernelIdeal Cert.KernelIdeal.Gen Cert.Reals Cert.Spec

/-- The table of channel vectors: the shift, the scale and the residual gate in the first rows, the gain in the twelfth. -/
def tbl (p : Par) (r : Fin 16) (j : Fin 1024) : ℝ :=
  if r.val = 0 then p.sh j else if r.val = 1 then p.sc j else if r.val = 2 then p.gt j else if r.val = 11 then p.g j else 0

theorem vSh_tbl (p : Par) : vSh (F := Ideal) (up (tbl p)) = row p.sh := by
  funext i
  pointwise [vSh, vrow]
  simp only [up_apply, row_apply, ixApp2]
  rfl
theorem vSc_tbl (p : Par) : vSc (F := Ideal) (up (tbl p)) = row p.sc := by
  funext i
  pointwise [vSc, vrow]
  simp only [up_apply, row_apply, ixApp2]
  rfl
theorem vGt_tbl (p : Par) : vGt (F := Ideal) (up (tbl p)) = row p.gt := by
  funext i
  pointwise [vGt, vrow]
  simp only [up_apply, row_apply, ixApp2]
  rfl
theorem vG_tbl (p : Par) : vG (F := Ideal) (up (tbl p)) = row p.g := by
  funext i
  pointwise [vG, vrow]
  simp only [up_apply, row_apply, ixApp2]
  rfl

/-- The entry of a real array at an index, by the index's coordinates. -/
theorem up_at {n k : ℕ} (f : Fin n → Fin k → ℝ) (i : (⟨2, ![n, k]⟩ : Shape).Idx) (a : Fin n) (b : Fin k)
    (ha : (i 0).val = a.val) (hb : (i 1).val = b.val) : up f i = ((f a b : ℝ) : EReal) := by
  rw [up_apply, show i 0 = a from Fin.ext ha, show i 1 = b from Fin.ext hb]

/-- Block `s` of 256 tokens. -/
def blk {α : Type} (s : ℕ) (f : Fin 4096 → α) (i : Fin 256) : α := f ⟨(256 * s + i.val) % 4096, Nat.mod_lt _ (by norm_num)⟩

/-- A block of a real array of tokens, read in the array. -/
theorem up_blk {k : ℕ} (f : Fin 4096 → Fin k → ℝ) (s : ℕ) (i : (⟨2, ![4096, k]⟩ : Shape).Idx) (j : (⟨2, ![256, k]⟩ : Shape).Idx)
    (h0 : (i 0).val = 256 * s + (j 0).val) (h1 : (i 1).val = (j 1).val) : up f i = up (blk s f) j := by
  rw [up_at f i ⟨(256 * s + (j 0).val) % 4096, Nat.mod_lt _ (by norm_num)⟩ (j 1)
    (by show (i 0).val = (256 * s + (j 0).val) % 4096; rw [← h0]; exact (Nat.mod_eq_of_lt (i 0).isLt).symm) h1]
  rfl

/-! ### Where each window's block lies -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 1 :=
  (by decide +kernel : ∀ t : Fin grid0.N, win0_7.index t 0 = 0 ∧ win0_7.index t 1 = 1)
theorem idx8 : ∀ t : Fin cfg0.N, win0_8.index t 0 = 0 ∧ win0_8.index t 1 = 0 :=
  (by decide +kernel : ∀ t : Fin grid0.N, win0_8.index t 0 = 0 ∧ win0_8.index t 1 = 0)

/-- The launch memory's arguments on a core are these real arrays. -/
structure Args (m : (ℓ : Loc nD τ sig) → Buf (Elt Ideal) ℓ) (d : Dev nD) (p : Par) (x c : Fin 4096 → Fin 1024 → ℝ) : Prop where
  x : m ((d : Thread nD τ).loc main_arg0) = up x
  sh : m ((d : Thread nD τ).loc main_arg1) = row p.sh
  sc : m ((d : Thread nD τ).loc main_arg2) = row p.sc
  gt : m ((d : Thread nD τ).loc main_arg3) = row p.gt
  g : m ((d : Thread nD τ).loc main_arg4) = row p.g
  wi : m ((d : Thread nD τ).loc main_arg5) = up p.wi
  wo : m ((d : Thread nD τ).loc main_arg6) = up p.wo
  c : m ((d : Thread nD τ).loc main_arg7) = up c

variable {m : (ℓ : Loc nD τ sig) → Buf (Elt Ideal) ℓ} {d : Dev nD} {p : Par} {x c : Fin 4096 → Fin 1024 → ℝ} (h : Args m d p x c)
include h

/-- The saved gate half. -/
theorem V_gs : V m d main_v31 = up (fun i => gate p (x i)) := by
  unfold V
  simp only [hostOps0, hostOps0_1, hostOps0_2, List.flatten_cons, List.flatten_nil, List.append_nil, List.cons_append, List.nil_append]
  after_reads_simp
  rw [h.x, h.sh, h.sc, h.g, h.wi]
  exact Cert.Ref.r_gate x p

/-- The saved up-projection half. -/
theorem V_us : V m d main_v32 = up (fun i => upp p (x i)) := by
  unfold V
  simp only [hostOps0, hostOps0_1, hostOps0_2, List.flatten_cons, List.flatten_nil, List.append_nil, List.cons_append, List.nil_append]
  after_reads_simp
  rw [h.x, h.sh, h.sc, h.g, h.wi]
  exact Cert.Ref.r_upp x p

/-- The saved output of the second product. -/
theorem V_y : V m d main_v33 = up (fun i => yv p (x i)) := by
  unfold V
  simp only [hostOps0, hostOps0_1, hostOps0_2, List.flatten_cons, List.flatten_nil, List.append_nil, List.cons_append, List.nil_append]
  after_reads_simp
  rw [h.x, h.sh, h.sc, h.g, h.wi, h.wo]
  exact Cert.Ref.r_y x p

/-- The weights. -/
theorem V_wi : V m d main_v29 = up p.wi := by
  unfold V
  simp only [hostOps0, hostOps0_1, hostOps0_2, List.flatten_cons, List.flatten_nil, List.append_nil, List.cons_append, List.nil_append]
  after_reads_simp
  rw [h.wi]
  rfl
theorem V_wo : V m d main_v30 = up p.wo := by
  unfold V
  simp only [hostOps0, hostOps0_1, hostOps0_2, List.flatten_cons, List.flatten_nil, List.append_nil, List.cons_append, List.nil_append]
  after_reads_simp
  rw [h.wo]
  rfl

/-- The table of channel vectors. -/
theorem V_vecs : V m d main_v28 = up (tbl p) := by
  funext i
  unfold V
  simp only [hostOps0, hostOps0_1, hostOps0_2, List.flatten_cons, List.flatten_nil, List.append_nil, List.cons_append, List.nil_append]
  after_reads_simp
  dsimp only [Matrix.cons_val]
  after_reads_simp
  rw [show m (d, Proc.tc.devRef main_arg1) = row p.sh from h.sh, show m (d, Proc.tc.devRef main_arg2) = row p.sc from h.sc,
    show m (d, Proc.tc.devRef main_arg3) = row p.gt from h.gt, show m (d, Proc.tc.devRef main_arg4) = row p.g from h.g]
  pointwise
  simp only [up_apply, row_apply, ixApp2]
  unfold tbl
  split_ifs <;> first | rfl | exact EReal.coe_zero.symm | omega

/-! ## The blocks -/

/-- The token blocks: of the incoming gradient, the tokens, and what the forward pass saved of them. -/
theorem iblk_ct (t : Fin cfg0.N) : iblk m d 0 t = up (blk t.val c) := by
  funext j
  unfold iblk
  rw [View.read_apply]
  show V m d main_arg7 _ = _
  rw [V_main_arg7, h.c]
  exact up_blk c t.val _ j (by show win0_0.index t 0 * 256 + 1 * (j 0).val = _; rw [(idx0 t).1]; omega)
    (by show win0_0.index t 1 * 1024 + 1 * (j 1).val = _; rw [(idx0 t).2]; omega)
theorem iblk_x (t : Fin cfg0.N) : iblk m d 1 t = up (blk t.val x) := by
  funext j
  unfold iblk
  rw [View.read_apply]
  show V m d main_arg0 _ = _
  rw [V_main_arg0, h.x]
  exact up_blk x t.val _ j (by show win0_1.index t 0 * 256 + 1 * (j 0).val = _; rw [(idx1 t).1]; omega)
    (by show win0_1.index t 1 * 1024 + 1 * (j 1).val = _; rw [(idx1 t).2]; omega)
theorem iblk_gs (t : Fin cfg0.N) : iblk m d 3 t = up (fun i => gate p (blk t.val x i)) := by
  funext j
  unfold iblk
  rw [View.read_apply]
  show V m d main_v31 _ = _
  rw [V_gs h]
  exact up_blk (fun i => gate p (x i)) t.val _ j (by show win0_3.index t 0 * 256 + 1 * (j 0).val = _; rw [(idx3 t).1]; omega)
    (by show win0_3.index t 1 * 2816 + 1 * (j 1).val = _; rw [(idx3 t).2]; omega)
theorem iblk_us (t : Fin cfg0.N) : iblk m d 4 t = up (fun i => upp p (blk t.val x i)) := by
  funext j
  unfold iblk
  rw [View.read_apply]
  show V m d main_v32 _ = _
  rw [V_us h]
  exact up_blk (fun i => upp p (x i)) t.val _ j (by show win0_4.index t 0 * 256 + 1 * (j 0).val = _; rw [(idx4 t).1]; omega)
    (by show win0_4.index t 1 * 2816 + 1 * (j 1).val = _; rw [(idx4 t).2]; omega)
theorem iblk_y (t : Fin cfg0.N) : iblk m d 5 t = up (fun i => yv p (blk t.val x i)) := by
  funext j
  unfold iblk
  rw [View.read_apply]
  show V m d main_v33 _ = _
  rw [V_y h]
  exact up_blk (fun i => yv p (x i)) t.val _ j (by show win0_5.index t 0 * 256 + 1 * (j 0).val = _; rw [(idx5 t).1]; omega)
    (by show win0_5.index t 1 * 1024 + 1 * (j 1).val = _; rw [(idx5 t).2]; omega)

/-- The blocks every point reads: the table of channel vectors and the weights, the first one by its two halves. -/
theorem iblk_vecs (t : Fin cfg0.N) : iblk m d 2 t = up (tbl p) := by
  funext j
  unfold iblk
  rw [View.read_apply]
  show V m d main_v28 _ = _
  rw [V_vecs h]
  exact up_at (tbl p) _ (j 0) (j 1) (by show win0_2.index t 0 * 16 + 1 * (j 0).val = _; rw [(idx2 t).1]; omega)
    (by show win0_2.index t 1 * 1024 + 1 * (j 1).val = _; rw [(idx2 t).2]; omega)
theorem iblk_wg (t : Fin cfg0.N) : iblk m d 6 t = up (fun j k => p.wi j (gcol k)) := by
  funext j
  unfold iblk
  rw [View.read_apply]
  show V m d main_v29 _ = _
  rw [V_wi h]
  exact up_at p.wi _ (j 0) (gcol (j 1)) (by show win0_6.index t 0 * 1024 + 1 * (j 0).val = _; rw [(idx6 t).1]; omega)
    (by show win0_6.index t 1 * 2816 + 1 * (j 1).val = (j 1).val; rw [(idx6 t).2]; omega)
theorem iblk_wu (t : Fin cfg0.N) : iblk m d 7 t = up (fun j k => p.wi j (ucol k)) := by
  funext j
  unfold iblk
  rw [View.read_apply]
  show V m d main_v29 _ = _
  rw [V_wi h]
  exact up_at p.wi _ (j 0) (ucol (j 1)) (by show win0_7.index t 0 * 1024 + 1 * (j 0).val = _; rw [(idx7 t).1]; omega)
    (by show win0_7.index t 1 * 2816 + 1 * (j 1).val = 2816 + (j 1).val; rw [(idx7 t).2]; omega)
theorem iblk_wo (t : Fin cfg0.N) : iblk m d 8 t = up p.wo := by
  funext j
  unfold iblk
  rw [View.read_apply]
  show V m d main_v30 _ = _
  rw [V_wo h]
  exact up_at p.wo _ (j 0) (j 1) (by show win0_8.index t 0 * 2816 + 1 * (j 0).val = _; rw [(idx8 t).1]; omega)
    (by show win0_8.index t 1 * 1024 + 1 * (j 1).val = _; rw [(idx8 t).2]; omega)

/-! ## All the points -/

/-- After point `n` the seven blocks hold the real gradient of that point's tokens, and the sums of the points so far. -/
theorem outsAt_real : ∀ (n : ℕ) (hn : n < cfg0.N), outsAt0 m d n hn
    = (up (fun i => dx p (blk n x i) (blk n c i)), up (fun i => act p (blk n x i)), up (fun i => dgate p (blk n x i) (blk n c i)),
        up (fun i => dup p (blk n x i) (blk n c i)), up (fun i => hid p (blk n x i)), up (fun i => dy p (blk n c i)),
        up (fun r j => ∑ s ∈ Finset.range (n + 1), rows p (blk s x) (blk s c) j r))
  | 0, hn => by
    refine (outsAt_first m d ⟨0, hn⟩ rfl).trans ?_
    rw [iblk_ct h, iblk_x h, iblk_vecs h, iblk_gs h, iblk_us h, iblk_y h, iblk_wg h, iblk_wu h, iblk_wo h, zero_real,
      outs_real _ _ p _ (vSh_tbl p) (vSc_tbl p) (vGt_tbl p) (vG_tbl p)]
    simp only [Finset.sum_range_one, zero_add]
  | n + 1, hn => by
    have hN : cfg0.N = 16 := N_0
    refine (outsAt_next m d ⟨n + 1, hn⟩ (by show ¬ (n + 1) % 16 = 0; omega)).trans ?_
    simp only [Nat.add_sub_cancel]
    rw [outsAt_real n (by omega), iblk_ct h, iblk_x h, iblk_vecs h, iblk_gs h, iblk_us h, iblk_y h, iblk_wg h, iblk_wu h, iblk_wo h,
      outs_real _ _ p _ (vSh_tbl p) (vSc_tbl p) (vGt_tbl p) (vG_tbl p)]
    simp only [Finset.sum_range_succ _ (n + 1)]

end Cert.KernelIdeal.Block

end
-- ==== Proof.Final.lean ====
/- The kernel's seven results at real arguments: the six arrays of tokens block by block, and the eight rows of sums over all the tokens. -/
module

public import proofs.«01_k».proof.Proof.Wins

@[expose] public section

set_option maxRecDepth 16384

noncomputable section

open Idealize.ShloMosaic Idealize.ShloMosaic.TcCoe Idealize.SL.Sem

namespace Cert.KernelIdeal.Block

open Cert.KernelIdeal Cert.KernelIdeal.Gen Cert.Reals Cert.Spec

/-- The sum over the sixteen blocks of the sums over their tokens is the sum over all the tokens. -/
theorem sum_blk (f : Fin 4096 → ℝ) : ∑ s ∈ Finset.range 16, ∑ i, blk s f i = ∑ i, f i := by
  rw [Finset.sum_range, ← Fintype.sum_prod_type']
  refine Fintype.sum_equiv (finProdFinEquiv (m := 16) (n := 256)) _ _ fun q => ?_
  refine congrArg f (Fin.ext ?_)
  show (256 * q.1.val + q.2.val) % 4096 = q.2.val + 256 * q.1.val
  have := q.1.isLt; have := q.2.isLt
  omega

/-- The sixteen blocks' rows of sums add up to the rows of all the tokens. -/
theorem rows_sum (p : Par) (x c : Fin 4096 → Fin 1024 → ℝ) (j : Fin 1024) (r : Fin 8) :
    ∑ s ∈ Finset.range 16, rows p (blk s x) (blk s c) j r = rows p x c j r := by
  unfold rows
  split_ifs
  · unfold dgt
    rw [← Finset.mul_sum, ← sum_blk]
    rfl
  · unfold dsh
    rw [← sum_blk]
    rfl
  · unfold dsc
    rw [← Finset.sum_mul, ← sum_blk]
    rfl
  · unfold dgn
    rw [← Finset.sum_mul, ← sum_blk]
    rfl
  · exact Finset.sum_const_zero

/-! ### Where each result's block lies -/

theorem idx9 : ∀ t : Fin cfg0.N, win0_9.index t 0 = t.val ∧ win0_9.index t 1 = 0 :=
  (by decide +kernel : ∀ t : Fin grid0.N, win0_9.index t 0 = t.val ∧ win0_9.index t 1 = 0)
theorem idx10 : ∀ t : Fin cfg0.N, win0_10.index t 0 = t.val ∧ win0_10.index t 1 = 0 :=
  (by decide +kernel : ∀ t : Fin grid0.N, win0_10.index t 0 = t.val ∧ win0_10.index t 1 = 0)
theorem idx11 : ∀ t : Fin cfg0.N, win0_11.index t 0 = t.val ∧ win0_11.index t 1 = 0 :=
  (by decide +kernel : ∀ t : Fin grid0.N, win0_11.index t 0 = t.val ∧ win0_11.index t 1 = 0)
theorem idx12 : ∀ t : Fin cfg0.N, win0_12.index t 0 = t.val ∧ win0_12.index t 1 = 0 :=
  (by decide +kernel : ∀ t : Fin grid0.N, win0_12.index t 0 = t.val ∧ win0_12.index t 1 = 0)
theorem idx13 : ∀ t : Fin cfg0.N, win0_13.index t 0 = t.val ∧ win0_13.index t 1 = 0 :=
  (by decide +kernel : ∀ t : Fin grid0.N, win0_13.index t 0 = t.val ∧ win0_13.index t 1 = 0)
theorem idx14 : ∀ t : Fin cfg0.N, win0_14.index t 0 = t.val ∧ win0_14.index t 1 = 0 :=
  (by decide +kernel : ∀ t : Fin grid0.N, win0_14.index t 0 = t.val ∧ win0_14.index t 1 = 0)
theorem idx15 : ∀ t : Fin cfg0.N, win0_15.index t 0 = 0 ∧ win0_15.index t 1 = 0 :=
  (by decide +kernel : ∀ t : Fin grid0.N, win0_15.index t 0 = 0 ∧ win0_15.index t 1 = 0)

/-- The point whose block of 256 tokens holds a token. -/
def pt (i : Fin 4096) : Fin cfg0.N := ⟨i.val / 256, by rw [show cfg0.N = 16 from N_0]; have := i.isLt; omega⟩

/-- The last point. -/
def last : Fin cfg0.N := ⟨15, by rw [show cfg0.N = 16 from N_0]; norm_num⟩

/-- A token lies in its point's block. -/
theorem in_pt (i : Fin 4096) {q : ℕ} (hq : q = (pt i).val) : q * 256 ≤ i.val ∧ i.val < q * 256 + 256 := by
  rw [hq]
  show i.val / 256 * 256 ≤ i.val ∧ i.val < i.val / 256 * 256 + 256
  omega
/-- An index lies in a block that is the whole axis. -/
theorem in_axis {n q : ℕ} (i : Fin n) (hq : q = 0) : q * n ≤ i.val ∧ i.val < q * n + n := by
  have := i.isLt
  rw [hq]
  omega

/-- Reading a block of a real array of tokens gives the block's tokens: an entry's place in the array is the block's first row plus its own. -/
theorem blk_read {k : ℕ} (f : Fin 4096 → Fin k → ℝ) (s : ℕ) {q0 q1 : ℕ} (h0 : q0 = s) (h1 : q1 = 0)
    (i : (⟨2, ![4096, k]⟩ : Shape).Idx) (j : (⟨2, ![256, k]⟩ : Shape).Idx)
    (e0 : (i 0).val = q0 * 256 + 1 * (j 0).val) (e1 : (i 1).val = q1 * k + 1 * (j 1).val) : up (blk s f) j = up f i :=
  (up_blk f s i j (by rw [e0, h0]; omega) (by rw [e1, h1]; omega)).symm

variable {m : (ℓ : Loc nD τ sig) → Buf (Elt Ideal) ℓ} {d : Dev nD} {p : Par} {x c : Fin 4096 → Fin 1024 → ℝ} (h : Args m d p x c)
include h

/-- The gradient of the tokens. -/
theorem out9 : (dats m 0 d).arrAt 9 cfg0.N = up (fun i => dx p (x i) (c i)) :=
  (dats m 0 d).arrAt_eq_of_cover 9 (up (fun i => dx p (x i) (c i))) (fun t _ => by
      rw [Value.flushed9, outsAt_real h]
      funext j
      rw [View.read_apply]
      exact blk_read (fun i => dx p (x i) (c i)) t.val (idx9 t).1 (idx9 t).2 _ j rfl rfl)
    fun i => ⟨pt (i 0), flush0_9 _, by
      show i ∈ ((View.whole main_v34_0).slice (win0_9.rect (pt (i 0)))).set
      rw [View.set_slice_whole, Rect.mem_set_unit]
      intro a
      match a with
      | ⟨0, _⟩ => exact in_pt (i 0) (idx9 _).1
      | ⟨1, _⟩ => exact in_axis (i 1) (idx9 _).2⟩
/-- The gated activation. -/
theorem out10 : (dats m 0 d).arrAt 10 cfg0.N = up (fun i => act p (x i)) :=
  (dats m 0 d).arrAt_eq_of_cover 10 (up (fun i => act p (x i))) (fun t _ => by
      rw [Value.flushed10, outsAt_real h]
      funext j
      rw [View.read_apply]
      exact blk_read (fun i => act p (x i)) t.val (idx10 t).1 (idx10 t).2 _ j rfl rfl)
    fun i => ⟨pt (i 0), flush0_10 _, by
      show i ∈ ((View.whole main_v34_1).slice (win0_10.rect (pt (i 0)))).set
      rw [View.set_slice_whole, Rect.mem_set_unit]
      intro a
      match a with
      | ⟨0, _⟩ => exact in_pt (i 0) (idx10 _).1
      | ⟨1, _⟩ => exact in_axis (i 1) (idx10 _).2⟩
/-- The gradient of the gate half of the first product. -/
theorem out11 : (dats m 0 d).arrAt 11 cfg0.N = up (fun i => dgate p (x i) (c i)) :=
  (dats m 0 d).arrAt_eq_of_cover 11 (up (fun i => dgate p (x i) (c i))) (fun t _ => by
      rw [Value.flushed11, outsAt_real h]
      funext j
      rw [View.read_apply]
      exact blk_read (fun i => dgate p (x i) (c i)) t.val (idx11 t).1 (idx11 t).2 _ j rfl rfl)
    fun i => ⟨pt (i 0), flush0_11 _, by
      show i ∈ ((View.whole main_v34_2).slice (win0_11.rect (pt (i 0)))).set
      rw [View.set_slice_whole, Rect.mem_set_unit]
      intro a
      match a with
      | ⟨0, _⟩ => exact in_pt (i 0) (idx11 _).1
      | ⟨1, _⟩ => exact in_axis (i 1) (idx11 _).2⟩
/-- The gradient of the up-projection half. -/
theorem out12 : (dats m 0 d).arrAt 12 cfg0.N = up (fun i => dup p (x i) (c i)) :=
  (dats m 0 d).arrAt_eq_of_cover 12 (up (fun i => dup p (x i) (c i))) (fun t _ => by
      rw [Value.flushed12, outsAt_real h]
      funext j
      rw [View.read_apply]
      exact blk_read (fun i => dup p (x i) (c i)) t.val (idx12 t).1 (idx12 t).2 _ j rfl rfl)
    fun i => ⟨pt (i 0), flush0_12 _, by
      show i ∈ ((View.whole main_v34_3).slice (win0_12.rect (pt (i 0)))).set
      rw [View.set_slice_whole, Rect.mem_set_unit]
      intro a
      match a with
      | ⟨0, _⟩ => exact in_pt (i 0) (idx12 _).1
      | ⟨1, _⟩ => exact in_axis (i 1) (idx12 _).2⟩
/-- The input of the first product. -/
theorem out13 : (dats m 0 d).arrAt 13 cfg0.N = up (fun i => hid p (x i)) :=
  (dats m 0 d).arrAt_eq_of_cover 13 (up (fun i => hid p (x i))) (fun t _ => by
      rw [Value.flushed13, outsAt_real h]
      funext j
      rw [View.read_apply]
      exact blk_read (fun i => hid p (x i)) t.val (idx13 t).1 (idx13 t).2 _ j rfl rfl)
    fun i => ⟨pt (i 0), flush0_13 _, by
      show i ∈ ((View.whole main_v34_4).slice (win0_13.rect (pt (i 0)))).set
      rw [View.set_slice_whole, Rect.mem_set_unit]
      intro a
      match a with
      | ⟨0, _⟩ => exact in_pt (i 0) (idx13 _).1
      | ⟨1, _⟩ => exact in_axis (i 1) (idx13 _).2⟩
/-- The gradient of the second product's output. -/
theorem out14 : (dats m 0 d).arrAt 14 cfg0.N = up (fun i => dy p (c i)) :=
  (dats m 0 d).arrAt_eq_of_cover 14 (up (fun i => dy p (c i))) (fun t _ => by
      rw [Value.flushed14, outsAt_real h]
      funext j
      rw [View.read_apply]
      exact blk_read (fun i => dy p (c i)) t.val (idx14 t).1 (idx14 t).2 _ j rfl rfl)
    fun i => ⟨pt (i 0), flush0_14 _, by
      show i ∈ ((View.whole main_v34_5).slice (win0_14.rect (pt (i 0)))).set
      rw [View.set_slice_whole, Rect.mem_set_unit]
      intro a
      match a with
      | ⟨0, _⟩ => exact in_pt (i 0) (idx14 _).1
      | ⟨1, _⟩ => exact in_axis (i 1) (idx14 _).2⟩

/-- The rows of sums: the one block is written back once, after the last point, when every token's part is in. -/
theorem out15 : (dats m 0 d).arrAt 15 cfg0.N = up (fun r j => rows p x c j r) :=
  (dats m 0 d).arrAt_eq_of_cover 15 (up (fun r j => rows p x c j r)) (fun t hf => by
      have hN : cfg0.N = 16 := N_0
      have h15 : t.val + 1 = 16 := by have := (flush0_15 t).mp hf; have := t.isLt; omega
      rw [Value.flushed15, outsAt_real h, h15]
      simp only [rows_sum]
      funext j
      rw [View.read_apply]
      exact (up_at (fun r j => rows p x c j r) _ (j 0) (j 1) (by show win0_15.index t 0 * 8 + 1 * (j 0).val = _; rw [(idx15 t).1]; omega)
        (by show win0_15.index t 1 * 1024 + 1 * (j 1).val = _; rw [(idx15 t).2]; omega)).symm)
    fun i => ⟨last, (flush0_15 _).mpr rfl, by
      show i ∈ ((View.whole main_v34_6).slice (win0_15.rect last)).set
      rw [View.set_slice_whole, Rect.mem_set_unit]
      intro a
      match a with
      | ⟨0, _⟩ => exact in_axis (i 0) (idx15 _).1
      | ⟨1, _⟩ => exact in_axis (i 1) (idx15 _).2⟩

end Cert.KernelIdeal.Block

end
-- ==== Proof.Claims.lean ====
/- The two programs agree on finite arguments: what the precondition gives, the reference's results at real arguments, and the claims. -/
module

public import proofs.«01_k».proof.Proof.Final
public import proofs.«01_k».proof.Defs
public import proofs.«01_k».proof.Proof.Gen.Pre_finite
public import proofs.«01_k».proof.Proof.Gen.ReferenceIdeal.Run
public import Idealize.ShloMosaic.Lib.Quiescent

@[expose] public section

set_option maxRecDepth 16384

noncomputable section

open Idealize.ShloMosaic Idealize.ShloMosaic.TcCoe Idealize.SL.Sem

namespace Cert.Claims

open Cert.Reals Cert.Spec Cert.KernelIdeal.Block

/-! ### The precondition -/

/-- An entry strictly between the two infinities, as the comparison of bits says it. -/
theorem finite_entry (v : EReal) (e : IntOp.andi (FloatOps.cmpf (F := Ideal) (φ := .f32) .ogt v (FloatOps.ofBits (F := Ideal) .f32 0xFF800000#32))
    (FloatOps.cmpf (F := Ideal) (φ := .f32) .olt v (FloatOps.ofBits (F := Ideal) .f32 0x7F800000#32)) = 1#1) : ⊥ < v ∧ v < ⊤ := by
  simp [IntOp.andi, FloatOps.cmpf, FloatOps.ofBits, Ideal.ofBits, Ideal.ieee, Ideal.cmp] at e
  by_cases h0 : v = ⊥ <;> by_cases h1 : v = ⊤ <;> simp_all [bot_lt_iff_ne_bot, lt_top_iff_ne_top]

/-- An array whose finiteness test is all ones has finite entries. -/
theorem finite_array {S : Shape} (hb : (⟨0, ![]⟩ : Shape).BroadcastsInDim S (![] : Fin 0 → Fin S.rank)) (X : FVec Ideal S .f32)
    (e : andi (cmpf .ogt X (broadcastInDim S ![] hb (constant (⟨0, ![]⟩ : Shape) .f32 0xFF800000#32)))
      (cmpf .olt X (broadcastInDim S ![] hb (constant (⟨0, ![]⟩ : Shape) .f32 0x7F800000#32))) = fun _ => 1#1) :
    ∀ i, ⊥ < X i ∧ X i < ⊤ := fun i => finite_entry (X i) (congrFun e i)

/-- Finite arguments are real arrays. -/
theorem args_of_pre (m : (ℓ : Loc Cert.KernelIdeal.nD Cert.KernelIdeal.τ Cert.KernelIdeal.sig) → Buf (Elt Ideal) ℓ)
    (hpre : Cert.Pre_KernelIdeal_finite m) (d : Dev Cert.KernelIdeal.nD) :
    ∃ (p : Par) (x c : Fin 4096 → Fin 1024 → ℝ), Args m d p x c := by
  obtain ⟨h0, h1, h2, h3, h4, h5, h6, h7⟩ := hpre d
  obtain ⟨x, hx⟩ := exists_up _ (finite_array _ _ h0)
  obtain ⟨sh, hsh⟩ := exists_row _ (finite_array _ _ h1)
  obtain ⟨sc, hsc⟩ := exists_row _ (finite_array _ _ h2)
  obtain ⟨gt, hgt⟩ := exists_row _ (finite_array _ _ h3)
  obtain ⟨g, hg⟩ := exists_row _ (finite_array _ _ h4)
  obtain ⟨wi, hwi⟩ := exists_up _ (finite_array _ _ h5)
  obtain ⟨wo, hwo⟩ := exists_up _ (finite_array _ _ h6)
  obtain ⟨c, hc⟩ := exists_up _ (finite_array _ _ h7)
  exact ⟨⟨sh, sc, gt, g, wi, wo⟩, x, c, ⟨hx, hsh, hsc, hgt, hg, hwi, hwo, hc⟩⟩

/-! ### The reference's halves -/

section
open Cert.ReferenceIdeal Cert.ReferenceIdeal.Read Cert.Ref
variable (x c : Fin 4096 → Fin 1024 → ℝ) (p : Par)

/-- The first half of the first product's gradient is the gate's. -/
theorem r_half0 : val_main_v78 (F := Ideal) (up x) (row p.sh) (row p.sc) (row p.gt) (row p.g) (up p.wi) (up p.wo) (up c)
    = up (fun i => dgate p (x i) (c i)) := by
  funext i
  pointwise [val_main_v78, val_main_v72, r_dproj]
  simp only [up_apply, ixApp2]
  exact congrArg _ (dproj_gcol p _ _ _)
/-- The second half is the up-projection's. -/
theorem r_half1 : val_main_v79 (F := Ideal) (up x) (row p.sh) (row p.sc) (row p.gt) (row p.g) (up p.wi) (up p.wo) (up c)
    = up (fun i => dup p (x i) (c i)) := by
  funext i
  pointwise [val_main_v79, val_main_v73, r_dproj]
  simp only [up_apply, ixApp2]
  exact congrArg _ (dproj_ucol p _ _ _)

end

/-! ### The claims -/

/-- The reference runs, leaves its arguments alone, and ends quiet: it has no counter to leave raised. -/
theorem frame_ref : Cert.quiescent_ReferenceIdeal := fun m g _ =>
  (θ_run Cert.ReferenceIdeal.defs _ _).mono (fun r h => ⟨fun c => (h c).2.2.2.2.2.2.2, sem_eq_zero_of_no_sems (by decide) r.2⟩)
    (Cert.ReferenceIdeal.Value.run (F := Ideal) m g)

set_option maxHeartbeats 4000000 in
/-- On finite arguments the kernel's seven results are the reference's: both are the sub-layer's gradient over the reals. -/
theorem algebraic : Cert.algebraic_KernelIdeal_ReferenceIdeal_pre_finite := by
  intro m g m' g' hpre hag
  refine ⟨fun c => (Cert.KernelIdeal.Gen.dats m 0 c).arrAt 9 Cert.KernelIdeal.cfg0.N, fun c => (Cert.KernelIdeal.Gen.dats m 0 c).arrAt 10 Cert.KernelIdeal.cfg0.N,
    fun c => (Cert.KernelIdeal.Gen.dats m 0 c).arrAt 11 Cert.KernelIdeal.cfg0.N, fun c => (Cert.KernelIdeal.Gen.dats m 0 c).arrAt 12 Cert.KernelIdeal.cfg0.N,
    fun c => (Cert.KernelIdeal.Gen.dats m 0 c).arrAt 13 Cert.KernelIdeal.cfg0.N, fun c => (Cert.KernelIdeal.Gen.dats m 0 c).arrAt 14 Cert.KernelIdeal.cfg0.N,
    fun c => (Cert.KernelIdeal.Gen.dats m 0 c).arrAt 15 Cert.KernelIdeal.cfg0.N, Cert.KernelIdeal.Value.run_blocks m g,
    (θ_run Cert.ReferenceIdeal.defs _ _).mono (fun r h d => ?_) (Cert.ReferenceIdeal.Value.run (F := Ideal) m' g')⟩
  obtain ⟨p, x, c, hA⟩ := args_of_pre m hpre d
  obtain ⟨a0, a1, a2, a3, a4, a5, a6, a7⟩ := hag d
  replace a0 := a0.trans hA.x
  replace a1 := a1.trans hA.sh
  replace a2 := a2.trans hA.sc
  replace a3 := a3.trans hA.gt
  replace a4 := a4.trans hA.g
  replace a5 := a5.trans hA.wi
  replace a6 := a6.trans hA.wo
  replace a7 := a7.trans hA.c
  obtain ⟨h0, h1, h2, h3, h4, h5, h6, hk⟩ := h d
  rw [Cert.ReferenceIdeal.Read.val_main_v76_eq, a0, a1, a2, a3, a4, a5, a6, a7, Cert.Ref.r_dx] at h0
  rw [Cert.ReferenceIdeal.Read.val_main_v77_eq, a0, a1, a2, a4, a5] at h1
  rw [Cert.ReferenceIdeal.Read.val_main_v78_eq, a0, a1, a2, a3, a4, a5, a6, a7, r_half0] at h2
  rw [Cert.ReferenceIdeal.Read.val_main_v79_eq, a0, a1, a2, a3, a4, a5, a6, a7, r_half1] at h3
  rw [Cert.ReferenceIdeal.Read.val_main_v80_eq, a0, a1, a2, a4] at h4
  rw [Cert.ReferenceIdeal.Read.val_main_v81_eq, a3, a7] at h5
  rw [Cert.ReferenceIdeal.Read.val_main_v75_eq, a0, a1, a2, a3, a4, a5, a6, a7, Cert.Ref.r_rows] at h6
  exact ⟨h0.trans (out9 hA).symm, (h1.trans (Cert.Ref.r_act x p)).trans (out10 hA).symm, h2.trans (out11 hA).symm, h3.trans (out12 hA).symm,
    (h4.trans (Cert.Ref.r_hid x p)).trans (out13 hA).symm, (h5.trans (Cert.Ref.r_dy c p)).trans (out14 hA).symm, h6.trans (out15 hA).symm, hk⟩

end Cert.Claims

end
-- ==== Proof.Prod.lean ====
/- The product of a transposed matrix with a matrix, over the extended reals: a weight's gradient, from the product's input and its output's gradient. -/
module

public import Idealize.ShloMosaic.PureOps.Ideal.Laws
public import Idealize.ShloMosaic.Lib.Pointwise.Index

@[expose] public section

noncomputable section

open Idealize.ShloMosaic

namespace Cert.Prod

variable {k m n : ℕ}

/-- An array of extended reals of two axes. -/
abbrev Arr (a b : ℕ) : Type := (⟨2, ![a, b]⟩ : Shape).Idx → EReal

/-- Entry `(a, b)`: the sum over the rows of `A`'s column `a` times `B`'s column `b`. -/
def tn (A : Arr k m) (B : Arr k n) : Arr m n := fun i => ∑ q : Fin k, A (ix2 q (i 0)) * B (ix2 q (i 1))

/-- An index of a rank-2 array from its two coordinates' values. -/
theorem idx_eq {a b : ℕ} {i i' : (⟨2, ![a, b]⟩ : Shape).Idx} (h0 : (i 0).val = (i' 0).val) (h1 : (i 1).val = (i' 1).val) : i = i' :=
  funext fun x => match x with
    | ⟨0, _⟩ => Fin.ext h0
    | ⟨1, _⟩ => Fin.ext h1

/-- Two entries of two products agree when the columns they are made of do. -/
theorem tn_congr {m' n' : ℕ} (A : Arr k m) (B : Arr k n) (A' : Arr k m') (B' : Arr k n') (i : (⟨2, ![m, n]⟩ : Shape).Idx)
    (i' : (⟨2, ![m', n']⟩ : Shape).Idx) (hA : ∀ q, A (ix2 q (i 0)) = A' (ix2 q (i' 0))) (hB : ∀ q, B (ix2 q (i 1)) = B' (ix2 q (i' 1))) :
    tn A B i = tn A' B' i' :=
  Finset.sum_congr rfl fun q _ => by rw [hA, hB]

/-- The product the other way round is the transpose. -/
theorem tn_comm (A : Arr k m) (B : Arr k n) (i : (⟨2, ![m, n]⟩ : Shape).Idx) : tn B A (ix2 (i 1) (i 0)) = tn A B i :=
  Finset.sum_congr rfl fun _ _ => mul_comm _ _

/-- An index lies in a block of `b` that is block `q` along the axis. -/
theorem in_block (i b : ℕ) (hb : 0 < b) {q : ℕ} (hq : q = i / b) : q * b ≤ i ∧ i < q * b + b := by
  subst hq
  have := Nat.div_add_mod i b
  have := Nat.mod_lt i hb
  rw [Nat.mul_comm]
  omega
/-- An index lies in a block that is the whole axis. -/
theorem in_whole {a : ℕ} (i : Fin a) {q : ℕ} (hq : q = 0) : q * a ≤ i.val ∧ i.val < q * a + a := by
  have := i.isLt
  subst hq
  omega

end Cert.Prod

end
-- ==== Proof.Dwo.lean ====
/- The gradient of the feed-forward block's second weight: the call's array is the product of the transposed activations with the output's gradient. -/
module

public import proofs.«01_k».proof.Proof.Prod
public import proofs.«01_k».proof.Defs
public import proofs.«01_k».proof.Proof.Gen.KernelDwo.Frame
public import proofs.«01_k».proof.Proof.Gen.KernelDwoIdeal.Value
public import proofs.«01_k».proof.Proof.Gen.ReferenceDwoIdeal.Run
public import proofs.«01_k».proof.Proof.Gen.ReferenceDwoIdeal.Read
public import Idealize.ShloMosaic.Lib.Pipeline.ReadBack
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Dwo

open Cert.KernelDwoIdeal Cert.KernelDwoIdeal.Gen Cert.Prod

/-- The zero offsets of a whole rank-2 block. -/
theorem hz : (![0, 0] : Fin 2 → Nat) = fun _ => 0 := funext fun a => by fin_cases a <;> rfl

/-- What a point stores: the product of its two blocks. -/
theorem pay (A : Vec Ideal S4096x256 .bf16) (B : Vec Ideal S4096x1024 .bf16) : k0_pay1 (F := Ideal) A B = tn A B := by
  funext i
  pointwise [k0_pay1]
  rfl

theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

variable (m : (ℓ : Loc nD τ sig) → Buf (Elt Ideal) ℓ) (d : Dev nD)

/-- The activations, and the output's gradient. -/
abbrev act : Arr 4096 2816 := m ((d : Thread nD τ).loc main_arg0)
abbrev dy : Arr 4096 1024 := m ((d : Thread nD τ).loc main_arg1)

/-- A point's output block is the product of its input blocks. -/
theorem outs (t : Fin cfg0.N) : outsAt0 m d t = tn (iblk m d 0 t) (iblk m d 1 t) := by
  unfold outsAt0 out0_A_2
  unfold kernelRun0_A
  dsimp only
  sl_unfold_words
  simp only [View.read_writes_junk_eq_canon, View.canon_unit_zero (S := S256x1024) hz, View.readAt_eq_ld, (hs0_0 t).read_unread, (hs0_1 t).read_unread,
    View.ld_unit_zero (S := S4096x256) hz, View.ld_unit_zero (S := S4096x1024) hz]
  exact pay _ _

/-- The blocks, read in the arguments. -/
theorem iblk_act (t : Fin cfg0.N) (j : S4096x256.Idx) (i : S4096x2816.Idx) (h0 : (i 0).val = (j 0).val) (h1 : (i 1).val = t.val * 256 + (j 1).val) :
    iblk m d 0 t j = act m d i := by
  unfold iblk
  rw [View.read_apply]
  show V m d main_arg0 _ = _
  rw [V_main_arg0]
  refine congrArg (act m d) (idx_eq ?_ ?_)
  · show win0_0.index t 0 * 4096 + 1 * (j 0).val = _; rw [(idx0 t).1]; omega
  · show win0_0.index t 1 * 256 + 1 * (j 1).val = _; rw [(idx0 t).2]; omega
theorem iblk_dy (t : Fin cfg0.N) (j : S4096x1024.Idx) : iblk m d 1 t j = dy m d j := by
  unfold iblk
  rw [View.read_apply]
  show V m d main_arg1 _ = _
  rw [V_main_arg1]
  refine congrArg (dy m d) (idx_eq ?_ ?_)
  · show win0_1.index t 0 * 4096 + 1 * (j 0).val = _; rw [(idx1 t).1]; omega
  · show win0_1.index t 1 * 1024 + 1 * (j 1).val = _; rw [(idx1 t).2]; omega

/-- The point whose block of 256 rows holds a row. -/
def pt (i : Fin 2816) : Fin cfg0.N := ⟨i.val / 256, by rw [show cfg0.N = 11 from N_0]; have := i.isLt; omega⟩

/-- The array the call leaves. -/
theorem out : (dats m 0 d).arrAt 2 cfg0.N = tn (act m d) (dy m d) :=
  (dats m 0 d).arrAt_eq_of_cover 2 (tn (act m d) (dy m d)) (fun t _ => by
      rw [Value.flushed2, outs]
      funext j
      rw [View.read_apply]
      refine tn_congr _ _ _ _ _ _ (fun q => iblk_act m d t _ _ rfl ?_) (fun q => (iblk_dy m d t _).trans (congrArg (dy m d) (idx_eq rfl ?_)))
      · show win0_2.index t 0 * 256 + 1 * (j 0).val = _; rw [(idx2 t).1, Nat.one_mul]; rfl
      · show (j 1).val = win0_2.index t 1 * 1024 + 1 * (j 1).val; rw [(idx2 t).2]; omega)
    fun i => ⟨pt (i 0), flush0_2 _, by
      show i ∈ ((View.whole main_v0).slice (win0_2.rect (pt (i 0)))).set
      rw [View.set_slice_whole, Rect.mem_set_unit]
      intro a
      match a with
      | ⟨0, _⟩ => exact in_block (i 0).val 256 (by norm_num) (idx2 _).1
      | ⟨1, _⟩ => exact in_whole (i 1) (idx2 _).2⟩

/-- The reference's array. -/
theorem ref (A : Arr 4096 2816) (B : Arr 4096 1024) : Cert.ReferenceDwoIdeal.Read.val_main_v6 (F := Ideal) A B = tn A B := by
  funext i
  rw [← tn_comm]
  pointwise [Cert.ReferenceDwoIdeal.Read.val_main_v6_apply, Cert.ReferenceDwoIdeal.Read.val_main_v5_apply, Cert.ReferenceDwoIdeal.Read.val_main_v4_apply,
    Cert.ReferenceDwoIdeal.Read.val_main_v3_apply, Cert.ReferenceDwoIdeal.Read.val_main_v1_apply]
  exact Finset.sum_congr rfl fun q _ => congrArg₂ (· * ·) (congrArg B (idx_eq rfl rfl)) (congrArg A (idx_eq rfl rfl))

theorem frame_ref : Cert.quiescent_ReferenceDwoIdeal := fun m g _ =>
  (θ_run Cert.ReferenceDwoIdeal.defs _ _).mono (fun r h => ⟨fun c => (h c).2, sem_eq_zero_of_no_sems (by decide) r.2⟩)
    (Cert.ReferenceDwoIdeal.Value.run (F := Ideal) m g)

/-- The call's array is the reference's. -/
theorem algebraic : Cert.algebraic_KernelDwoIdeal_ReferenceDwoIdeal := by
  intro m g m' g' _ hag
  refine ⟨fun c => (dats m 0 c).arrAt 2 cfg0.N, Value.run_blocks m g,
    (θ_run Cert.ReferenceDwoIdeal.defs _ _).mono (fun r h d => ?_) (Cert.ReferenceDwoIdeal.Value.run (F := Ideal) m' g')⟩
  obtain ⟨a0, a1⟩ := hag d
  obtain ⟨h0, hk⟩ := h d
  rw [Cert.ReferenceDwoIdeal.Read.val_main_v6_eq, a0, a1] at h0
  exact ⟨(h0.trans (ref _ _)).trans (out m d).symm, hk⟩

end Cert.Dwo

end
-- ==== Proof.Dwg.lean ====
/- The gradient of the gate half of the feed-forward block's first weight: the columns the call writes are the product of the transposed input with the gate's gradient. -/
module

public import proofs.«01_k».proof.Proof.Prod
public import proofs.«01_k».proof.Defs
public import proofs.«01_k».proof.Proof.Gen.KernelDwg.Frame
public import proofs.«01_k».proof.Proof.Gen.KernelDwgIdeal.Value
public import proofs.«01_k».proof.Proof.Gen.ReferenceDwgIdeal.Run
public import proofs.«01_k».proof.Proof.Gen.ReferenceDwgIdeal.Read
public import proofs.«01_k».proof.Proof.Gen.On_gate_columns
public import Idealize.ShloMosaic.Lib.KernelVsHost
public import Idealize.ShloMosaic.Lib.Pipeline.ReadBack
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Dwg

open Cert.KernelDwgIdeal Cert.KernelDwgIdeal.Gen Cert.Prod

/-- The zero offsets of a whole rank-2 block. -/
theorem hz : (![0, 0] : Fin 2 → Nat) = fun _ => 0 := funext fun a => by fin_cases a <;> rfl

/-- What a point stores: the product of its two blocks. -/
theorem pay (A : Vec Ideal S4096x1024 .bf16) (B : Vec Ideal S4096x256 .bf16) : k0_pay1 (F := Ideal) A B = tn A B := by
  funext i
  pointwise [k0_pay1]
  rfl

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = 0 ∧ win0_2.index t 1 = t.val :=
  (by decide +kernel : ∀ t : Fin grid0.N, win0_2.index t 0 = 0 ∧ win0_2.index t 1 = t.val)

variable (m : (ℓ : Loc nD τ sig) → Buf (Elt Ideal) ℓ) (d : Dev nD)

/-- The product's input, and the gate's gradient. -/
abbrev hin : Arr 4096 1024 := m ((d : Thread nD τ).loc main_arg0)
abbrev dgate : Arr 4096 2816 := m ((d : Thread nD τ).loc main_arg1)

/-- A point's output block is the product of its input blocks. -/
theorem outs (t : Fin cfg0.N) : outsAt0 m d t = tn (iblk m d 0 t) (iblk m d 1 t) := by
  unfold outsAt0 out0_A_2
  unfold kernelRun0_A
  dsimp only
  sl_unfold_words
  simp only [View.read_writes_junk_eq_canon, View.canon_unit_zero (S := S1024x256) hz, View.readAt_eq_ld, (hs0_0 t).read_unread, (hs0_1 t).read_unread,
    View.ld_unit_zero (S := S4096x256) hz, View.ld_unit_zero (S := S4096x1024) hz]
  exact pay _ _

/-- The blocks, read in the arguments. -/
theorem iblk_h (t : Fin cfg0.N) (j : S4096x1024.Idx) : iblk m d 0 t j = hin m d j := by
  unfold iblk
  rw [View.read_apply]
  show V m d main_arg0 _ = _
  rw [V_main_arg0]
  refine congrArg (hin m d) (idx_eq ?_ ?_)
  · show win0_0.index t 0 * 4096 + 1 * (j 0).val = _; rw [(idx0 t).1]; omega
  · show win0_0.index t 1 * 1024 + 1 * (j 1).val = _; rw [(idx0 t).2]; omega
theorem iblk_g (t : Fin cfg0.N) (j : S4096x256.Idx) (i : S4096x2816.Idx) (h0 : (i 0).val = (j 0).val) (h1 : (i 1).val = t.val * 256 + (j 1).val) :
    iblk m d 1 t j = dgate m d i := by
  unfold iblk
  rw [View.read_apply]
  show V m d main_arg1 _ = _
  rw [V_main_arg1]
  refine congrArg (dgate m d) (idx_eq ?_ ?_)
  · show win0_1.index t 0 * 4096 + 1 * (j 0).val = _; rw [(idx1 t).1]; omega
  · show win0_1.index t 1 * 256 + 1 * (j 1).val = _; rw [(idx1 t).2]; omega

/-- The point whose block of 256 columns holds a column. -/
def pt (i : Fin 2816) : Fin cfg0.N := ⟨i.val / 256, by rw [show cfg0.N = 11 from N_0]; have := i.isLt; omega⟩

/-- An entry the call writes is the product's entry. -/
theorem out (i : S1024x5632.Idx) (k : (⟨2, ![1024, 2816]⟩ : Shape).Idx) (h0 : (i 0).val = (k 0).val) (h1 : (i 1).val = (k 1).val) :
    (dats m 0 d).arrAt 2 cfg0.N i = tn (hin m d) (dgate m d) k := by
  obtain ⟨t, ht⟩ : ∃ t, pt (k 1) = t := ⟨_, rfl⟩
  have hv : t.val = (k 1).val / 256 := by rw [← ht]; rfl
  have e := congrFun (Value.blocks2 m d t (flush0_2 _)) (ix2 (k 0) ⟨(k 1).val % 256, Nat.mod_lt _ (by norm_num)⟩)
  rw [View.read_apply, Value.flushed2, outs] at e
  refine (congrArg ((dats m 0 d).arrAt 2 cfg0.N) (idx_eq ?_ ?_)).trans
    (e.trans (tn_congr _ _ _ _ _ _ (fun q => (iblk_h m d t _).trans rfl) (fun q => iblk_g m d t _ _ rfl ?_)))
  · show (i 0).val = win0_2.index t 0 * 1024 + 1 * (k 0).val; rw [(idx2 t).1]; omega
  · show (i 1).val = win0_2.index t 1 * 256 + 1 * ((k 1).val % 256); rw [(idx2 t).2]; omega
  · show (k 1).val = t.val * 256 + (k 1).val % 256; omega

/-- The product as the reference writes it. -/
theorem ref (A : Arr 4096 1024) (B : Arr 4096 2816) : Cert.ReferenceDwgIdeal.Read.val_main_v6 (F := Ideal) A B = tn A B := by
  funext i
  rw [← tn_comm]
  pointwise [Cert.ReferenceDwgIdeal.Read.val_main_v6_apply, Cert.ReferenceDwgIdeal.Read.val_main_v5_apply, Cert.ReferenceDwgIdeal.Read.val_main_v4_apply,
    Cert.ReferenceDwgIdeal.Read.val_main_v3_apply, Cert.ReferenceDwgIdeal.Read.val_main_v1_apply]
  exact Finset.sum_congr rfl fun q _ => congrArg₂ (· * ·) (congrArg B (idx_eq rfl rfl)) (congrArg A (idx_eq rfl rfl))

theorem frame_ref : Cert.quiescent_ReferenceDwgIdeal := fun m g _ =>
  (θ_run Cert.ReferenceDwgIdeal.defs _ _).mono (fun r h => ⟨fun c => (h c).2, sem_eq_zero_of_no_sems (by decide) r.2⟩)
    (Cert.ReferenceDwgIdeal.Value.run (F := Ideal) m g)

/-- The mask selects the gate's columns. -/
theorem mask [Cert.On_gate_columns.Facts] (A : Arr 4096 1024) (B : Arr 4096 2816) (i : S1024x5632.Idx)
    (h : Cert.On_gate_columns.fn (F := Ideal) A B i = 1#1) : (i 1).val < 2816 := by
  have hi : (i 1).val < 5632 := (i 1).isLt
  unfold Cert.On_gate_columns.fn at h
  dsimp only at h
  replace h : IntOp.cmpi .slt (BitVec.ofNat 32 (i 1).val) 2816#32 = 1#1 := h
  simp only [IntOp.cmpi] at h
  have h' : (BitVec.ofNat 32 (i 1).val).slt 2816#32 = true := by
    by_contra hc
    rw [Bool.not_eq_true] at hc
    rw [hc] at h
    exact absurd h (by decide)
  rw [BitVec.slt_iff_toInt_lt, BitVec.toInt_ofNat', BitVec.toInt_ofNat'] at h'
  have e1 : ((i 1).val : ℤ).bmod (2 ^ 32) = (i 1).val := Int.bmod_eq_of_le (by omega) (by omega)
  have e2 : ((2816 : ℕ) : ℤ).bmod (2 ^ 32) = 2816 := by decide
  rw [e1, e2] at h'
  omega

/-- The reference's array in the gate's columns. -/
theorem ref_pad (A : Arr 4096 1024) (B : Arr 4096 2816) (i : S1024x5632.Idx) (k : (⟨2, ![1024, 2816]⟩ : Shape).Idx)
    (h0 : (i 0).val = (k 0).val) (h1 : (i 1).val = (k 1).val) : Cert.ReferenceDwgIdeal.Read.val_main_v7 (F := Ideal) A B i = tn A B k := by
  rw [← ref]
  unfold Cert.ReferenceDwgIdeal.Read.val_main_v7
  generalize Cert.ReferenceDwgIdeal.Read.val_main_v6 (F := Ideal) A B = y
  exact pad_apply_of_inside _ _ _ y _ _ _ i k (fun a => match a with | ⟨0, _⟩ => by show (i 0).val = 0 + (k 0).val * 1; omega | ⟨1, _⟩ => by show (i 1).val = 0 + (k 1).val * 1; omega)

/-- The call's array is the reference's, in the gate's columns. -/
theorem algebraic : Cert.algebraic_KernelDwgIdeal_ReferenceDwgIdeal_on_gate_columns := by
  intro m g m' g' _ hag
  refine ⟨fun c => (dats m 0 c).arrAt 2 cfg0.N, (θ_run Cert.KernelDwgIdeal.defs _ _).mono (fun r h d => ⟨fun i _ => congrFun (h d).1 i, (h d).2⟩) (Value.run_blocks m g),
    (θ_run Cert.ReferenceDwgIdeal.defs _ _).mono (fun r h d => ?_) (Cert.ReferenceDwgIdeal.Value.run (F := Ideal) m' g')⟩
  obtain ⟨a0, a1⟩ := hag d
  obtain ⟨h0, hk⟩ := h d
  rw [Cert.ReferenceDwgIdeal.Read.val_main_v7_eq, a0, a1] at h0
  refine ⟨fun i hm => ?_, hk⟩
  have hi := mask _ _ i hm
  exact (congrFun h0 i).trans ((ref_pad _ _ i (ix2 (i 0) ⟨(i 1).val, hi⟩) rfl rfl).trans (out m d i _ rfl rfl).symm)

end Cert.Dwg

end
-- ==== Proof.Dwu.lean ====
/- The gradient of the up-projection half of the feed-forward block's first weight: the call fills its half of the array it is given with the product of the transposed input and the gradient. -/
module

public import proofs.«01_k».proof.Proof.Prod
public import proofs.«01_k».proof.Defs
public import proofs.«01_k».proof.Proof.Gen.KernelDwu.Frame
public import proofs.«01_k».proof.Proof.Gen.KernelDwuIdeal.Value
public import proofs.«01_k».proof.Proof.Gen.ReferenceDwuIdeal.Run
public import proofs.«01_k».proof.Proof.Gen.ReferenceDwuIdeal.Read
public import Idealize.ShloMosaic.Lib.Pipeline.ReadBack
public import Idealize.ShloMosaic.Lib.Pointwise
public import Idealize.ShloMosaic.Lib.Quiescent
public import Idealize.ShloMosaic.Lib.StableHlo.RunRead

@[expose] public section

set_option maxRecDepth 16384

noncomputable section

open Idealize.ShloMosaic Idealize.ShloMosaic.TcCoe Idealize.SL.Sem

namespace Cert.Dwu

open Cert.KernelDwuIdeal Cert.KernelDwuIdeal.Gen Cert.Prod

/-- The zero offsets of a whole rank-2 block. -/
theorem hz : (![0, 0] : Fin 2 → Nat) = fun _ => 0 := funext fun a => by fin_cases a <;> rfl

/-- What a point stores: the product of its two blocks. -/
theorem pay (A : Vec Ideal S4096x1024 .bf16) (B : Vec Ideal S4096x256 .bf16) : k0_pay1 (F := Ideal) A B = tn A B := by
  funext i
  pointwise [k0_pay1]
  rfl

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = 0 ∧ win0_2.index t 1 = 11 + t.val :=
  (by decide +kernel : ∀ t : Fin grid0.N, win0_2.index t 0 = 0 ∧ win0_2.index t 1 = 11 + t.val)

variable (m : (ℓ : Loc nD τ sig) → Buf (Elt Ideal) ℓ) (d : Dev nD)

/-- The product's input, and the up-projection's gradient. -/
abbrev hin : Arr 4096 1024 := m ((d : Thread nD τ).loc main_arg0)
abbrev dup : Arr 4096 2816 := m ((d : Thread nD τ).loc main_arg1)

/-- A point's output block is the product of its input blocks. -/
theorem outs (t : Fin cfg0.N) : outsAt0 m d t = tn (iblk m d 0 t) (iblk m d 1 t) := by
  unfold outsAt0 out0_A_2
  unfold kernelRun0_A
  dsimp only
  sl_unfold_words
  simp only [View.read_writes_junk_eq_canon, View.canon_unit_zero (S := S1024x256) hz, View.readAt_eq_ld, (hs0_0 t).read_unread, (hs0_1 t).read_unread,
    View.ld_unit_zero (S := S4096x256) hz, View.ld_unit_zero (S := S4096x1024) hz]
  exact pay _ _

/-- The blocks, read in the arguments. -/
theorem iblk_h (t : Fin cfg0.N) (j : S4096x1024.Idx) : iblk m d 0 t j = hin m d j := by
  unfold iblk
  rw [View.read_apply]
  show V m d main_arg0 _ = _
  rw [V_main_arg0]
  refine congrArg (hin m d) (idx_eq ?_ ?_)
  · show win0_0.index t 0 * 4096 + 1 * (j 0).val = _; rw [(idx0 t).1]; omega
  · show win0_0.index t 1 * 1024 + 1 * (j 1).val = _; rw [(idx0 t).2]; omega
theorem iblk_g (t : Fin cfg0.N) (j : S4096x256.Idx) (i : S4096x2816.Idx) (h0 : (i 0).val = (j 0).val) (h1 : (i 1).val = t.val * 256 + (j 1).val) :
    iblk m d 1 t j = dup m d i := by
  unfold iblk
  rw [View.read_apply]
  show V m d main_arg1 _ = _
  rw [V_main_arg1]
  refine congrArg (dup m d) (idx_eq ?_ ?_)
  · show win0_1.index t 0 * 4096 + 1 * (j 0).val = _; rw [(idx1 t).1]; omega
  · show win0_1.index t 1 * 256 + 1 * (j 1).val = _; rw [(idx1 t).2]; omega

/-- The point whose block of 256 columns holds a column. -/
def pt (i : Fin 2816) : Fin cfg0.N := ⟨i.val / 256, by rw [show cfg0.N = 11 from N_0]; have := i.isLt; omega⟩

/-- An entry the call writes is the product's entry. -/
theorem out (i : S1024x5632.Idx) (k : (⟨2, ![1024, 2816]⟩ : Shape).Idx) (h0 : (i 0).val = (k 0).val) (h1 : (i 1).val = 2816 + (k 1).val) :
    (dats m 0 d).arrAt 2 cfg0.N i = tn (hin m d) (dup m d) k := by
  obtain ⟨t, ht⟩ : ∃ t, pt (k 1) = t := ⟨_, rfl⟩
  have hv : t.val = (k 1).val / 256 := by rw [← ht]; rfl
  have e := congrFun (Value.blocks2 m d t (flush0_2 _)) (ix2 (k 0) ⟨(k 1).val % 256, Nat.mod_lt _ (by norm_num)⟩)
  rw [View.read_apply, Value.flushed2, outs] at e
  refine (congrArg ((dats m 0 d).arrAt 2 cfg0.N) (idx_eq ?_ ?_)).trans
    (e.trans (tn_congr _ _ _ _ _ _ (fun q => (iblk_h m d t _).trans rfl) (fun q => iblk_g m d t _ _ rfl ?_)))
  · show (i 0).val = win0_2.index t 0 * 1024 + 1 * (k 0).val; rw [(idx2 t).1]; omega
  · show (i 1).val = win0_2.index t 1 * 256 + 1 * ((k 1).val % 256); rw [(idx2 t).2]; omega
  · show (k 1).val = t.val * 256 + (k 1).val % 256; omega

/-- The product as the reference writes it. -/
theorem ref (A : Arr 4096 1024) (B : Arr 4096 2816) : Cert.ReferenceDwuIdeal.Read.val_main_v7 (F := Ideal) A B = tn A B := by
  funext i
  rw [← tn_comm]
  pointwise [Cert.ReferenceDwuIdeal.Read.val_main_v7_apply, Cert.ReferenceDwuIdeal.Read.val_main_v6_apply, Cert.ReferenceDwuIdeal.Read.val_main_v5_apply,
    Cert.ReferenceDwuIdeal.Read.val_main_v4_apply, Cert.ReferenceDwuIdeal.Read.val_main_v1_apply]
  exact Finset.sum_congr rfl fun q _ => congrArg₂ (· * ·) (congrArg B (idx_eq rfl rfl)) (congrArg A (idx_eq rfl rfl))

theorem frame_ref : Cert.quiescent_ReferenceDwuIdeal := fun m g _ =>
  (θ_run Cert.ReferenceDwuIdeal.defs _ _).mono (fun r h => ⟨fun c => (h c).2, sem_eq_zero_of_no_sems (by decide) r.2⟩)
    (Cert.ReferenceDwuIdeal.Value.run (F := Ideal) m g)

/-- The array before the call, as the launch finds it. -/
abbrev prev : Arr 1024 5632 := m ((d : Thread nD τ).loc main_arg2)

/-- An entry the call does not write is the given array's. -/
theorem kept (i : S1024x5632.Idx) (h : (i 1).val < 2816) : (dats m 0 d).arrAt 2 cfg0.N i = prev m d i := by
  refine (Value.entry2 m d i fun t _ hi => ?_).trans ?_
  · change i ∈ ((View.whole main_v0).slice (win0_2.rect t)).set at hi
    rw [View.set_slice_whole, Rect.mem_set_unit] at hi
    have := (hi ⟨1, by decide⟩).1
    change win0_2.index t 1 * 256 ≤ (i 1).val at this
    rw [(idx2 t).2] at this
    omega
  · show V m d main_v0 i = _
    unfold V
    simp only [hostOps0, List.flatten_cons, List.flatten_nil, List.append_nil, List.cons_append, List.nil_append]
    after_reads_simp
    rfl

/-- The call's array: the given one, its second half of columns replaced by the product. -/
def filled (P : Arr 1024 5632) (A : Arr 4096 1024) (B : Arr 4096 2816) : Arr 1024 5632 := fun i =>
  if h : (i 1).val < 2816 then P i else tn A B (ix2 (i 0) ⟨(i 1).val - 2816, by have : (i 1).val < 5632 := (i 1).isLt; omega⟩)

theorem out_filled : (dats m 0 d).arrAt 2 cfg0.N = filled (prev m d) (hin m d) (dup m d) := by
  funext i
  unfold filled
  split
  · exact kept m d i (by assumption)
  · refine out m d i _ rfl ?_
    show (i 1).val = 2816 + ((i 1).val - 2816)
    omega

theorem ref_filled (P : Arr 1024 5632) (A : Arr 4096 1024) (B : Arr 4096 2816) :
    Cert.ReferenceDwuIdeal.Read.val_main_v8 (F := Ideal) A B P = filled P A B := by
  funext i
  unfold filled
  pointwise [Cert.ReferenceDwuIdeal.Read.val_main_v8, ref]
  split
  · exact congrArg P (idx_eq (Nat.zero_add _) (Nat.zero_add _))
  · rfl

/-- The call's array is the reference's. -/
theorem algebraic : Cert.algebraic_KernelDwuIdeal_ReferenceDwuIdeal := by
  intro m g m' g' _ hag
  refine ⟨fun c => (dats m 0 c).arrAt 2 cfg0.N, Value.run_blocks m g,
    (θ_run Cert.ReferenceDwuIdeal.defs _ _).mono (fun r h d => ?_) (Cert.ReferenceDwuIdeal.Value.run (F := Ideal) m' g')⟩
  obtain ⟨a0, a1, a2⟩ := hag d
  obtain ⟨h0, hk⟩ := h d
  rw [Cert.ReferenceDwuIdeal.Read.val_main_v8_eq, a0, a1, a2] at h0
  exact ⟨(h0.trans (ref_filled _ _ _)).trans (out_filled m d).symm, hk⟩

end Cert.Dwu

end
-- ==== Proof.Fwd.lean ====
/- The forward pass's mathematics over the extended reals: the modulated norm of a token, the product of two matrices, and the gated unit.
   No argument need be finite here. -/
module

public import proofs.«01_k».proof.Proof.Prod
public import proofs.«01_k».proof.Proof.Reals

@[expose] public section

noncomputable section

open Idealize.ShloMosaic

namespace Cert.Fwd

open Cert.Prod Cert.Reals

variable {n m k : ℕ}

/-- The product: entry `(a, b)` is the sum of `A`'s row `a` times `B`'s column `b`. -/
def nn (A : Arr n k) (B : Arr k m) : Arr n m := fun i => ∑ q : Fin k, A (ix2 (i 0) q) * B (ix2 q (i 1))

/-- Two entries of two products agree when the row and the column they are made of do. -/
theorem nn_congr {n' m' : ℕ} (A : Arr n k) (B : Arr k m) (A' : Arr n' k) (B' : Arr k m') (i : (⟨2, ![n, m]⟩ : Shape).Idx)
    (i' : (⟨2, ![n', m']⟩ : Shape).Idx) (hA : ∀ q, A (ix2 (i 0) q) = A' (ix2 (i' 0) q)) (hB : ∀ q, B (ix2 q (i 1)) = B' (ix2 q (i' 1))) :
    nn A B i = nn A' B' i' :=
  Finset.sum_congr rfl fun q _ => by rw [hA, hB]

/-- The reciprocal root of a token's mean square plus the stabiliser. -/
def rs (x : Arr n 1024) (a : Fin n) : EReal :=
  Ideal.rsqrt (Ideal.div (∑ q : Fin 1024, x (ix2 a q) * x (ix2 a q)) ((1024 : ℝ) : EReal) + ((eps : ℝ) : EReal))

/-- The normed token, times the gain and one plus the scale, plus the shift. -/
def hid (sh sc g : Arr 1 1024) (x : Arr n 1024) : Arr n 1024 := fun i =>
  x i * rs x (i 0) * (g (ix2 (0 : Fin 1) (i 1 : Fin 1024)) * (1 + sc (ix2 (0 : Fin 1) (i 1 : Fin 1024)))) + sh (ix2 (0 : Fin 1) (i 1 : Fin 1024))

/-- A token's modulated norm is made of that token alone. -/
theorem hid_congr {n' : ℕ} (sh sc g : Arr 1 1024) (x : Arr n 1024) (x' : Arr n' 1024) (a : Fin n) (a' : Fin n')
    (h : ∀ q, x (ix2 a q) = x' (ix2 a' q)) (q : Fin 1024) : hid sh sc g x (ix2 a q) = hid sh sc g x' (ix2 a' q) := by
  have hr : rs x a = rs x' a' := by
    unfold rs
    exact congrArg (fun z => Ideal.rsqrt (Ideal.div z _ + _)) (Finset.sum_congr rfl fun j _ => by rw [h])
  show x (ix2 a q) * rs x a * _ + _ = x' (ix2 a' q) * rs x' a' * _ + _
  rw [h, hr]
  rfl

/-- The logistic function, which the kernel takes through the hyperbolic tangent of half the argument; at the infinities too. -/
theorem half_tanh (z : EReal) :
    ((1 / 2 : ℝ) : EReal) * Ideal.tanh (((1 / 2 : ℝ) : EReal) * z) + ((1 / 2 : ℝ) : EReal) = Ideal.div 1 (1 + Ideal.exp (-z)) := by
  rw [← Ideal.logistic]
  induction z using EReal.rec with
  | bot =>
    rw [EReal.coe_mul_bot_of_pos (by norm_num), Ideal.tanh_bot, Ideal.logistic_bot, ← EReal.coe_one, ← EReal.coe_neg, ← EReal.coe_mul, ← EReal.coe_add,
      ← EReal.coe_zero]
    norm_num
  | coe r =>
    rw [← EReal.coe_mul, Ideal.tanh_coe, ← EReal.coe_mul, ← EReal.coe_add, sig_tanh, Ideal.logistic_coe, sig, one_div]
  | top =>
    rw [EReal.coe_mul_top_of_pos (by norm_num), Ideal.tanh_top, Ideal.logistic_top, mul_one, ← EReal.coe_add, ← EReal.coe_one]
    norm_num

/-- The gated unit's value from the gate and the up-projection. -/
def glu (z u : EReal) : EReal := z * Ideal.div 1 (1 + Ideal.exp (-z)) * u

end Cert.Fwd

end
-- ==== Proof.Fin.lean ====
/- The feed-forward block's first forward call: its arrays are the gate, the up-projection and the gated unit of the modulated norm of the tokens.
   No argument need be finite. -/
module

public import proofs.«01_k».proof.Proof.Fwd
public import proofs.«01_k».proof.Defs
public import proofs.«01_k».proof.Proof.Gen.KernelFin.Frame
public import proofs.«01_k».proof.Proof.Gen.KernelFinIdeal.Value
public import proofs.«01_k».proof.Proof.Gen.ReferenceFinIdeal.Run
public import proofs.«01_k».proof.Proof.Gen.ReferenceFinIdeal.Read
public import Idealize.ShloMosaic.Lib.Pipeline.ReadBack
public import Idealize.ShloMosaic.Lib.StableHlo.RunRead
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.FwdIn

open Cert.KernelFinIdeal Cert.KernelFinIdeal.Gen Cert.Prod Cert.Fwd Cert.Reals

/-- The zero offsets of a whole rank-2 block. -/
theorem hz : (![0, 0] : Fin 2 → Nat) = fun _ => 0 := funext fun a => by fin_cases a <;> rfl

/-! ## What a point stores -/

variable (X : Vec Ideal S512x1024 .f32) (sh sc g : Vec Ideal S1x1024 .f32)

theorem pay_hid : k0_pay2 (F := Ideal) X g sc sh = hid sh sc g X := by
  funext i
  pointwise [k0_pay2]
  simp only [ixApp2, lit_1024, lit_eps]
  rfl

theorem pay_gate (W : Vec Ideal S1024x2816 .bf16) : k0_pay3 (F := Ideal) X g sc sh W = nn (hid sh sc g X) W := by
  funext i
  pointwise [k0_pay3, pay_hid]
  rfl
theorem pay_up (W : Vec Ideal S1024x2816 .bf16) : k0_pay4 (F := Ideal) X g sc sh W = nn (hid sh sc g X) W := by
  funext i
  pointwise [k0_pay4, pay_hid]
  rfl

theorem pay_glu (G U : Vec Ideal S512x2816 .f32) : k0_pay1 (F := Ideal) G U = fun i => glu (G i) (U i) := by
  funext i
  pointwise [k0_pay1]
  rw [lit_half]
  unfold glu
  rw [← half_tanh]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 1 :=
  (by decide +kernel : ∀ t : Fin grid0.N, win0_3.index t 0 = 0 ∧ win0_3.index t 1 = 1)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)

variable (m : (ℓ : Loc nD τ sig) → Buf (Elt Ideal) ℓ) (d : Dev nD)

/-- The tokens, the channel vectors, and the weight with its two halves. -/
abbrev aX : Arr 4096 1024 := m ((d : Thread nD τ).loc main_arg0)
abbrev aSh : Arr 1 1024 := m ((d : Thread nD τ).loc main_arg1)
abbrev aSc : Arr 1 1024 := m ((d : Thread nD τ).loc main_arg2)
abbrev aG : Arr 1 1024 := m ((d : Thread nD τ).loc main_arg3)
abbrev aW : Arr 1024 5632 := m ((d : Thread nD τ).loc main_arg4)
def gHalf (W : Arr 1024 5632) : Arr 1024 2816 := fun i => W (ix2 (i 0 : Fin 1024) (⟨(i 1).val, by have : (i 1).val < 2816 := (i 1).isLt; omega⟩ : Fin 5632))
def uHalf (W : Arr 1024 5632) : Arr 1024 2816 := fun i => W (ix2 (i 0 : Fin 1024) (⟨2816 + (i 1).val, by have : (i 1).val < 2816 := (i 1).isLt; omega⟩ : Fin 5632))

/-! ## The blocks, read in the arguments -/

/-- The table of channel vectors, at the rows the call reads. -/
theorem V_vecs (j : S16x1024.Idx) (r : Arr 1 1024)
    (h : ((j 0).val = 0 ∧ r = aSh m d) ∨ ((j 0).val = 1 ∧ r = aSc m d) ∨ ((j 0).val = 11 ∧ r = aG m d)) :
    V m d main_v2 j = r (ix2 (0 : Fin 1) (j 1 : Fin 1024)) := by
  unfold V
  simp only [hostOps0, List.flatten_cons, List.flatten_nil, List.append_nil, List.cons_append, List.nil_append]
  after_reads_simp
  dsimp only [Matrix.cons_val]
  after_reads_simp
  rw [show m (d, Proc.tc.devRef main_arg1) = aSh m d from rfl, show m (d, Proc.tc.devRef main_arg2) = aSc m d from rfl,
    show m (d, Proc.tc.devRef main_arg3) = aG m d from rfl]
  pointwise
  rcases h with ⟨h, e⟩ | ⟨h, e⟩ | ⟨h, e⟩ <;> rw [e] <;> split_ifs <;> first
    | omega
    | (refine congrArg (aSh m d) (idx_eq ?_ rfl); show (j 0).val = 0; omega)
    | (refine congrArg (aSc m d) (idx_eq ?_ rfl); show (j 0).val - 1 = 0; omega)
    | (refine congrArg (aG m d) (idx_eq ?_ rfl); show (j 0).val - 1 - 1 - 9 = 0; omega)

/-- The weight. -/
theorem V_w : V m d main_v3 = aW m d := by
  unfold V
  simp only [hostOps0, List.flatten_cons, List.flatten_nil, List.append_nil, List.cons_append, List.nil_append]
  after_reads_simp
  rfl

theorem iblk_x (t : Fin cfg0.N) (j : S512x1024.Idx) (i : S4096x1024.Idx) (h0 : (i 0).val = t.val * 512 + (j 0).val) (h1 : (i 1).val = (j 1).val) :
    iblk m d 0 t j = aX m d i := by
  unfold iblk
  rw [View.read_apply]
  show V m d main_arg0 _ = _
  rw [V_main_arg0]
  refine congrArg (aX m d) (idx_eq ?_ ?_)
  · show win0_0.index t 0 * 512 + 1 * (j 0).val = _; rw [(idx0 t).1]; omega
  · show win0_0.index t 1 * 1024 + 1 * (j 1).val = _; rw [(idx0 t).2]; omega
theorem iblk_vecs (t : Fin cfg0.N) (j : S16x1024.Idx) : iblk m d 1 t j = V m d main_v2 j := by
  unfold iblk
  rw [View.read_apply]
  show V m d main_v2 _ = _
  refine congrArg (V m d main_v2) (idx_eq ?_ ?_)
  · show win0_1.index t 0 * 16 + 1 * (j 0).val = _; rw [(idx1 t).1]; omega
  · show win0_1.index t 1 * 1024 + 1 * (j 1).val = _; rw [(idx1 t).2]; omega
theorem iblk_wg (t : Fin cfg0.N) : iblk m d 2 t = gHalf (aW m d) := by
  funext j
  unfold iblk
  rw [View.read_apply]
  show V m d main_v3 _ = _
  rw [V_w]
  refine congrArg (aW m d) (idx_eq ?_ ?_)
  · show win0_2.index t 0 * 1024 + 1 * (j 0).val = (j 0).val; rw [(idx2 t).1]; omega
  · show win0_2.index t 1 * 2816 + 1 * (j 1).val = (j 1).val; rw [(idx2 t).2]; omega
theorem iblk_wu (t : Fin cfg0.N) : iblk m d 3 t = uHalf (aW m d) := by
  funext j
  unfold iblk
  rw [View.read_apply]
  show V m d main_v3 _ = _
  rw [V_w]
  refine congrArg (aW m d) (idx_eq ?_ ?_)
  · show win0_3.index t 0 * 1024 + 1 * (j 0).val = (j 0).val; rw [(idx3 t).1]; omega
  · show win0_3.index t 1 * 2816 + 1 * (j 1).val = 2816 + (j 1).val; rw [(idx3 t).2]; omega

theorem ld_g (t : Fin cfg0.N) : View.ld (iblk m d 1 t) r0_1 = aG m d := by
  funext j
  pointwise
  rw [iblk_vecs, V_vecs m d _ (aG m d) (Or.inr (Or.inr ⟨rfl, rfl⟩))]
  exact congrArg (aG m d) (idx_eq (Nat.lt_one_iff.mp (j 0).isLt).symm rfl)
theorem ld_sc (t : Fin cfg0.N) : View.ld (iblk m d 1 t) r0_2 = aSc m d := by
  funext j
  pointwise
  rw [iblk_vecs, V_vecs m d _ (aSc m d) (Or.inr (Or.inl ⟨rfl, rfl⟩))]
  exact congrArg (aSc m d) (idx_eq (Nat.lt_one_iff.mp (j 0).isLt).symm rfl)
theorem ld_sh (t : Fin cfg0.N) : View.ld (iblk m d 1 t) r0_3 = aSh m d := by
  funext j
  pointwise
  rw [iblk_vecs, V_vecs m d _ (aSh m d) (Or.inl ⟨rfl, rfl⟩)]
  exact congrArg (aSh m d) (idx_eq (Nat.lt_one_iff.mp (j 0).isLt).symm rfl)

/-- The modulated norm of all the tokens. -/
abbrev H : Arr 4096 1024 := hid (aSh m d) (aSc m d) (aG m d) (aX m d)

/-- The gated unit of all the tokens. -/
def act : Arr 4096 2816 := fun i => glu (nn (H m d) (gHalf (aW m d)) i) (nn (H m d) (uHalf (aW m d)) i)

/-- What each output window's buffer holds after a point. -/
theorem outs4 (t : Fin cfg0.N) : out0_4 (iblk m d 0 t) (iblk m d 1 t) (iblk m d 2 t) (iblk m d 3 t)
    = nn (hid (aSh m d) (aSc m d) (aG m d) (iblk m d 0 t)) (gHalf (aW m d)) := by
  unfold out0_4
  rw [View.canon_unit_zero (S := S512x2816) hz, ld_g, ld_sc, ld_sh, View.ld_unit_zero (S := S512x1024) hz, View.ld_unit_zero (S := S1024x2816) hz, iblk_wg]
  exact pay_gate _ _ _ _ _
theorem outs5 (t : Fin cfg0.N) : out0_5 (iblk m d 0 t) (iblk m d 1 t) (iblk m d 2 t) (iblk m d 3 t)
    = nn (hid (aSh m d) (aSc m d) (aG m d) (iblk m d 0 t)) (uHalf (aW m d)) := by
  unfold out0_5
  rw [View.canon_unit_zero (S := S512x2816) hz, ld_g, ld_sc, ld_sh, View.ld_unit_zero (S := S512x1024) hz, View.ld_unit_zero (S := S1024x2816) hz, iblk_wu]
  exact pay_up _ _ _ _ _
theorem outs6 (t : Fin cfg0.N) : out0_6 (iblk m d 0 t) (iblk m d 1 t) (iblk m d 2 t) (iblk m d 3 t)
    = fun i => glu (nn (hid (aSh m d) (aSc m d) (aG m d) (iblk m d 0 t)) (gHalf (aW m d)) i)
        (nn (hid (aSh m d) (aSc m d) (aG m d) (iblk m d 0 t)) (uHalf (aW m d)) i) := by
  unfold out0_6
  rw [View.canon_unit_zero (S := S512x2816) hz, ld_g, ld_sc, ld_sh, View.ld_unit_zero (S := S512x1024) hz, View.ld_unit_zero (S := S1024x2816) hz,
    View.ld_unit_zero (S := S1024x2816) hz, iblk_wg, iblk_wu, pay_gate, pay_up, pay_glu, ld_g, ld_sc, ld_sh]

/-- A product of a block's modulated norms, read in the product of them all. -/
theorem blk_nn (t : Fin cfg0.N) (W : Arr 1024 2816) (j : S512x2816.Idx) (i : S4096x2816.Idx) (h0 : (i 0).val = t.val * 512 + (j 0).val)
    (h1 : (i 1).val = (j 1).val) : nn (hid (aSh m d) (aSc m d) (aG m d) (iblk m d 0 t)) W j = nn (H m d) W i :=
  nn_congr _ _ _ _ _ _ (fun q => hid_congr _ _ _ _ _ _ _ (fun r => iblk_x m d t _ _ h0 rfl) q) fun q => congrArg W (idx_eq rfl h1.symm)

/-- The point whose block of 512 tokens holds a token. -/
def pt (i : Fin 4096) : Fin cfg0.N := ⟨i.val / 512, by rw [show cfg0.N = 8 from N_0]; have := i.isLt; omega⟩

/-- The arrays the call leaves. -/
theorem out4 : (dats m 0 d).arrAt 4 cfg0.N = nn (H m d) (gHalf (aW m d)) :=
  (dats m 0 d).arrAt_eq_of_cover 4 (nn (H m d) (gHalf (aW m d))) (fun t _ => by
      rw [Value.flushed4, outs4]
      funext j
      rw [View.read_apply]
      refine blk_nn m d t _ _ _ ?_ ?_
      · show win0_4.index t 0 * 512 + 1 * (j 0).val = _; rw [(idx4 t).1, Nat.one_mul]
      · show win0_4.index t 1 * 2816 + 1 * (j 1).val = (j 1).val; rw [(idx4 t).2]; omega)
    fun i => ⟨pt (i 0), flush0_4 _, by
      show i ∈ ((View.whole main_v4_0).slice (win0_4.rect (pt (i 0)))).set
      rw [View.set_slice_whole, Rect.mem_set_unit]
      intro a
      match a with
      | ⟨0, _⟩ => exact in_block (i 0).val 512 (by norm_num) (idx4 _).1
      | ⟨1, _⟩ => exact in_whole (i 1) (idx4 _).2⟩
theorem out5 : (dats m 0 d).arrAt 5 cfg0.N = nn (H m d) (uHalf (aW m d)) :=
  (dats m 0 d).arrAt_eq_of_cover 5 (nn (H m d) (uHalf (aW m d))) (fun t _ => by
      rw [Value.flushed5, outs5]
      funext j
      rw [View.read_apply]
      refine blk_nn m d t _ _ _ ?_ ?_
      · show win0_5.index t 0 * 512 + 1 * (j 0).val = _; rw [(idx5 t).1, Nat.one_mul]
      · show win0_5.index t 1 * 2816 + 1 * (j 1).val = (j 1).val; rw [(idx5 t).2]; omega)
    fun i => ⟨pt (i 0), flush0_5 _, by
      show i ∈ ((View.whole main_v4_1).slice (win0_5.rect (pt (i 0)))).set
      rw [View.set_slice_whole, Rect.mem_set_unit]
      intro a
      match a with
      | ⟨0, _⟩ => exact in_block (i 0).val 512 (by norm_num) (idx5 _).1
      | ⟨1, _⟩ => exact in_whole (i 1) (idx5 _).2⟩
theorem out6 : (dats m 0 d).arrAt 6 cfg0.N = act m d :=
  (dats m 0 d).arrAt_eq_of_cover 6 (act m d) (fun t _ => by
      rw [Value.flushed6, outs6]
      funext j
      rw [View.read_apply]
      refine congrArg₂ glu (blk_nn m d t _ _ _ ?_ ?_) (blk_nn m d t _ _ _ ?_ ?_)
      · show win0_6.index t 0 * 512 + 1 * (j 0).val = _; rw [(idx6 t).1, Nat.one_mul]
      · show win0_6.index t 1 * 2816 + 1 * (j 1).val = (j 1).val; rw [(idx6 t).2]; omega
      · show win0_6.index t 0 * 512 + 1 * (j 0).val = _; rw [(idx6 t).1, Nat.one_mul]
      · show win0_6.index t 1 * 2816 + 1 * (j 1).val = (j 1).val; rw [(idx6 t).2]; omega)
    fun i => ⟨pt (i 0), flush0_6 _, by
      show i ∈ ((View.whole main_v4_2).slice (win0_6.rect (pt (i 0)))).set
      rw [View.set_slice_whole, Rect.mem_set_unit]
      intro a
      match a with
      | ⟨0, _⟩ => exact in_block (i 0).val 512 (by norm_num) (idx6 _).1
      | ⟨1, _⟩ => exact in_whole (i 1) (idx6 _).2⟩

/-! ## The reference's arrays -/

section Reference

open Cert.ReferenceFinIdeal.Read

variable (X : Arr 4096 1024) (sh sc g : Arr 1 1024) (W : Arr 1024 5632)

theorem ref_hid : val_main_v17 (F := Ideal) X sh sc g = hid sh sc g X := by
  funext i
  pointwise [val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0, val_main_cst_1,
    val_main_cst_2]
  simp only [ixApp2, lit_1024, lit_eps]
  unfold hid
  rw [← mul_assoc]
  rfl

theorem ref_gate : val_main_v21 (F := Ideal) X sh sc g W = nn (hid sh sc g X) (gHalf W) := by
  funext i
  pointwise [val_main_v21, val_main_v19, val_main_v18, ref_hid]
  exact Finset.sum_congr rfl fun q _ => congrArg₂ (· * ·) (congrArg (hid sh sc g X) (idx_eq rfl rfl)) (congrArg W (idx_eq rfl rfl))

theorem ref_up : val_main_v22 (F := Ideal) X sh sc g W = nn (hid sh sc g X) (uHalf W) := by
  funext i
  pointwise [val_main_v22, val_main_v20, val_main_v18, ref_hid]
  exact Finset.sum_congr rfl fun q _ => congrArg₂ (· * ·) (congrArg (hid sh sc g X) (idx_eq rfl rfl)) (congrArg W (idx_eq rfl rfl))

theorem ref_glu : val_main_v27 (F := Ideal) X sh sc g W
    = fun i => glu (nn (hid sh sc g X) (gHalf W) i) (nn (hid sh sc g X) (uHalf W) i) := by
  rw [← ref_gate, ← ref_up]
  funext i
  pointwise [val_main_v27, val_main_v26, val_main_v25, val_main_v24, val_main_v23, val_main_v22, val_main_v21, val_main_call0_v5, val_main_call0_v4,
    val_main_call0_v3, val_main_call0_v2, val_main_call0_v1, val_main_call0_v0, val_main_call0_cst, val_main_call0_cst_0]
  unfold glu
  rw [val_main_v19_apply, val_main_v20_apply,
    show idx_main_v19 i = ix2 (i 0 : Fin 4096) (⟨(i 1).val, by have : (i 1).val < 2816 := (i 1).isLt; omega⟩ : Fin 5632) from idx_eq rfl rfl,
    show idx_main_v20 i = ix2 (i 0 : Fin 4096) (⟨2816 + (i 1).val, by have : (i 1).val < 2816 := (i 1).isLt; omega⟩ : Fin 5632) from idx_eq rfl rfl]
  rfl

end Reference

theorem frame_ref : Cert.quiescent_ReferenceFinIdeal := fun m g _ =>
  (θ_run Cert.ReferenceFinIdeal.defs _ _).mono (fun r h => ⟨fun c => (h c).2.2.2, sem_eq_zero_of_no_sems (by decide) r.2⟩)
    (Cert.ReferenceFinIdeal.Value.run (F := Ideal) m g)

/-- The call's arrays are the reference's. -/
theorem algebraic : Cert.algebraic_KernelFinIdeal_ReferenceFinIdeal := by
  intro m g m' g' _ hag
  refine ⟨fun c => (dats m 0 c).arrAt 4 cfg0.N, fun c => (dats m 0 c).arrAt 5 cfg0.N, fun c => (dats m 0 c).arrAt 6 cfg0.N, Value.run_blocks m g,
    (θ_run Cert.ReferenceFinIdeal.defs _ _).mono (fun r h d => ?_) (Cert.ReferenceFinIdeal.Value.run (F := Ideal) m' g')⟩
  obtain ⟨a0, a1, a2, a3, a4⟩ := hag d
  obtain ⟨h0, h1, h2, hk⟩ := h d
  rw [Cert.ReferenceFinIdeal.Read.val_main_v21_eq, a0, a1, a2, a3, a4] at h0
  rw [Cert.ReferenceFinIdeal.Read.val_main_v22_eq, a0, a1, a2, a3, a4] at h1
  rw [Cert.ReferenceFinIdeal.Read.val_main_v27_eq, a0, a1, a2, a3, a4] at h2
  exact ⟨(h0.trans (ref_gate _ _ _ _ _)).trans (out4 m d).symm, (h1.trans (ref_up _ _ _ _ _)).trans (out5 m d).symm,
    (h2.trans (ref_glu _ _ _ _ _)).trans (out6 m d).symm, hk⟩

end Cert.FwdIn

end
-- ==== Proof.Proj.lean ====
/- The sequence mixer's first forward call: its array is the modulated norm of the tokens times the input weight. No argument need be finite. -/
module

public import proofs.«01_k».proof.Proof.Fin
public import proofs.«01_k».proof.Defs
public import proofs.«01_k».proof.Proof.Gen.KernelProj.Frame
public import proofs.«01_k».proof.Proof.Gen.KernelProjIdeal.Value
public import proofs.«01_k».proof.Proof.Gen.ReferenceProjIdeal.Run
public import proofs.«01_k».proof.Proof.Gen.ReferenceProjIdeal.Read
public import Idealize.ShloMosaic.Lib.Pipeline.ReadBack
public import Idealize.ShloMosaic.Lib.StableHlo.RunRead
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.MixIn

open Cert.KernelProjIdeal Cert.KernelProjIdeal.Gen Cert.Prod Cert.Fwd Cert.Reals

/-- The zero offsets of a whole rank-2 block. -/
theorem hz : (![0, 0] : Fin 2 → Nat) = fun _ => 0 := funext fun a => by fin_cases a <;> rfl

/-- What a point stores: the product of its tokens' modulated norms with the weight. -/
theorem pay (X : Vec Ideal S512x1024 .f32) (sh sc g : Vec Ideal S1x1024 .f32) (W : Vec Ideal S1024x2048 .bf16) :
    k0_pay1 (F := Ideal) X g sc sh W = nn (hid sh sc g X) W := by
  funext i
  pointwise [k0_pay1]
  simp only [ixApp2, lit_1024, lit_eps]
  rfl

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)

variable (m : (ℓ : Loc nD τ sig) → Buf (Elt Ideal) ℓ) (d : Dev nD)

/-- The tokens, the channel vectors, and the weight. -/
abbrev aX : Arr 4096 1024 := m ((d : Thread nD τ).loc main_arg0)
abbrev aSh : Arr 1 1024 := m ((d : Thread nD τ).loc main_arg1)
abbrev aSc : Arr 1 1024 := m ((d : Thread nD τ).loc main_arg2)
abbrev aG : Arr 1 1024 := m ((d : Thread nD τ).loc main_arg3)
abbrev aW : Arr 1024 2048 := m ((d : Thread nD τ).loc main_arg4)

/-! ## The blocks, read in the arguments -/

/-- The table of channel vectors, at the rows the call reads. -/
theorem V_vecs (j : S16x1024.Idx) (r : Arr 1 1024)
    (h : ((j 0).val = 3 ∧ r = aSh m d) ∨ ((j 0).val = 4 ∧ r = aSc m d) ∨ ((j 0).val = 12 ∧ r = aG m d)) :
    V m d main_v3 j = r (ix2 (0 : Fin 1) (j 1 : Fin 1024)) := by
  unfold V
  simp only [hostOps0, List.flatten_cons, List.flatten_nil, List.append_nil, List.cons_append, List.nil_append]
  after_reads_simp
  dsimp only [Matrix.cons_val]
  after_reads_simp
  rw [show m (d, Proc.tc.devRef main_arg1) = aSh m d from rfl, show m (d, Proc.tc.devRef main_arg2) = aSc m d from rfl,
    show m (d, Proc.tc.devRef main_arg3) = aG m d from rfl]
  pointwise
  rcases h with ⟨h, e⟩ | ⟨h, e⟩ | ⟨h, e⟩ <;> rw [e] <;> split_ifs <;> first
    | omega
    | (refine congrArg (aSh m d) (idx_eq ?_ rfl); show (j 0).val - 3 = 0; omega)
    | (refine congrArg (aSc m d) (idx_eq ?_ rfl); show (j 0).val - 3 - 1 = 0; omega)
    | (refine congrArg (aG m d) (idx_eq ?_ rfl); show (j 0).val - 3 - 1 - 1 - 7 = 0; omega)

/-- The weight. -/
theorem V_w : V m d main_v4 = aW m d := by
  unfold V
  simp only [hostOps0, List.flatten_cons, List.flatten_nil, List.append_nil, List.cons_append, List.nil_append]
  after_reads_simp
  rfl

theorem iblk_x (t : Fin cfg0.N) (j : S512x1024.Idx) (i : S4096x1024.Idx) (h0 : (i 0).val = t.val * 512 + (j 0).val) (h1 : (i 1).val = (j 1).val) :
    iblk m d 0 t j = aX m d i := by
  unfold iblk
  rw [View.read_apply]
  show V m d main_arg0 _ = _
  rw [V_main_arg0]
  refine congrArg (aX m d) (idx_eq ?_ ?_)
  · show win0_0.index t 0 * 512 + 1 * (j 0).val = _; rw [(idx0 t).1]; omega
  · show win0_0.index t 1 * 1024 + 1 * (j 1).val = _; rw [(idx0 t).2]; omega
theorem iblk_vecs (t : Fin cfg0.N) (j : S16x1024.Idx) : iblk m d 1 t j = V m d main_v3 j := by
  unfold iblk
  rw [View.read_apply]
  show V m d main_v3 _ = _
  refine congrArg (V m d main_v3) (idx_eq ?_ ?_)
  · show win0_1.index t 0 * 16 + 1 * (j 0).val = _; rw [(idx1 t).1]; omega
  · show win0_1.index t 1 * 1024 + 1 * (j 1).val = _; rw [(idx1 t).2]; omega
theorem iblk_w (t : Fin cfg0.N) : iblk m d 2 t = aW m d := by
  funext j
  unfold iblk
  rw [View.read_apply]
  show V m d main_v4 _ = _
  rw [V_w]
  refine congrArg (aW m d) (idx_eq ?_ ?_)
  · show win0_2.index t 0 * 1024 + 1 * (j 0).val = (j 0).val; rw [(idx2 t).1]; omega
  · show win0_2.index t 1 * 2048 + 1 * (j 1).val = (j 1).val; rw [(idx2 t).2]; omega

theorem ld_g (t : Fin cfg0.N) : View.ld (iblk m d 1 t) r0_1 = aG m d := by
  funext j
  pointwise
  rw [iblk_vecs, V_vecs m d _ (aG m d) (Or.inr (Or.inr ⟨rfl, rfl⟩))]
  exact congrArg (aG m d) (idx_eq (Nat.lt_one_iff.mp (j 0).isLt).symm rfl)
theorem ld_sc (t : Fin cfg0.N) : View.ld (iblk m d 1 t) r0_2 = aSc m d := by
  funext j
  pointwise
  rw [iblk_vecs, V_vecs m d _ (aSc m d) (Or.inr (Or.inl ⟨rfl, rfl⟩))]
  exact congrArg (aSc m d) (idx_eq (Nat.lt_one_iff.mp (j 0).isLt).symm rfl)
theorem ld_sh (t : Fin cfg0.N) : View.ld (iblk m d 1 t) r0_3 = aSh m d := by
  funext j
  pointwise
  rw [iblk_vecs, V_vecs m d _ (aSh m d) (Or.inl ⟨rfl, rfl⟩)]
  exact congrArg (aSh m d) (idx_eq (Nat.lt_one_iff.mp (j 0).isLt).symm rfl)

/-- The modulated norm of all the tokens. -/
abbrev H : Arr 4096 1024 := hid (aSh m d) (aSc m d) (aG m d) (aX m d)

/-- What the output window's buffer holds after a point. -/
theorem outs (t : Fin cfg0.N) : out0_3 (iblk m d 0 t) (iblk m d 1 t) (iblk m d 2 t) = nn (hid (aSh m d) (aSc m d) (aG m d) (iblk m d 0 t)) (aW m d) := by
  unfold out0_3
  rw [View.canon_unit_zero (S := S512x2048) hz, ld_g, ld_sc, ld_sh, View.ld_unit_zero (S := S512x1024) hz, View.ld_unit_zero (S := S1024x2048) hz, iblk_w]
  exact pay _ _ _ _ _

/-- The point whose block of 512 tokens holds a token. -/
def pt (i : Fin 4096) : Fin cfg0.N := ⟨i.val / 512, by rw [show cfg0.N = 8 from N_0]; have := i.isLt; omega⟩

/-- The array the call leaves. -/
theorem out : (dats m 0 d).arrAt 3 cfg0.N = nn (H m d) (aW m d) :=
  (dats m 0 d).arrAt_eq_of_cover 3 (nn (H m d) (aW m d)) (fun t _ => by
      rw [Value.flushed3, outs]
      funext j
      rw [View.read_apply]
      refine nn_congr _ _ _ _ _ _ (fun q => hid_congr _ _ _ _ _ _ _ (fun r => iblk_x m d t _ _ ?_ rfl) q) fun q => congrArg (aW m d) (idx_eq rfl ?_)
      · show win0_3.index t 0 * 512 + 1 * (j 0).val = _; rw [(idx3 t).1, Nat.one_mul]; rfl
      · show (j 1).val = win0_3.index t 1 * 2048 + 1 * (j 1).val; rw [(idx3 t).2]; omega)
    fun i => ⟨pt (i 0), flush0_3 _, by
      show i ∈ ((View.whole main_v5).slice (win0_3.rect (pt (i 0)))).set
      rw [View.set_slice_whole, Rect.mem_set_unit]
      intro a
      match a with
      | ⟨0, _⟩ => exact in_block (i 0).val 512 (by norm_num) (idx3 _).1
      | ⟨1, _⟩ => exact in_whole (i 1) (idx3 _).2⟩

/-- The reference's array. -/
theorem ref (X : Arr 4096 1024) (sh sc g : Arr 1 1024) (W : Arr 1024 2048) :
    Cert.ReferenceProjIdeal.Read.val_main_v19 (F := Ideal) X sh sc g W = nn (hid sh sc g X) W := by
  have e : Cert.ReferenceProjIdeal.Read.val_main_v17 (F := Ideal) X sh sc g = hid sh sc g X := Cert.FwdIn.ref_hid X sh sc g
  funext i
  pointwise [Cert.ReferenceProjIdeal.Read.val_main_v19, Cert.ReferenceProjIdeal.Read.val_main_v18, e]
  exact Finset.sum_congr rfl fun q _ => congrArg₂ (· * ·) (congrArg (hid sh sc g X) (idx_eq rfl rfl)) (congrArg W (idx_eq rfl rfl))

theorem frame_ref : Cert.quiescent_ReferenceProjIdeal := fun m g _ =>
  (θ_run Cert.ReferenceProjIdeal.defs _ _).mono (fun r h => ⟨fun c => (h c).2, sem_eq_zero_of_no_sems (by decide) r.2⟩)
    (Cert.ReferenceProjIdeal.Value.run (F := Ideal) m g)

/-- The call's array is the reference's. -/
theorem algebraic : Cert.algebraic_KernelProjIdeal_ReferenceProjIdeal := by
  intro m g m' g' _ hag
  refine ⟨fun c => (dats m 0 c).arrAt 3 cfg0.N, Value.run_blocks m g,
    (θ_run Cert.ReferenceProjIdeal.defs _ _).mono (fun r h d => ?_) (Cert.ReferenceProjIdeal.Value.run (F := Ideal) m' g')⟩
  obtain ⟨a0, a1, a2, a3, a4⟩ := hag d
  obtain ⟨h0, hk⟩ := h d
  rw [Cert.ReferenceProjIdeal.Read.val_main_v19_eq, a0, a1, a2, a3, a4] at h0
  exact ⟨(h0.trans (ref _ _ _ _ _)).trans (out m d).symm, hk⟩

end Cert.MixIn

end
-- ==== Proof.Fout.lean ====
/- The feed-forward block's second forward call: its arrays are the product of the activations with the second weight, and the tokens plus half
   the residual gate times it. No argument need be finite. -/
module

public import proofs.«01_k».proof.Proof.Fwd
public import proofs.«01_k».proof.Defs
public import proofs.«01_k».proof.Proof.Gen.KernelFout.Frame
public import proofs.«01_k».proof.Proof.Gen.KernelFoutIdeal.Value
public import proofs.«01_k».proof.Proof.Gen.ReferenceFoutIdeal.Run
public import proofs.«01_k».proof.Proof.Gen.ReferenceFoutIdeal.Read
public import Idealize.ShloMosaic.Lib.Pipeline.ReadBack
public import Idealize.ShloMosaic.Lib.StableHlo.RunRead
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.FwdOut

open Cert.KernelFoutIdeal Cert.KernelFoutIdeal.Gen Cert.Prod Cert.Fwd Cert.Reals

/-- The zero offsets of a whole rank-2 block. -/
theorem hz : (![0, 0] : Fin 2 → Nat) = fun _ => 0 := funext fun a => by fin_cases a <;> rfl

/-- The residual's value from a token's entry, the gate's and the product's. -/
def res (x g y : EReal) : EReal := x + ((1 / 2 : ℝ) : EReal) * g * y

/-! ## What a point stores -/

theorem pay_y (A : Vec Ideal S512x2816 .bf16) (W : Vec Ideal S2816x1024 .bf16) : k0_pay2 (F := Ideal) A W = nn A W := by
  funext i
  pointwise [k0_pay2, k0_pay1]
  rfl
theorem pay_x (A : Vec Ideal S512x2816 .bf16) (W : Vec Ideal S2816x1024 .bf16) (X : Vec Ideal S512x1024 .f32) (gt : Vec Ideal S1x1024 .f32) :
    k0_pay3 (F := Ideal) A W X gt = fun i => res (X i) (gt (ix2 (0 : Fin 1) (i 1 : Fin 1024))) (nn A W i) := by
  have e : k0_pay1 (F := Ideal) A W = nn A W := pay_y A W
  funext i
  pointwise [k0_pay3, e]
  rw [lit_half]
  rfl

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)

variable (m : (ℓ : Loc nD τ sig) → Buf (Elt Ideal) ℓ) (d : Dev nD)

/-- The activations, the tokens, the residual gate, and the weight. -/
abbrev aA : Arr 4096 2816 := m ((d : Thread nD τ).loc main_arg0)
abbrev aX : Arr 4096 1024 := m ((d : Thread nD τ).loc main_arg1)
abbrev aGt : Arr 1 1024 := m ((d : Thread nD τ).loc main_arg2)
abbrev aW : Arr 2816 1024 := m ((d : Thread nD τ).loc main_arg3)

/-! ## The blocks, read in the arguments -/

/-- The table of channel vectors, at the row the call reads. -/
theorem V_vecs (j : S16x1024.Idx) (h : (j 0).val = 2) : V m d main_v2 j = aGt m d (ix2 (0 : Fin 1) (j 1 : Fin 1024)) := by
  unfold V
  simp only [hostOps0, List.flatten_cons, List.flatten_nil, List.append_nil, List.cons_append, List.nil_append]
  after_reads_simp
  dsimp only [Matrix.cons_val]
  after_reads_simp
  rw [show m (d, Proc.tc.devRef main_arg2) = aGt m d from rfl]
  pointwise
  split_ifs <;> first
    | omega
    | (refine congrArg (aGt m d) (idx_eq ?_ rfl); show (j 0).val - 2 = 0; omega)

/-- The weight. -/
theorem V_w : V m d main_v3 = aW m d := by
  unfold V
  simp only [hostOps0, List.flatten_cons, List.flatten_nil, List.append_nil, List.cons_append, List.nil_append]
  after_reads_simp
  rfl

theorem iblk_a (t : Fin cfg0.N) (j : S512x2816.Idx) (i : S4096x2816.Idx) (h0 : (i 0).val = t.val * 512 + (j 0).val) (h1 : (i 1).val = (j 1).val) :
    iblk m d 0 t j = aA m d i := by
  unfold iblk
  rw [View.read_apply]
  show V m d main_arg0 _ = _
  rw [V_main_arg0]
  refine congrArg (aA m d) (idx_eq ?_ ?_)
  · show win0_0.index t 0 * 512 + 1 * (j 0).val = _; rw [(idx0 t).1]; omega
  · show win0_0.index t 1 * 2816 + 1 * (j 1).val = _; rw [(idx0 t).2]; omega
theorem iblk_x (t : Fin cfg0.N) (j : S512x1024.Idx) (i : S4096x1024.Idx) (h0 : (i 0).val = t.val * 512 + (j 0).val) (h1 : (i 1).val = (j 1).val) :
    iblk m d 1 t j = aX m d i := by
  unfold iblk
  rw [View.read_apply]
  show V m d main_arg1 _ = _
  rw [V_main_arg1]
  refine congrArg (aX m d) (idx_eq ?_ ?_)
  · show win0_1.index t 0 * 512 + 1 * (j 0).val = _; rw [(idx1 t).1]; omega
  · show win0_1.index t 1 * 1024 + 1 * (j 1).val = _; rw [(idx1 t).2]; omega
theorem iblk_vecs (t : Fin cfg0.N) (j : S16x1024.Idx) : iblk m d 2 t j = V m d main_v2 j := by
  unfold iblk
  rw [View.read_apply]
  show V m d main_v2 _ = _
  refine congrArg (V m d main_v2) (idx_eq ?_ ?_)
  · show win0_2.index t 0 * 16 + 1 * (j 0).val = _; rw [(idx2 t).1]; omega
  · show win0_2.index t 1 * 1024 + 1 * (j 1).val = _; rw [(idx2 t).2]; omega
theorem iblk_w (t : Fin cfg0.N) : iblk m d 3 t = aW m d := by
  funext j
  unfold iblk
  rw [View.read_apply]
  show V m d main_v3 _ = _
  rw [V_w]
  refine congrArg (aW m d) (idx_eq ?_ ?_)
  · show win0_3.index t 0 * 2816 + 1 * (j 0).val = (j 0).val; rw [(idx3 t).1]; omega
  · show win0_3.index t 1 * 1024 + 1 * (j 1).val = (j 1).val; rw [(idx3 t).2]; omega

theorem ld_gt (t : Fin cfg0.N) : View.ld (iblk m d 2 t) r0_3 = aGt m d := by
  funext j
  pointwise
  rw [iblk_vecs, V_vecs m d _ rfl]
  exact congrArg (aGt m d) (idx_eq (Nat.lt_one_iff.mp (j 0).isLt).symm rfl)

/-- The tokens after the residual. -/
def xOut : Arr 4096 1024 := fun i => res (aX m d i) (aGt m d (ix2 (0 : Fin 1) (i 1 : Fin 1024))) (nn (aA m d) (aW m d) i)

/-- What each output window's buffer holds after a point. -/
theorem outs4 (t : Fin cfg0.N) : out0_4 (iblk m d 0 t) (iblk m d 1 t) (iblk m d 2 t) (iblk m d 3 t)
    = fun i => res (iblk m d 1 t i) (aGt m d (ix2 (0 : Fin 1) (i 1 : Fin 1024))) (nn (iblk m d 0 t) (aW m d) i) := by
  unfold out0_4
  rw [View.canon_unit_zero (S := S512x1024) hz, ld_gt, View.ld_unit_zero (S := S512x2816) hz, View.ld_unit_zero (S := S2816x1024) hz,
    View.ld_unit_zero (S := S512x1024) hz, iblk_w, pay_x]
  rfl
theorem outs5 (t : Fin cfg0.N) : out0_5 (iblk m d 0 t) (iblk m d 1 t) (iblk m d 2 t) (iblk m d 3 t) = nn (iblk m d 0 t) (aW m d) := by
  unfold out0_5
  rw [View.canon_unit_zero (S := S512x1024) hz, View.ld_unit_zero (S := S512x2816) hz, View.ld_unit_zero (S := S2816x1024) hz, iblk_w, pay_y]

/-- A block's product, read in the product of all the activations. -/
theorem blk_nn (t : Fin cfg0.N) (j : S512x1024.Idx) (i : S4096x1024.Idx) (h0 : (i 0).val = t.val * 512 + (j 0).val) (h1 : (i 1).val = (j 1).val) :
    nn (iblk m d 0 t) (aW m d) j = nn (aA m d) (aW m d) i :=
  nn_congr _ _ _ _ _ _ (fun q => iblk_a m d t _ _ h0 rfl) fun q => congrArg (aW m d) (idx_eq rfl h1.symm)

/-- A block's residual, read in the residual of all the tokens. -/
theorem blk_res (t : Fin cfg0.N) (j : S512x1024.Idx) (i : S4096x1024.Idx) (h0 : (i 0).val = t.val * 512 + (j 0).val) (h1 : (i 1).val = (j 1).val) :
    res (iblk m d 1 t j) (aGt m d (ix2 (0 : Fin 1) (j 1 : Fin 1024))) (nn (iblk m d 0 t) (aW m d) j) = xOut m d i := by
  unfold xOut
  rw [iblk_x m d t j i h0 h1, blk_nn m d t j i h0 h1]
  exact congrArg (fun z => res _ z _) (congrArg (aGt m d) (idx_eq rfl h1.symm))

/-- The point whose block of 512 tokens holds a token. -/
def pt (i : Fin 4096) : Fin cfg0.N := ⟨i.val / 512, by rw [show cfg0.N = 8 from N_0]; have := i.isLt; omega⟩

/-- The arrays the call leaves. -/
theorem out4 : (dats m 0 d).arrAt 4 cfg0.N = xOut m d :=
  (dats m 0 d).arrAt_eq_of_cover 4 (xOut m d) (fun t _ => by
      rw [Value.flushed4, outs4]
      funext j
      rw [View.read_apply]
      refine blk_res m d t _ _ ?_ ?_
      · show win0_4.index t 0 * 512 + 1 * (j 0).val = _; rw [(idx4 t).1, Nat.one_mul]
      · show win0_4.index t 1 * 1024 + 1 * (j 1).val = (j 1).val; rw [(idx4 t).2]; omega)
    fun i => ⟨pt (i 0), flush0_4 _, by
      show i ∈ ((View.whole main_v4_0).slice (win0_4.rect (pt (i 0)))).set
      rw [View.set_slice_whole, Rect.mem_set_unit]
      intro a
      match a with
      | ⟨0, _⟩ => exact in_block (i 0).val 512 (by norm_num) (idx4 _).1
      | ⟨1, _⟩ => exact in_whole (i 1) (idx4 _).2⟩
theorem out5 : (dats m 0 d).arrAt 5 cfg0.N = nn (aA m d) (aW m d) :=
  (dats m 0 d).arrAt_eq_of_cover 5 (nn (aA m d) (aW m d)) (fun t _ => by
      rw [Value.flushed5, outs5]
      funext j
      rw [View.read_apply]
      refine blk_nn m d t _ _ ?_ ?_
      · show win0_5.index t 0 * 512 + 1 * (j 0).val = _; rw [(idx5 t).1, Nat.one_mul]
      · show win0_5.index t 1 * 1024 + 1 * (j 1).val = (j 1).val; rw [(idx5 t).2]; omega)
    fun i => ⟨pt (i 0), flush0_5 _, by
      show i ∈ ((View.whole main_v4_1).slice (win0_5.rect (pt (i 0)))).set
      rw [View.set_slice_whole, Rect.mem_set_unit]
      intro a
      match a with
      | ⟨0, _⟩ => exact in_block (i 0).val 512 (by norm_num) (idx5 _).1
      | ⟨1, _⟩ => exact in_whole (i 1) (idx5 _).2⟩

/-! ## The reference's arrays -/

section Reference

open Cert.ReferenceFoutIdeal.Read

variable (A : Arr 4096 2816) (X : Arr 4096 1024) (gt : Arr 1 1024) (W : Arr 2816 1024)

theorem ref_y : val_main_v7 (F := Ideal) A W = nn A W := by
  funext i
  pointwise [val_main_v7, val_main_v1, val_main_v0]
  exact Finset.sum_congr rfl fun q _ => congrArg₂ (· * ·) (congrArg A (idx_eq rfl rfl)) (congrArg W (idx_eq rfl rfl))

theorem ref_x : val_main_v6 (F := Ideal) A X gt W = fun i => res (X i) (gt (ix2 (0 : Fin 1) (i 1 : Fin 1024))) (nn A W i) := by
  have e : val_main_v1 (F := Ideal) A W = nn A W := ref_y A W
  funext i
  pointwise [val_main_v6, val_main_v5, val_main_v4, val_main_v3, val_main_v2, val_main_cst, e]
  rw [lit_half]
  rfl

end Reference

theorem frame_ref : Cert.quiescent_ReferenceFoutIdeal := fun m g _ =>
  (θ_run Cert.ReferenceFoutIdeal.defs _ _).mono (fun r h => ⟨fun c => (h c).2.2, sem_eq_zero_of_no_sems (by decide) r.2⟩)
    (Cert.ReferenceFoutIdeal.Value.run (F := Ideal) m g)

/-- The call's arrays are the reference's. -/
theorem algebraic : Cert.algebraic_KernelFoutIdeal_ReferenceFoutIdeal := by
  intro m g m' g' _ hag
  refine ⟨fun c => (dats m 0 c).arrAt 4 cfg0.N, fun c => (dats m 0 c).arrAt 5 cfg0.N, Value.run_blocks m g,
    (θ_run Cert.ReferenceFoutIdeal.defs _ _).mono (fun r h d => ?_) (Cert.ReferenceFoutIdeal.Value.run (F := Ideal) m' g')⟩
  obtain ⟨a0, a1, a2, a3⟩ := hag d
  obtain ⟨h0, h1, hk⟩ := h d
  rw [Cert.ReferenceFoutIdeal.Read.val_main_v6_eq, a0, a1, a2, a3] at h0
  rw [Cert.ReferenceFoutIdeal.Read.val_main_v7_eq, a0, a3] at h1
  exact ⟨(h0.trans (ref_x _ _ _ _)).trans (out4 m d).symm, (h1.trans (ref_y _ _)).trans (out5 m d).symm, hk⟩

end Cert.FwdOut

end
-- ==== Proof.Mdi.lean ====
/- The gradient of the mixer's input weight: the call's array is the product of the transposed normed tokens with the projections' gradient. -/
module

public import proofs.«01_k».proof.Proof.Prod
public import proofs.«01_k».proof.Defs
public import proofs.«01_k».proof.Proof.Gen.KernelMdi.Frame
public import proofs.«01_k».proof.Proof.Gen.KernelMdiIdeal.Value
public import proofs.«01_k».proof.Proof.Gen.ReferenceMdiIdeal.Run
public import proofs.«01_k».proof.Proof.Gen.ReferenceMdiIdeal.Read
public import Idealize.ShloMosaic.Lib.Pipeline.ReadBack
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Mdi

open Cert.KernelMdiIdeal Cert.KernelMdiIdeal.Gen Cert.Prod

/-- The zero offsets of a whole rank-2 block. -/
theorem hz : (![0, 0] : Fin 2 → Nat) = fun _ => 0 := funext fun a => by fin_cases a <;> rfl

/-- What a point stores: the product of its two blocks. -/
theorem pay (A : Vec Ideal S4096x1024 .bf16) (B : Vec Ideal S4096x256 .bf16) : k0_pay1 (F := Ideal) A B = tn A B := by
  funext i
  pointwise [k0_pay1]
  rfl

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = 0 ∧ win0_2.index t 1 = t.val :=
  (by decide +kernel : ∀ t : Fin grid0.N, win0_2.index t 0 = 0 ∧ win0_2.index t 1 = t.val)

variable (m : (ℓ : Loc nD τ sig) → Buf (Elt Ideal) ℓ) (d : Dev nD)

/-- The product's input, and its output's gradient. -/
abbrev inp : Arr 4096 1024 := m ((d : Thread nD τ).loc main_arg0)
abbrev dy : Arr 4096 2048 := m ((d : Thread nD τ).loc main_arg1)

/-- A point's output block is the product of its input blocks. -/
theorem outs (t : Fin cfg0.N) : outsAt0 m d t = tn (iblk m d 0 t) (iblk m d 1 t) := by
  unfold outsAt0 out0_A_2
  unfold kernelRun0_A
  dsimp only
  sl_unfold_words
  simp only [View.read_writes_junk_eq_canon, View.canon_unit_zero (S := S1024x256) hz, View.readAt_eq_ld, (hs0_0 t).read_unread, (hs0_1 t).read_unread,
    View.ld_unit_zero (S := S4096x1024) hz, View.ld_unit_zero (S := S4096x256) hz]
  exact pay _ _

/-- The blocks, read in the arguments. -/
theorem iblk_inp (t : Fin cfg0.N) (j : S4096x1024.Idx) : iblk m d 0 t j = inp m d j := by
  unfold iblk
  rw [View.read_apply]
  show V m d main_arg0 _ = _
  rw [V_main_arg0]
  refine congrArg (inp m d) (idx_eq ?_ ?_)
  · show win0_0.index t 0 * 4096 + 1 * (j 0).val = _; rw [(idx0 t).1]; omega
  · show win0_0.index t 1 * 1024 + 1 * (j 1).val = _; rw [(idx0 t).2]; omega
theorem iblk_dy (t : Fin cfg0.N) (j : S4096x256.Idx) (i : S4096x2048.Idx) (h0 : (i 0).val = (j 0).val) (h1 : (i 1).val = t.val * 256 + (j 1).val) :
    iblk m d 1 t j = dy m d i := by
  unfold iblk
  rw [View.read_apply]
  show V m d main_arg1 _ = _
  rw [V_main_arg1]
  refine congrArg (dy m d) (idx_eq ?_ ?_)
  · show win0_1.index t 0 * 4096 + 1 * (j 0).val = _; rw [(idx1 t).1]; omega
  · show win0_1.index t 1 * 256 + 1 * (j 1).val = _; rw [(idx1 t).2]; omega

/-- The point whose block of 256 columns holds a column. -/
def pt (i : Fin 2048) : Fin cfg0.N := ⟨i.val / 256, by rw [show cfg0.N = 8 from N_0]; have := i.isLt; omega⟩

/-- The array the call leaves. -/
theorem out : (dats m 0 d).arrAt 2 cfg0.N = tn (inp m d) (dy m d) :=
  (dats m 0 d).arrAt_eq_of_cover 2 (tn (inp m d) (dy m d)) (fun t _ => by
      rw [Value.flushed2, outs]
      funext j
      rw [View.read_apply]
      refine tn_congr _ _ _ _ _ _ (fun q => (iblk_inp m d t _).trans (congrArg (inp m d) (idx_eq rfl ?_))) (fun q => iblk_dy m d t _ _ rfl ?_)
      · show (j 0).val = win0_2.index t 0 * 1024 + 1 * (j 0).val; rw [(idx2 t).1]; omega
      · show win0_2.index t 1 * 256 + 1 * (j 1).val = _; rw [(idx2 t).2, Nat.one_mul]; rfl)
    fun i => ⟨pt (i 1), flush0_2 _, by
      show i ∈ ((View.whole main_v0).slice (win0_2.rect (pt (i 1)))).set
      rw [View.set_slice_whole, Rect.mem_set_unit]
      intro a
      match a with
      | ⟨0, _⟩ => exact in_whole (i 0) (idx2 _).1
      | ⟨1, _⟩ => exact in_block (i 1).val 256 (by norm_num) (idx2 _).2⟩

/-- The reference's array. -/
theorem ref (A : Arr 4096 1024) (B : Arr 4096 2048) : Cert.ReferenceMdiIdeal.Read.val_main_v6 (F := Ideal) A B = tn A B := by
  funext i
  rw [← tn_comm]
  pointwise [Cert.ReferenceMdiIdeal.Read.val_main_v6_apply, Cert.ReferenceMdiIdeal.Read.val_main_v5_apply, Cert.ReferenceMdiIdeal.Read.val_main_v4_apply,
    Cert.ReferenceMdiIdeal.Read.val_main_v3_apply, Cert.ReferenceMdiIdeal.Read.val_main_v1_apply]
  exact Finset.sum_congr rfl fun q _ => congrArg₂ (· * ·) (congrArg B (idx_eq rfl rfl)) (congrArg A (idx_eq rfl rfl))

theorem frame_ref : Cert.quiescent_ReferenceMdiIdeal := fun m g _ =>
  (θ_run Cert.ReferenceMdiIdeal.defs _ _).mono (fun r h => ⟨fun c => (h c).2, sem_eq_zero_of_no_sems (by decide) r.2⟩)
    (Cert.ReferenceMdiIdeal.Value.run (F := Ideal) m g)

/-- The call's array is the reference's. -/
theorem algebraic : Cert.algebraic_KernelMdiIdeal_ReferenceMdiIdeal := by
  intro m g m' g' _ hag
  refine ⟨fun c => (dats m 0 c).arrAt 2 cfg0.N, Value.run_blocks m g,
    (θ_run Cert.ReferenceMdiIdeal.defs _ _).mono (fun r h d => ?_) (Cert.ReferenceMdiIdeal.Value.run (F := Ideal) m' g')⟩
  obtain ⟨a0, a1⟩ := hag d
  obtain ⟨h0, hk⟩ := h d
  rw [Cert.ReferenceMdiIdeal.Read.val_main_v6_eq, a0, a1] at h0
  exact ⟨(h0.trans (ref _ _)).trans (out m d).symm, hk⟩

end Cert.Mdi

end
-- ==== Proof.Mdo.lean ====
/- The gradient of the mixer's output weight: the call's array is the product of the transposed mixer outputs with the projection's gradient. -/
module

public import proofs.«01_k».proof.Proof.Prod
public import proofs.«01_k».proof.Defs
public import proofs.«01_k».proof.Proof.Gen.KernelMdo.Frame
public import proofs.«01_k».proof.Proof.Gen.KernelMdoIdeal.Value
public import proofs.«01_k».proof.Proof.Gen.ReferenceMdoIdeal.Run
public import proofs.«01_k».proof.Proof.Gen.ReferenceMdoIdeal.Read
public import Idealize.ShloMosaic.Lib.Pipeline.ReadBack
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Mdo

open Cert.KernelMdoIdeal Cert.KernelMdoIdeal.Gen Cert.Prod

/-- The zero offsets of a whole rank-2 block. -/
theorem hz : (![0, 0] : Fin 2 → Nat) = fun _ => 0 := funext fun a => by fin_cases a <;> rfl

/-- What a point stores: the product of its two blocks. -/
theorem pay (A : Vec Ideal S4096x1024 .bf16) (B : Vec Ideal S4096x256 .bf16) : k0_pay1 (F := Ideal) A B = tn A B := by
  funext i
  pointwise [k0_pay1]
  rfl

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = 0 ∧ win0_2.index t 1 = t.val :=
  (by decide +kernel : ∀ t : Fin grid0.N, win0_2.index t 0 = 0 ∧ win0_2.index t 1 = t.val)

variable (m : (ℓ : Loc nD τ sig) → Buf (Elt Ideal) ℓ) (d : Dev nD)

/-- The product's input, and its output's gradient. -/
abbrev inp : Arr 4096 1024 := m ((d : Thread nD τ).loc main_arg0)
abbrev dy : Arr 4096 1024 := m ((d : Thread nD τ).loc main_arg1)

/-- A point's output block is the product of its input blocks. -/
theorem outs (t : Fin cfg0.N) : outsAt0 m d t = tn (iblk m d 0 t) (iblk m d 1 t) := by
  unfold outsAt0 out0_A_2
  unfold kernelRun0_A
  dsimp only
  sl_unfold_words
  simp only [View.read_writes_junk_eq_canon, View.canon_unit_zero (S := S1024x256) hz, View.readAt_eq_ld, (hs0_0 t).read_unread, (hs0_1 t).read_unread,
    View.ld_unit_zero (S := S4096x1024) hz, View.ld_unit_zero (S := S4096x256) hz]
  exact pay _ _

/-- The blocks, read in the arguments. -/
theorem iblk_inp (t : Fin cfg0.N) (j : S4096x1024.Idx) : iblk m d 0 t j = inp m d j := by
  unfold iblk
  rw [View.read_apply]
  show V m d main_arg0 _ = _
  rw [V_main_arg0]
  refine congrArg (inp m d) (idx_eq ?_ ?_)
  · show win0_0.index t 0 * 4096 + 1 * (j 0).val = _; rw [(idx0 t).1]; omega
  · show win0_0.index t 1 * 1024 + 1 * (j 1).val = _; rw [(idx0 t).2]; omega
theorem iblk_dy (t : Fin cfg0.N) (j : S4096x256.Idx) (i : S4096x1024.Idx) (h0 : (i 0).val = (j 0).val) (h1 : (i 1).val = t.val * 256 + (j 1).val) :
    iblk m d 1 t j = dy m d i := by
  unfold iblk
  rw [View.read_apply]
  show V m d main_arg1 _ = _
  rw [V_main_arg1]
  refine congrArg (dy m d) (idx_eq ?_ ?_)
  · show win0_1.index t 0 * 4096 + 1 * (j 0).val = _; rw [(idx1 t).1]; omega
  · show win0_1.index t 1 * 256 + 1 * (j 1).val = _; rw [(idx1 t).2]; omega

/-- The point whose block of 256 columns holds a column. -/
def pt (i : Fin 1024) : Fin cfg0.N := ⟨i.val / 256, by rw [show cfg0.N = 4 from N_0]; have := i.isLt; omega⟩

/-- The array the call leaves. -/
theorem out : (dats m 0 d).arrAt 2 cfg0.N = tn (inp m d) (dy m d) :=
  (dats m 0 d).arrAt_eq_of_cover 2 (tn (inp m d) (dy m d)) (fun t _ => by
      rw [Value.flushed2, outs]
      funext j
      rw [View.read_apply]
      refine tn_congr _ _ _ _ _ _ (fun q => (iblk_inp m d t _).trans (congrArg (inp m d) (idx_eq rfl ?_))) (fun q => iblk_dy m d t _ _ rfl ?_)
      · show (j 0).val = win0_2.index t 0 * 1024 + 1 * (j 0).val; rw [(idx2 t).1]; omega
      · show win0_2.index t 1 * 256 + 1 * (j 1).val = _; rw [(idx2 t).2, Nat.one_mul]; rfl)
    fun i => ⟨pt (i 1), flush0_2 _, by
      show i ∈ ((View.whole main_v0).slice (win0_2.rect (pt (i 1)))).set
      rw [View.set_slice_whole, Rect.mem_set_unit]
      intro a
      match a with
      | ⟨0, _⟩ => exact in_whole (i 0) (idx2 _).1
      | ⟨1, _⟩ => exact in_block (i 1).val 256 (by norm_num) (idx2 _).2⟩

/-- The reference's array. -/
theorem ref (A : Arr 4096 1024) (B : Arr 4096 1024) : Cert.ReferenceMdoIdeal.Read.val_main_v6 (F := Ideal) A B = tn A B := by
  funext i
  rw [← tn_comm]
  pointwise [Cert.ReferenceMdoIdeal.Read.val_main_v6_apply, Cert.ReferenceMdoIdeal.Read.val_main_v5_apply, Cert.ReferenceMdoIdeal.Read.val_main_v4_apply,
    Cert.ReferenceMdoIdeal.Read.val_main_v3_apply, Cert.ReferenceMdoIdeal.Read.val_main_v1_apply]
  exact Finset.sum_congr rfl fun q _ => congrArg₂ (· * ·) (congrArg B (idx_eq rfl rfl)) (congrArg A (idx_eq rfl rfl))

theorem frame_ref : Cert.quiescent_ReferenceMdoIdeal := fun m g _ =>
  (θ_run Cert.ReferenceMdoIdeal.defs _ _).mono (fun r h => ⟨fun c => (h c).2, sem_eq_zero_of_no_sems (by decide) r.2⟩)
    (Cert.ReferenceMdoIdeal.Value.run (F := Ideal) m g)

/-- The call's array is the reference's. -/
theorem algebraic : Cert.algebraic_KernelMdoIdeal_ReferenceMdoIdeal := by
  intro m g m' g' _ hag
  refine ⟨fun c => (dats m 0 c).arrAt 2 cfg0.N, Value.run_blocks m g,
    (θ_run Cert.ReferenceMdoIdeal.defs _ _).mono (fun r h d => ?_) (Cert.ReferenceMdoIdeal.Value.run (F := Ideal) m' g')⟩
  obtain ⟨a0, a1⟩ := hag d
  obtain ⟨h0, hk⟩ := h d
  rw [Cert.ReferenceMdoIdeal.Read.val_main_v6_eq, a0, a1] at h0
  exact ⟨(h0.trans (ref _ _)).trans (out m d).symm, hk⟩

end Cert.Mdo

end
-- ==== Proof.Bwd2.lean ====
/- The second feed-forward sub-layer's backward call: the same code as the first's, on other rows of the table of channel vectors. What a point leaves
   is the first call's point on the table with those rows moved to the first call's, and the real gradient is the same. -/
module

public import proofs.«01_k».proof.Proof.Claims
public import proofs.«01_k».proof.Proof.Prod
public import proofs.«01_k».proof.Proof.Gen.Kernel2.Frame
public import proofs.«01_k».proof.Proof.Gen.Kernel2Ideal.Value

@[expose] public section

set_option maxRecDepth 16384

noncomputable section

open Idealize.ShloMosaic Idealize.ShloMosaic.TcCoe Idealize.SL.Sem

namespace Cert.Bwd2

open Cert.Kernel2Ideal Cert.Kernel2Ideal.Gen Cert.Reals Cert.Spec
open Cert.Prod (in_block in_whole)
open Cert.KernelIdeal.Block (hz read_rows4 readCov_row_skip readCov_row_fill vrow vSh vSc vGt vG outs bDX bDA bDH bDHN bSum up_at blk up_blk outs_real
  zero_real rows_sum blk_read)

/-! ## A grid point -/

section Point

variable {F : FTy → Type} [FloatOps F]

/-- The row of this call's table that the first call's row stands for. -/
def rho (r : ℕ) : Fin 16 := if r = 0 then 6 else if r = 1 then 7 else if r = 2 then 8 else 13

/-- The table with this call's rows where the first call reads its own. -/
def moved (v : Vec F S16x1024 .f32) : Vec F S16x1024 .f32 := fun i => v (ix2 (rho (i 0).val) (i 1 : Fin 1024))

theorem vSh_moved (v : Vec F S16x1024 .f32) : vSh (moved v) = vrow 6 inb_S16x1024_S1x1024_6_0 v := by
  funext i
  pointwise [vSh, vrow, moved]
  rfl
theorem vSc_moved (v : Vec F S16x1024 .f32) : vSc (moved v) = vrow 7 inb_S16x1024_S1x1024_7_0 v := by
  funext i
  pointwise [vSc, vrow, moved]
  rfl
theorem vGt_moved (v : Vec F S16x1024 .f32) : vGt (moved v) = vrow 8 inb_S16x1024_S1x1024_8_0 v := by
  funext i
  pointwise [vGt, vrow, moved]
  rfl
theorem vG_moved (v : Vec F S16x1024 .f32) : vG (moved v) = vrow 13 inb_S16x1024_S1x1024_13_0 v := by
  funext i
  pointwise [vG, vrow, moved]
  rfl

variable (m : (ℓ : Loc nD τ sig) → Buf (Elt F) ℓ)

/-- The blocks after the first point: the running sums start at zero. -/
theorem outsAt_first (c : Dev nD) (t : Fin cfg0.N) (h0 : t.val % 16 = 0) :
    outsAt0 m c t.val t.isLt = outs (iblk m c 0 t) (iblk m c 1 t) (moved (iblk m c 2 t)) (iblk m c 3 t) (iblk m c 4 t) (iblk m c 5 t)
      (iblk m c 6 t) (iblk m c 7 t) (iblk m c 8 t) Cert.KernelIdeal.Gen.k0_pay3 := by
  rw [outsAt0_A m c t h0]
  unfold out0_A_9 out0_A_10 out0_A_11 out0_A_12 out0_A_13 out0_A_14 out0_A_15
  unfold kernelRun0_A
  dsimp only
  sl_unfold_words
  simp only [read_rows4]
  simp only [View.read_writes_junk_eq_canon, View.canon_unit_zero (S := S256x1024) hz, View.canon_unit_zero (S := S256x2816) hz,
    View.canon_unit_zero (S := S8x1024) hz]
  simp only [readCov_row_skip, readCov_row_fill, ne_eq, Nat.reduceEqDiff, not_false_eq_true, one_ne_zero, OfNat.ofNat_ne_zero,
    OfNat.zero_ne_ofNat, zero_ne_one, OfNat.ofNat_ne_one, OfNat.one_ne_ofNat, View.readAt_eq_ld,
    (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    View.ld_unit_zero (S := S256x1024) hz, View.ld_unit_zero (S := S256x2816) hz, View.ld_unit_zero (S := S1024x2816) hz,
    View.ld_unit_zero (S := S2816x1024) hz]
  simp only [outs, bDX, bDA, bDH, bDHN, bSum, vSh_moved, vSc_moved, vGt_moved, vG_moved]
  rfl

/-- The blocks after a later point: the running sums go on from the point before. -/
theorem outsAt_next (c : Dev nD) (t : Fin cfg0.N) (h0 : ¬ t.val % 16 = 0) :
    outsAt0 m c t.val t.isLt = outs (iblk m c 0 t) (iblk m c 1 t) (moved (iblk m c 2 t)) (iblk m c 3 t) (iblk m c 4 t) (iblk m c 5 t)
      (iblk m c 6 t) (iblk m c 7 t) (iblk m c 8 t)
      (outsAt0 m c (t.val - 1) (Nat.lt_of_le_of_lt (Nat.sub_le _ _) t.isLt)).2.2.2.2.2.2 := by
  rw [outsAt0_B m c t h0]
  unfold out0_B_9 out0_B_10 out0_B_11 out0_B_12 out0_B_13 out0_B_14 out0_B_15
  unfold kernelRun0_B
  dsimp only
  sl_unfold_words
  simp only [read_rows4]
  simp only [View.read_writes_junk_eq_canon, View.canon_unit_zero (S := S256x1024) hz, View.canon_unit_zero (S := S256x2816) hz,
    View.writes_nil]
  simp only [View.readAt_eq_ld,
    (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread, (hs0_15 t).read_unread,
    View.ld_unit_zero (S := S256x1024) hz, View.ld_unit_zero (S := S256x2816) hz, View.ld_unit_zero (S := S1024x2816) hz,
    View.ld_unit_zero (S := S2816x1024) hz]
  simp only [outs, bDX, bDA, bDH, bDHN, bSum, vSh_moved, vSc_moved, vGt_moved, vG_moved]
  rfl

end Point

/-! ## The blocks the windows read -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 1 :=
  (by decide +kernel : ∀ t : Fin grid0.N, win0_7.index t 0 = 0 ∧ win0_7.index t 1 = 1)
theorem idx8 : ∀ t : Fin cfg0.N, win0_8.index t 0 = 0 ∧ win0_8.index t 1 = 0 :=
  (by decide +kernel : ∀ t : Fin grid0.N, win0_8.index t 0 = 0 ∧ win0_8.index t 1 = 0)

theorem idx9 : ∀ t : Fin cfg0.N, win0_9.index t 0 = t.val ∧ win0_9.index t 1 = 0 :=
  (by decide +kernel : ∀ t : Fin grid0.N, win0_9.index t 0 = t.val ∧ win0_9.index t 1 = 0)
theorem idx10 : ∀ t : Fin cfg0.N, win0_10.index t 0 = t.val ∧ win0_10.index t 1 = 0 :=
  (by decide +kernel : ∀ t : Fin grid0.N, win0_10.index t 0 = t.val ∧ win0_10.index t 1 = 0)
theorem idx11 : ∀ t : Fin cfg0.N, win0_11.index t 0 = t.val ∧ win0_11.index t 1 = 0 :=
  (by decide +kernel : ∀ t : Fin grid0.N, win0_11.index t 0 = t.val ∧ win0_11.index t 1 = 0)
theorem idx12 : ∀ t : Fin cfg0.N, win0_12.index t 0 = t.val ∧ win0_12.index t 1 = 0 :=
  (by decide +kernel : ∀ t : Fin grid0.N, win0_12.index t 0 = t.val ∧ win0_12.index t 1 = 0)
theorem idx13 : ∀ t : Fin cfg0.N, win0_13.index t 0 = t.val ∧ win0_13.index t 1 = 0 :=
  (by decide +kernel : ∀ t : Fin grid0.N, win0_13.index t 0 = t.val ∧ win0_13.index t 1 = 0)
theorem idx14 : ∀ t : Fin cfg0.N, win0_14.index t 0 = t.val ∧ win0_14.index t 1 = 0 :=
  (by decide +kernel : ∀ t : Fin grid0.N, win0_14.index t 0 = t.val ∧ win0_14.index t 1 = 0)
theorem idx15 : ∀ t : Fin cfg0.N, win0_15.index t 0 = 0 ∧ win0_15.index t 1 = 0 :=
  (by decide +kernel : ∀ t : Fin grid0.N, win0_15.index t 0 = 0 ∧ win0_15.index t 1 = 0)

/-- The point whose block of 256 tokens holds a token. -/
def pt (i : Fin 4096) : Fin cfg0.N := ⟨i.val / 256, by rw [show cfg0.N = 16 from N_0]; have := i.isLt; omega⟩

/-- The last point. -/
def last : Fin cfg0.N := ⟨15, by rw [show cfg0.N = 16 from N_0]; norm_num⟩

/-- The table of channel vectors: the shift, the scale and the residual gate in rows 6, 7 and 8, the gain in row 13. -/
def tbl (p : Par) (r : Fin 16) (j : Fin 1024) : ℝ :=
  if r.val = 6 then p.sh j else if r.val = 7 then p.sc j else if r.val = 8 then p.gt j else if r.val = 13 then p.g j else 0

theorem vSh_tbl (p : Par) : vSh (F := Ideal) (moved (up (tbl p))) = row p.sh := by
  funext i
  rw [vSh_moved]
  pointwise [vrow]
  simp only [up_apply, row_apply, ixApp2]
  rfl
theorem vSc_tbl (p : Par) : vSc (F := Ideal) (moved (up (tbl p))) = row p.sc := by
  funext i
  rw [vSc_moved]
  pointwise [vrow]
  simp only [up_apply, row_apply, ixApp2]
  rfl
theorem vGt_tbl (p : Par) : vGt (F := Ideal) (moved (up (tbl p))) = row p.gt := by
  funext i
  rw [vGt_moved]
  pointwise [vrow]
  simp only [up_apply, row_apply, ixApp2]
  rfl
theorem vG_tbl (p : Par) : vG (F := Ideal) (moved (up (tbl p))) = row p.g := by
  funext i
  rw [vG_moved]
  pointwise [vrow]
  simp only [up_apply, row_apply, ixApp2]
  rfl

/-- The launch memory's arguments on a core are these real arrays. -/
structure Args (m : (ℓ : Loc nD τ sig) → Buf (Elt Ideal) ℓ) (d : Dev nD) (p : Par) (x c : Fin 4096 → Fin 1024 → ℝ) : Prop where
  x : m ((d : Thread nD τ).loc main_arg0) = up x
  sh : m ((d : Thread nD τ).loc main_arg1) = row p.sh
  sc : m ((d : Thread nD τ).loc main_arg2) = row p.sc
  gt : m ((d : Thread nD τ).loc main_arg3) = row p.gt
  g : m ((d : Thread nD τ).loc main_arg4) = row p.g
  wi : m ((d : Thread nD τ).loc main_arg5) = up p.wi
  wo : m ((d : Thread nD τ).loc main_arg6) = up p.wo
  c : m ((d : Thread nD τ).loc main_arg7) = up c

section Args

variable {m : (ℓ : Loc nD τ sig) → Buf (Elt Ideal) ℓ} {d : Dev nD} {p : Par} {x c : Fin 4096 → Fin 1024 → ℝ} (h : Args m d p x c)
include h

/-- The saved gate half. -/
theorem V_gs : V m d main_v32 = up (fun i => gate p (x i)) := by
  unfold V
  simp only [hostOps0, hostOps0_1, hostOps0_2, List.flatten_cons, List.flatten_nil, List.append_nil, List.cons_append, List.nil_append]
  after_reads_simp
  rw [h.x, h.sh, h.sc, h.g, h.wi]
  exact Cert.Ref.r_gate x p

/-- The saved up-projection half. -/
theorem V_us : V m d main_v33 = up (fun i => upp p (x i)) := by
  unfold V
  simp only [hostOps0, hostOps0_1, hostOps0_2, List.flatten_cons, List.flatten_nil, List.append_nil, List.cons_append, List.nil_append]
  after_reads_simp
  rw [h.x, h.sh, h.sc, h.g, h.wi]
  exact Cert.Ref.r_upp x p

/-- The saved output of the second product. -/
theorem V_y : V m d main_v34 = up (fun i => yv p (x i)) := by
  unfold V
  simp only [hostOps0, hostOps0_1, hostOps0_2, List.flatten_cons, List.flatten_nil, List.append_nil, List.cons_append, List.nil_append]
  after_reads_simp
  rw [h.x, h.sh, h.sc, h.g, h.wi, h.wo]
  exact Cert.Ref.r_y x p

/-- The weights. -/
theorem V_wi : V m d main_v30 = up p.wi := by
  unfold V
  simp only [hostOps0, hostOps0_1, hostOps0_2, List.flatten_cons, List.flatten_nil, List.append_nil, List.cons_append, List.nil_append]
  after_reads_simp
  rw [h.wi]
  rfl
theorem V_wo : V m d main_v31 = up p.wo := by
  unfold V
  simp only [hostOps0, hostOps0_1, hostOps0_2, List.flatten_cons, List.flatten_nil, List.append_nil, List.cons_append, List.nil_append]
  after_reads_simp
  rw [h.wo]
  rfl

/-- The table of channel vectors. -/
theorem V_vecs : V m d main_v29 = up (tbl p) := by
  funext i
  unfold V
  simp only [hostOps0, hostOps0_1, hostOps0_2, List.flatten_cons, List.flatten_nil, List.append_nil, List.cons_append, List.nil_append]
  after_reads_simp
  dsimp only [Matrix.cons_val]
  after_reads_simp
  rw [show m (d, Proc.tc.devRef main_arg1) = row p.sh from h.sh, show m (d, Proc.tc.devRef main_arg2) = row p.sc from h.sc,
    show m (d, Proc.tc.devRef main_arg3) = row p.gt from h.gt, show m (d, Proc.tc.devRef main_arg4) = row p.g from h.g]
  pointwise
  simp only [up_apply, row_apply, ixApp2]
  unfold tbl
  split_ifs <;> first | rfl | exact EReal.coe_zero.symm | omega

/-! ## The blocks -/

/-- The token blocks: of the incoming gradient, the tokens, and what the forward pass saved of them. -/
theorem iblk_ct (t : Fin cfg0.N) : iblk m d 0 t = up (blk t.val c) := by
  funext j
  unfold iblk
  rw [View.read_apply]
  show V m d main_arg7 _ = _
  rw [V_main_arg7, h.c]
  exact up_blk c t.val _ j (by show win0_0.index t 0 * 256 + 1 * (j 0).val = _; rw [(idx0 t).1]; omega)
    (by show win0_0.index t 1 * 1024 + 1 * (j 1).val = _; rw [(idx0 t).2]; omega)
theorem iblk_x (t : Fin cfg0.N) : iblk m d 1 t = up (blk t.val x) := by
  funext j
  unfold iblk
  rw [View.read_apply]
  show V m d main_arg0 _ = _
  rw [V_main_arg0, h.x]
  exact up_blk x t.val _ j (by show win0_1.index t 0 * 256 + 1 * (j 0).val = _; rw [(idx1 t).1]; omega)
    (by show win0_1.index t 1 * 1024 + 1 * (j 1).val = _; rw [(idx1 t).2]; omega)
theorem iblk_gs (t : Fin cfg0.N) : iblk m d 3 t = up (fun i => gate p (blk t.val x i)) := by
  funext j
  unfold iblk
  rw [View.read_apply]
  show V m d main_v32 _ = _
  rw [V_gs h]
  exact up_blk (fun i => gate p (x i)) t.val _ j (by show win0_3.index t 0 * 256 + 1 * (j 0).val = _; rw [(idx3 t).1]; omega)
    (by show win0_3.index t 1 * 2816 + 1 * (j 1).val = _; rw [(idx3 t).2]; omega)
theorem iblk_us (t : Fin cfg0.N) : iblk m d 4 t = up (fun i => upp p (blk t.val x i)) := by
  funext j
  unfold iblk
  rw [View.read_apply]
  show V m d main_v33 _ = _
  rw [V_us h]
  exact up_blk (fun i => upp p (x i)) t.val _ j (by show win0_4.index t 0 * 256 + 1 * (j 0).val = _; rw [(idx4 t).1]; omega)
    (by show win0_4.index t 1 * 2816 + 1 * (j 1).val = _; rw [(idx4 t).2]; omega)
theorem iblk_y (t : Fin cfg0.N) : iblk m d 5 t = up (fun i => yv p (blk t.val x i)) := by
  funext j
  unfold iblk
  rw [View.read_apply]
  show V m d main_v34 _ = _
  rw [V_y h]
  exact up_blk (fun i => yv p (x i)) t.val _ j (by show win0_5.index t 0 * 256 + 1 * (j 0).val = _; rw [(idx5 t).1]; omega)
    (by show win0_5.index t 1 * 1024 + 1 * (j 1).val = _; rw [(idx5 t).2]; omega)

/-- The blocks every point reads: the table of channel vectors and the weights, the first one by its two halves. -/
theorem iblk_vecs (t : Fin cfg0.N) : iblk m d 2 t = up (tbl p) := by
  funext j
  unfold iblk
  rw [View.read_apply]
  show V m d main_v29 _ = _
  rw [V_vecs h]
  exact up_at (tbl p) _ (j 0) (j 1) (by show win0_2.index t 0 * 16 + 1 * (j 0).val = _; rw [(idx2 t).1]; omega)
    (by show win0_2.index t 1 * 1024 + 1 * (j 1).val = _; rw [(idx2 t).2]; omega)
theorem iblk_wg (t : Fin cfg0.N) : iblk m d 6 t = up (fun j k => p.wi j (gcol k)) := by
  funext j
  unfold iblk
  rw [View.read_apply]
  show V m d main_v30 _ = _
  rw [V_wi h]
  exact up_at p.wi _ (j 0) (gcol (j 1)) (by show win0_6.index t 0 * 1024 + 1 * (j 0).val = _; rw [(idx6 t).1]; omega)
    (by show win0_6.index t 1 * 2816 + 1 * (j 1).val = (j 1).val; rw [(idx6 t).2]; omega)
theorem iblk_wu (t : Fin cfg0.N) : iblk m d 7 t = up (fun j k => p.wi j (ucol k)) := by
  funext j
  unfold iblk
  rw [View.read_apply]
  show V m d main_v30 _ = _
  rw [V_wi h]
  exact up_at p.wi _ (j 0) (ucol (j 1)) (by show win0_7.index t 0 * 1024 + 1 * (j 0).val = _; rw [(idx7 t).1]; omega)
    (by show win0_7.index t 1 * 2816 + 1 * (j 1).val = 2816 + (j 1).val; rw [(idx7 t).2]; omega)
theorem iblk_wo (t : Fin cfg0.N) : iblk m d 8 t = up p.wo := by
  funext j
  unfold iblk
  rw [View.read_apply]
  show V m d main_v31 _ = _
  rw [V_wo h]
  exact up_at p.wo _ (j 0) (j 1) (by show win0_8.index t 0 * 2816 + 1 * (j 0).val = _; rw [(idx8 t).1]; omega)
    (by show win0_8.index t 1 * 1024 + 1 * (j 1).val = _; rw [(idx8 t).2]; omega)

/-! ## All the points -/

/-- After point `n` the seven blocks hold the real gradient of that point's tokens, and the sums of the points so far. -/
theorem outsAt_real : ∀ (n : ℕ) (hn : n < cfg0.N), outsAt0 m d n hn
    = (up (fun i => dx p (blk n x i) (blk n c i)), up (fun i => act p (blk n x i)), up (fun i => dgate p (blk n x i) (blk n c i)),
        up (fun i => dup p (blk n x i) (blk n c i)), up (fun i => hid p (blk n x i)), up (fun i => dy p (blk n c i)),
        up (fun r j => ∑ s ∈ Finset.range (n + 1), rows p (blk s x) (blk s c) j r))
  | 0, hn => by
    refine (outsAt_first m d ⟨0, hn⟩ rfl).trans ?_
    rw [iblk_ct h, iblk_x h, iblk_vecs h, iblk_gs h, iblk_us h, iblk_y h, iblk_wg h, iblk_wu h, iblk_wo h, zero_real,
      outs_real _ _ p _ (vSh_tbl p) (vSc_tbl p) (vGt_tbl p) (vG_tbl p)]
    simp only [Finset.sum_range_one, zero_add]
  | n + 1, hn => by
    have hN : cfg0.N = 16 := N_0
    refine (outsAt_next m d ⟨n + 1, hn⟩ (by show ¬ (n + 1) % 16 = 0; omega)).trans ?_
    simp only [Nat.add_sub_cancel]
    rw [outsAt_real n (by omega), iblk_ct h, iblk_x h, iblk_vecs h, iblk_gs h, iblk_us h, iblk_y h, iblk_wg h, iblk_wu h, iblk_wo h,
      outs_real _ _ p _ (vSh_tbl p) (vSc_tbl p) (vGt_tbl p) (vG_tbl p)]
    simp only [Finset.sum_range_succ _ (n + 1)]

/-- The gradient of the tokens. -/
theorem out9 : (dats m 0 d).arrAt 9 cfg0.N = up (fun i => dx p (x i) (c i)) :=
  (dats m 0 d).arrAt_eq_of_cover 9 (up (fun i => dx p (x i) (c i))) (fun t _ => by
      rw [Value.flushed9, outsAt_real h]
      funext j
      rw [View.read_apply]
      exact blk_read (fun i => dx p (x i) (c i)) t.val (idx9 t).1 (idx9 t).2 _ j rfl rfl)
    fun i => ⟨pt (i 0), flush0_9 _, by
      show i ∈ ((View.whole main_v35_0).slice (win0_9.rect (pt (i 0)))).set
      rw [View.set_slice_whole, Rect.mem_set_unit]
      intro a
      match a with
      | ⟨0, _⟩ => exact in_block (i 0).val 256 (by norm_num) (idx9 _).1
      | ⟨1, _⟩ => exact in_whole (i 1) (idx9 _).2⟩
/-- The gated activation. -/
theorem out10 : (dats m 0 d).arrAt 10 cfg0.N = up (fun i => act p (x i)) :=
  (dats m 0 d).arrAt_eq_of_cover 10 (up (fun i => act p (x i))) (fun t _ => by
      rw [Value.flushed10, outsAt_real h]
      funext j
      rw [View.read_apply]
      exact blk_read (fun i => act p (x i)) t.val (idx10 t).1 (idx10 t).2 _ j rfl rfl)
    fun i => ⟨pt (i 0), flush0_10 _, by
      show i ∈ ((View.whole main_v35_1).slice (win0_10.rect (pt (i 0)))).set
      rw [View.set_slice_whole, Rect.mem_set_unit]
      intro a
      match a with
      | ⟨0, _⟩ => exact in_block (i 0).val 256 (by norm_num) (idx10 _).1
      | ⟨1, _⟩ => exact in_whole (i 1) (idx10 _).2⟩
/-- The gradient of the gate half of the first product. -/
theorem out11 : (dats m 0 d).arrAt 11 cfg0.N = up (fun i => dgate p (x i) (c i)) :=
  (dats m 0 d).arrAt_eq_of_cover 11 (up (fun i => dgate p (x i) (c i))) (fun t _ => by
      rw [Value.flushed11, outsAt_real h]
      funext j
      rw [View.read_apply]
      exact blk_read (fun i => dgate p (x i) (c i)) t.val (idx11 t).1 (idx11 t).2 _ j rfl rfl)
    fun i => ⟨pt (i 0), flush0_11 _, by
      show i ∈ ((View.whole main_v35_2).slice (win0_11.rect (pt (i 0)))).set
      rw [View.set_slice_whole, Rect.mem_set_unit]
      intro a
      match a with
      | ⟨0, _⟩ => exact in_block (i 0).val 256 (by norm_num) (idx11 _).1
      | ⟨1, _⟩ => exact in_whole (i 1) (idx11 _).2⟩
/-- The gradient of the up-projection half. -/
theorem out12 : (dats m 0 d).arrAt 12 cfg0.N = up (fun i => dup p (x i) (c i)) :=
  (dats m 0 d).arrAt_eq_of_cover 12 (up (fun i => dup p (x i) (c i))) (fun t _ => by
      rw [Value.flushed12, outsAt_real h]
      funext j
      rw [View.read_apply]
      exact blk_read (fun i => dup p (x i) (c i)) t.val (idx12 t).1 (idx12 t).2 _ j rfl rfl)
    fun i => ⟨pt (i 0), flush0_12 _, by
      show i ∈ ((View.whole main_v35_3).slice (win0_12.rect (pt (i 0)))).set
      rw [View.set_slice_whole, Rect.mem_set_unit]
      intro a
      match a with
      | ⟨0, _⟩ => exact in_block (i 0).val 256 (by norm_num) (idx12 _).1
      | ⟨1, _⟩ => exact in_whole (i 1) (idx12 _).2⟩
/-- The input of the first product. -/
theorem out13 : (dats m 0 d).arrAt 13 cfg0.N = up (fun i => hid p (x i)) :=
  (dats m 0 d).arrAt_eq_of_cover 13 (up (fun i => hid p (x i))) (fun t _ => by
      rw [Value.flushed13, outsAt_real h]
      funext j
      rw [View.read_apply]
      exact blk_read (fun i => hid p (x i)) t.val (idx13 t).1 (idx13 t).2 _ j rfl rfl)
    fun i => ⟨pt (i 0), flush0_13 _, by
      show i ∈ ((View.whole main_v35_4).slice (win0_13.rect (pt (i 0)))).set
      rw [View.set_slice_whole, Rect.mem_set_unit]
      intro a
      match a with
      | ⟨0, _⟩ => exact in_block (i 0).val 256 (by norm_num) (idx13 _).1
      | ⟨1, _⟩ => exact in_whole (i 1) (idx13 _).2⟩
/-- The gradient of the second product's output. -/
theorem out14 : (dats m 0 d).arrAt 14 cfg0.N = up (fun i => dy p (c i)) :=
  (dats m 0 d).arrAt_eq_of_cover 14 (up (fun i => dy p (c i))) (fun t _ => by
      rw [Value.flushed14, outsAt_real h]
      funext j
      rw [View.read_apply]
      exact blk_read (fun i => dy p (c i)) t.val (idx14 t).1 (idx14 t).2 _ j rfl rfl)
    fun i => ⟨pt (i 0), flush0_14 _, by
      show i ∈ ((View.whole main_v35_5).slice (win0_14.rect (pt (i 0)))).set
      rw [View.set_slice_whole, Rect.mem_set_unit]
      intro a
      match a with
      | ⟨0, _⟩ => exact in_block (i 0).val 256 (by norm_num) (idx14 _).1
      | ⟨1, _⟩ => exact in_whole (i 1) (idx14 _).2⟩

/-- The rows of sums: the one block is written back once, after the last point, when every token's part is in. -/
theorem out15 : (dats m 0 d).arrAt 15 cfg0.N = up (fun r j => rows p x c j r) :=
  (dats m 0 d).arrAt_eq_of_cover 15 (up (fun r j => rows p x c j r)) (fun t hf => by
      have hN : cfg0.N = 16 := N_0
      have h15 : t.val + 1 = 16 := by have := (flush0_15 t).mp hf; have := t.isLt; omega
      rw [Value.flushed15, outsAt_real h, h15]
      simp only [rows_sum]
      funext j
      rw [View.read_apply]
      exact (up_at (fun r j => rows p x c j r) _ (j 0) (j 1) (by show win0_15.index t 0 * 8 + 1 * (j 0).val = _; rw [(idx15 t).1]; omega)
        (by show win0_15.index t 1 * 1024 + 1 * (j 1).val = _; rw [(idx15 t).2]; omega)).symm)
    fun i => ⟨last, (flush0_15 _).mpr rfl, by
      show i ∈ ((View.whole main_v35_6).slice (win0_15.rect last)).set
      rw [View.set_slice_whole, Rect.mem_set_unit]
      intro a
      match a with
      | ⟨0, _⟩ => exact in_whole (i 0) (idx15 _).1
      | ⟨1, _⟩ => exact in_whole (i 1) (idx15 _).2⟩

end Args

/-- Finite arguments are real arrays. -/
theorem args_of_pre (m : (ℓ : Loc Cert.Kernel2Ideal.nD Cert.Kernel2Ideal.τ Cert.Kernel2Ideal.sig) → Buf (Elt Ideal) ℓ)
    (hpre : Cert.Pre_Kernel2Ideal_finite m) (d : Dev Cert.Kernel2Ideal.nD) :
    ∃ (p : Par) (x c : Fin 4096 → Fin 1024 → ℝ), Args m d p x c := by
  obtain ⟨h0, h1, h2, h3, h4, h5, h6, h7⟩ := hpre d
  obtain ⟨x, hx⟩ := exists_up _ (Cert.Claims.finite_array _ _ h0)
  obtain ⟨sh, hsh⟩ := exists_row _ (Cert.Claims.finite_array _ _ h1)
  obtain ⟨sc, hsc⟩ := exists_row _ (Cert.Claims.finite_array _ _ h2)
  obtain ⟨gt, hgt⟩ := exists_row _ (Cert.Claims.finite_array _ _ h3)
  obtain ⟨g, hg⟩ := exists_row _ (Cert.Claims.finite_array _ _ h4)
  obtain ⟨wi, hwi⟩ := exists_up _ (Cert.Claims.finite_array _ _ h5)
  obtain ⟨wo, hwo⟩ := exists_up _ (Cert.Claims.finite_array _ _ h6)
  obtain ⟨c, hc⟩ := exists_up _ (Cert.Claims.finite_array _ _ h7)
  exact ⟨⟨sh, sc, gt, g, wi, wo⟩, x, c, ⟨hx, hsh, hsc, hgt, hg, hwi, hwo, hc⟩⟩

set_option maxHeartbeats 4000000 in
/-- On finite arguments the kernel's seven results are the reference's: both are the sub-layer's gradient over the reals. -/
theorem algebraic : Cert.algebraic_Kernel2Ideal_ReferenceIdeal_pre_finite := by
  intro m g m' g' hpre hag
  refine ⟨fun c => (Cert.Kernel2Ideal.Gen.dats m 0 c).arrAt 9 Cert.Kernel2Ideal.cfg0.N, fun c => (Cert.Kernel2Ideal.Gen.dats m 0 c).arrAt 10 Cert.Kernel2Ideal.cfg0.N,
    fun c => (Cert.Kernel2Ideal.Gen.dats m 0 c).arrAt 11 Cert.Kernel2Ideal.cfg0.N, fun c => (Cert.Kernel2Ideal.Gen.dats m 0 c).arrAt 12 Cert.Kernel2Ideal.cfg0.N,
    fun c => (Cert.Kernel2Ideal.Gen.dats m 0 c).arrAt 13 Cert.Kernel2Ideal.cfg0.N, fun c => (Cert.Kernel2Ideal.Gen.dats m 0 c).arrAt 14 Cert.Kernel2Ideal.cfg0.N,
    fun c => (Cert.Kernel2Ideal.Gen.dats m 0 c).arrAt 15 Cert.Kernel2Ideal.cfg0.N, Cert.Kernel2Ideal.Value.run_blocks m g,
    (θ_run Cert.ReferenceIdeal.defs _ _).mono (fun r h d => ?_) (Cert.ReferenceIdeal.Value.run (F := Ideal) m' g')⟩
  obtain ⟨p, x, c, hA⟩ := args_of_pre m hpre d
  obtain ⟨a0, a1, a2, a3, a4, a5, a6, a7⟩ := hag d
  replace a0 := a0.trans hA.x
  replace a1 := a1.trans hA.sh
  replace a2 := a2.trans hA.sc
  replace a3 := a3.trans hA.gt
  replace a4 := a4.trans hA.g
  replace a5 := a5.trans hA.wi
  replace a6 := a6.trans hA.wo
  replace a7 := a7.trans hA.c
  obtain ⟨h0, h1, h2, h3, h4, h5, h6, hk⟩ := h d
  rw [Cert.ReferenceIdeal.Read.val_main_v76_eq, a0, a1, a2, a3, a4, a5, a6, a7, Cert.Ref.r_dx] at h0
  rw [Cert.ReferenceIdeal.Read.val_main_v77_eq, a0, a1, a2, a4, a5] at h1
  rw [Cert.ReferenceIdeal.Read.val_main_v78_eq, a0, a1, a2, a3, a4, a5, a6, a7, Cert.Claims.r_half0] at h2
  rw [Cert.ReferenceIdeal.Read.val_main_v79_eq, a0, a1, a2, a3, a4, a5, a6, a7, Cert.Claims.r_half1] at h3
  rw [Cert.ReferenceIdeal.Read.val_main_v80_eq, a0, a1, a2, a4] at h4
  rw [Cert.ReferenceIdeal.Read.val_main_v81_eq, a3, a7] at h5
  rw [Cert.ReferenceIdeal.Read.val_main_v75_eq, a0, a1, a2, a3, a4, a5, a6, a7, Cert.Ref.r_rows] at h6
  exact ⟨h0.trans (out9 hA).symm, (h1.trans (Cert.Ref.r_act x p)).trans (out10 hA).symm, h2.trans (out11 hA).symm, h3.trans (out12 hA).symm,
    (h4.trans (Cert.Ref.r_hid x p)).trans (out13 hA).symm, (h5.trans (Cert.Ref.r_dy c p)).trans (out14 hA).symm, h6.trans (out15 hA).symm, hk⟩

end Cert.Bwd2

end
-- ==== Proof.LossRef.lean ====
/- The second feed-forward sub-layer followed by the final norm and the loss: its real values and the loss's real gradient, and the reference's values
   at real inputs, which are these. -/
module

public import proofs.«01_k».proof.Proof.Gen.ReferenceLossIdeal.Read
public import proofs.«01_k».proof.Proof.Spec
public import Idealize.ShloMosaic.Lib.Pointwise

@[expose] public section

set_option maxRecDepth 16384

noncomputable section

open Idealize.ShloMosaic

namespace Cert.Loss

open Cert.Reals Cert.Spec

theorem lit_two : Ideal.ofBits .f32 0x40000000#32 = ((2 : ℝ) : EReal) := by
  simp [Ideal.ofBits, Ideal.ieee, -EReal.coe_mul]; norm_num
theorem lit_inv1024 : Ideal.ofBits .f32 0x3A800000#32 = ((1 / 1024 : ℝ) : EReal) := by
  simp [Ideal.ofBits, Ideal.ieee, -EReal.coe_mul]; norm_num

/-! ## The real values -/

/-- The final norm's parameters: its adaptive shift and scale, and its gain. -/
structure Head where
  sh : Fin 1024 → ℝ
  sc : Fin 1024 → ℝ
  g : Fin 1024 → ℝ

section Token

variable (p : Par) (q : Head) (x z t : Fin 1024 → ℝ)

/-- The sub-layer's output: the token plus half the gated product. -/
def res (j : Fin 1024) : ℝ := x j + 1 / 2 * p.gt j * yv p x j

/-- The final norm's gain times its scale. -/
def hsc (j : Fin 1024) : ℝ := q.g j * (1 + q.sc j)
/-- How far the output of the final norm of `z` is from the target `t`. -/
def err (j : Fin 1024) : ℝ := nrm z j * hsc q j + q.sh j - t j
/-- The loss's gradient at that output. -/
def dout (j : Fin 1024) : ℝ := err q z t j * (1 / 1024)
/-- The loss's gradient at `z`. -/
def dres (j : Fin 1024) : ℝ := rs z * (dout q z t j * hsc q j - nrm z j * ((∑ l, dout q z t l * hsc q l * nrm z l) / 1024))

end Token

/-! Sums over the tokens. -/

section Sums

variable {n : ℕ} (q : Head) (z t : Fin n → Fin 1024 → ℝ) (j : Fin 1024)

def dshift : ℝ := ∑ i, dout q (z i) (t i) j
def dscale : ℝ := (∑ i, dout q (z i) (t i) j * nrm (z i) j) * q.g j
def dgain : ℝ := (∑ i, dout q (z i) (t i) j * nrm (z i) j) * (1 + q.sc j)
def squares : ℝ := ∑ i, err q (z i) (t i) j * err q (z i) (t i) j

/-- The eight rows of sums; the last four are zero. -/
def sums (r : Fin 8) : ℝ :=
  if r.val = 0 then dshift q z t j else if r.val = 1 then dscale q z t j else if r.val = 2 then dgain q z t j
  else if r.val = 3 then squares q z t j else 0

end Sums

/-! ## The reference -/

section Reference

open Cert.ReferenceLossIdeal Cert.ReferenceLossIdeal.Read

variable (x t : Fin 4096 → Fin 1024 → ℝ) (p : Par) (q : Head)

/-- The input of the first product. -/
theorem r_hid : val_main_v17 (F := Ideal) (up x) (row p.sh) (row p.sc) (row p.g) = up (fun i => hid p (x i)) := by
  have e : val_main_v7 (F := Ideal) (up x) = up (fun i (_ : Fin 1) => rs (x i)) := by
    funext i
    pointwise [val_main_v7, val_main_v6, val_main_v5, val_main_v4, val_main_v3, val_main_v2, val_main_v1, val_main_v0, val_main_cst,
      val_main_cst_0, val_main_cst_1]
    simp only [up_apply, row_apply, ixApp2, ← EReal.coe_mul, coe_sum, lit_1024, lit_eps, div_real _ _ (show (1024 : ℝ) ≠ 0 by norm_num), ← EReal.coe_add]
    exact rsqrt_real _ (ms_pos (x (i 0)))
  funext i
  pointwise [val_main_v17, val_main_v16, val_main_v15, val_main_v14, val_main_v13, val_main_v12, val_main_v11, val_main_v10, val_main_v9, val_main_v8,
    val_main_cst_2, e]
  simp only [up_apply, row_apply, ixApp2, ← EReal.coe_one, ← EReal.coe_mul, ← EReal.coe_add]
  congr 1
  unfold hid gsc nrm
  ring

/-- The first product. -/
theorem r_proj : val_main_v18 (F := Ideal) (up x) (row p.sh) (row p.sc) (row p.g) (up p.wi) = up (fun i => proj p (x i)) := by
  funext i
  pointwise [val_main_v18, r_hid]
  simp only [up_apply, row_apply, ixApp2, ← EReal.coe_mul, coe_sum]
  rfl

/-- Its halves, as they are returned and as the gated unit takes them. -/
theorem r_gate : val_main_v97 (F := Ideal) (up x) (row p.sh) (row p.sc) (row p.g) (up p.wi) = up (fun i => gate p (x i)) := by
  funext i
  pointwise [val_main_v97, val_main_v19, r_proj]
  simp only [up_apply, row_apply, ixApp2]
  rfl
theorem r_upp : val_main_v98 (F := Ideal) (up x) (row p.sh) (row p.sc) (row p.g) (up p.wi) = up (fun i => upp p (x i)) := by
  funext i
  pointwise [val_main_v98, val_main_v20, r_proj]
  simp only [up_apply, row_apply, ixApp2]
  rfl
theorem r_gate' : val_main_v21 (F := Ideal) (up x) (row p.sh) (row p.sc) (row p.g) (up p.wi) = up (fun i => gate p (x i)) := by
  funext i
  pointwise [val_main_v21, r_proj]
  simp only [up_apply, row_apply, ixApp2]
  rfl
theorem r_upp' : val_main_v22 (F := Ideal) (up x) (row p.sh) (row p.sc) (row p.g) (up p.wi) = up (fun i => upp p (x i)) := by
  funext i
  pointwise [val_main_v22, r_proj]
  simp only [up_apply, row_apply, ixApp2]
  rfl

/-- The hidden activations. -/
theorem r_act : val_main_v24 (F := Ideal) (up x) (row p.sh) (row p.sc) (row p.g) (up p.wi) = up (fun i => act p (x i)) := by
  have e : val_main_call0_v5 (F := Ideal) (up x) (row p.sh) (row p.sc) (row p.g) (up p.wi) = up (fun i k => sig (gate p (x i) k)) := by
    funext i
    pointwise [val_main_call0_v5, val_main_call0_v4, val_main_call0_v3, val_main_call0_v2, val_main_call0_v1, val_main_call0_v0, val_main_call0_cst,
      val_main_call0_cst_0, r_gate']
    simp only [up_apply, row_apply, ixApp2, ← EReal.coe_neg, Ideal.exp_coe, ← EReal.coe_one, ← EReal.coe_add]
    exact div_real _ _ (by positivity)
  funext i
  pointwise [val_main_v24, val_main_v23, e, r_gate', r_upp']
  simp only [up_apply, row_apply, ixApp2, ← EReal.coe_mul]
  rfl

/-- The second product. -/
theorem r_y' : val_main_v25 (F := Ideal) (up x) (row p.sh) (row p.sc) (row p.g) (up p.wi) (up p.wo) = up (fun i => yv p (x i)) := by
  funext i
  pointwise [val_main_v25, r_act]
  simp only [up_apply, row_apply, ixApp2, ← EReal.coe_mul, coe_sum]
  rfl
theorem r_y : val_main_v99 (F := Ideal) (up x) (row p.sh) (row p.sc) (row p.g) (up p.wi) (up p.wo) = up (fun i => yv p (x i)) := by
  funext i
  pointwise [val_main_v99, r_y']

/-- The sub-layer's output. -/
theorem r_res : val_main_v30 (F := Ideal) (up x) (row p.sh) (row p.sc) (row p.gt) (row p.g) (up p.wi) (up p.wo) = up (fun i => res p (x i)) := by
  funext i
  pointwise [val_main_v30, val_main_v29, val_main_v28, val_main_v27, val_main_v26, val_main_cst_3, r_y']
  simp only [up_apply, row_apply, ixApp2, lit_half, ← EReal.coe_mul, ← EReal.coe_add]
  rfl

/-- The final norm's mean squares, its reciprocal roots and their derivative's factor. -/
theorem r_ms : val_main_v37 (F := Ideal) (up x) (row p.sh) (row p.sc) (row p.gt) (row p.g) (up p.wi) (up p.wo)
    = up (fun i (_ : Fin 1) => ms (res p (x i))) := by
  funext i
  pointwise [val_main_v37, val_main_v36, val_main_v35, val_main_v34, val_main_v33, val_main_v32, val_main_v31, val_main_cst_4, val_main_cst_5,
    val_main_cst_6, r_res]
  simp only [up_apply, row_apply, ixApp2, ← EReal.coe_mul, coe_sum, lit_1024, lit_eps, div_real _ _ (show (1024 : ℝ) ≠ 0 by norm_num), ← EReal.coe_add]
  rfl
theorem r_rs : val_main_v38 (F := Ideal) (up x) (row p.sh) (row p.sc) (row p.gt) (row p.g) (up p.wi) (up p.wo)
    = up (fun i (_ : Fin 1) => rs (res p (x i))) := by
  funext i
  pointwise [val_main_v38, r_ms]
  simp only [up_apply, row_apply, ixApp2]
  exact rsqrt_real _ (ms_pos (res p (x (i 0))))
theorem r_drs : val_main_v41 (F := Ideal) (up x) (row p.sh) (row p.sc) (row p.gt) (row p.g) (up p.wi) (up p.wo)
    = up (fun i (_ : Fin 1) => -(1 / 2) * (rs (res p (x i)) / ms (res p (x i)))) := by
  funext i
  pointwise [val_main_v41, val_main_v40, val_main_v39, val_main_cst_7, r_rs, r_ms]
  simp only [up_apply, row_apply, ixApp2, lit_neg_half]
  refine (congrArg _ (div_real _ _ (ms_pos (res p (x (i 0)))).ne')).trans ?_
  rw [← EReal.coe_mul]

/-- The output, normed. -/
theorem r_nrm : val_main_v43 (F := Ideal) (up x) (row p.sh) (row p.sc) (row p.gt) (row p.g) (up p.wi) (up p.wo) = up (fun i => nrm (res p (x i))) := by
  funext i
  pointwise [val_main_v43, val_main_v42, r_rs, r_res]
  simp only [up_apply, row_apply, ixApp2, ← EReal.coe_mul]
  rfl

/-- The distance from the target. -/
theorem r_err : val_main_v52 (F := Ideal) (up x) (row p.sh) (row p.sc) (row p.gt) (row p.g) (row q.sh) (row q.sc) (row q.g) (up p.wi) (up p.wo) (up t)
    = up (fun i => err q (res p (x i)) (t i)) := by
  funext i
  pointwise [val_main_v52, val_main_v51, val_main_v50, val_main_v49, val_main_v48, val_main_v47, val_main_v46, val_main_v45, val_main_v44,
    val_main_cst_8, r_nrm]
  simp only [up_apply, row_apply, ixApp2, ← EReal.coe_one, ← EReal.coe_mul, ← EReal.coe_add, ← EReal.coe_sub]
  congr 1
  unfold err hsc
  ring

/-- The gradient at the final norm's output. -/
theorem r_dout : val_main_v66 (F := Ideal) (up x) (row p.sh) (row p.sc) (row p.gt) (row p.g) (row q.sh) (row q.sc) (row q.g) (up p.wi) (up p.wo) (up t)
    = up (fun i => dout q (res p (x i)) (t i)) := by
  funext i
  pointwise [val_main_v66, val_main_v65, val_main_v64, val_main_v63, val_main_v62, val_main_v61, val_main_v55, val_main_v54, val_main_cst_9,
    val_main_cst_14, val_main_cst_15, val_main_cst_16, r_err]
  simp only [up_apply, row_apply, ixApp2, lit_half, lit_two, lit_1024, ← EReal.coe_one, ← EReal.coe_mul,
    div_real _ _ (show (1024 : ℝ) ≠ 0 by norm_num)]
  congr 1
  unfold dout
  ring

/-- The rows of sums. -/
theorem r_sums : val_main_v96 (F := Ideal) (up x) (row p.sh) (row p.sc) (row p.gt) (row p.g) (row q.sh) (row q.sc) (row q.g) (up p.wi) (up p.wo) (up t)
    = up (fun r j => sums q (fun i => res p (x i)) t j r) := by
  have e0 : val_main_v68 (F := Ideal) (up x) (row p.sh) (row p.sc) (row p.gt) (row p.g) (row q.sh) (row q.sc) (row q.g) (up p.wi) (up p.wo) (up t)
      = row (dshift q (fun i => res p (x i)) t) := by
    funext i
    pointwise [val_main_v68, val_main_v67, val_main_cst_17, r_dout]
    simp only [up_apply, row_apply, ixApp2, coe_sum]
    rfl
  have e1 : val_main_v71 (F := Ideal) (up x) (row p.sh) (row p.sc) (row p.gt) (row p.g) (row q.sh) (row q.sc) (row q.g) (up p.wi) (up p.wo) (up t)
      = row (dscale q (fun i => res p (x i)) t) := by
    funext i
    pointwise [val_main_v71, val_main_v70, val_main_v69, val_main_v45, val_main_v44, val_main_cst_18, r_nrm, r_dout]
    simp only [up_apply, row_apply, ixApp2, ← EReal.coe_mul, coe_sum]
    congr 1
    unfold dscale
    rw [Finset.sum_mul]
    exact Finset.sum_congr rfl fun k _ => by ring
  have e2 : val_main_v76 (F := Ideal) (up x) (row p.sh) (row p.sc) (row p.gt) (row p.g) (row q.sh) (row q.sc) (row q.g) (up p.wi) (up p.wo) (up t)
      = row (dgain q (fun i => res p (x i)) t) := by
    funext i
    pointwise [val_main_v76, val_main_v75, val_main_v74, val_main_v73, val_main_v72, val_main_v47, val_main_v46, val_main_cst_8, val_main_cst_19,
      r_nrm, r_dout]
    simp only [up_apply, row_apply, ixApp2, ← EReal.coe_one, ← EReal.coe_mul, ← EReal.coe_add, coe_sum]
    congr 1
    unfold dgain
    rw [Finset.sum_mul]
    exact Finset.sum_congr rfl fun k _ => by ring
  have e3 : val_main_v94 (F := Ideal) (up x) (row p.sh) (row p.sc) (row p.gt) (row p.g) (row q.sh) (row q.sc) (row q.g) (up p.wi) (up p.wo) (up t)
      = row (squares q (fun i => res p (x i)) t) := by
    funext i
    pointwise [val_main_v94, val_main_v93, val_main_v53, val_main_cst_23, r_err]
    simp only [up_apply, row_apply, ixApp2, ← EReal.coe_mul, coe_sum]
    rfl
  funext i
  pointwise [val_main_v96, val_main_v95, val_main_cst_24, e0, e1, e2, e3]
  simp only [up_apply, row_apply, ixApp2]
  unfold sums
  split_ifs <;> first | rfl | exact EReal.coe_zero.symm | omega

/-- The gradient of the sub-layer's output. -/
theorem r_dres : val_main_v92 (F := Ideal) (up x) (row p.sh) (row p.sc) (row p.gt) (row p.g) (row q.sh) (row q.sc) (row q.g) (up p.wi) (up p.wo) (up t)
    = up (fun i => dres q (res p (x i)) (t i)) := by
  funext i
  pointwise [val_main_v92, val_main_v91, val_main_v90, val_main_v89, val_main_v88, val_main_v87, val_main_v86, val_main_v85, val_main_v84, val_main_v83,
    val_main_v82, val_main_v81, val_main_v80, val_main_v79, val_main_v78, val_main_v77, val_main_v73, val_main_v72, val_main_v47, val_main_v46,
    val_main_cst_8, val_main_cst_20, val_main_cst_21, val_main_cst_22, r_res, r_rs, r_drs, r_dout]
  simp only [up_apply, row_apply, ixApp2, lit_1024, ← EReal.coe_one, ← EReal.coe_mul, ← EReal.coe_add, coe_sum,
    div_real _ _ (show (1024 : ℝ) ≠ 0 by norm_num)]
  congr 1
  simp only [Finset.sum_const, Finset.card_univ, Fintype.card_fin, one_smul]
  generalize res p (x (i 0)) = z
  unfold dres nrm hsc
  rw [show ∑ l, dout q z (t (i 0)) l * (q.g l * (1 + q.sc l)) * (z l * rs z)
      = (∑ k, z k * (dout q z (t (i 0)) k * (1 + q.sc k) * q.g k)) * rs z by
        rw [Finset.sum_mul]; exact Finset.sum_congr rfl fun k _ => by ring,
    show rs z / ms z = rs z * (rs z * rs z) by rw [rs_sq]; ring]
  ring

end Reference

end Cert.Loss

end
-- ==== Proof.LossPoint.lean ====
/- One grid point of the second feed-forward sub-layer's call with the final norm and the loss: the five blocks it leaves, and their real values. -/
module

public import proofs.«01_k».proof.Proof.Vals
public import proofs.«01_k».proof.Proof.LossRef
public import proofs.«01_k».proof.Proof.Gen.KernelLossIdeal.Value

@[expose] public section

set_option maxRecDepth 16384

noncomputable section

open Idealize.ShloMosaic Idealize.ShloMosaic.TcCoe Idealize.SL.Sem

namespace Cert.Loss

open Cert.KernelLossIdeal Cert.KernelLossIdeal.Gen Cert.Reals Cert.Spec
open Cert.KernelIdeal.Block (hz rows4 read_row readCov_row_skip readCov_row_fill vrow srow srow_up rows4_up)

section Point

variable {F : FTy → Type} [FloatOps F]

/-- The four row stores in this call's order, over what the earlier stores left. -/
theorem read_sums {Val : EltTy → Type} {sig : RefSig} {κ : Kind} {sp : Space} {e : EltTy} (v : View sig κ sp S8x1024 e) (f : v.ty.Contents Val)
    (i0 i1 i2 i3) (p0 p1 p2 p3 : S1x1024.Idx → Val e) (L : List (View.Piece Val S8x1024 e)) :
    v.read Val (v.writes Val f (⟨Rect.unit (s := S8x1024) ![2, 0] ![1, 1024] i2, p2⟩ :: ⟨Rect.unit (s := S8x1024) ![1, 0] ![1, 1024] i1, p1⟩
        :: ⟨Rect.unit (s := S8x1024) ![0, 0] ![1, 1024] i0, p0⟩ :: ⟨Rect.unit (s := S8x1024) ![3, 0] ![1, 1024] i3, p3⟩ :: L))
      = rows4 p0 p1 p2 p3 (v.read Val (v.writes Val f L)) := by
  funext y
  rw [read_row, read_row, read_row, read_row]
  unfold rows4
  dsimp only
  split_ifs <;> first | rfl | omega

/-! The table's rows this call reads: the sub-layer's shift, scale, residual gate and gain, then the final norm's shift, scale and gain. -/

section Rows
variable (v : Vec F S16x1024 .f32)
def tSh : Vec F S1x1024 .f32 := vrow 6 inb_S16x1024_S1x1024_6_0 v
def tSc : Vec F S1x1024 .f32 := vrow 7 inb_S16x1024_S1x1024_7_0 v
def tGt : Vec F S1x1024 .f32 := vrow 8 inb_S16x1024_S1x1024_8_0 v
def tG : Vec F S1x1024 .f32 := vrow 13 inb_S16x1024_S1x1024_13_0 v
def tFsh : Vec F S1x1024 .f32 := vrow 9 inb_S16x1024_S1x1024_9_0 v
def tFsc : Vec F S1x1024 .f32 := vrow 10 inb_S16x1024_S1x1024_10_0 v
def tGf : Vec F S1x1024 .f32 := k0_pay14 (vrow 14 inb_S16x1024_S1x1024_14_0 v)
end Rows

section Values

variable (x : Vec F S512x1024 .f32) (v : Vec F S16x1024 .f32) (wg wu : Vec F S1024x2816 .bf16) (wo : Vec F S2816x1024 .bf16)
    (t : Vec F S512x1024 .f32)

/-- The two halves of the first product. -/
def bG : Vec F S512x2816 .f32 := k0_pay4 x (tG v) (tSc v) (tSh v) wg
def bU : Vec F S512x2816 .f32 := k0_pay5 x (tG v) (tSc v) (tSh v) wu
/-- The reciprocal roots and the normed rows of the sub-layer's output. -/
def bR : Vec F S512x1 .f32 := k0_pay12 x (bG x v wg) (bU x v wu) wo (tGt v)
def bN : Vec F S512x1024 .f32 := k0_pay13 x (bG x v wg) (bU x v wu) wo (tGt v)

/-- The running sums after this point, `acc` before it. -/
def bSums (acc : Vec F S8x1024 .f32) : Vec F S8x1024 .f32 :=
  rows4 (k0_pay21 t (bN x v wg wu wo) (tGf v) (tFsc v) (tFsh v) (srow 0 inb_S8x1024_S1x1024_0_0 acc))
    (k0_pay22 t (bN x v wg wu wo) (tGf v) (tFsc v) (tFsh v) (srow 1 inb_S8x1024_S1x1024_1_0 acc))
    (k0_pay1 (k0_pay15 (tFsc v)) (k0_pay20 t (bN x v wg wu wo) (tGf v) (tFsc v) (tFsh v)) (srow 2 inb_S8x1024_S1x1024_2_0 acc))
    (k0_pay18 t (bN x v wg wu wo) (tGf v) (tFsc v) (tFsh v) (srow 3 inb_S8x1024_S1x1024_3_0 acc)) acc

/-- All five output blocks. -/
def outs (acc : Vec F S8x1024 .f32) : Vec F S512x1024 .f32 × Vec F S512x2816 .bf16 × Vec F S512x2816 .bf16 × Vec F S512x1024 .bf16
    × Vec F S8x1024 .f32 :=
  (k0_pay2 (bR x v wg wu wo) (bN x v wg wu wo) (k0_pay16 (tGf v) (tFsc v)) (k0_pay19 t (bN x v wg wu wo) (tGf v) (tFsc v) (tFsh v)),
    k0_pay6 x (tG v) (tSc v) (tSh v) wg, k0_pay7 x (tG v) (tSc v) (tSh v) wu, k0_pay9 (bG x v wg) (bU x v wu) wo, bSums x v wg wu wo t acc)

end Values

variable (m : (ℓ : Loc nD τ sig) → Buf (Elt F) ℓ)

/-- The blocks after the first point: the running sums start at zero. -/
theorem outsAt_first (c : Dev nD) (t : Fin cfg0.N) (h0 : t.val % 8 = 0) :
    outsAt0 m c t.val t.isLt = outs (iblk m c 0 t) (iblk m c 1 t) (iblk m c 2 t) (iblk m c 3 t) (iblk m c 4 t) (iblk m c 5 t) k0_pay11 := by
  rw [outsAt0_A m c t h0]
  unfold out0_A_6 out0_A_7 out0_A_8 out0_A_9 out0_A_10
  unfold kernelRun0_A
  dsimp only
  sl_unfold_words
  simp only [read_sums]
  simp only [View.read_writes_junk_eq_canon, View.canon_unit_zero (S := S512x1024) hz, View.canon_unit_zero (S := S512x2816) hz,
    View.canon_unit_zero (S := S8x1024) hz]
  simp only [readCov_row_skip, readCov_row_fill, ne_eq, Nat.reduceEqDiff, not_false_eq_true, one_ne_zero, OfNat.ofNat_ne_zero,
    OfNat.zero_ne_ofNat, zero_ne_one, OfNat.ofNat_ne_one, OfNat.one_ne_ofNat, View.readAt_eq_ld,
    (hs0_0 t).read_unread, (hs0_1 t).read_unread, (hs0_2 t).read_unread, (hs0_3 t).read_unread,
    (hs0_4 t).read_unread, (hs0_5 t).read_unread,
    View.ld_unit_zero (S := S512x1024) hz, View.ld_unit_zero (S := S512x2816) hz, View.ld_unit_zero (S := S1024x2816) hz,
    View.ld_unit_zero (S := S2816x1024) hz]
  rfl

/-- The blocks after a later point: the running sums go on from the point before. -/
theorem outsAt_next (c : Dev nD) (t : Fin cfg0.N) (h0 : ¬ t.val % 8 = 0) :
    outsAt0 m c t.val t.isLt = outs (iblk m c 0 t) (iblk m c 1 t) (iblk m c 2 t) (iblk m c 3 t) (iblk m c 4 t) (iblk m c 5 t)
      (outsAt0 m c (t.val - 1) (Nat.lt_of_le_of_lt (Nat.sub_le _ _) t.isLt)).2.2.2.2 := by
  rw [outsAt0_B m c t h0]
  unfold out0_B_6 out0_B_7 out0_B_8 out0_B_9 out0_B_10
  unfold kernelRun0_B
  dsimp only
  sl_unfold_words
  simp only [read_sums]
  simp only [View.read_writes_junk_eq_canon, View.canon_unit_zero (S := S512x1024) hz, View.canon_unit_zero (S := S512x2816) hz,
    View.writes_nil]
  simp only [View.readAt_eq_ld,
    (hs0_0 t).read_unread, (hs0_1 t).read_unread, (hs0_2 t).read_unread, (hs0_3 t).read_unread,
    (hs0_4 t).read_unread, (hs0_5 t).read_unread, (hs0_10 t).read_unread,
    View.ld_unit_zero (S := S512x1024) hz, View.ld_unit_zero (S := S512x2816) hz, View.ld_unit_zero (S := S1024x2816) hz,
    View.ld_unit_zero (S := S2816x1024) hz]
  rfl

end Point

/-! ## At real blocks -/

section Real

variable (x t z : Fin 512 → Fin 1024 → ℝ) (p : Par) (q : Head)

theorem b_hid : k0_pay3 (F := Ideal) (up x) (row p.g) (row p.sc) (row p.sh) = up (fun i => hid p (x i)) := by
  funext i
  pointwise [k0_pay3]
  simp only [up_apply, row_apply, ixApp2, ← EReal.coe_one, ← EReal.coe_mul, coe_sum, lit_1024, lit_eps,
    div_real _ _ (show (1024 : ℝ) ≠ 0 by norm_num), ← EReal.coe_add]
  rw [show Ideal.rsqrt (((∑ j, x (i 0) j * x (i 0) j) / 1024 + eps : ℝ) : EReal) = ((rs (x (i 0)) : ℝ) : EReal) from rsqrt_real _ (ms_pos (x (i 0)))]
  simp only [← EReal.coe_mul, ← EReal.coe_add]
  rfl

/-- The halves of the first product. -/
theorem b_gate : k0_pay4 (F := Ideal) (up x) (row p.g) (row p.sc) (row p.sh) (up (fun j k => p.wi j (gcol k))) = up (fun i => gate p (x i)) := by
  funext i
  pointwise [k0_pay4, b_hid]
  simp only [up_apply, row_apply, ixApp2, ← EReal.coe_mul, coe_sum]
  rfl
theorem b_upp : k0_pay5 (F := Ideal) (up x) (row p.g) (row p.sc) (row p.sh) (up (fun j k => p.wi j (ucol k))) = up (fun i => upp p (x i)) := by
  funext i
  pointwise [k0_pay5, b_hid]
  simp only [up_apply, row_apply, ixApp2, ← EReal.coe_mul, coe_sum]
  rfl
theorem b_gate' : k0_pay6 (F := Ideal) (up x) (row p.g) (row p.sc) (row p.sh) (up (fun j k => p.wi j (gcol k))) = up (fun i => gate p (x i)) := by
  funext i
  pointwise [k0_pay6, b_gate]
theorem b_upp' : k0_pay7 (F := Ideal) (up x) (row p.g) (row p.sc) (row p.sh) (up (fun j k => p.wi j (ucol k))) = up (fun i => upp p (x i)) := by
  funext i
  pointwise [k0_pay7, b_upp]

/-- The second product. -/
theorem b_y : k0_pay8 (F := Ideal) (up (fun i => gate p (x i))) (up (fun i => upp p (x i))) (up p.wo) = up (fun i => yv p (x i)) := by
  funext i
  pointwise [k0_pay8]
  simp only [up_apply, row_apply, ixApp2, lit_half, ← EReal.coe_mul, Ideal.tanh_coe, ← EReal.coe_add, sig_tanh, coe_sum]
  rfl
theorem b_y' : k0_pay9 (F := Ideal) (up (fun i => gate p (x i))) (up (fun i => upp p (x i))) (up p.wo) = up (fun i => yv p (x i)) := by
  funext i
  pointwise [k0_pay9, b_y]

/-- The sub-layer's output, its reciprocal roots and its normed rows. -/
theorem b_res : k0_pay10 (F := Ideal) (up x) (up (fun i => gate p (x i))) (up (fun i => upp p (x i))) (up p.wo) (row p.gt)
    = up (fun i => res p (x i)) := by
  funext i
  pointwise [k0_pay10, b_y]
  simp only [up_apply, row_apply, ixApp2, lit_half, ← EReal.coe_mul, ← EReal.coe_add]
  rfl
theorem b_rs : k0_pay12 (F := Ideal) (up x) (up (fun i => gate p (x i))) (up (fun i => upp p (x i))) (up p.wo) (row p.gt)
    = up (fun i (_ : Fin 1) => rs (res p (x i))) := by
  funext i
  pointwise [k0_pay12, b_res]
  simp only [up_apply, row_apply, ixApp2, ← EReal.coe_mul, coe_sum, lit_1024, lit_eps, div_real _ _ (show (1024 : ℝ) ≠ 0 by norm_num), ← EReal.coe_add]
  exact rsqrt_real _ (ms_pos (res p (x (i 0))))
theorem b_nrm : k0_pay13 (F := Ideal) (up x) (up (fun i => gate p (x i))) (up (fun i => upp p (x i))) (up p.wo) (row p.gt)
    = up (fun i => nrm (res p (x i))) := by
  funext i
  pointwise [k0_pay13, b_res, b_rs]
  simp only [up_apply, row_apply, ixApp2, ← EReal.coe_mul]
  rfl

/-- The final norm's gain, its scale plus one, and their product. -/
theorem b_gf : k0_pay14 (F := Ideal) (row q.g) = row q.g := by
  funext i
  pointwise [k0_pay14]
theorem b_one : k0_pay15 (F := Ideal) (row q.sc) = row (fun j => 1 + q.sc j) := by
  funext i
  pointwise [k0_pay15]
  simp only [up_apply, row_apply, ixApp2, ← EReal.coe_one, ← EReal.coe_add]
theorem b_hsc : k0_pay16 (F := Ideal) (row q.g) (row q.sc) = row (hsc q) := by
  funext i
  pointwise [k0_pay16, b_one]
  simp only [up_apply, row_apply, ixApp2, ← EReal.coe_mul]
  rfl

/-- The distance from the target, and the gradient there. -/
theorem b_err : k0_pay17 (F := Ideal) (up t) (up (fun i => nrm (z i))) (row q.g) (row q.sc) (row q.sh) = up (fun i => err q (z i) (t i)) := by
  funext i
  pointwise [k0_pay17, b_hsc]
  simp only [up_apply, row_apply, ixApp2, ← EReal.coe_mul, ← EReal.coe_add, ← EReal.coe_sub]
  rfl
theorem b_dout : k0_pay19 (F := Ideal) (up t) (up (fun i => nrm (z i))) (row q.g) (row q.sc) (row q.sh) = up (fun i => dout q (z i) (t i)) := by
  funext i
  pointwise [k0_pay19, b_err]
  simp only [up_apply, row_apply, ixApp2, lit_inv1024, ← EReal.coe_mul]
  rfl
theorem b_dn : k0_pay20 (F := Ideal) (up t) (up (fun i => nrm (z i))) (row q.g) (row q.sc) (row q.sh)
    = up (fun i j => dout q (z i) (t i) j * nrm (z i) j) := by
  funext i
  pointwise [k0_pay20, b_dout]
  simp only [up_apply, row_apply, ixApp2, ← EReal.coe_mul]

/-- The gradient of the sub-layer's output. -/
theorem b_dres : k0_pay2 (F := Ideal) (up (fun i (_ : Fin 1) => rs (z i))) (up (fun i => nrm (z i))) (row (hsc q)) (up (fun i => dout q (z i) (t i)))
    = up (fun i => dres q (z i) (t i)) := by
  funext i
  pointwise [k0_pay2]
  simp only [up_apply, row_apply, ixApp2, lit_1024, ← EReal.coe_mul, coe_sum, div_real _ _ (show (1024 : ℝ) ≠ 0 by norm_num), ← EReal.coe_sub]
  rfl

/-- Each row of sums takes the block's sum in. -/
theorem b_sq (a : Fin 1024 → ℝ) : k0_pay18 (F := Ideal) (up t) (up (fun i => nrm (z i))) (row q.g) (row q.sc) (row q.sh) (row a)
    = row (fun j => a j + squares q z t j) := by
  funext i
  pointwise [k0_pay18, b_err]
  simp only [up_apply, row_apply, ixApp2, ← EReal.coe_mul, coe_sum, ← EReal.coe_add]
  rfl
theorem b_dsh (a : Fin 1024 → ℝ) : k0_pay21 (F := Ideal) (up t) (up (fun i => nrm (z i))) (row q.g) (row q.sc) (row q.sh) (row a)
    = row (fun j => a j + dshift q z t j) := by
  funext i
  pointwise [k0_pay21, b_dout]
  simp only [up_apply, row_apply, ixApp2, coe_sum, ← EReal.coe_add]
  rfl
theorem b_dsc (a : Fin 1024 → ℝ) : k0_pay22 (F := Ideal) (up t) (up (fun i => nrm (z i))) (row q.g) (row q.sc) (row q.sh) (row a)
    = row (fun j => a j + dscale q z t j) := by
  funext i
  pointwise [k0_pay22, b_dn]
  simp only [up_apply, row_apply, ixApp2, coe_sum, ← EReal.coe_mul, ← EReal.coe_add]
  rfl
theorem b_dgn (a : Fin 1024 → ℝ) : k0_pay1 (F := Ideal) (row (fun j => 1 + q.sc j)) (up (fun i j => dout q (z i) (t i) j * nrm (z i) j)) (row a)
    = row (fun j => a j + dgain q z t j) := by
  funext i
  pointwise [k0_pay1]
  simp only [up_apply, row_apply, ixApp2, coe_sum, ← EReal.coe_mul, ← EReal.coe_add]
  rfl

/-- The sums start at zero. -/
theorem zero_real : k0_pay11 (F := Ideal) = up (fun _ _ => 0) := by
  funext i
  pointwise [k0_pay11]
  rfl

/-- What a grid point computes, of real blocks. -/
theorem outs_real (v : Vec Ideal S16x1024 .f32) (hsh : tSh v = row p.sh) (hsc' : tSc v = row p.sc) (hgt : tGt v = row p.gt) (hg : tG v = row p.g)
    (hfsh : tFsh v = row q.sh) (hfsc : tFsc v = row q.sc) (hgf : tGf v = row q.g) (A : Fin 8 → Fin 1024 → ℝ) :
    outs (F := Ideal) (up x) v (up (fun j k => p.wi j (gcol k))) (up (fun j k => p.wi j (ucol k))) (up p.wo) (up t) (up A)
      = (up (fun i => dres q (res p (x i)) (t i)), up (fun i => gate p (x i)), up (fun i => upp p (x i)), up (fun i => yv p (x i)),
          up (fun r j => A r j + sums q (fun i => res p (x i)) t j r)) := by
  unfold outs bSums bR bN bG bU
  rw [hsh, hsc', hgt, hg, hfsh, hfsc, hgf, b_gate, b_upp, b_gate', b_upp', b_y', b_rs, b_nrm, b_hsc, b_dout, b_dn, b_dres, b_one,
    srow_up 0 (by omega), srow_up 1 (by omega), srow_up 2 (by omega), srow_up 3 (by omega), b_dsh, b_dsc, b_dgn, b_sq, rows4_up]
  congr 4
  refine congrArg up (funext fun r => funext fun j => ?_)
  unfold sums
  split_ifs with h0 h1 h2 h3
  · rw [show r = ⟨0, by omega⟩ from Fin.ext h0]
  · rw [show r = ⟨1, by omega⟩ from Fin.ext h1]
  · rw [show r = ⟨2, by omega⟩ from Fin.ext h2]
  · rw [show r = ⟨3, by omega⟩ from Fin.ext h3]
  · rw [add_zero]

end Real

end Cert.Loss

end
-- ==== Proof.Loss.lean ====
/- The second feed-forward sub-layer's forward call, with the final norm and the loss in it: its five results over all the tokens are the loss's real
   values and gradient, and the reference's. -/
module

public import proofs.«01_k».proof.Proof.Claims
public import proofs.«01_k».proof.Proof.Prod
public import proofs.«01_k».proof.Proof.LossPoint
public import proofs.«01_k».proof.Proof.Gen.KernelLoss.Frame
public import proofs.«01_k».proof.Proof.Gen.ReferenceLossIdeal.Run
public import proofs.«01_k».proof.Proof.Gen.Pre_finite_loss

@[expose] public section

set_option maxRecDepth 16384

noncomputable section

open Idealize.ShloMosaic Idealize.ShloMosaic.TcCoe Idealize.SL.Sem

namespace Cert.Loss

open Cert.KernelLossIdeal Cert.KernelLossIdeal.Gen Cert.Reals Cert.Spec
open Cert.Prod (in_block in_whole)
open Cert.KernelIdeal.Block (vrow up_at)

/-! ## Blocks of 512 tokens -/

/-- Block `s` of an array over the tokens. -/
def blk {α : Type} (s : ℕ) (f : Fin 4096 → α) (i : Fin 512) : α := f ⟨(512 * s + i.val) % 4096, Nat.mod_lt _ (by norm_num)⟩

/-- An entry of the array is its block's entry. -/
theorem up_blk {k : ℕ} (f : Fin 4096 → Fin k → ℝ) (s : ℕ) (i : (⟨2, ![4096, k]⟩ : Shape).Idx) (j : (⟨2, ![512, k]⟩ : Shape).Idx)
    (h0 : (i 0).val = 512 * s + (j 0).val) (h1 : (i 1).val = (j 1).val) : up f i = up (blk s f) j := by
  have hi : (i 0).val < 4096 := (i 0).isLt
  rw [up_apply, up_apply]
  refine congrArg Real.toEReal (congr (congrArg f (Fin.ext ?_)) (Fin.ext h1))
  show (i 0).val = (512 * s + (j 0).val) % 4096
  omega

/-- The same from the block's number and the entry's place in it. -/
theorem blk_read {k : ℕ} (f : Fin 4096 → Fin k → ℝ) (s : ℕ) {q0 q1 : ℕ} (h0 : q0 = s) (h1 : q1 = 0)
    (i : (⟨2, ![4096, k]⟩ : Shape).Idx) (j : (⟨2, ![512, k]⟩ : Shape).Idx)
    (e0 : (i 0).val = q0 * 512 + 1 * (j 0).val) (e1 : (i 1).val = q1 * k + 1 * (j 1).val) : up (blk s f) j = up f i :=
  (up_blk f s i j (by rw [e0, h0]; omega) (by rw [e1, h1]; omega)).symm

/-- The eight blocks' sums add up to the sum over the tokens. -/
theorem sum_blk (f : Fin 4096 → ℝ) : ∑ s ∈ Finset.range 8, ∑ i, blk s f i = ∑ i, f i := by
  rw [Finset.sum_range, ← Fintype.sum_prod_type']
  refine Fintype.sum_equiv (finProdFinEquiv (m := 8) (n := 512)) _ _ fun q => ?_
  refine congrArg f (Fin.ext ?_)
  show (512 * q.1.val + q.2.val) % 4096 = q.2.val + 512 * q.1.val
  have := q.1.isLt; have := q.2.isLt
  omega

/-- The blocks' rows of sums add up to the rows of all the tokens. -/
theorem sums_blk (q : Head) (z t : Fin 4096 → Fin 1024 → ℝ) (j : Fin 1024) (r : Fin 8) :
    ∑ s ∈ Finset.range 8, sums q (blk s z) (blk s t) j r = sums q z t j r := by
  unfold sums
  split_ifs
  · unfold dshift
    rw [← sum_blk]
    rfl
  · unfold dscale
    rw [← Finset.sum_mul, ← sum_blk]
    rfl
  · unfold dgain
    rw [← Finset.sum_mul, ← sum_blk]
    rfl
  · unfold squares
    rw [← sum_blk]
    rfl
  · exact Finset.sum_const_zero

/-! ## The blocks the windows read and write -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 1 :=
  (by decide +kernel : ∀ t : Fin grid0.N, win0_3.index t 0 = 0 ∧ win0_3.index t 1 = 1)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)

/-- The point whose block of 512 tokens holds a token. -/
def pt (i : Fin 4096) : Fin cfg0.N := ⟨i.val / 512, by rw [show cfg0.N = 8 from N_0]; have := i.isLt; omega⟩

/-- The last point. -/
def last : Fin cfg0.N := ⟨7, by rw [show cfg0.N = 8 from N_0]; norm_num⟩

/-- The table of channel vectors: the sub-layer's shift, scale and residual gate, the final norm's shift and scale, and the two gains. -/
def tbl (p : Par) (q : Head) (r : Fin 16) (j : Fin 1024) : ℝ :=
  if r.val = 6 then p.sh j else if r.val = 7 then p.sc j else if r.val = 8 then p.gt j else if r.val = 9 then q.sh j
  else if r.val = 10 then q.sc j else if r.val = 13 then p.g j else if r.val = 14 then q.g j else 0

/-- A row of the real table. -/
theorem vrow_tbl (p : Par) (q : Head) (o : ℕ) (ho : o < 16) (h) : vrow (F := Ideal) o h (up (tbl p q)) = row (tbl p q ⟨o, ho⟩) := by
  funext i
  pointwise [vrow]
  simp only [up_apply, row_apply, ixApp2]
  done

theorem tSh_tbl (p : Par) (q : Head) : tSh (F := Ideal) (up (tbl p q)) = row p.sh := vrow_tbl p q 6 (by norm_num) _
theorem tSc_tbl (p : Par) (q : Head) : tSc (F := Ideal) (up (tbl p q)) = row p.sc := vrow_tbl p q 7 (by norm_num) _
theorem tGt_tbl (p : Par) (q : Head) : tGt (F := Ideal) (up (tbl p q)) = row p.gt := vrow_tbl p q 8 (by norm_num) _
theorem tG_tbl (p : Par) (q : Head) : tG (F := Ideal) (up (tbl p q)) = row p.g := vrow_tbl p q 13 (by norm_num) _
theorem tFsh_tbl (p : Par) (q : Head) : tFsh (F := Ideal) (up (tbl p q)) = row q.sh := vrow_tbl p q 9 (by norm_num) _
theorem tFsc_tbl (p : Par) (q : Head) : tFsc (F := Ideal) (up (tbl p q)) = row q.sc := vrow_tbl p q 10 (by norm_num) _
theorem tGf_tbl (p : Par) (q : Head) : tGf (F := Ideal) (up (tbl p q)) = row q.g :=
  (congrArg k0_pay14 (vrow_tbl p q 14 (by norm_num) _)).trans (b_gf q)

/-- The launch memory's arguments on a core are these real arrays. -/
structure Args (m : (ℓ : Loc nD τ sig) → Buf (Elt Ideal) ℓ) (d : Dev nD) (p : Par) (q : Head) (x y : Fin 4096 → Fin 1024 → ℝ) : Prop where
  x : m ((d : Thread nD τ).loc main_arg0) = up x
  sh : m ((d : Thread nD τ).loc main_arg1) = row p.sh
  sc : m ((d : Thread nD τ).loc main_arg2) = row p.sc
  gt : m ((d : Thread nD τ).loc main_arg3) = row p.gt
  g : m ((d : Thread nD τ).loc main_arg4) = row p.g
  fsh : m ((d : Thread nD τ).loc main_arg5) = row q.sh
  fsc : m ((d : Thread nD τ).loc main_arg6) = row q.sc
  gf : m ((d : Thread nD τ).loc main_arg7) = row q.g
  wi : m ((d : Thread nD τ).loc main_arg8) = up p.wi
  wo : m ((d : Thread nD τ).loc main_arg9) = up p.wo
  y : m ((d : Thread nD τ).loc main_arg10) = up y

section Args

variable {m : (ℓ : Loc nD τ sig) → Buf (Elt Ideal) ℓ} {d : Dev nD} {p : Par} {q : Head} {x y : Fin 4096 → Fin 1024 → ℝ} (h : Args m d p q x y)
include h

/-- The weights. -/
theorem V_wi : V m d main_v4 = up p.wi := by
  unfold V
  simp only [hostOps0]
  after_reads_simp
  rw [h.wi]
  rfl
theorem V_wo : V m d main_v5 = up p.wo := by
  unfold V
  simp only [hostOps0]
  after_reads_simp
  rw [h.wo]
  rfl

set_option maxHeartbeats 4000000 in
/-- The table of channel vectors. -/
theorem V_vecs : V m d main_v3 = up (tbl p q) := by
  funext i
  unfold V
  simp only [hostOps0]
  after_reads_simp
  dsimp only [Matrix.cons_val]
  after_reads_simp
  rw [show m (d, Proc.tc.devRef main_arg1) = row p.sh from h.sh, show m (d, Proc.tc.devRef main_arg2) = row p.sc from h.sc,
    show m (d, Proc.tc.devRef main_arg3) = row p.gt from h.gt, show m (d, Proc.tc.devRef main_arg4) = row p.g from h.g,
    show m (d, Proc.tc.devRef main_arg5) = row q.sh from h.fsh, show m (d, Proc.tc.devRef main_arg6) = row q.sc from h.fsc,
    show m (d, Proc.tc.devRef main_arg7) = row q.g from h.gf]
  pointwise
  simp only [up_apply, row_apply, ixApp2]
  unfold tbl
  split_ifs <;> first | rfl | exact EReal.coe_zero.symm | omega

/-! ## The blocks -/

theorem iblk_x (t : Fin cfg0.N) : iblk m d 0 t = up (blk t.val x) := by
  funext j
  unfold iblk
  rw [View.read_apply]
  show V m d main_arg0 _ = _
  rw [V_main_arg0, h.x]
  exact up_blk x t.val _ j (by show win0_0.index t 0 * 512 + 1 * (j 0).val = _; rw [(idx0 t).1]; omega)
    (by show win0_0.index t 1 * 1024 + 1 * (j 1).val = _; rw [(idx0 t).2]; omega)
theorem iblk_y (t : Fin cfg0.N) : iblk m d 5 t = up (blk t.val y) := by
  funext j
  unfold iblk
  rw [View.read_apply]
  show V m d main_arg10 _ = _
  rw [V_main_arg10, h.y]
  exact up_blk y t.val _ j (by show win0_5.index t 0 * 512 + 1 * (j 0).val = _; rw [(idx5 t).1]; omega)
    (by show win0_5.index t 1 * 1024 + 1 * (j 1).val = _; rw [(idx5 t).2]; omega)
theorem iblk_vecs (t : Fin cfg0.N) : iblk m d 1 t = up (tbl p q) := by
  funext j
  unfold iblk
  rw [View.read_apply]
  show V m d main_v3 _ = _
  rw [V_vecs h]
  exact up_at (tbl p q) _ (j 0) (j 1) (by show win0_1.index t 0 * 16 + 1 * (j 0).val = _; rw [(idx1 t).1]; omega)
    (by show win0_1.index t 1 * 1024 + 1 * (j 1).val = _; rw [(idx1 t).2]; omega)
theorem iblk_wg (t : Fin cfg0.N) : iblk m d 2 t = up (fun j k => p.wi j (gcol k)) := by
  funext j
  unfold iblk
  rw [View.read_apply]
  show V m d main_v4 _ = _
  rw [V_wi h]
  exact up_at p.wi _ (j 0) (gcol (j 1)) (by show win0_2.index t 0 * 1024 + 1 * (j 0).val = _; rw [(idx2 t).1]; omega)
    (by show win0_2.index t 1 * 2816 + 1 * (j 1).val = (j 1).val; rw [(idx2 t).2]; omega)
theorem iblk_wu (t : Fin cfg0.N) : iblk m d 3 t = up (fun j k => p.wi j (ucol k)) := by
  funext j
  unfold iblk
  rw [View.read_apply]
  show V m d main_v4 _ = _
  rw [V_wi h]
  exact up_at p.wi _ (j 0) (ucol (j 1)) (by show win0_3.index t 0 * 1024 + 1 * (j 0).val = _; rw [(idx3 t).1]; omega)
    (by show win0_3.index t 1 * 2816 + 1 * (j 1).val = 2816 + (j 1).val; rw [(idx3 t).2]; omega)
theorem iblk_wo (t : Fin cfg0.N) : iblk m d 4 t = up p.wo := by
  funext j
  unfold iblk
  rw [View.read_apply]
  show V m d main_v5 _ = _
  rw [V_wo h]
  exact up_at p.wo _ (j 0) (j 1) (by show win0_4.index t 0 * 2816 + 1 * (j 0).val = _; rw [(idx4 t).1]; omega)
    (by show win0_4.index t 1 * 1024 + 1 * (j 1).val = _; rw [(idx4 t).2]; omega)

/-! ## All the points -/

/-- After point `n` the five blocks hold the real values of that point's tokens, and the sums of the points so far. -/
theorem outsAt_real : ∀ (n : ℕ) (hn : n < cfg0.N), outsAt0 m d n hn
    = (up (fun i => dres q (res p (blk n x i)) (blk n y i)), up (fun i => gate p (blk n x i)), up (fun i => upp p (blk n x i)),
        up (fun i => yv p (blk n x i)),
        up (fun r j => ∑ s ∈ Finset.range (n + 1), sums q (fun i => res p (blk s x i)) (blk s y) j r))
  | 0, hn => by
    refine (outsAt_first m d ⟨0, hn⟩ rfl).trans ?_
    rw [iblk_x h, iblk_y h, iblk_vecs h, iblk_wg h, iblk_wu h, iblk_wo h, zero_real,
      outs_real _ _ p q _ (tSh_tbl p q) (tSc_tbl p q) (tGt_tbl p q) (tG_tbl p q) (tFsh_tbl p q) (tFsc_tbl p q) (tGf_tbl p q)]
    simp only [Finset.sum_range_one, zero_add]
  | n + 1, hn => by
    have hN : cfg0.N = 8 := N_0
    refine (outsAt_next m d ⟨n + 1, hn⟩ (by show ¬ (n + 1) % 8 = 0; omega)).trans ?_
    simp only [Nat.add_sub_cancel]
    rw [outsAt_real n (by omega), iblk_x h, iblk_y h, iblk_vecs h, iblk_wg h, iblk_wu h, iblk_wo h,
      outs_real _ _ p q _ (tSh_tbl p q) (tSc_tbl p q) (tGt_tbl p q) (tG_tbl p q) (tFsh_tbl p q) (tFsc_tbl p q) (tGf_tbl p q)]
    simp only [Finset.sum_range_succ _ (n + 1)]

/-- The gradient of the sub-layer's output. -/
theorem out6 : (dats m 0 d).arrAt 6 cfg0.N = up (fun i => dres q (res p (x i)) (y i)) :=
  (dats m 0 d).arrAt_eq_of_cover 6 (up (fun i => dres q (res p (x i)) (y i))) (fun t _ => by
      rw [Value.flushed6, outsAt_real h]
      funext j
      rw [View.read_apply]
      exact blk_read (fun i => dres q (res p (x i)) (y i)) t.val (idx6 t).1 (idx6 t).2 _ j rfl rfl)
    fun i => ⟨pt (i 0), flush0_6 _, by
      show i ∈ ((View.whole main_v6_0).slice (win0_6.rect (pt (i 0)))).set
      rw [View.set_slice_whole, Rect.mem_set_unit]
      intro a
      match a with
      | ⟨0, _⟩ => exact in_block (i 0).val 512 (by norm_num) (idx6 _).1
      | ⟨1, _⟩ => exact in_whole (i 1) (idx6 _).2⟩
/-- The gate half of the first product. -/
theorem out7 : (dats m 0 d).arrAt 7 cfg0.N = up (fun i => gate p (x i)) :=
  (dats m 0 d).arrAt_eq_of_cover 7 (up (fun i => gate p (x i))) (fun t _ => by
      rw [Value.flushed7, outsAt_real h]
      funext j
      rw [View.read_apply]
      exact blk_read (fun i => gate p (x i)) t.val (idx7 t).1 (idx7 t).2 _ j rfl rfl)
    fun i => ⟨pt (i 0), flush0_7 _, by
      show i ∈ ((View.whole main_v6_1).slice (win0_7.rect (pt (i 0)))).set
      rw [View.set_slice_whole, Rect.mem_set_unit]
      intro a
      match a with
      | ⟨0, _⟩ => exact in_block (i 0).val 512 (by norm_num) (idx7 _).1
      | ⟨1, _⟩ => exact in_whole (i 1) (idx7 _).2⟩
/-- The other half. -/
theorem out8 : (dats m 0 d).arrAt 8 cfg0.N = up (fun i => upp p (x i)) :=
  (dats m 0 d).arrAt_eq_of_cover 8 (up (fun i => upp p (x i))) (fun t _ => by
      rw [Value.flushed8, outsAt_real h]
      funext j
      rw [View.read_apply]
      exact blk_read (fun i => upp p (x i)) t.val (idx8 t).1 (idx8 t).2 _ j rfl rfl)
    fun i => ⟨pt (i 0), flush0_8 _, by
      show i ∈ ((View.whole main_v6_2).slice (win0_8.rect (pt (i 0)))).set
      rw [View.set_slice_whole, Rect.mem_set_unit]
      intro a
      match a with
      | ⟨0, _⟩ => exact in_block (i 0).val 512 (by norm_num) (idx8 _).1
      | ⟨1, _⟩ => exact in_whole (i 1) (idx8 _).2⟩
/-- The second product. -/
theorem out9 : (dats m 0 d).arrAt 9 cfg0.N = up (fun i => yv p (x i)) :=
  (dats m 0 d).arrAt_eq_of_cover 9 (up (fun i => yv p (x i))) (fun t _ => by
      rw [Value.flushed9, outsAt_real h]
      funext j
      rw [View.read_apply]
      exact blk_read (fun i => yv p (x i)) t.val (idx9 t).1 (idx9 t).2 _ j rfl rfl)
    fun i => ⟨pt (i 0), flush0_9 _, by
      show i ∈ ((View.whole main_v6_3).slice (win0_9.rect (pt (i 0)))).set
      rw [View.set_slice_whole, Rect.mem_set_unit]
      intro a
      match a with
      | ⟨0, _⟩ => exact in_block (i 0).val 512 (by norm_num) (idx9 _).1
      | ⟨1, _⟩ => exact in_whole (i 1) (idx9 _).2⟩

/-- The rows of sums: the one block is written back once, after the last point, when every token's part is in. -/
theorem out10 : (dats m 0 d).arrAt 10 cfg0.N = up (fun r j => sums q (fun i => res p (x i)) y j r) :=
  (dats m 0 d).arrAt_eq_of_cover 10 (up (fun r j => sums q (fun i => res p (x i)) y j r)) (fun t hf => by
      have hN : cfg0.N = 8 := N_0
      have h8 : t.val + 1 = 8 := by have := (flush0_10 t).mp hf; have := t.isLt; omega
      rw [Value.flushed10, outsAt_real h, h8,
        show (fun (r : Fin 8) (j : Fin 1024) => ∑ s ∈ Finset.range 8, sums q (fun i => res p (blk s x i)) (blk s y) j r)
          = fun r j => sums q (fun i => res p (x i)) y j r from
            funext fun r => funext fun j => sums_blk q (fun i => res p (x i)) y j r]
      funext j
      rw [View.read_apply]
      exact (up_at (fun r j => sums q (fun i => res p (x i)) y j r) _ (j 0) (j 1)
        (by show win0_10.index t 0 * 8 + 1 * (j 0).val = _; rw [(idx10 t).1]; omega)
        (by show win0_10.index t 1 * 1024 + 1 * (j 1).val = _; rw [(idx10 t).2]; omega)).symm)
    fun i => ⟨last, (flush0_10 _).mpr rfl, by
      show i ∈ ((View.whole main_v6_4).slice (win0_10.rect last)).set
      rw [View.set_slice_whole, Rect.mem_set_unit]
      intro a
      match a with
      | ⟨0, _⟩ => exact in_whole (i 0) (idx10 _).1
      | ⟨1, _⟩ => exact in_whole (i 1) (idx10 _).2⟩

end Args

/-- Finite arguments are real arrays. -/
theorem args_of_pre (m : (ℓ : Loc Cert.KernelLossIdeal.nD Cert.KernelLossIdeal.τ Cert.KernelLossIdeal.sig) → Buf (Elt Ideal) ℓ)
    (hpre : Cert.Pre_KernelLossIdeal_finite_loss m) (d : Dev Cert.KernelLossIdeal.nD) :
    ∃ (p : Par) (q : Head) (x y : Fin 4096 → Fin 1024 → ℝ), Args m d p q x y := by
  obtain ⟨h0, h1, h2, h3, h4, h5, h6, h7, h8, h9, h10⟩ := hpre d
  obtain ⟨x, hx⟩ := exists_up _ (Cert.Claims.finite_array _ _ h0)
  obtain ⟨sh, hsh⟩ := exists_row _ (Cert.Claims.finite_array _ _ h1)
  obtain ⟨sc, hsc⟩ := exists_row _ (Cert.Claims.finite_array _ _ h2)
  obtain ⟨gt, hgt⟩ := exists_row _ (Cert.Claims.finite_array _ _ h3)
  obtain ⟨g, hg⟩ := exists_row _ (Cert.Claims.finite_array _ _ h4)
  obtain ⟨fsh, hfsh⟩ := exists_row _ (Cert.Claims.finite_array _ _ h5)
  obtain ⟨fsc, hfsc⟩ := exists_row _ (Cert.Claims.finite_array _ _ h6)
  obtain ⟨gf, hgf⟩ := exists_row _ (Cert.Claims.finite_array _ _ h7)
  obtain ⟨wi, hwi⟩ := exists_up _ (Cert.Claims.finite_array _ _ h8)
  obtain ⟨wo, hwo⟩ := exists_up _ (Cert.Claims.finite_array _ _ h9)
  obtain ⟨y, hy⟩ := exists_up _ (Cert.Claims.finite_array _ _ h10)
  exact ⟨⟨sh, sc, gt, g, wi, wo⟩, ⟨fsh, fsc, gf⟩, x, y, ⟨hx, hsh, hsc, hgt, hg, hfsh, hfsc, hgf, hwi, hwo, hy⟩⟩

/-- The reference leaves its arguments as they are. -/
theorem frame_ref : Cert.quiescent_ReferenceLossIdeal :=
  fun m g _ => (θ_run Cert.ReferenceLossIdeal.defs _ _).mono
    (fun r h => ⟨fun c => (h c).2.2.2.2.2, sem_eq_zero_of_no_sems (by decide) r.2⟩) (Cert.ReferenceLossIdeal.Value.run (F := Ideal) m g)

set_option maxHeartbeats 4000000 in
/-- On finite arguments the kernel's five results are the reference's: both are the loss's squares and gradient over the reals. -/
theorem algebraic : Cert.algebraic_KernelLossIdeal_ReferenceLossIdeal_pre_finite_loss := by
  intro m g m' g' hpre hag
  refine ⟨fun c => (Cert.KernelLossIdeal.Gen.dats m 0 c).arrAt 6 Cert.KernelLossIdeal.cfg0.N,
    fun c => (Cert.KernelLossIdeal.Gen.dats m 0 c).arrAt 7 Cert.KernelLossIdeal.cfg0.N,
    fun c => (Cert.KernelLossIdeal.Gen.dats m 0 c).arrAt 8 Cert.KernelLossIdeal.cfg0.N,
    fun c => (Cert.KernelLossIdeal.Gen.dats m 0 c).arrAt 9 Cert.KernelLossIdeal.cfg0.N,
    fun c => (Cert.KernelLossIdeal.Gen.dats m 0 c).arrAt 10 Cert.KernelLossIdeal.cfg0.N, Cert.KernelLossIdeal.Value.run_blocks m g,
    (θ_run Cert.ReferenceLossIdeal.defs _ _).mono (fun r h d => ?_) (Cert.ReferenceLossIdeal.Value.run (F := Ideal) m' g')⟩
  obtain ⟨p, q, x, y, hA⟩ := args_of_pre m hpre d
  obtain ⟨a0, a1, a2, a3, a4, a5, a6, a7, a8, a9, a10⟩ := hag d
  replace a0 := a0.trans hA.x
  replace a1 := a1.trans hA.sh
  replace a2 := a2.trans hA.sc
  replace a3 := a3.trans hA.gt
  replace a4 := a4.trans hA.g
  replace a5 := a5.trans hA.fsh
  replace a6 := a6.trans hA.fsc
  replace a7 := a7.trans hA.gf
  replace a8 := a8.trans hA.wi
  replace a9 := a9.trans hA.wo
  replace a10 := a10.trans hA.y
  obtain ⟨h0, h1, h2, h3, h4, hk⟩ := h d
  rw [Cert.ReferenceLossIdeal.Read.val_main_v92_eq, a0, a1, a2, a3, a4, a5, a6, a7, a8, a9, a10, r_dres] at h0
  rw [Cert.ReferenceLossIdeal.Read.val_main_v97_eq, a0, a1, a2, a4, a8, r_gate] at h1
  rw [Cert.ReferenceLossIdeal.Read.val_main_v98_eq, a0, a1, a2, a4, a8, r_upp] at h2
  rw [Cert.ReferenceLossIdeal.Read.val_main_v99_eq, a0, a1, a2, a4, a8, a9, r_y] at h3
  rw [Cert.ReferenceLossIdeal.Read.val_main_v96_eq, a0, a1, a2, a3, a4, a5, a6, a7, a8, a9, a10, r_sums] at h4
  exact ⟨h0.trans (out6 hA).symm, h1.trans (out7 hA).symm, h2.trans (out8 hA).symm, h3.trans (out9 hA).symm, h4.trans (out10 hA).symm, hk⟩

end Cert.Loss

end
-- ==== Proof.Mix.lean ====
/- The mixer's output call: its arrays are the residual stream, the output product and the two groups' outputs side by side.
   No argument need be finite. -/
module

public import proofs.«01_k».proof.Proof.Fin
public import proofs.«01_k».proof.Proof.Gen.KernelMix.Frame
public import proofs.«01_k».proof.Proof.Gen.KernelMixIdeal.Value
public import proofs.«01_k».proof.Proof.Gen.ReferenceMixIdeal.Run
public import proofs.«01_k».proof.Proof.Gen.ReferenceMixIdeal.Read

@[expose] public section

set_option maxRecDepth 16384

noncomputable section

open Idealize.ShloMosaic Idealize.ShloMosaic.TcCoe Idealize.SL.Sem Idealize.ShloMosaic.Tactic

namespace Cert.MixOut

open Cert.KernelMixIdeal Cert.KernelMixIdeal.Gen Cert.Prod Cert.Fwd Cert.Reals
open Cert.FwdIn (hz)

variable {n : ℕ}

/-! ## The mathematics -/

/-- Two arrays of 512 columns side by side. -/
def cat (A B : Arr n 512) : Arr n 1024 := fun i =>
  if h : (i 1).val < 512 then A (ix2 (i 0 : Fin n) (⟨(i 1).val, h⟩ : Fin 512))
  else B (ix2 (i 0 : Fin n) (⟨(i 1).val - 512, by have : (i 1).val < 1024 := (i 1).isLt; omega⟩ : Fin 512))

theorem cat_lo (A B : Arr n 512) (i : (⟨2, ![n, 1024]⟩ : Shape).Idx) (a : Fin n) (k : Fin 512) (h0 : (i 0).val = a.val) (h1 : (i 1).val = k.val) :
    cat A B i = A (ix2 a k) := by
  have hk := k.isLt
  unfold cat
  rw [dif_pos (by omega)]
  exact congrArg A (idx_eq h0 h1)
theorem cat_hi (A B : Arr n 512) (i : (⟨2, ![n, 1024]⟩ : Shape).Idx) (a : Fin n) (k : Fin 512) (h0 : (i 0).val = a.val) (h1 : (i 1).val = 512 + k.val) :
    cat A B i = B (ix2 a k) := by
  unfold cat
  rw [dif_neg (by omega)]
  exact congrArg B (idx_eq h0 (by show (i 1).val - 512 = k.val; omega))

/-- The residual stream: the tokens plus the gated product. -/
def resid (gt : Arr 1 1024) (x y : Arr n 1024) : Arr n 1024 := fun i => x i + gt (ix2 (0 : Fin 1) (i 1 : Fin 1024)) * y i

/-- A token's mean over its 512 channels. -/
def mu (q : Arr n 512) (a : Fin n) : EReal := Ideal.div (∑ k : Fin 512, q (ix2 a k)) ((512 : ℝ) : EReal)

/-- The centred token. -/
def dv (q : Arr n 512) : Arr n 512 := fun i => q i - mu q (i 0)

/-- The layer norm with its gain and bias. -/
def lno (lg lb : Arr 1 512) (q : Arr n 512) : Arr n 512 := fun i =>
  dv q i * Ideal.rsqrt (Ideal.div (∑ k : Fin 512, dv q (ix2 (i 0 : Fin n) k) * dv q (ix2 (i 0 : Fin n) k)) ((512 : ℝ) : EReal) + ((eps : ℝ) : EReal))
    * lg (ix2 (0 : Fin 1) (i 1 : Fin 512)) + lb (ix2 (0 : Fin 1) (i 1 : Fin 512))

/-- The convolution group's output: the swish of the layer norm. -/
def conv (lg lb : Arr 1 512) (q : Arr n 512) : Arr n 512 := fun i => lno lg lb q i * Ideal.div 1 (1 + Ideal.exp (-lno lg lb q i))

/-- The recurrence group's output at an entry: the gelu of the gate times the state. -/
def gel (u h : EReal) : EReal :=
  u * (((1 / 2 : ℝ) : EReal) * (1 + Ideal.tanh (Ideal.ofBits .f32 0x3F4C422A#32 * (u + Ideal.ofBits .f32 0x3D372713#32 * (u * u * u))))) * h

/-- Both groups side by side. -/
def both (lg lb : Arr 1 512) (q u h : Arr n 512) : Arr n 1024 := cat (conv lg lb q) fun i => gel (u i) (h i)

theorem lit_512 : Ideal.ofBits .f32 0x44000000#32 = ((512 : ℝ) : EReal) := by
  simp [Ideal.ofBits, Ideal.ieee, -EReal.coe_mul]; norm_num

theorem lno_congr {n' : ℕ} (lg lb : Arr 1 512) (q : Arr n 512) (q' : Arr n' 512) (a : Fin n) (a' : Fin n')
    (h : ∀ k, q (ix2 a k) = q' (ix2 a' k)) (k : Fin 512) : lno lg lb q (ix2 a k) = lno lg lb q' (ix2 a' k) := by
  have hm : mu q a = mu q' a' := congrArg (fun z => Ideal.div z _) (Finset.sum_congr rfl fun j _ => h j)
  have hd : ∀ j, dv q (ix2 a j) = dv q' (ix2 a' j) := fun j => by
    show q (ix2 a j) - mu q a = q' (ix2 a' j) - mu q' a'
    rw [h, hm]
  have hs : (∑ j : Fin 512, dv q (ix2 a j) * dv q (ix2 a j)) = ∑ j : Fin 512, dv q' (ix2 a' j) * dv q' (ix2 a' j) :=
    Finset.sum_congr rfl fun j _ => by rw [hd]
  show dv q (ix2 a k) * Ideal.rsqrt (Ideal.div (∑ j : Fin 512, dv q (ix2 a j) * dv q (ix2 a j)) _ + _) * _ + _
    = dv q' (ix2 a' k) * Ideal.rsqrt (Ideal.div (∑ j : Fin 512, dv q' (ix2 a' j) * dv q' (ix2 a' j)) _ + _) * _ + _
  rw [hd, hs]
  rfl

/-- A token's two groups are made of that token alone. -/
theorem both_congr {n' : ℕ} (lg lb : Arr 1 512) (q u h : Arr n 512) (q' u' h' : Arr n' 512) (a : Fin n) (a' : Fin n')
    (hq : ∀ k, q (ix2 a k) = q' (ix2 a' k)) (hu : ∀ k, u (ix2 a k) = u' (ix2 a' k)) (hh : ∀ k, h (ix2 a k) = h' (ix2 a' k)) (k : Fin 1024) :
    both lg lb q u h (ix2 a k) = both lg lb q' u' h' (ix2 a' k) := by
  unfold both cat
  by_cases hk : k.val < 512
  · rw [dif_pos (show ((ix2 a k : (⟨2, ![n, 1024]⟩ : Shape).Idx) 1).val < 512 from hk),
      dif_pos (show ((ix2 a' k : (⟨2, ![n', 1024]⟩ : Shape).Idx) 1).val < 512 from hk)]
    show lno lg lb q (ix2 a _) * _ = lno lg lb q' (ix2 a' _) * _
    exact congrArg (fun z => z * Ideal.div 1 (1 + Ideal.exp (-z))) (lno_congr lg lb q q' a a' hq ⟨k.val, hk⟩)
  · rw [dif_neg (show ¬((ix2 a k : (⟨2, ![n, 1024]⟩ : Shape).Idx) 1).val < 512 from hk),
      dif_neg (show ¬((ix2 a' k : (⟨2, ![n', 1024]⟩ : Shape).Idx) 1).val < 512 from hk)]
    exact congrArg₂ gel (hu _) (hh _)

/-! ## What a point stores -/

section Pay

variable (q h : Vec Ideal S512x512 .f32) (u : Vec Ideal S512x512 .bf16) (lg lb : Vec Ideal S1x512 .f32)

theorem pay_conv : k0_pay5 (F := Ideal) q lg lb = conv lg lb q := by
  funext i
  pointwise [k0_pay5]
  simp only [ixApp2, lit_512, lit_eps, lit_half]
  rw [half_tanh]
  rfl

theorem pay_gel : k0_pay1 (F := Ideal) (k0_pay6 u) (k0_pay7 u) h = fun i => gel (u i) (h i) := by
  funext i
  pointwise [k0_pay1, k0_pay6, k0_pay7]
  simp only [lit_half]
  unfold gel
  rw [mul_comm ((1 / 2 : ℝ) : EReal) (u i), mul_assoc (u i), mul_assoc (Ideal.ofBits .f32 0x3D372713#32), mul_assoc (Ideal.ofBits .f32 0x3D372713#32)]

theorem pay_y (C : Vec Ideal S512x1024 .bf16) (W : Vec Ideal S1024x1024 .bf16) : k0_pay3 (F := Ideal) C W = nn C W := by
  funext i
  pointwise [k0_pay3, k0_pay2]
  rfl

theorem pay_x (C : Vec Ideal S512x1024 .bf16) (W : Vec Ideal S1024x1024 .bf16) (x : Vec Ideal S512x1024 .f32) (gt : Vec Ideal S1x1024 .f32) :
    k0_pay4 (F := Ideal) C W x gt = resid gt x (nn C W) := by
  funext i
  pointwise [k0_pay4, k0_pay2]
  rfl

end Pay

/-- The two column halves cover the block. -/
theorem cover_cat (i1 i0) (A B : Vec Ideal S512x512 .bf16) (y : S512x1024.Idx) :
    ∃ p ∈ ([⟨Rect.unit (s := S512x1024) ![0, 512] ![512, 512] i1, B⟩, ⟨Rect.unit (s := S512x1024) ![0, 0] ![512, 512] i0, A⟩] :
      List (View.Piece (Elt Ideal) S512x1024 .bf16)), y ∈ p.1.set := by
  have h1 : (y 1).val < 1024 := (y 1).isLt
  by_cases h : (y 1).val < 512
  · refine ⟨_, List.mem_cons_of_mem _ (List.mem_singleton_self _), ?_⟩
    rw [Rect.mem_set_unit]
    intro a
    match a with
    | ⟨0, _⟩ => exact ⟨Nat.zero_le _, by show (y 0).val < 0 + 512; have : (y 0).val < 512 := (y 0).isLt; omega⟩
    | ⟨1, _⟩ => exact ⟨Nat.zero_le _, by show (y 1).val < 0 + 512; omega⟩
  · refine ⟨_, List.mem_cons_self, ?_⟩
    rw [Rect.mem_set_unit]
    intro a
    match a with
    | ⟨0, _⟩ => exact ⟨Nat.zero_le _, by show (y 0).val < 0 + 512; have : (y 0).val < 512 := (y 0).isLt; omega⟩
    | ⟨1, _⟩ => exact ⟨by show 512 ≤ (y 1).val; omega, by show (y 1).val < 512 + 512; omega⟩

/-- Two stores of column halves leave the two arrays side by side. -/
theorem canon_cat (i1 i0) (A B : Vec Ideal S512x512 .bf16) :
    View.canon (Val := Elt Ideal) (e := .bf16) [⟨Rect.unit (s := S512x1024) ![0, 512] ![512, 512] i1, B⟩, ⟨Rect.unit (s := S512x1024) ![0, 0] ![512, 512] i0, A⟩]
      = cat A B := by
  funext y
  refine View.canon_apply_of_pieces (cat A B : Vec Ideal S512x1024 .bf16) _ (fun p hp x => ?_) y (cover_cat i1 i0 A B y)
  rcases List.mem_cons.mp hp with rfl | hp
  · refine (show B x = B (ix2 (x 0 : Fin 512) (x 1 : Fin 512)) from congrArg B (idx_eq rfl rfl)).trans (cat_hi A B _ (x 0) (x 1) ?_ ?_).symm
    · show 0 + 1 * (x 0).val = (x 0).val; omega
    · show 512 + 1 * (x 1).val = 512 + (x 1).val; omega
  · obtain rfl := List.mem_singleton.mp hp
    refine (show A x = A (ix2 (x 0 : Fin 512) (x 1 : Fin 512)) from congrArg A (idx_eq rfl rfl)).trans (cat_lo A B _ (x 0) (x 1) ?_ ?_).symm
    · show 0 + 1 * (x 0).val = (x 0).val; omega
    · show 0 + 1 * (x 1).val = (x 1).val; omega

/-- A load of the whole block after them reads the same. -/
theorem readCov_cat (v : View sig .tc .vmem S512x1024 .bf16) (i1 i0 iw) (A B : Vec Ideal S512x512 .bf16) :
    v.readCov (Val := Elt Ideal) [⟨Rect.unit (s := S512x1024) ![0, 512] ![512, 512] i1, B⟩, ⟨Rect.unit (s := S512x1024) ![0, 0] ![512, 512] i0, A⟩]
      (Rect.unit (s := S512x1024) ![0, 0] ![512, 1024] iw).toLoadRect = cat A B := by
  rw [View.readCov_eq_canon_ld _ _ _ (cover_cat i1 i0 A B), canon_cat]
  exact View.ld_unit_zero (S := S512x1024) hz _ _

/-! ## The blocks, read in the arguments -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 3 :=
  (by decide +kernel : ∀ t : Fin grid0.N, win0_1.index t 0 = t.val ∧ win0_1.index t 1 = 3)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)

variable (m : (ℓ : Loc nD τ sig) → Buf (Elt Ideal) ℓ) (d : Dev nD)

/-- The convolution's output, the projection, the recurrence's states, the residual stream, the channel vectors and the weight. -/
abbrev aQ : Arr 4096 512 := m ((d : Thread nD τ).loc main_arg0)
abbrev aP : Arr 4096 2048 := m ((d : Thread nD τ).loc main_arg1)
abbrev aH : Arr 4096 512 := m ((d : Thread nD τ).loc main_arg2)
abbrev aX : Arr 4096 1024 := m ((d : Thread nD τ).loc main_arg3)
abbrev aGt : Arr 1 1024 := m ((d : Thread nD τ).loc main_arg4)
abbrev aLg : Arr 1 512 := m ((d : Thread nD τ).loc main_arg5)
abbrev aLb : Arr 1 512 := m ((d : Thread nD τ).loc main_arg6)
abbrev aW : Arr 1024 1024 := m ((d : Thread nD τ).loc main_arg7)

/-- The projection's last quarter: the recurrence's gate. -/
def gate (P : Arr 4096 2048) : Arr 4096 512 := fun i =>
  P (ix2 (i 0 : Fin 4096) (⟨1536 + (i 1).val, by have : (i 1).val < 512 := (i 1).isLt; omega⟩ : Fin 2048))

/-- The tables of channel vectors, at the rows the call reads. -/
theorem V_vecs (j : S16x1024.Idx) (h : (j 0).val = 5) : V m d main_v2 j = aGt m d (ix2 (0 : Fin 1) (j 1 : Fin 1024)) := by
  unfold V
  simp only [hostOps0, List.flatten_cons, List.flatten_nil, List.append_nil, List.cons_append, List.nil_append]
  after_reads_simp
  dsimp only [Matrix.cons_val]
  after_reads_simp
  rw [show m (d, Proc.tc.devRef main_arg4) = aGt m d from rfl]
  pointwise
  split_ifs <;> first
    | omega
    | (refine congrArg (aGt m d) (idx_eq ?_ rfl); show (j 0).val - 5 = 0; omega)
theorem V_lnv (j : S8x512.Idx) (r : Arr 1 512) (h : ((j 0).val = 0 ∧ r = aLg m d) ∨ ((j 0).val = 1 ∧ r = aLb m d)) :
    V m d main_v4 j = r (ix2 (0 : Fin 1) (j 1 : Fin 512)) := by
  unfold V
  simp only [hostOps0, List.flatten_cons, List.flatten_nil, List.append_nil, List.cons_append, List.nil_append]
  after_reads_simp
  dsimp only [Matrix.cons_val]
  after_reads_simp
  rw [show m (d, Proc.tc.devRef main_arg5) = aLg m d from rfl, show m (d, Proc.tc.devRef main_arg6) = aLb m d from rfl]
  pointwise
  rcases h with ⟨h, e⟩ | ⟨h, e⟩ <;> rw [e] <;> split_ifs <;> first
    | omega
    | (refine congrArg (aLg m d) (idx_eq ?_ rfl); show (j 0).val = 0; omega)
    | (refine congrArg (aLb m d) (idx_eq ?_ rfl); show (j 0).val - 1 = 0; omega)

/-- The weight. -/
theorem V_w : V m d main_v5 = aW m d := by
  unfold V
  simp only [hostOps0, List.flatten_cons, List.flatten_nil, List.append_nil, List.cons_append, List.nil_append]
  after_reads_simp
  rfl

theorem iblk_q (t : Fin cfg0.N) (j : S512x512.Idx) (i : S4096x512.Idx) (h0 : (i 0).val = t.val * 512 + (j 0).val) (h1 : (i 1).val = (j 1).val) :
    iblk m d 0 t j = aQ m d i := by
  unfold iblk
  rw [View.read_apply]
  show V m d main_arg0 _ = _
  rw [V_main_arg0]
  refine congrArg (aQ m d) (idx_eq ?_ ?_)
  · show win0_0.index t 0 * 512 + 1 * (j 0).val = (i 0).val; rw [(idx0 t).1]; omega
  · show win0_0.index t 1 * 512 + 1 * (j 1).val = (i 1).val; rw [(idx0 t).2]; omega
theorem iblk_u (t : Fin cfg0.N) (j : S512x512.Idx) (i : S4096x512.Idx) (h0 : (i 0).val = t.val * 512 + (j 0).val) (h1 : (i 1).val = (j 1).val) :
    iblk m d 1 t j = gate (aP m d) i := by
  unfold iblk
  rw [View.read_apply]
  show V m d main_arg1 _ = _
  rw [V_main_arg1]
  refine congrArg (aP m d) (idx_eq ?_ ?_)
  · show win0_1.index t 0 * 512 + 1 * (j 0).val = (i 0).val; rw [(idx1 t).1]; omega
  · show win0_1.index t 1 * 512 + 1 * (j 1).val = 1536 + (i 1).val; rw [(idx1 t).2]; omega
theorem iblk_h (t : Fin cfg0.N) (j : S512x512.Idx) (i : S4096x512.Idx) (h0 : (i 0).val = t.val * 512 + (j 0).val) (h1 : (i 1).val = (j 1).val) :
    iblk m d 2 t j = aH m d i := by
  unfold iblk
  rw [View.read_apply]
  show V m d main_arg2 _ = _
  rw [V_main_arg2]
  refine congrArg (aH m d) (idx_eq ?_ ?_)
  · show win0_2.index t 0 * 512 + 1 * (j 0).val = (i 0).val; rw [(idx2 t).1]; omega
  · show win0_2.index t 1 * 512 + 1 * (j 1).val = (i 1).val; rw [(idx2 t).2]; omega
theorem iblk_x (t : Fin cfg0.N) (j : S512x1024.Idx) (i : S4096x1024.Idx) (h0 : (i 0).val = t.val * 512 + (j 0).val) (h1 : (i 1).val = (j 1).val) :
    iblk m d 3 t j = aX m d i := by
  unfold iblk
  rw [View.read_apply]
  show V m d main_arg3 _ = _
  rw [V_main_arg3]
  refine congrArg (aX m d) (idx_eq ?_ ?_)
  · show win0_3.index t 0 * 512 + 1 * (j 0).val = (i 0).val; rw [(idx3 t).1]; omega
  · show win0_3.index t 1 * 1024 + 1 * (j 1).val = (i 1).val; rw [(idx3 t).2]; omega
theorem iblk_vecs (t : Fin cfg0.N) (j : S16x1024.Idx) : iblk m d 4 t j = V m d main_v2 j := by
  unfold iblk
  rw [View.read_apply]
  show V m d main_v2 _ = _
  refine congrArg (V m d main_v2) (idx_eq ?_ ?_)
  · show win0_4.index t 0 * 16 + 1 * (j 0).val = _; rw [(idx4 t).1]; omega
  · show win0_4.index t 1 * 1024 + 1 * (j 1).val = _; rw [(idx4 t).2]; omega
theorem iblk_lnv (t : Fin cfg0.N) (j : S8x512.Idx) : iblk m d 5 t j = V m d main_v4 j := by
  unfold iblk
  rw [View.read_apply]
  show V m d main_v4 _ = _
  refine congrArg (V m d main_v4) (idx_eq ?_ ?_)
  · show win0_5.index t 0 * 8 + 1 * (j 0).val = _; rw [(idx5 t).1]; omega
  · show win0_5.index t 1 * 512 + 1 * (j 1).val = _; rw [(idx5 t).2]; omega
theorem iblk_w (t : Fin cfg0.N) : iblk m d 6 t = aW m d := by
  funext j
  unfold iblk
  rw [View.read_apply]
  show V m d main_v5 _ = _
  rw [V_w]
  refine congrArg (aW m d) (idx_eq ?_ ?_)
  · show win0_6.index t 0 * 1024 + 1 * (j 0).val = (j 0).val; rw [(idx6 t).1]; omega
  · show win0_6.index t 1 * 1024 + 1 * (j 1).val = (j 1).val; rw [(idx6 t).2]; omega

theorem ld_gt (t : Fin cfg0.N) (i5) : View.ld (iblk m d 4 t) (Rect.unit (s := S16x1024) ![5, 0] ![1, 1024] i5) = aGt m d := by
  funext j
  pointwise
  rw [iblk_vecs, V_vecs m d _ rfl]
  exact congrArg (aGt m d) (idx_eq (Nat.lt_one_iff.mp (j 0).isLt).symm rfl)
theorem ld_lg (t : Fin cfg0.N) (i0) : View.ld (iblk m d 5 t) (Rect.unit (s := S8x512) ![0, 0] ![1, 512] i0) = aLg m d := by
  funext j
  pointwise
  rw [iblk_lnv, V_lnv m d _ (aLg m d) (Or.inl ⟨rfl, rfl⟩)]
  exact congrArg (aLg m d) (idx_eq (Nat.lt_one_iff.mp (j 0).isLt).symm rfl)
theorem ld_lb (t : Fin cfg0.N) (i1) : View.ld (iblk m d 5 t) (Rect.unit (s := S8x512) ![1, 0] ![1, 512] i1) = aLb m d := by
  funext j
  pointwise
  rw [iblk_lnv, V_lnv m d _ (aLb m d) (Or.inr ⟨rfl, rfl⟩)]
  exact congrArg (aLb m d) (idx_eq (Nat.lt_one_iff.mp (j 0).isLt).symm rfl)

/-- Both groups at a point's tokens. -/
abbrev blk (t : Fin cfg0.N) : Arr 512 1024 := both (aLg m d) (aLb m d) (iblk m d 0 t) (iblk m d 1 t) (iblk m d 2 t)

/-- Both groups at all the tokens, their product with the weight, and the residual stream. -/
def groups : Arr 4096 1024 := both (aLg m d) (aLb m d) (aQ m d) (gate (aP m d)) (aH m d)
def prod : Arr 4096 1024 := nn (groups m d) (aW m d)
def stream : Arr 4096 1024 := resid (aGt m d) (aX m d) (prod m d)

/-- What the output windows' buffers hold after a point. -/
theorem outs_pt (t : Fin cfg0.N) : outsAt0 m d t =
    (resid (aGt m d) (iblk m d 3 t) (nn (blk m d t) (aW m d)), nn (blk m d t) (aW m d), blk m d t) := by
  unfold outsAt0 out0_A_7 out0_A_8 out0_A_9
  unfold kernelRun0_A
  dsimp only
  sl_unfold_words
  simp only [View.read_writes_junk_eq_canon, View.canon_unit_zero (S := S512x1024) hz, canon_cat, readCov_cat]
  simp only [View.readAt_eq_ld,
    (hs0_0 t).read_unread, (hs0_1 t).read_unread, (hs0_2 t).read_unread, (hs0_3 t).read_unread,
    (hs0_4 t).read_unread, (hs0_5 t).read_unread, (hs0_6 t).read_unread,
    View.ld_unit_zero (S := S512x1024) hz, View.ld_unit_zero (S := S512x512) hz, View.ld_unit_zero (S := S1024x1024) hz,
    ld_gt, ld_lg, ld_lb, iblk_w, pay_conv, pay_gel, pay_y, pay_x]
  rfl

/-- A point's tokens, read in all the tokens. -/
theorem blk_groups (t : Fin cfg0.N) (a : Fin 512) (b : Fin 4096) (h : b.val = t.val * 512 + a.val) (k : Fin 1024) :
    blk m d t (ix2 a k) = groups m d (ix2 b k) :=
  both_congr _ _ _ _ _ _ _ _ a b (fun k => iblk_q m d t _ _ h rfl) (fun k => iblk_u m d t _ _ h rfl) (fun k => iblk_h m d t _ _ h rfl) k
theorem blk_prod (t : Fin cfg0.N) (j : S512x1024.Idx) (i : S4096x1024.Idx) (h0 : (i 0).val = t.val * 512 + (j 0).val) (h1 : (i 1).val = (j 1).val) :
    nn (blk m d t) (aW m d) j = prod m d i :=
  nn_congr _ _ _ _ _ _ (fun k => blk_groups m d t _ _ h0 k) fun k => congrArg (aW m d) (idx_eq rfl h1.symm)

theorem blk_both (t : Fin cfg0.N) (j : S512x1024.Idx) (i : S4096x1024.Idx) (h0 : (i 0).val = t.val * 512 + (j 0).val) (h1 : (i 1).val = (j 1).val) :
    blk m d t j = groups m d i :=
  (congrArg (blk m d t) (idx_eq rfl rfl)).trans ((blk_groups m d t (j 0) (i 0) h0 (j 1)).trans (congrArg (groups m d) (idx_eq rfl h1.symm)))
theorem blk_stream (t : Fin cfg0.N) (j : S512x1024.Idx) (i : S4096x1024.Idx) (h0 : (i 0).val = t.val * 512 + (j 0).val) (h1 : (i 1).val = (j 1).val) :
    resid (aGt m d) (iblk m d 3 t) (nn (blk m d t) (aW m d)) j = stream m d i :=
  congrArg₂ (· + ·) (iblk_x m d t j i h0 h1) (congrArg₂ (· * ·) (congrArg (aGt m d) (idx_eq rfl h1.symm)) (blk_prod m d t j i h0 h1))

/-- The point whose block of 512 tokens holds a token. -/
def pt (i : Fin 4096) : Fin cfg0.N := ⟨i.val / 512, by rw [show cfg0.N = 8 from N_0]; have := i.isLt; omega⟩

/-- The arrays the call leaves. -/
theorem out7 : (dats m 0 d).arrAt 7 cfg0.N = stream m d :=
  (dats m 0 d).arrAt_eq_of_cover 7 (stream m d) (fun t _ => by
      rw [Value.flushed7, outs_pt]
      funext j
      rw [View.read_apply]
      refine blk_stream m d t _ _ ?_ ?_
      · show win0_7.index t 0 * 512 + 1 * (j 0).val = _; rw [(idx7 t).1, Nat.one_mul]
      · show win0_7.index t 1 * 1024 + 1 * (j 1).val = (j 1).val; rw [(idx7 t).2]; omega)
    fun i => ⟨pt (i 0), flush0_7 _, by
      show i ∈ ((View.whole main_v6_0).slice (win0_7.rect (pt (i 0)))).set
      rw [View.set_slice_whole, Rect.mem_set_unit]
      intro a
      match a with
      | ⟨0, _⟩ => exact in_block (i 0).val 512 (by norm_num) (idx7 _).1
      | ⟨1, _⟩ => exact in_whole (i 1) (idx7 _).2⟩
theorem out8 : (dats m 0 d).arrAt 8 cfg0.N = prod m d :=
  (dats m 0 d).arrAt_eq_of_cover 8 (prod m d) (fun t _ => by
      rw [Value.flushed8, outs_pt]
      funext j
      rw [View.read_apply]
      refine blk_prod m d t _ _ ?_ ?_
      · show win0_8.index t 0 * 512 + 1 * (j 0).val = _; rw [(idx8 t).1, Nat.one_mul]
      · show win0_8.index t 1 * 1024 + 1 * (j 1).val = (j 1).val; rw [(idx8 t).2]; omega)
    fun i => ⟨pt (i 0), flush0_8 _, by
      show i ∈ ((View.whole main_v6_1).slice (win0_8.rect (pt (i 0)))).set
      rw [View.set_slice_whole, Rect.mem_set_unit]
      intro a
      match a with
      | ⟨0, _⟩ => exact in_block (i 0).val 512 (by norm_num) (idx8 _).1
      | ⟨1, _⟩ => exact in_whole (i 1) (idx8 _).2⟩
theorem out9 : (dats m 0 d).arrAt 9 cfg0.N = groups m d :=
  (dats m 0 d).arrAt_eq_of_cover 9 (groups m d) (fun t _ => by
      rw [Value.flushed9, outs_pt]
      funext j
      rw [View.read_apply]
      refine blk_both m d t _ _ ?_ ?_
      · show win0_9.index t 0 * 512 + 1 * (j 0).val = _; rw [(idx9 t).1, Nat.one_mul]
      · show win0_9.index t 1 * 1024 + 1 * (j 1).val = (j 1).val; rw [(idx9 t).2]; omega)
    fun i => ⟨pt (i 0), flush0_9 _, by
      show i ∈ ((View.whole main_v6_2).slice (win0_9.rect (pt (i 0)))).set
      rw [View.set_slice_whole, Rect.mem_set_unit]
      intro a
      match a with
      | ⟨0, _⟩ => exact in_block (i 0).val 512 (by norm_num) (idx9 _).1
      | ⟨1, _⟩ => exact in_whole (i 1) (idx9 _).2⟩

/-! ## The reference's arrays -/

section Reference

open Cert.ReferenceMixIdeal.Read

variable (q : Arr 4096 512) (P : Arr 4096 2048) (h : Arr 4096 512) (x : Arr 4096 1024) (gt : Arr 1 1024) (lg lb : Arr 1 512) (W : Arr 1024 1024)

theorem ref_ln : val_main_v26 (F := Ideal) q lg lb = lno lg lb q := by
  funext i
  pointwise [val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7,
    val_main_v6, val_main_v5, val_main_cst, val_main_cst_0, val_main_cst_1, val_main_cst_2, val_main_cst_3]
  simp only [ixApp2, lit_512, lit_eps]
  rfl

theorem ref_conv : val_main_v27 (F := Ideal) q lg lb = conv lg lb q := by
  funext i
  pointwise [val_main_v27, val_main_call0_v5, val_main_call0_v4, val_main_call0_v3, val_main_call0_v2, val_main_call0_v1, val_main_call0_v0,
    val_main_call0_cst, val_main_call0_cst_0, ref_ln]
  rfl

theorem ref_gate : val_main_v4 (F := Ideal) P = gate P := by
  funext i
  pointwise [val_main_v4, val_main_v3]
  rfl

theorem ref_gel : val_main_v41 (F := Ideal) P h = fun i => gel (gate P i) (h i) := by
  funext i
  pointwise [val_main_v41, val_main_v40, val_main_v39, val_main_v38, val_main_v37, val_main_v36, val_main_v35, val_main_v34, val_main_v33, val_main_v32,
    val_main_v31, val_main_v30, val_main_v29, val_main_v28, val_main_cst_4, val_main_cst_5, val_main_cst_6, val_main_cst_7, ref_gate]
  simp only [lit_half]
  rfl

theorem ref_both : val_main_v42 (F := Ideal) q P h lg lb = both lg lb q (gate P) h := by
  funext i
  have hi : (i 1).val < 1024 := (i 1).isLt
  pointwise [val_main_v42, ref_conv, ref_gel]
  unfold both cat
  split_ifs <;> first | omega | rfl

theorem ref_groups : val_main_v48 (F := Ideal) q P h lg lb = both lg lb q (gate P) h := ref_both q P h lg lb

theorem ref_dot : val_main_v43 (F := Ideal) q P h lg lb W = nn (both lg lb q (gate P) h) W := by
  funext i
  rw [val_main_v43_apply, ref_both]
  exact Finset.sum_congr rfl fun k _ => congrArg₂ (· * ·) (congrArg (both lg lb q (gate P) h) (idx_eq rfl rfl)) (congrArg W (idx_eq rfl rfl))

theorem ref_prod : val_main_v47 (F := Ideal) q P h lg lb W = nn (both lg lb q (gate P) h) W := ref_dot q P h lg lb W

theorem ref_stream : val_main_v46 (F := Ideal) q P h x gt lg lb W
    = resid gt x (nn (both lg lb q (gate P) h) W) := by
  funext i
  pointwise [val_main_v46, val_main_v45, val_main_v44, ref_dot]
  unfold resid
  rfl

end Reference

theorem frame_ref : Cert.quiescent_ReferenceMixIdeal := fun m g _ =>
  (θ_run Cert.ReferenceMixIdeal.defs _ _).mono (fun r h => ⟨fun c => (h c).2.2.2, sem_eq_zero_of_no_sems (by decide) r.2⟩)
    (Cert.ReferenceMixIdeal.Value.run (F := Ideal) m g)

/-- The call's arrays are the reference's. -/
theorem algebraic : Cert.algebraic_KernelMixIdeal_ReferenceMixIdeal := by
  intro m g m' g' _ hag
  refine ⟨fun c => (dats m 0 c).arrAt 7 cfg0.N, fun c => (dats m 0 c).arrAt 8 cfg0.N, fun c => (dats m 0 c).arrAt 9 cfg0.N, Value.run_blocks m g,
    (θ_run Cert.ReferenceMixIdeal.defs _ _).mono (fun r h d => ?_) (Cert.ReferenceMixIdeal.Value.run (F := Ideal) m' g')⟩
  obtain ⟨a0, a1, a2, a3, a4, a5, a6, a7⟩ := hag d
  obtain ⟨h0, h1, h2, hk⟩ := h d
  rw [Cert.ReferenceMixIdeal.Read.val_main_v46_eq, a0, a1, a2, a3, a4, a5, a6, a7] at h0
  rw [Cert.ReferenceMixIdeal.Read.val_main_v47_eq, a0, a1, a2, a5, a6, a7] at h1
  rw [Cert.ReferenceMixIdeal.Read.val_main_v48_eq, a0, a1, a2, a5, a6] at h2
  exact ⟨(h0.trans (ref_stream _ _ _ _ _ _ _ _)).trans (out7 m d).symm, (h1.trans (ref_prod _ _ _ _ _ _)).trans (out8 m d).symm,
    (h2.trans (ref_groups _ _ _ _ _)).trans (out9 m d).symm, hk⟩

end Cert.MixOut

end
-- ==== Proof.Adam.lean ====
/- AdamW's step over the extended reals, entry by entry. No argument need be finite here. -/
module

public import proofs.«01_k».proof.Proof.Fwd

@[expose] public section

noncomputable section

open Idealize.ShloMosaic

namespace Cert.Adam

/-- A constant of the program, by its bits. -/
abbrev lit (b : BitVec 32) : EReal := Scalar.ofBits (F := Ideal) .f32 b

/-- The new first moment, from the old one and the gradient; and the new second moment. -/
def mom1 (m g : EReal) : EReal := lit 0x3F666666#32 * m + lit 0x3DCCCCCD#32 * g
def mom2 (v g : EReal) : EReal := lit 0x3F7FBE77#32 * v + lit 0x3A83126F#32 * (g * g)

/-- The change of the weight, from the weight and the two new moments. -/
def step (w m v : EReal) : EReal :=
  lit 0xBA83126F#32 * (Ideal.div (Ideal.div m (lit 0x3F26BD02#32)) (Ideal.sqrt (Ideal.div v (lit 0x3C231ACC#32)) + lit 0x322BCC77#32) + lit 0x3C23D70A#32 * w)

/-- The unit that the conditioning vector goes through. -/
def silu (z : EReal) : EReal := z * Ideal.div 1 (1 + Ideal.exp (-z))

end Cert.Adam

end
-- ==== Proof.Abm.lean ====
/- The step of AdamW of the mixer's first weight, from the two halves of its gradient: the arrays the call leaves. No argument need be finite, and the
   device's coordinates may be any words. -/
module

public import proofs.«01_k».proof.Proof.Adam
public import proofs.«01_k».proof.Defs
public import proofs.«01_k».proof.Proof.Gen.KernelAbm.Frame
public import proofs.«01_k».proof.Proof.Gen.KernelAbmIdeal.Frame
public import proofs.«01_k».proof.Proof.Gen.ReferenceAbmIdeal.Run
public import proofs.«01_k».proof.Proof.Gen.ReferenceAbmIdeal.Read
public import Idealize.ShloMosaic.Lib.Pipeline.ReadBack
public import Idealize.ShloMosaic.Lib.StableHlo.RunRead
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Abm

open Cert.Prod Cert.Fwd Cert.Reals Cert.Adam

/-- The zero offsets of a whole rank-2 block. -/
theorem hz : (![0, 0] : Fin 2 → Nat) = fun _ => 0 := funext fun a => by fin_cases a <;> rfl

/-! ## The table's word, and the blocks of the two halves it names -/

/-- A choice by whether two words are equal. -/
theorem sel_eq {α : Type} (x w : BitVec 32) (y z : α) : Scalar.select (Scalar.cmpi .eq x w) y z = if x = w then y else z := by
  by_cases h : x = w
  · subst h; simp [Scalar.cmpi, IntOp.cmpi, Scalar.select]
  · simp [Scalar.cmpi, IntOp.cmpi, Scalar.select, beq_eq_false_iff_ne.2 h, h]

theorem sel_toNat (x w y z : BitVec 32) : (Scalar.select (Scalar.cmpi .eq x w) y z).toNat = if x = w then y.toNat else z.toNat := by
  rw [sel_eq]; split_ifs <;> rfl

/-- The row block of the device's own half, and that of the other device's, that row block `a` of the weight asks for; a half that is not asked stays at its
    first. -/
def mine (w : BitVec 32) (a : ℕ) : ℕ := if BitVec.ofNat 32 (a / 2) = w then a % 2 else 0
def other (w : BitVec 32) (a : ℕ) : ℕ := if BitVec.ofNat 32 (a / 2) = w then 0 else a % 2

theorem mine_lt (w : BitVec 32) (a : ℕ) : mine w a < 2 := by unfold mine; split_ifs <;> omega
theorem other_lt (w : BitVec 32) (a : ℕ) : other w a < 2 := by unfold other; split_ifs <;> omega

section Maps

open Cert.KernelAbmIdeal Cert.KernelAbmIdeal.Gen

variable {F : FTy → Type} [FloatOps F]

/-- The table's first word. -/
abbrev word (pf : pre0.Contents (Elt F)) : BitVec 32 := pf.at 0 (Rect.unit (s := S2) ![0] S1.size inb_S2_S1_0) numel1_S1

theorem four (i : grid0.Coords) : (i 0).val = 0 ∨ (i 0).val = 1 ∨ (i 0).val = 2 ∨ (i 0).val = 3 := by
  have h : (i 0).val < 4 := (i 0).isLt
  omega
theorem one (i : grid0.Coords) : (i 1).val = 0 := by
  have h : (i 1).val < 1 := (i 1).isLt
  omega

theorem map1 (pf : pre0.Contents (Elt F)) (i : grid0.Coords) : cc0_transform_1 inb_S2_S1_0 numel1_S1 pf i 0 = mine (word pf) (i 0).val := by
  unfold cc0_transform_1 mine
  dsimp only
  obtain h | h | h | h := four i <;> rw [h]
  · exact sel_toNat 0#32 (word pf) 0#32 0#32
  · exact sel_toNat 0#32 (word pf) 1#32 0#32
  · exact sel_toNat 1#32 (word pf) 0#32 0#32
  · exact sel_toNat 1#32 (word pf) 1#32 0#32
theorem map2 (pf : pre0.Contents (Elt F)) (i : grid0.Coords) : cc0_transform_2 inb_S2_S1_0 numel1_S1 pf i 0 = other (word pf) (i 0).val := by
  unfold cc0_transform_2 other
  dsimp only
  obtain h | h | h | h := four i <;> rw [h]
  · exact sel_toNat 0#32 (word pf) 0#32 0#32
  · exact sel_toNat 0#32 (word pf) 0#32 1#32
  · exact sel_toNat 1#32 (word pf) 0#32 0#32
  · exact sel_toNat 1#32 (word pf) 0#32 1#32
theorem map1_col (pf : pre0.Contents (Elt F)) (i : grid0.Coords) : cc0_transform_1 inb_S2_S1_0 numel1_S1 pf i 1 = 0 := by
  show (BitVec.ofNat 32 (i 1).val).toNat = 0
  rw [one]; rfl
theorem map2_col (pf : pre0.Contents (Elt F)) (i : grid0.Coords) : cc0_transform_2 inb_S2_S1_0 numel1_S1 pf i 1 = 0 := by
  show (BitVec.ofNat 32 (i 1).val).toNat = 0
  rw [one]; rfl

/-- Whatever the table holds, the two halves' blocks lie inside them. -/
theorem inside (pf : pre0.Contents (Elt F)) : ok0 pf := by
  constructor <;> intro i <;> refine ⟨fun a => ?_, .inl rfl⟩
  · match a with
    | ⟨0, _⟩ => show (cc0_transform_1 inb_S2_S1_0 numel1_S1 pf i 0 + 1) * 256 ≤ 512; rw [map1]; have := mine_lt (word pf) (i 0).val; omega
    | ⟨1, _⟩ => show (cc0_transform_1 inb_S2_S1_0 numel1_S1 pf i 1 + 1) * 512 ≤ 512; rw [map1_col]
  · match a with
    | ⟨0, _⟩ => show (cc0_transform_2 inb_S2_S1_0 numel1_S1 pf i 0 + 1) * 256 ≤ 512; rw [map2]; have := other_lt (word pf) (i 0).val; omega
    | ⟨1, _⟩ => show (cc0_transform_2 inb_S2_S1_0 numel1_S1 pf i 1 + 1) * 512 ≤ 512; rw [map2_col]

end Maps

theorem ok_frame (m : (ℓ : Loc Cert.KernelAbm.nD Cert.KernelAbm.τ Cert.KernelAbm.sig) → Buf (Elt Bits) ℓ) : Cert.KernelAbm.Gen.Ok m :=
  inside (F := Bits) (Cert.KernelAbm.Gen.tbl m)

open Cert.KernelAbmIdeal Cert.KernelAbmIdeal.Gen

/-! ## The payloads -/

section Payloads

variable (i : grid0.Coords) (w : BitVec 32) (X Y W M U : Vec Ideal S256x512 .f32)

theorem pay_g : k0_pay2 (F := Ideal) i w X Y = if BitVec.ofNat 32 ((i 0).val / 2) = w then X else Y := by
  unfold k0_pay2
  dsimp only
  obtain h | h | h | h := four i <;> rw [h]
  · exact sel_eq 0#32 w X Y
  · exact sel_eq 0#32 w X Y
  · exact sel_eq 1#32 w X Y
  · exact sel_eq 1#32 w X Y
theorem pay_m : k0_pay3 (F := Ideal) i w X Y M = fun j => mom1 (M j) (k0_pay2 (F := Ideal) i w X Y j) := by
  funext j
  pointwise [k0_pay3]
  rfl
theorem pay_v : k0_pay4 (F := Ideal) i w X Y U = fun j => mom2 (U j) (k0_pay2 (F := Ideal) i w X Y j) := by
  funext j
  pointwise [k0_pay4]
  rfl
theorem pay_d : k0_pay1 (F := Ideal) W M U = fun j => step (W j) (M j) (U j) := by
  funext j
  pointwise [k0_pay1]
  rfl

end Payloads

variable (m : (ℓ : Loc nD τ sig) → Buf (Elt Ideal) ℓ) (d : Dev nD)

/-- The call's own condition on its table. -/
theorem ok : Ok m := inside (tbl m)

/-- The weight, the two halves of its gradient, the two moments, and the device's first coordinate. -/
abbrev aW : Arr 1024 512 := m ((d : Thread nD τ).loc main_arg0)
abbrev aX : Arr 512 512 := m ((d : Thread nD τ).loc main_arg1)
abbrev aY : Arr 512 512 := m ((d : Thread nD τ).loc main_arg2)
abbrev aM : Arr 1024 512 := m ((d : Thread nD τ).loc main_arg3)
abbrev aU : Arr 1024 512 := m ((d : Thread nD τ).loc main_arg4)
abbrev wd : BitVec 32 := word (tbl m)

/-- The five input blocks at a point. -/
def bW (t : Fin grid0.N) : Vec Ideal S256x512 .f32 := iblk m (ok m) d 0 t
def bX (t : Fin grid0.N) : Vec Ideal S256x512 .f32 := iblk m (ok m) d 1 t
def bY (t : Fin grid0.N) : Vec Ideal S256x512 .f32 := iblk m (ok m) d 2 t
def bM (t : Fin grid0.N) : Vec Ideal S256x512 .f32 := iblk m (ok m) d 3 t
def bU (t : Fin grid0.N) : Vec Ideal S256x512 .f32 := iblk m (ok m) d 4 t

/-! ## The blocks, read in the arguments -/

theorem crd : ∀ t : Fin grid0.N, (grid0.coords t 0).val = t.val := by decide +kernel
theorem map0 : ∀ t : Fin grid0.N, cc0_transform_0 (grid0.coords t) 0 = t.val ∧ cc0_transform_0 (grid0.coords t) 1 = 0 := by decide +kernel

/-- Entry `j` of row block `t` is entry `i` of the whole array. -/
def At (t : Fin grid0.N) (j : S256x512.Idx) (i : S1024x512.Idx) : Prop := (i 0).val = t.val * 256 + (j 0).val ∧ (i 1).val = (j 1).val

theorem iblk_w (t : Fin grid0.N) (j : S256x512.Idx) (i : S1024x512.Idx) (h : At t j i) : bW m d t j = aW m d i := by
  unfold bW iblk
  refine (View.read_apply ..).trans (congrArg (aW m d) (idx_eq ?_ ?_))
  · show cc0_transform_0 (grid0.coords t) 0 * 256 + 1 * (j 0).val = _; rw [(map0 t).1, h.1]; omega
  · show cc0_transform_0 (grid0.coords t) 1 * 512 + 1 * (j 1).val = _; rw [(map0 t).2, h.2]; omega
theorem iblk_m (t : Fin grid0.N) (j : S256x512.Idx) (i : S1024x512.Idx) (h : At t j i) : bM m d t j = aM m d i := by
  unfold bM iblk
  refine (View.read_apply ..).trans (congrArg (aM m d) (idx_eq ?_ ?_))
  · show cc0_transform_0 (grid0.coords t) 0 * 256 + 1 * (j 0).val = _; rw [(map0 t).1, h.1]; omega
  · show cc0_transform_0 (grid0.coords t) 1 * 512 + 1 * (j 1).val = _; rw [(map0 t).2, h.2]; omega
theorem iblk_u (t : Fin grid0.N) (j : S256x512.Idx) (i : S1024x512.Idx) (h : At t j i) : bU m d t j = aU m d i := by
  unfold bU iblk
  refine (View.read_apply ..).trans (congrArg (aU m d) (idx_eq ?_ ?_))
  · show cc0_transform_0 (grid0.coords t) 0 * 256 + 1 * (j 0).val = _; rw [(map0 t).1, h.1]; omega
  · show cc0_transform_0 (grid0.coords t) 1 * 512 + 1 * (j 1).val = _; rw [(map0 t).2, h.2]; omega
theorem iblk_x (t : Fin grid0.N) (j : S256x512.Idx) (i : S512x512.Idx) (h0 : (i 0).val = mine (wd m) t.val * 256 + (j 0).val) (h1 : (i 1).val = (j 1).val) :
    bX m d t j = aX m d i := by
  unfold bX iblk
  refine (View.read_apply ..).trans (congrArg (aX m d) (idx_eq ?_ ?_))
  · show cc0_transform_1 inb_S2_S1_0 numel1_S1 (tbl m) (grid0.coords t) 0 * 256 + 1 * (j 0).val = _; rw [map1, crd, h0, Nat.one_mul]
  · show cc0_transform_1 inb_S2_S1_0 numel1_S1 (tbl m) (grid0.coords t) 1 * 512 + 1 * (j 1).val = _; rw [map1_col, h1]; omega
theorem iblk_y (t : Fin grid0.N) (j : S256x512.Idx) (i : S512x512.Idx) (h0 : (i 0).val = other (wd m) t.val * 256 + (j 0).val) (h1 : (i 1).val = (j 1).val) :
    bY m d t j = aY m d i := by
  unfold bY iblk
  refine (View.read_apply ..).trans (congrArg (aY m d) (idx_eq ?_ ?_))
  · show cc0_transform_2 inb_S2_S1_0 numel1_S1 (tbl m) (grid0.coords t) 0 * 256 + 1 * (j 0).val = _; rw [map2, crd, h0, Nat.one_mul]
  · show cc0_transform_2 inb_S2_S1_0 numel1_S1 (tbl m) (grid0.coords t) 1 * 512 + 1 * (j 1).val = _; rw [map2_col, h1]; omega

/-- The gradient of the two halves of rows: the one whose number is the device's first coordinate is its own, the other is the other device's. -/
def grad (w : BitVec 32) (X Y : Arr 512 512) : Arr 1024 512 := fun i =>
  if BitVec.ofNat 32 ((i 0).val / 512) = w then X (ix2 ⟨(i 0).val % 512, Nat.mod_lt _ (by norm_num)⟩ (i 1))
  else Y (ix2 ⟨(i 0).val % 512, Nat.mod_lt _ (by norm_num)⟩ (i 1))
/-- The new moments and the weight's change. -/
def newM (w : BitVec 32) (X Y : Arr 512 512) (M : Arr 1024 512) : Arr 1024 512 := fun i => mom1 (M i) (grad w X Y i)
def newV (w : BitVec 32) (X Y : Arr 512 512) (U : Arr 1024 512) : Arr 1024 512 := fun i => mom2 (U i) (grad w X Y i)
def delta (w : BitVec 32) (X Y : Arr 512 512) (W M U : Arr 1024 512) : Arr 1024 512 := fun i => step (W i) (newM w X Y M i) (newV w X Y U i)

theorem blk_g (t : Fin grid0.N) (j : S256x512.Idx) (i : S1024x512.Idx) (h : At t j i) :
    k0_pay2 (F := Ideal) (grid0.coords t) (wd m) (bX m d t) (bY m d t) j = grad (wd m) (aX m d) (aY m d) i := by
  have hj : (j 0).val < 256 := (j 0).isLt
  have e : (i 0).val / 512 = t.val / 2 := by have := h.1; omega
  have e' : (i 0).val % 512 = t.val % 2 * 256 + (j 0).val := by have := h.1; omega
  rw [pay_g, crd]
  unfold grad
  rw [e]
  by_cases hw : BitVec.ofNat 32 (t.val / 2) = wd m
  · rw [if_pos hw, if_pos hw]
    exact iblk_x m d t j _ (by rw [mine, if_pos hw]; exact e') h.2
  · rw [if_neg hw, if_neg hw]
    exact iblk_y m d t j _ (by rw [other, if_neg hw]; exact e') h.2
theorem blk_m (t : Fin grid0.N) (j : S256x512.Idx) (i : S1024x512.Idx) (h : At t j i) :
    k0_pay3 (F := Ideal) (grid0.coords t) (wd m) (bX m d t) (bY m d t) (bM m d t) j = newM (wd m) (aX m d) (aY m d) (aM m d) i := by
  rw [pay_m]
  exact congrArg₂ mom1 (iblk_m m d t j i h) (blk_g m d t j i h)
theorem blk_v (t : Fin grid0.N) (j : S256x512.Idx) (i : S1024x512.Idx) (h : At t j i) :
    k0_pay4 (F := Ideal) (grid0.coords t) (wd m) (bX m d t) (bY m d t) (bU m d t) j = newV (wd m) (aX m d) (aY m d) (aU m d) i := by
  rw [pay_v]
  exact congrArg₂ mom2 (iblk_u m d t j i h) (blk_g m d t j i h)
theorem blk_s (t : Fin grid0.N) (j : S256x512.Idx) (i : S1024x512.Idx) (h : At t j i) :
    k0_pay1 (F := Ideal) (bW m d t) (k0_pay3 (grid0.coords t) (wd m) (bX m d t) (bY m d t) (bM m d t))
      (k0_pay4 (grid0.coords t) (wd m) (bX m d t) (bY m d t) (bU m d t)) j
      = delta (wd m) (aX m d) (aY m d) (aW m d) (aM m d) (aU m d) i := by
  rw [pay_d]
  show step _ _ _ = step _ _ _
  rw [iblk_w m d t j i h, blk_m m d t j i h, blk_v m d t j i h]

/-! ## What a point leaves: the gradient's block, the change's, and those of the two new moments -/

section Run

variable (i : grid0.Coords) (a3 : Memref sig .tc .vmem S256x512 .f32) (h3 : a3.IsWhole) (a4 : Memref sig .tc .vmem S256x512 .f32) (h4 : a4.IsWhole) (a5 : Memref sig .tc .vmem S256x512 .f32) (h5 : a5.IsWhole)
  (a6 : Memref sig .tc .vmem S256x512 .f32) (h6 : a6.IsWhole) (a7 : Memref sig .tc .vmem S256x512 .f32) (h7 : a7.IsWhole) (a8 : Memref sig .tc .vmem S256x512 .f32) (h8 : a8.IsWhole)
  (a9 : Memref sig .tc .vmem S256x512 .f32) (h9 : a9.IsWhole) (a10 : Memref sig .tc .vmem S256x512 .f32) (h10 : a10.IsWhole) (a11 : Memref sig .tc .vmem S256x512 .f32) (h11 : a11.IsWhole)
  (x0 x1 x2 x3 x4 : Vec Ideal S256x512 .f32)

theorem run5 : out0_A_5 d i a3 h3 a4 h4 a5 h5 a6 h6 a7 h7 a8 h8 a9 h9 a10 h10 a11 h11 x0 x1 x2 x3 x4 (tbl m 0)
    = k0_pay2 (F := Ideal) i (wd m) x1 x2 := by
  unfold out0_A_5
  unfold kernelRun0_A
  dsimp only
  sl_unfold_words
  simp only [View.read_writes_junk_eq_canon, View.canon_unit_zero (S := S256x512) hz, View.readAt_eq_ld, h3.read_unread, h4.read_unread, h5.read_unread,
    h6.read_unread, h7.read_unread, View.ld_unit_zero (S := S256x512) hz]
  rfl
theorem run6 : out0_A_6 d i a3 h3 a4 h4 a5 h5 a6 h6 a7 h7 a8 h8 a9 h9 a10 h10 a11 h11 x0 x1 x2 x3 x4 (tbl m 0)
    = k0_pay1 (F := Ideal) x0 (k0_pay3 i (wd m) x1 x2 x3) (k0_pay4 i (wd m) x1 x2 x4) := by
  unfold out0_A_6
  unfold kernelRun0_A
  dsimp only
  sl_unfold_words
  simp only [View.read_writes_junk_eq_canon, View.canon_unit_zero (S := S256x512) hz, View.readAt_eq_ld, h3.read_unread, h4.read_unread, h5.read_unread,
    h6.read_unread, h7.read_unread, View.ld_unit_zero (S := S256x512) hz]
  rfl
theorem run7 : out0_A_7 d i a3 h3 a4 h4 a5 h5 a6 h6 a7 h7 a8 h8 a9 h9 a10 h10 a11 h11 x0 x1 x2 x3 x4 (tbl m 0)
    = k0_pay3 (F := Ideal) i (wd m) x1 x2 x3 := by
  unfold out0_A_7
  unfold kernelRun0_A
  dsimp only
  sl_unfold_words
  simp only [View.read_writes_junk_eq_canon, View.canon_unit_zero (S := S256x512) hz, View.readAt_eq_ld, h3.read_unread, h4.read_unread, h5.read_unread,
    h6.read_unread, h7.read_unread, View.ld_unit_zero (S := S256x512) hz]
  rfl
theorem run8 : out0_A_8 d i a3 h3 a4 h4 a5 h5 a6 h6 a7 h7 a8 h8 a9 h9 a10 h10 a11 h11 x0 x1 x2 x3 x4 (tbl m 0)
    = k0_pay4 (F := Ideal) i (wd m) x1 x2 x4 := by
  unfold out0_A_8
  unfold kernelRun0_A
  dsimp only
  sl_unfold_words
  simp only [View.read_writes_junk_eq_canon, View.canon_unit_zero (S := S256x512) hz, View.readAt_eq_ld, h3.read_unread, h4.read_unread, h5.read_unread,
    h6.read_unread, h7.read_unread, View.ld_unit_zero (S := S256x512) hz]
  rfl

end Run

theorem pt5 (t : Fin grid0.N) : (outsAt0 m (ok m) d t).1 = k0_pay2 (F := Ideal) (grid0.coords t) (wd m) (bX m d t) (bY m d t) := by
  unfold outsAt0 bX bY
  dsimp only
  exact run5 m d ..
theorem pt6 (t : Fin grid0.N) : (outsAt0 m (ok m) d t).2.1 = k0_pay1 (F := Ideal) (bW m d t) (k0_pay3 (grid0.coords t) (wd m) (bX m d t) (bY m d t) (bM m d t))
      (k0_pay4 (grid0.coords t) (wd m) (bX m d t) (bY m d t) (bU m d t)) := by
  unfold outsAt0 bX bY bW bM bU
  dsimp only
  exact run6 m d ..
theorem pt7 (t : Fin grid0.N) : (outsAt0 m (ok m) d t).2.2.1 = k0_pay3 (F := Ideal) (grid0.coords t) (wd m) (bX m d t) (bY m d t) (bM m d t) := by
  unfold outsAt0 bX bY bM
  dsimp only
  exact run7 m d ..
theorem pt8 (t : Fin grid0.N) : (outsAt0 m (ok m) d t).2.2.2 = k0_pay4 (F := Ideal) (grid0.coords t) (wd m) (bX m d t) (bY m d t) (bU m d t) := by
  unfold outsAt0 bX bY bU
  dsimp only
  exact run8 m d ..

/-- The point whose block of rows holds an entry. -/
def pt (i : S1024x512.Idx) : Fin grid0.N := ⟨(i 0).val / 256, by rw [N_0]; have h : (i 0).val < 1024 := (i 0).isLt; omega⟩

/-! ## The arrays the call leaves -/

theorem covered5 (i : S1024x512.Idx) : i ∈ (((cfgM m (ok m)).win 5).blk (pt i)).view.set := by
  refine Eq.mp (congrArg (i ∈ ·) (View.set_slice_whole main_v0_0 (((cfgM m (ok m)).win 5).rect (pt i))).symm) (Rect.mem_set_unit.2 fun a => ?_)
  match a with
  | ⟨0, _⟩ => exact in_block (i 0).val 256 (by norm_num) (map0 _).1
  | ⟨1, _⟩ => exact in_whole (i 1) (map0 _).2
theorem back5 (t : Fin grid0.N) (P : Vec Ideal S256x512 .f32) (G : Arr 1024 512) (h : ∀ j i, At t j i → P j = G i) :
    ((cfgM m (ok m)).win 5).cut (grid0.coords t) P = (((cfgM m (ok m)).win 5).blk t).view.read (Elt Ideal) G := by
  refine funext fun (j : S256x512.Idx) => h j ((((cfgM m (ok m)).win 5).blk t).view.emb j) ⟨?_, ?_⟩
  · show cc0_transform_0 (grid0.coords t) 0 * 256 + 1 * (j 0).val = _; rw [(map0 t).1, Nat.one_mul]
  · show cc0_transform_0 (grid0.coords t) 1 * 512 + 1 * (j 1).val = _; rw [(map0 t).2, Nat.one_mul, Nat.zero_mul, Nat.zero_add]
theorem covered6 (i : S1024x512.Idx) : i ∈ (((cfgM m (ok m)).win 6).blk (pt i)).view.set := by
  refine Eq.mp (congrArg (i ∈ ·) (View.set_slice_whole main_v0_1 (((cfgM m (ok m)).win 6).rect (pt i))).symm) (Rect.mem_set_unit.2 fun a => ?_)
  match a with
  | ⟨0, _⟩ => exact in_block (i 0).val 256 (by norm_num) (map0 _).1
  | ⟨1, _⟩ => exact in_whole (i 1) (map0 _).2
theorem back6 (t : Fin grid0.N) (P : Vec Ideal S256x512 .f32) (G : Arr 1024 512) (h : ∀ j i, At t j i → P j = G i) :
    ((cfgM m (ok m)).win 6).cut (grid0.coords t) P = (((cfgM m (ok m)).win 6).blk t).view.read (Elt Ideal) G := by
  refine funext fun (j : S256x512.Idx) => h j ((((cfgM m (ok m)).win 6).blk t).view.emb j) ⟨?_, ?_⟩
  · show cc0_transform_0 (grid0.coords t) 0 * 256 + 1 * (j 0).val = _; rw [(map0 t).1, Nat.one_mul]
  · show cc0_transform_0 (grid0.coords t) 1 * 512 + 1 * (j 1).val = _; rw [(map0 t).2, Nat.one_mul, Nat.zero_mul, Nat.zero_add]
theorem covered7 (i : S1024x512.Idx) : i ∈ (((cfgM m (ok m)).win 7).blk (pt i)).view.set := by
  refine Eq.mp (congrArg (i ∈ ·) (View.set_slice_whole main_v0_2 (((cfgM m (ok m)).win 7).rect (pt i))).symm) (Rect.mem_set_unit.2 fun a => ?_)
  match a with
  | ⟨0, _⟩ => exact in_block (i 0).val 256 (by norm_num) (map0 _).1
  | ⟨1, _⟩ => exact in_whole (i 1) (map0 _).2
theorem back7 (t : Fin grid0.N) (P : Vec Ideal S256x512 .f32) (G : Arr 1024 512) (h : ∀ j i, At t j i → P j = G i) :
    ((cfgM m (ok m)).win 7).cut (grid0.coords t) P = (((cfgM m (ok m)).win 7).blk t).view.read (Elt Ideal) G := by
  refine funext fun (j : S256x512.Idx) => h j ((((cfgM m (ok m)).win 7).blk t).view.emb j) ⟨?_, ?_⟩
  · show cc0_transform_0 (grid0.coords t) 0 * 256 + 1 * (j 0).val = _; rw [(map0 t).1, Nat.one_mul]
  · show cc0_transform_0 (grid0.coords t) 1 * 512 + 1 * (j 1).val = _; rw [(map0 t).2, Nat.one_mul, Nat.zero_mul, Nat.zero_add]
theorem covered8 (i : S1024x512.Idx) : i ∈ (((cfgM m (ok m)).win 8).blk (pt i)).view.set := by
  refine Eq.mp (congrArg (i ∈ ·) (View.set_slice_whole main_v0_3 (((cfgM m (ok m)).win 8).rect (pt i))).symm) (Rect.mem_set_unit.2 fun a => ?_)
  match a with
  | ⟨0, _⟩ => exact in_block (i 0).val 256 (by norm_num) (map0 _).1
  | ⟨1, _⟩ => exact in_whole (i 1) (map0 _).2
theorem back8 (t : Fin grid0.N) (P : Vec Ideal S256x512 .f32) (G : Arr 1024 512) (h : ∀ j i, At t j i → P j = G i) :
    ((cfgM m (ok m)).win 8).cut (grid0.coords t) P = (((cfgM m (ok m)).win 8).blk t).view.read (Elt Ideal) G := by
  refine funext fun (j : S256x512.Idx) => h j ((((cfgM m (ok m)).win 8).blk t).view.emb j) ⟨?_, ?_⟩
  · show cc0_transform_0 (grid0.coords t) 0 * 256 + 1 * (j 0).val = _; rw [(map0 t).1, Nat.one_mul]
  · show cc0_transform_0 (grid0.coords t) 1 * 512 + 1 * (j 1).val = _; rw [(map0 t).2, Nat.one_mul, Nat.zero_mul, Nat.zero_add]
theorem out5 : (dats m (ok m) 0 d).arrAt 5 (cfgM m (ok m)).N = grad (wd m) (aX m d) (aY m d) :=
  (dats m (ok m) 0 d).arrAt_eq_of_cover 5 _ (fun t _ => by
      show ((cfgM m (ok m)).win 5).cut (grid0.coords t) ((dats m (ok m) 0 d).after 5 t) = _
      rw [after0_5]
      exact (congrArg (((cfgM m (ok m)).win 5).cut (grid0.coords t)) (pt5 m d t)).trans (back5 m t _ _ (blk_g m d t)))
    fun i => ⟨pt i, flush0_5 _ _, covered5 m i⟩
theorem out6 : (dats m (ok m) 0 d).arrAt 6 (cfgM m (ok m)).N = delta (wd m) (aX m d) (aY m d) (aW m d) (aM m d) (aU m d) :=
  (dats m (ok m) 0 d).arrAt_eq_of_cover 6 _ (fun t _ => by
      show ((cfgM m (ok m)).win 6).cut (grid0.coords t) ((dats m (ok m) 0 d).after 6 t) = _
      rw [after0_6]
      exact (congrArg (((cfgM m (ok m)).win 6).cut (grid0.coords t)) (pt6 m d t)).trans (back6 m t _ _ (blk_s m d t)))
    fun i => ⟨pt i, flush0_6 _ _, covered6 m i⟩
theorem out7 : (dats m (ok m) 0 d).arrAt 7 (cfgM m (ok m)).N = newM (wd m) (aX m d) (aY m d) (aM m d) :=
  (dats m (ok m) 0 d).arrAt_eq_of_cover 7 _ (fun t _ => by
      show ((cfgM m (ok m)).win 7).cut (grid0.coords t) ((dats m (ok m) 0 d).after 7 t) = _
      rw [after0_7]
      exact (congrArg (((cfgM m (ok m)).win 7).cut (grid0.coords t)) (pt7 m d t)).trans (back7 m t _ _ (blk_m m d t)))
    fun i => ⟨pt i, flush0_7 _ _, covered7 m i⟩
theorem out8 : (dats m (ok m) 0 d).arrAt 8 (cfgM m (ok m)).N = newV (wd m) (aX m d) (aY m d) (aU m d) :=
  (dats m (ok m) 0 d).arrAt_eq_of_cover 8 _ (fun t _ => by
      show ((cfgM m (ok m)).win 8).cut (grid0.coords t) ((dats m (ok m) 0 d).after 8 t) = _
      rw [after0_8]
      exact (congrArg (((cfgM m (ok m)).win 8).cut (grid0.coords t)) (pt8 m d t)).trans (back8 m t _ _ (blk_v m d t)))
    fun i => ⟨pt i, flush0_8 _ _, covered8 m i⟩

/-- The call leaves these four arrays, and its arguments as they were. -/
theorem run (ρ : Dev nD → PrngReg) : θ_run defs (onTc (τ := τ) (main (F := Ideal))) ⟨m, fun _ => 0, ρ⟩ fun r => ∀ c : Dev nD,
    r.2.mem ((c : Thread nD τ).loc main_v0_0) = grad (wd m) (aX m c) (aY m c)
    ∧ r.2.mem ((c : Thread nD τ).loc main_v0_1) = delta (wd m) (aX m c) (aY m c) (aW m c) (aM m c) (aU m c)
    ∧ r.2.mem ((c : Thread nD τ).loc main_v0_2) = newM (wd m) (aX m c) (aY m c) (aM m c)
    ∧ r.2.mem ((c : Thread nD τ).loc main_v0_3) = newV (wd m) (aX m c) (aY m c) (aU m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun _ h c =>
    ⟨((h c).1 5).trans (out5 m c), ((h c).1 6).trans (out6 m c), ((h c).1 7).trans (out7 m c), ((h c).1 8).trans (out8 m c),
      ((h c).1 0).trans (((dats m (ok m) 0 c).arrAt_in 0 rfl _).trans (A_eq m (ok m) c 0)),
      ((h c).1 1).trans (((dats m (ok m) 0 c).arrAt_in 1 rfl _).trans (A_eq m (ok m) c 1)),
      ((h c).1 2).trans (((dats m (ok m) 0 c).arrAt_in 2 rfl _).trans (A_eq m (ok m) c 2)),
      ((h c).1 3).trans (((dats m (ok m) 0 c).arrAt_in 3 rfl _).trans (A_eq m (ok m) c 3)),
      ((h c).1 4).trans (((dats m (ok m) 0 c).arrAt_in 4 rfl _).trans (A_eq m (ok m) c 4)),
      (h c).2 main_arg5 (by decide : main_arg5 ∈ Pipeline.restRefs sig spec0)⟩) (run_main m ρ (ok m))

/-! ## The reference's arrays -/

section Reference

open Cert.ReferenceAbmIdeal.Read

variable (w v u : Arr 1024 512) (X Y : Arr 512 512) (p : IVec Cert.ReferenceAbmIdeal.S2 32)

/-- The first word of the coordinates. -/
abbrev fst : BitVec 32 := p (ix1 (0 : Fin 2))

theorem ref_word (i : Cert.ReferenceAbmIdeal.S_.Idx) : val_main_v1 (F := Ideal) p i = fst p := by
  unfold val_main_v1
  show val_main_v0 (F := Ideal) p _ = _
  rw [val_main_v0_apply]
  refine congrArg p (funext fun a => ?_)
  fin_cases a
  exact Fin.ext (Nat.lt_one_iff.1 (Shape.reshapeEquiv Cert.ReferenceAbmIdeal.Gen.shapeCasts_S1_S_ i 0).isLt)
theorem ref_word' (i : Cert.ReferenceAbmIdeal.S_.Idx) : val_main_v5 (F := Ideal) p i = fst p := ref_word p i
theorem ref_lo (i : S512x512.Idx) : val_main_v3 (F := Ideal) X Y p i = if 0#32 = fst p then X i else Y i := by
  pointwise [val_main_v3, val_main_v2, val_main_c, ref_word]
  refine (sel_eq _ _ _ _).trans ?_
  simp only [eq_comm]
theorem ref_hi (i : S512x512.Idx) : val_main_v7 (F := Ideal) X Y p i = if 1#32 = fst p then X i else Y i := by
  pointwise [val_main_v7, val_main_v6, val_main_c_0, ref_word']
  refine (sel_eq _ _ _ _).trans ?_
  simp only [eq_comm]
theorem ref_g : val_main_v8 (F := Ideal) X Y p = grad (fst p) X Y := by
  funext i
  unfold val_main_v8 grad
  have hi : (i 0).val < 1024 := (i 0).isLt
  by_cases h : (i 0).val < 512
  · refine (concatenate_pair_apply_left (s₁ := S512x512) (s₂ := S512x512) 0 _ _ _ i rfl (ix2 ⟨(i 0).val % 512, Nat.mod_lt _ (by decide : 0 < 512)⟩ (i 1)) fun b => ?_).trans ?_
    · match b with
      | ⟨0, _⟩ => exact Nat.mod_eq_of_lt h
      | ⟨1, _⟩ => rfl
    · rw [ref_lo, show (i 0).val / 512 = 0 by omega]
  · refine (concatenate_pair_apply_right (s₁ := S512x512) (s₂ := S512x512) 0 _ _ _ i rfl rfl (ix2 ⟨(i 0).val % 512, Nat.mod_lt _ (by decide : 0 < 512)⟩ (i 1)) (fun b hb => ?_) ?_).trans ?_
    · match b with
      | ⟨0, _⟩ => exact absurd rfl hb
      | ⟨1, _⟩ => rfl
    · show (i 0).val % 512 + 512 = (i 0).val; omega
    · rw [ref_hi, show (i 0).val / 512 = 1 by omega]
theorem ref_m : val_main_v13 (F := Ideal) X Y v p = newM (fst p) X Y v := by
  funext i
  pointwise [val_main_v13, val_main_v12, val_main_v11, val_main_cst_1, val_main_v10, val_main_v9, val_main_cst, ref_g]
  rfl
theorem ref_v : val_main_v19 (F := Ideal) X Y u p = newV (fst p) X Y u := by
  funext i
  pointwise [val_main_v19, val_main_v18, val_main_v17, val_main_cst_3, val_main_v16, val_main_v15, val_main_v14, val_main_cst_2, ref_g]
  rfl
theorem ref_d : val_main_v32 (F := Ideal) w X Y v u p = delta (fst p) X Y w v u := by
  funext i
  pointwise [val_main_v32, val_main_v31, val_main_cst_8, val_main_v30, val_main_v29, val_main_v28, val_main_cst_7, val_main_v27, val_main_v26, val_main_v25,
    val_main_cst_6, val_main_v24, val_main_v23, val_main_v22, val_main_cst_5, val_main_v21, val_main_v20, val_main_cst_4, ref_m, ref_v]
  rfl

end Reference

theorem frame_ref : Cert.quiescent_ReferenceAbmIdeal := fun m g _ =>
  (θ_run Cert.ReferenceAbmIdeal.defs _ _).mono (fun r h => ⟨fun c => (h c).2.2.2.2, sem_eq_zero_of_no_sems (by decide) r.2⟩)
    (Cert.ReferenceAbmIdeal.Value.run (F := Ideal) m g)

/-- There is one device, whose table is the call's. -/
theorem wd_eq : wd m = fst (m ((d : Thread nD τ).loc main_arg5)) := by
  obtain rfl : d = 0 := Subsingleton.elim _ _
  refine congrArg (m (((0 : Dev nD) : Thread nD τ).loc main_arg5)) (funext fun a => ?_)
  fin_cases a
  rfl

/-- The call's arrays are the reference's. -/
theorem algebraic : Cert.algebraic_KernelAbmIdeal_ReferenceAbmIdeal := by
  intro m g m' g' _ hag
  refine ⟨_, _, _, _, run m g,
    (θ_run Cert.ReferenceAbmIdeal.defs _ _).mono (fun r h d => ?_) (Cert.ReferenceAbmIdeal.Value.run (F := Ideal) m' g')⟩
  obtain ⟨a0, a1, a2, a3, a4, a5⟩ := hag d
  obtain ⟨h0, h1, h2, h3, hk⟩ := h d
  rw [Cert.ReferenceAbmIdeal.Read.val_main_v8_eq, a1, a2, a5] at h0
  rw [Cert.ReferenceAbmIdeal.Read.val_main_v32_eq, a0, a1, a2, a3, a4, a5] at h1
  rw [Cert.ReferenceAbmIdeal.Read.val_main_v13_eq, a1, a2, a3, a5] at h2
  rw [Cert.ReferenceAbmIdeal.Read.val_main_v19_eq, a1, a2, a4, a5] at h3
  have e := wd_eq m d
  exact ⟨(h0.trans (ref_g _ _ _)).trans (by rw [e]), (h1.trans (ref_d _ _ _ _ _ _)).trans (by rw [e]),
    (h2.trans (ref_m _ _ _ _)).trans (by rw [e]), (h3.trans (ref_v _ _ _ _)).trans (by rw [e]), hk⟩

end Cert.Abm

end
-- ==== Proof.Abf.lean ====
/- The step of AdamW of a feed-forward's first weight, from the two halves of its gradient: the arrays the call leaves. No argument need be finite, and the
   device's coordinates may be any words. -/
module

public import proofs.«01_k».proof.Proof.Adam
public import proofs.«01_k».proof.Defs
public import proofs.«01_k».proof.Proof.Gen.KernelAbf.Frame
public import proofs.«01_k».proof.Proof.Gen.KernelAbfIdeal.Frame
public import proofs.«01_k».proof.Proof.Gen.ReferenceAbfIdeal.Run
public import proofs.«01_k».proof.Proof.Gen.ReferenceAbfIdeal.Read
public import Idealize.ShloMosaic.Lib.Pipeline.ReadBack
public import Idealize.ShloMosaic.Lib.StableHlo.RunRead
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Abf

open Cert.Prod Cert.Fwd Cert.Reals Cert.Adam

/-- The zero offsets of a whole rank-2 block. -/
theorem hz : (![0, 0] : Fin 2 → Nat) = fun _ => 0 := funext fun a => by fin_cases a <;> rfl

/-! ## The table's word, and the blocks of the two halves it names -/

/-- A choice by whether two words are equal. -/
theorem sel_eq {α : Type} (x w : BitVec 32) (y z : α) : Scalar.select (Scalar.cmpi .eq x w) y z = if x = w then y else z := by
  by_cases h : x = w
  · subst h; simp [Scalar.cmpi, IntOp.cmpi, Scalar.select]
  · simp [Scalar.cmpi, IntOp.cmpi, Scalar.select, beq_eq_false_iff_ne.2 h, h]

theorem sel_toNat (x w y z : BitVec 32) : (Scalar.select (Scalar.cmpi .eq x w) y z).toNat = if x = w then y.toNat else z.toNat := by
  rw [sel_eq]; split_ifs <;> rfl

/-- The row block of the device's own half, and that of the other device's, that row block `a` of the weight asks for; a half that is not asked stays at its
    first. -/
def mine (w : BitVec 32) (a : ℕ) : ℕ := if BitVec.ofNat 32 (a / 2) = w then a % 2 else 0
def other (w : BitVec 32) (a : ℕ) : ℕ := if BitVec.ofNat 32 (a / 2) = w then 0 else a % 2

theorem mine_lt (w : BitVec 32) (a : ℕ) : mine w a < 2 := by unfold mine; split_ifs <;> omega
theorem other_lt (w : BitVec 32) (a : ℕ) : other w a < 2 := by unfold other; split_ifs <;> omega

section Maps

open Cert.KernelAbfIdeal Cert.KernelAbfIdeal.Gen

variable {F : FTy → Type} [FloatOps F]

/-- The table's first word. -/
abbrev word (pf : pre0.Contents (Elt F)) : BitVec 32 := pf.at 0 (Rect.unit (s := S2) ![0] S1.size inb_S2_S1_0) numel1_S1

theorem four (i : grid0.Coords) : (i 0).val = 0 ∨ (i 0).val = 1 ∨ (i 0).val = 2 ∨ (i 0).val = 3 := by
  have h : (i 0).val < 4 := (i 0).isLt
  omega
theorem one (i : grid0.Coords) : (i 1).val = 0 := by
  have h : (i 1).val < 1 := (i 1).isLt
  omega

theorem map1 (pf : pre0.Contents (Elt F)) (i : grid0.Coords) : cc0_transform_1 inb_S2_S1_0 numel1_S1 pf i 0 = mine (word pf) (i 0).val := by
  unfold cc0_transform_1 mine
  dsimp only
  obtain h | h | h | h := four i <;> rw [h]
  · exact sel_toNat 0#32 (word pf) 0#32 0#32
  · exact sel_toNat 0#32 (word pf) 1#32 0#32
  · exact sel_toNat 1#32 (word pf) 0#32 0#32
  · exact sel_toNat 1#32 (word pf) 1#32 0#32
theorem map2 (pf : pre0.Contents (Elt F)) (i : grid0.Coords) : cc0_transform_2 inb_S2_S1_0 numel1_S1 pf i 0 = other (word pf) (i 0).val := by
  unfold cc0_transform_2 other
  dsimp only
  obtain h | h | h | h := four i <;> rw [h]
  · exact sel_toNat 0#32 (word pf) 0#32 0#32
  · exact sel_toNat 0#32 (word pf) 0#32 1#32
  · exact sel_toNat 1#32 (word pf) 0#32 0#32
  · exact sel_toNat 1#32 (word pf) 0#32 1#32
theorem map1_col (pf : pre0.Contents (Elt F)) (i : grid0.Coords) : cc0_transform_1 inb_S2_S1_0 numel1_S1 pf i 1 = 0 := by
  show (BitVec.ofNat 32 (i 1).val).toNat = 0
  rw [one]; rfl
theorem map2_col (pf : pre0.Contents (Elt F)) (i : grid0.Coords) : cc0_transform_2 inb_S2_S1_0 numel1_S1 pf i 1 = 0 := by
  show (BitVec.ofNat 32 (i 1).val).toNat = 0
  rw [one]; rfl

/-- Whatever the table holds, the two halves' blocks lie inside them. -/
theorem inside (pf : pre0.Contents (Elt F)) : ok0 pf := by
  constructor <;> intro i <;> refine ⟨fun a => ?_, .inl rfl⟩
  · match a with
    | ⟨0, _⟩ => show (cc0_transform_1 inb_S2_S1_0 numel1_S1 pf i 0 + 1) * 256 ≤ 512; rw [map1]; have := mine_lt (word pf) (i 0).val; omega
    | ⟨1, _⟩ => show (cc0_transform_1 inb_S2_S1_0 numel1_S1 pf i 1 + 1) * 1408 ≤ 1408; rw [map1_col]
  · match a with
    | ⟨0, _⟩ => show (cc0_transform_2 inb_S2_S1_0 numel1_S1 pf i 0 + 1) * 256 ≤ 512; rw [map2]; have := other_lt (word pf) (i 0).val; omega
    | ⟨1, _⟩ => show (cc0_transform_2 inb_S2_S1_0 numel1_S1 pf i 1 + 1) * 1408 ≤ 1408; rw [map2_col]

end Maps

theorem ok_frame (m : (ℓ : Loc Cert.KernelAbf.nD Cert.KernelAbf.τ Cert.KernelAbf.sig) → Buf (Elt Bits) ℓ) : Cert.KernelAbf.Gen.Ok m :=
  inside (F := Bits) (Cert.KernelAbf.Gen.tbl m)

open Cert.KernelAbfIdeal Cert.KernelAbfIdeal.Gen

/-! ## The payloads -/

section Payloads

variable (i : grid0.Coords) (w : BitVec 32) (X Y W M U : Vec Ideal S256x1408 .f32)

theorem pay_g : k0_pay2 (F := Ideal) i w X Y = if BitVec.ofNat 32 ((i 0).val / 2) = w then X else Y := by
  unfold k0_pay2
  dsimp only
  obtain h | h | h | h := four i <;> rw [h]
  · exact sel_eq 0#32 w X Y
  · exact sel_eq 0#32 w X Y
  · exact sel_eq 1#32 w X Y
  · exact sel_eq 1#32 w X Y
theorem pay_m : k0_pay3 (F := Ideal) i w X Y M = fun j => mom1 (M j) (k0_pay2 (F := Ideal) i w X Y j) := by
  funext j
  pointwise [k0_pay3]
  rfl
theorem pay_v : k0_pay4 (F := Ideal) i w X Y U = fun j => mom2 (U j) (k0_pay2 (F := Ideal) i w X Y j) := by
  funext j
  pointwise [k0_pay4]
  rfl
theorem pay_d : k0_pay1 (F := Ideal) W M U = fun j => step (W j) (M j) (U j) := by
  funext j
  pointwise [k0_pay1]
  rfl

end Payloads

variable (m : (ℓ : Loc nD τ sig) → Buf (Elt Ideal) ℓ) (d : Dev nD)

/-- The call's own condition on its table. -/
theorem ok : Ok m := inside (tbl m)

/-- The weight, the two halves of its gradient, the two moments, and the device's first coordinate. -/
abbrev aW : Arr 1024 1408 := m ((d : Thread nD τ).loc main_arg0)
abbrev aX : Arr 512 1408 := m ((d : Thread nD τ).loc main_arg1)
abbrev aY : Arr 512 1408 := m ((d : Thread nD τ).loc main_arg2)
abbrev aM : Arr 1024 1408 := m ((d : Thread nD τ).loc main_arg3)
abbrev aU : Arr 1024 1408 := m ((d : Thread nD τ).loc main_arg4)
abbrev wd : BitVec 32 := word (tbl m)

/-- The five input blocks at a point. -/
def bW (t : Fin grid0.N) : Vec Ideal S256x1408 .f32 := iblk m (ok m) d 0 t
def bX (t : Fin grid0.N) : Vec Ideal S256x1408 .f32 := iblk m (ok m) d 1 t
def bY (t : Fin grid0.N) : Vec Ideal S256x1408 .f32 := iblk m (ok m) d 2 t
def bM (t : Fin grid0.N) : Vec Ideal S256x1408 .f32 := iblk m (ok m) d 3 t
def bU (t : Fin grid0.N) : Vec Ideal S256x1408 .f32 := iblk m (ok m) d 4 t

/-! ## The blocks, read in the arguments -/

theorem crd : ∀ t : Fin grid0.N, (grid0.coords t 0).val = t.val := by decide +kernel
theorem map0 : ∀ t : Fin grid0.N, cc0_transform_0 (grid0.coords t) 0 = t.val ∧ cc0_transform_0 (grid0.coords t) 1 = 0 := by decide +kernel

/-- Entry `j` of row block `t` is entry `i` of the whole array. -/
def At (t : Fin grid0.N) (j : S256x1408.Idx) (i : S1024x1408.Idx) : Prop := (i 0).val = t.val * 256 + (j 0).val ∧ (i 1).val = (j 1).val

theorem iblk_w (t : Fin grid0.N) (j : S256x1408.Idx) (i : S1024x1408.Idx) (h : At t j i) : bW m d t j = aW m d i := by
  unfold bW iblk
  refine (View.read_apply ..).trans (congrArg (aW m d) (idx_eq ?_ ?_))
  · show cc0_transform_0 (grid0.coords t) 0 * 256 + 1 * (j 0).val = _; rw [(map0 t).1, h.1]; omega
  · show cc0_transform_0 (grid0.coords t) 1 * 1408 + 1 * (j 1).val = _; rw [(map0 t).2, h.2]; omega
theorem iblk_m (t : Fin grid0.N) (j : S256x1408.Idx) (i : S1024x1408.Idx) (h : At t j i) : bM m d t j = aM m d i := by
  unfold bM iblk
  refine (View.read_apply ..).trans (congrArg (aM m d) (idx_eq ?_ ?_))
  · show cc0_transform_0 (grid0.coords t) 0 * 256 + 1 * (j 0).val = _; rw [(map0 t).1, h.1]; omega
  · show cc0_transform_0 (grid0.coords t) 1 * 1408 + 1 * (j 1).val = _; rw [(map0 t).2, h.2]; omega
theorem iblk_u (t : Fin grid0.N) (j : S256x1408.Idx) (i : S1024x1408.Idx) (h : At t j i) : bU m d t j = aU m d i := by
  unfold bU iblk
  refine (View.read_apply ..).trans (congrArg (aU m d) (idx_eq ?_ ?_))
  · show cc0_transform_0 (grid0.coords t) 0 * 256 + 1 * (j 0).val = _; rw [(map0 t).1, h.1]; omega
  · show cc0_transform_0 (grid0.coords t) 1 * 1408 + 1 * (j 1).val = _; rw [(map0 t).2, h.2]; omega
theorem iblk_x (t : Fin grid0.N) (j : S256x1408.Idx) (i : S512x1408.Idx) (h0 : (i 0).val = mine (wd m) t.val * 256 + (j 0).val) (h1 : (i 1).val = (j 1).val) :
    bX m d t j = aX m d i := by
  unfold bX iblk
  refine (View.read_apply ..).trans (congrArg (aX m d) (idx_eq ?_ ?_))
  · show cc0_transform_1 inb_S2_S1_0 numel1_S1 (tbl m) (grid0.coords t) 0 * 256 + 1 * (j 0).val = _; rw [map1, crd, h0, Nat.one_mul]
  · show cc0_transform_1 inb_S2_S1_0 numel1_S1 (tbl m) (grid0.coords t) 1 * 1408 + 1 * (j 1).val = _; rw [map1_col, h1]; omega
theorem iblk_y (t : Fin grid0.N) (j : S256x1408.Idx) (i : S512x1408.Idx) (h0 : (i 0).val = other (wd m) t.val * 256 + (j 0).val) (h1 : (i 1).val = (j 1).val) :
    bY m d t j = aY m d i := by
  unfold bY iblk
  refine (View.read_apply ..).trans (congrArg (aY m d) (idx_eq ?_ ?_))
  · show cc0_transform_2 inb_S2_S1_0 numel1_S1 (tbl m) (grid0.coords t) 0 * 256 + 1 * (j 0).val = _; rw [map2, crd, h0, Nat.one_mul]
  · show cc0_transform_2 inb_S2_S1_0 numel1_S1 (tbl m) (grid0.coords t) 1 * 1408 + 1 * (j 1).val = _; rw [map2_col, h1]; omega

/-- The gradient of the two halves of rows: the one whose number is the device's first coordinate is its own, the other is the other device's. -/
def grad (w : BitVec 32) (X Y : Arr 512 1408) : Arr 1024 1408 := fun i =>
  if BitVec.ofNat 32 ((i 0).val / 512) = w then X (ix2 ⟨(i 0).val % 512, Nat.mod_lt _ (by norm_num)⟩ (i 1))
  else Y (ix2 ⟨(i 0).val % 512, Nat.mod_lt _ (by norm_num)⟩ (i 1))
/-- The new moments and the weight's change. -/
def newM (w : BitVec 32) (X Y : Arr 512 1408) (M : Arr 1024 1408) : Arr 1024 1408 := fun i => mom1 (M i) (grad w X Y i)
def newV (w : BitVec 32) (X Y : Arr 512 1408) (U : Arr 1024 1408) : Arr 1024 1408 := fun i => mom2 (U i) (grad w X Y i)
def delta (w : BitVec 32) (X Y : Arr 512 1408) (W M U : Arr 1024 1408) : Arr 1024 1408 := fun i => step (W i) (newM w X Y M i) (newV w X Y U i)

theorem blk_g (t : Fin grid0.N) (j : S256x1408.Idx) (i : S1024x1408.Idx) (h : At t j i) :
    k0_pay2 (F := Ideal) (grid0.coords t) (wd m) (bX m d t) (bY m d t) j = grad (wd m) (aX m d) (aY m d) i := by
  have hj : (j 0).val < 256 := (j 0).isLt
  have e : (i 0).val / 512 = t.val / 2 := by have := h.1; omega
  have e' : (i 0).val % 512 = t.val % 2 * 256 + (j 0).val := by have := h.1; omega
  rw [pay_g, crd]
  unfold grad
  rw [e]
  by_cases hw : BitVec.ofNat 32 (t.val / 2) = wd m
  · rw [if_pos hw, if_pos hw]
    exact iblk_x m d t j _ (by rw [mine, if_pos hw]; exact e') h.2
  · rw [if_neg hw, if_neg hw]
    exact iblk_y m d t j _ (by rw [other, if_neg hw]; exact e') h.2
theorem blk_m (t : Fin grid0.N) (j : S256x1408.Idx) (i : S1024x1408.Idx) (h : At t j i) :
    k0_pay3 (F := Ideal) (grid0.coords t) (wd m) (bX m d t) (bY m d t) (bM m d t) j = newM (wd m) (aX m d) (aY m d) (aM m d) i := by
  rw [pay_m]
  exact congrArg₂ mom1 (iblk_m m d t j i h) (blk_g m d t j i h)
theorem blk_v (t : Fin grid0.N) (j : S256x1408.Idx) (i : S1024x1408.Idx) (h : At t j i) :
    k0_pay4 (F := Ideal) (grid0.coords t) (wd m) (bX m d t) (bY m d t) (bU m d t) j = newV (wd m) (aX m d) (aY m d) (aU m d) i := by
  rw [pay_v]
  exact congrArg₂ mom2 (iblk_u m d t j i h) (blk_g m d t j i h)
theorem blk_s (t : Fin grid0.N) (j : S256x1408.Idx) (i : S1024x1408.Idx) (h : At t j i) :
    k0_pay1 (F := Ideal) (bW m d t) (k0_pay3 (grid0.coords t) (wd m) (bX m d t) (bY m d t) (bM m d t))
      (k0_pay4 (grid0.coords t) (wd m) (bX m d t) (bY m d t) (bU m d t)) j
      = delta (wd m) (aX m d) (aY m d) (aW m d) (aM m d) (aU m d) i := by
  rw [pay_d]
  show step _ _ _ = step _ _ _
  rw [iblk_w m d t j i h, blk_m m d t j i h, blk_v m d t j i h]

/-! ## What a point leaves: the gradient's block, the change's, and those of the two new moments -/

section Run

variable (i : grid0.Coords) (a3 : Memref sig .tc .vmem S256x1408 .f32) (h3 : a3.IsWhole) (a4 : Memref sig .tc .vmem S256x1408 .f32) (h4 : a4.IsWhole) (a5 : Memref sig .tc .vmem S256x1408 .f32) (h5 : a5.IsWhole)
  (a6 : Memref sig .tc .vmem S256x1408 .f32) (h6 : a6.IsWhole) (a7 : Memref sig .tc .vmem S256x1408 .f32) (h7 : a7.IsWhole) (a8 : Memref sig .tc .vmem S256x1408 .f32) (h8 : a8.IsWhole)
  (a9 : Memref sig .tc .vmem S256x1408 .f32) (h9 : a9.IsWhole) (a10 : Memref sig .tc .vmem S256x1408 .f32) (h10 : a10.IsWhole) (a11 : Memref sig .tc .vmem S256x1408 .f32) (h11 : a11.IsWhole)
  (x0 x1 x2 x3 x4 : Vec Ideal S256x1408 .f32)

theorem run5 : out0_A_5 d i a3 h3 a4 h4 a5 h5 a6 h6 a7 h7 a8 h8 a9 h9 a10 h10 a11 h11 x0 x1 x2 x3 x4 (tbl m 0)
    = k0_pay2 (F := Ideal) i (wd m) x1 x2 := by
  unfold out0_A_5
  unfold kernelRun0_A
  dsimp only
  sl_unfold_words
  simp only [View.read_writes_junk_eq_canon, View.canon_unit_zero (S := S256x1408) hz, View.readAt_eq_ld, h3.read_unread, h4.read_unread, h5.read_unread,
    h6.read_unread, h7.read_unread, View.ld_unit_zero (S := S256x1408) hz]
  rfl
theorem run6 : out0_A_6 d i a3 h3 a4 h4 a5 h5 a6 h6 a7 h7 a8 h8 a9 h9 a10 h10 a11 h11 x0 x1 x2 x3 x4 (tbl m 0)
    = k0_pay1 (F := Ideal) x0 (k0_pay3 i (wd m) x1 x2 x3) (k0_pay4 i (wd m) x1 x2 x4) := by
  unfold out0_A_6
  unfold kernelRun0_A
  dsimp only
  sl_unfold_words
  simp only [View.read_writes_junk_eq_canon, View.canon_unit_zero (S := S256x1408) hz, View.readAt_eq_ld, h3.read_unread, h4.read_unread, h5.read_unread,
    h6.read_unread, h7.read_unread, View.ld_unit_zero (S := S256x1408) hz]
  rfl
theorem run7 : out0_A_7 d i a3 h3 a4 h4 a5 h5 a6 h6 a7 h7 a8 h8 a9 h9 a10 h10 a11 h11 x0 x1 x2 x3 x4 (tbl m 0)
    = k0_pay3 (F := Ideal) i (wd m) x1 x2 x3 := by
  unfold out0_A_7
  unfold kernelRun0_A
  dsimp only
  sl_unfold_words
  simp only [View.read_writes_junk_eq_canon, View.canon_unit_zero (S := S256x1408) hz, View.readAt_eq_ld, h3.read_unread, h4.read_unread, h5.read_unread,
    h6.read_unread, h7.read_unread, View.ld_unit_zero (S := S256x1408) hz]
  rfl
theorem run8 : out0_A_8 d i a3 h3 a4 h4 a5 h5 a6 h6 a7 h7 a8 h8 a9 h9 a10 h10 a11 h11 x0 x1 x2 x3 x4 (tbl m 0)
    = k0_pay4 (F := Ideal) i (wd m) x1 x2 x4 := by
  unfold out0_A_8
  unfold kernelRun0_A
  dsimp only
  sl_unfold_words
  simp only [View.read_writes_junk_eq_canon, View.canon_unit_zero (S := S256x1408) hz, View.readAt_eq_ld, h3.read_unread, h4.read_unread, h5.read_unread,
    h6.read_unread, h7.read_unread, View.ld_unit_zero (S := S256x1408) hz]
  rfl

end Run

theorem pt5 (t : Fin grid0.N) : (outsAt0 m (ok m) d t).1 = k0_pay2 (F := Ideal) (grid0.coords t) (wd m) (bX m d t) (bY m d t) := by
  unfold outsAt0 bX bY
  dsimp only
  exact run5 m d ..
theorem pt6 (t : Fin grid0.N) : (outsAt0 m (ok m) d t).2.1 = k0_pay1 (F := Ideal) (bW m d t) (k0_pay3 (grid0.coords t) (wd m) (bX m d t) (bY m d t) (bM m d t))
      (k0_pay4 (grid0.coords t) (wd m) (bX m d t) (bY m d t) (bU m d t)) := by
  unfold outsAt0 bX bY bW bM bU
  dsimp only
  exact run6 m d ..
theorem pt7 (t : Fin grid0.N) : (outsAt0 m (ok m) d t).2.2.1 = k0_pay3 (F := Ideal) (grid0.coords t) (wd m) (bX m d t) (bY m d t) (bM m d t) := by
  unfold outsAt0 bX bY bM
  dsimp only
  exact run7 m d ..
theorem pt8 (t : Fin grid0.N) : (outsAt0 m (ok m) d t).2.2.2 = k0_pay4 (F := Ideal) (grid0.coords t) (wd m) (bX m d t) (bY m d t) (bU m d t) := by
  unfold outsAt0 bX bY bU
  dsimp only
  exact run8 m d ..

/-- The point whose block of rows holds an entry. -/
def pt (i : S1024x1408.Idx) : Fin grid0.N := ⟨(i 0).val / 256, by rw [N_0]; have h : (i 0).val < 1024 := (i 0).isLt; omega⟩

/-! ## The arrays the call leaves -/

theorem covered5 (i : S1024x1408.Idx) : i ∈ (((cfgM m (ok m)).win 5).blk (pt i)).view.set := by
  refine Eq.mp (congrArg (i ∈ ·) (View.set_slice_whole main_v0_0 (((cfgM m (ok m)).win 5).rect (pt i))).symm) (Rect.mem_set_unit.2 fun a => ?_)
  match a with
  | ⟨0, _⟩ => exact in_block (i 0).val 256 (by norm_num) (map0 _).1
  | ⟨1, _⟩ => exact in_whole (i 1) (map0 _).2
theorem back5 (t : Fin grid0.N) (P : Vec Ideal S256x1408 .f32) (G : Arr 1024 1408) (h : ∀ j i, At t j i → P j = G i) :
    ((cfgM m (ok m)).win 5).cut (grid0.coords t) P = (((cfgM m (ok m)).win 5).blk t).view.read (Elt Ideal) G := by
  refine funext fun (j : S256x1408.Idx) => h j ((((cfgM m (ok m)).win 5).blk t).view.emb j) ⟨?_, ?_⟩
  · show cc0_transform_0 (grid0.coords t) 0 * 256 + 1 * (j 0).val = _; rw [(map0 t).1, Nat.one_mul]
  · show cc0_transform_0 (grid0.coords t) 1 * 1408 + 1 * (j 1).val = _; rw [(map0 t).2, Nat.one_mul, Nat.zero_mul, Nat.zero_add]
theorem covered6 (i : S1024x1408.Idx) : i ∈ (((cfgM m (ok m)).win 6).blk (pt i)).view.set := by
  refine Eq.mp (congrArg (i ∈ ·) (View.set_slice_whole main_v0_1 (((cfgM m (ok m)).win 6).rect (pt i))).symm) (Rect.mem_set_unit.2 fun a => ?_)
  match a with
  | ⟨0, _⟩ => exact in_block (i 0).val 256 (by norm_num) (map0 _).1
  | ⟨1, _⟩ => exact in_whole (i 1) (map0 _).2
theorem back6 (t : Fin grid0.N) (P : Vec Ideal S256x1408 .f32) (G : Arr 1024 1408) (h : ∀ j i, At t j i → P j = G i) :
    ((cfgM m (ok m)).win 6).cut (grid0.coords t) P = (((cfgM m (ok m)).win 6).blk t).view.read (Elt Ideal) G := by
  refine funext fun (j : S256x1408.Idx) => h j ((((cfgM m (ok m)).win 6).blk t).view.emb j) ⟨?_, ?_⟩
  · show cc0_transform_0 (grid0.coords t) 0 * 256 + 1 * (j 0).val = _; rw [(map0 t).1, Nat.one_mul]
  · show cc0_transform_0 (grid0.coords t) 1 * 1408 + 1 * (j 1).val = _; rw [(map0 t).2, Nat.one_mul, Nat.zero_mul, Nat.zero_add]
theorem covered7 (i : S1024x1408.Idx) : i ∈ (((cfgM m (ok m)).win 7).blk (pt i)).view.set := by
  refine Eq.mp (congrArg (i ∈ ·) (View.set_slice_whole main_v0_2 (((cfgM m (ok m)).win 7).rect (pt i))).symm) (Rect.mem_set_unit.2 fun a => ?_)
  match a with
  | ⟨0, _⟩ => exact in_block (i 0).val 256 (by norm_num) (map0 _).1
  | ⟨1, _⟩ => exact in_whole (i 1) (map0 _).2
theorem back7 (t : Fin grid0.N) (P : Vec Ideal S256x1408 .f32) (G : Arr 1024 1408) (h : ∀ j i, At t j i → P j = G i) :
    ((cfgM m (ok m)).win 7).cut (grid0.coords t) P = (((cfgM m (ok m)).win 7).blk t).view.read (Elt Ideal) G := by
  refine funext fun (j : S256x1408.Idx) => h j ((((cfgM m (ok m)).win 7).blk t).view.emb j) ⟨?_, ?_⟩
  · show cc0_transform_0 (grid0.coords t) 0 * 256 + 1 * (j 0).val = _; rw [(map0 t).1, Nat.one_mul]
  · show cc0_transform_0 (grid0.coords t) 1 * 1408 + 1 * (j 1).val = _; rw [(map0 t).2, Nat.one_mul, Nat.zero_mul, Nat.zero_add]
theorem covered8 (i : S1024x1408.Idx) : i ∈ (((cfgM m (ok m)).win 8).blk (pt i)).view.set := by
  refine Eq.mp (congrArg (i ∈ ·) (View.set_slice_whole main_v0_3 (((cfgM m (ok m)).win 8).rect (pt i))).symm) (Rect.mem_set_unit.2 fun a => ?_)
  match a with
  | ⟨0, _⟩ => exact in_block (i 0).val 256 (by norm_num) (map0 _).1
  | ⟨1, _⟩ => exact in_whole (i 1) (map0 _).2
theorem back8 (t : Fin grid0.N) (P : Vec Ideal S256x1408 .f32) (G : Arr 1024 1408) (h : ∀ j i, At t j i → P j = G i) :
    ((cfgM m (ok m)).win 8).cut (grid0.coords t) P = (((cfgM m (ok m)).win 8).blk t).view.read (Elt Ideal) G := by
  refine funext fun (j : S256x1408.Idx) => h j ((((cfgM m (ok m)).win 8).blk t).view.emb j) ⟨?_, ?_⟩
  · show cc0_transform_0 (grid0.coords t) 0 * 256 + 1 * (j 0).val = _; rw [(map0 t).1, Nat.one_mul]
  · show cc0_transform_0 (grid0.coords t) 1 * 1408 + 1 * (j 1).val = _; rw [(map0 t).2, Nat.one_mul, Nat.zero_mul, Nat.zero_add]
theorem out5 : (dats m (ok m) 0 d).arrAt 5 (cfgM m (ok m)).N = grad (wd m) (aX m d) (aY m d) :=
  (dats m (ok m) 0 d).arrAt_eq_of_cover 5 _ (fun t _ => by
      show ((cfgM m (ok m)).win 5).cut (grid0.coords t) ((dats m (ok m) 0 d).after 5 t) = _
      rw [after0_5]
      exact (congrArg (((cfgM m (ok m)).win 5).cut (grid0.coords t)) (pt5 m d t)).trans (back5 m t _ _ (blk_g m d t)))
    fun i => ⟨pt i, flush0_5 _ _, covered5 m i⟩
theorem out6 : (dats m (ok m) 0 d).arrAt 6 (cfgM m (ok m)).N = delta (wd m) (aX m d) (aY m d) (aW m d) (aM m d) (aU m d) :=
  (dats m (ok m) 0 d).arrAt_eq_of_cover 6 _ (fun t _ => by
      show ((cfgM m (ok m)).win 6).cut (grid0.coords t) ((dats m (ok m) 0 d).after 6 t) = _
      rw [after0_6]
      exact (congrArg (((cfgM m (ok m)).win 6).cut (grid0.coords t)) (pt6 m d t)).trans (back6 m t _ _ (blk_s m d t)))
    fun i => ⟨pt i, flush0_6 _ _, covered6 m i⟩
theorem out7 : (dats m (ok m) 0 d).arrAt 7 (cfgM m (ok m)).N = newM (wd m) (aX m d) (aY m d) (aM m d) :=
  (dats m (ok m) 0 d).arrAt_eq_of_cover 7 _ (fun t _ => by
      show ((cfgM m (ok m)).win 7).cut (grid0.coords t) ((dats m (ok m) 0 d).after 7 t) = _
      rw [after0_7]
      exact (congrArg (((cfgM m (ok m)).win 7).cut (grid0.coords t)) (pt7 m d t)).trans (back7 m t _ _ (blk_m m d t)))
    fun i => ⟨pt i, flush0_7 _ _, covered7 m i⟩
theorem out8 : (dats m (ok m) 0 d).arrAt 8 (cfgM m (ok m)).N = newV (wd m) (aX m d) (aY m d) (aU m d) :=
  (dats m (ok m) 0 d).arrAt_eq_of_cover 8 _ (fun t _ => by
      show ((cfgM m (ok m)).win 8).cut (grid0.coords t) ((dats m (ok m) 0 d).after 8 t) = _
      rw [after0_8]
      exact (congrArg (((cfgM m (ok m)).win 8).cut (grid0.coords t)) (pt8 m d t)).trans (back8 m t _ _ (blk_v m d t)))
    fun i => ⟨pt i, flush0_8 _ _, covered8 m i⟩

/-- The call leaves these four arrays, and its arguments as they were. -/
theorem run (ρ : Dev nD → PrngReg) : θ_run defs (onTc (τ := τ) (main (F := Ideal))) ⟨m, fun _ => 0, ρ⟩ fun r => ∀ c : Dev nD,
    r.2.mem ((c : Thread nD τ).loc main_v0_0) = grad (wd m) (aX m c) (aY m c)
    ∧ r.2.mem ((c : Thread nD τ).loc main_v0_1) = delta (wd m) (aX m c) (aY m c) (aW m c) (aM m c) (aU m c)
    ∧ r.2.mem ((c : Thread nD τ).loc main_v0_2) = newM (wd m) (aX m c) (aY m c) (aM m c)
    ∧ r.2.mem ((c : Thread nD τ).loc main_v0_3) = newV (wd m) (aX m c) (aY m c) (aU m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun _ h c =>
    ⟨((h c).1 5).trans (out5 m c), ((h c).1 6).trans (out6 m c), ((h c).1 7).trans (out7 m c), ((h c).1 8).trans (out8 m c),
      ((h c).1 0).trans (((dats m (ok m) 0 c).arrAt_in 0 rfl _).trans (A_eq m (ok m) c 0)),
      ((h c).1 1).trans (((dats m (ok m) 0 c).arrAt_in 1 rfl _).trans (A_eq m (ok m) c 1)),
      ((h c).1 2).trans (((dats m (ok m) 0 c).arrAt_in 2 rfl _).trans (A_eq m (ok m) c 2)),
      ((h c).1 3).trans (((dats m (ok m) 0 c).arrAt_in 3 rfl _).trans (A_eq m (ok m) c 3)),
      ((h c).1 4).trans (((dats m (ok m) 0 c).arrAt_in 4 rfl _).trans (A_eq m (ok m) c 4)),
      (h c).2 main_arg5 (by decide : main_arg5 ∈ Pipeline.restRefs sig spec0)⟩) (run_main m ρ (ok m))

/-! ## The reference's arrays -/

section Reference

open Cert.ReferenceAbfIdeal.Read

variable (w v u : Arr 1024 1408) (X Y : Arr 512 1408) (p : IVec Cert.ReferenceAbfIdeal.S2 32)

/-- The first word of the coordinates. -/
abbrev fst : BitVec 32 := p (ix1 (0 : Fin 2))

theorem ref_word (i : Cert.ReferenceAbfIdeal.S_.Idx) : val_main_v1 (F := Ideal) p i = fst p := by
  unfold val_main_v1
  show val_main_v0 (F := Ideal) p _ = _
  rw [val_main_v0_apply]
  refine congrArg p (funext fun a => ?_)
  fin_cases a
  exact Fin.ext (Nat.lt_one_iff.1 (Shape.reshapeEquiv Cert.ReferenceAbfIdeal.Gen.shapeCasts_S1_S_ i 0).isLt)
theorem ref_word' (i : Cert.ReferenceAbfIdeal.S_.Idx) : val_main_v5 (F := Ideal) p i = fst p := ref_word p i
theorem ref_lo (i : S512x1408.Idx) : val_main_v3 (F := Ideal) X Y p i = if 0#32 = fst p then X i else Y i := by
  pointwise [val_main_v3, val_main_v2, val_main_c, ref_word]
  refine (sel_eq _ _ _ _).trans ?_
  simp only [eq_comm]
theorem ref_hi (i : S512x1408.Idx) : val_main_v7 (F := Ideal) X Y p i = if 1#32 = fst p then X i else Y i := by
  pointwise [val_main_v7, val_main_v6, val_main_c_0, ref_word']
  refine (sel_eq _ _ _ _).trans ?_
  simp only [eq_comm]
theorem ref_g : val_main_v8 (F := Ideal) X Y p = grad (fst p) X Y := by
  funext i
  unfold val_main_v8 grad
  have hi : (i 0).val < 1024 := (i 0).isLt
  by_cases h : (i 0).val < 512
  · refine (concatenate_pair_apply_left (s₁ := S512x1408) (s₂ := S512x1408) 0 _ _ _ i rfl (ix2 ⟨(i 0).val % 512, Nat.mod_lt _ (by decide : 0 < 512)⟩ (i 1)) fun b => ?_).trans ?_
    · match b with
      | ⟨0, _⟩ => exact Nat.mod_eq_of_lt h
      | ⟨1, _⟩ => rfl
    · rw [ref_lo, show (i 0).val / 512 = 0 by omega]
  · refine (concatenate_pair_apply_right (s₁ := S512x1408) (s₂ := S512x1408) 0 _ _ _ i rfl rfl (ix2 ⟨(i 0).val % 512, Nat.mod_lt _ (by decide : 0 < 512)⟩ (i 1)) (fun b hb => ?_) ?_).trans ?_
    · match b with
      | ⟨0, _⟩ => exact absurd rfl hb
      | ⟨1, _⟩ => rfl
    · show (i 0).val % 512 + 512 = (i 0).val; omega
    · rw [ref_hi, show (i 0).val / 512 = 1 by omega]
theorem ref_m : val_main_v13 (F := Ideal) X Y v p = newM (fst p) X Y v := by
  funext i
  pointwise [val_main_v13, val_main_v12, val_main_v11, val_main_cst_1, val_main_v10, val_main_v9, val_main_cst, ref_g]
  rfl
theorem ref_v : val_main_v19 (F := Ideal) X Y u p = newV (fst p) X Y u := by
  funext i
  pointwise [val_main_v19, val_main_v18, val_main_v17, val_main_cst_3, val_main_v16, val_main_v15, val_main_v14, val_main_cst_2, ref_g]
  rfl
theorem ref_d : val_main_v32 (F := Ideal) w X Y v u p = delta (fst p) X Y w v u := by
  funext i
  pointwise [val_main_v32, val_main_v31, val_main_cst_8, val_main_v30, val_main_v29, val_main_v28, val_main_cst_7, val_main_v27, val_main_v26, val_main_v25,
    val_main_cst_6, val_main_v24, val_main_v23, val_main_v22, val_main_cst_5, val_main_v21, val_main_v20, val_main_cst_4, ref_m, ref_v]
  rfl

end Reference

theorem frame_ref : Cert.quiescent_ReferenceAbfIdeal := fun m g _ =>
  (θ_run Cert.ReferenceAbfIdeal.defs _ _).mono (fun r h => ⟨fun c => (h c).2.2.2.2, sem_eq_zero_of_no_sems (by decide) r.2⟩)
    (Cert.ReferenceAbfIdeal.Value.run (F := Ideal) m g)

/-- There is one device, whose table is the call's. -/
theorem wd_eq : wd m = fst (m ((d : Thread nD τ).loc main_arg5)) := by
  obtain rfl : d = 0 := Subsingleton.elim _ _
  refine congrArg (m (((0 : Dev nD) : Thread nD τ).loc main_arg5)) (funext fun a => ?_)
  fin_cases a
  rfl

/-- The call's arrays are the reference's. -/
theorem algebraic : Cert.algebraic_KernelAbfIdeal_ReferenceAbfIdeal := by
  intro m g m' g' _ hag
  refine ⟨_, _, _, _, run m g,
    (θ_run Cert.ReferenceAbfIdeal.defs _ _).mono (fun r h d => ?_) (Cert.ReferenceAbfIdeal.Value.run (F := Ideal) m' g')⟩
  obtain ⟨a0, a1, a2, a3, a4, a5⟩ := hag d
  obtain ⟨h0, h1, h2, h3, hk⟩ := h d
  rw [Cert.ReferenceAbfIdeal.Read.val_main_v8_eq, a1, a2, a5] at h0
  rw [Cert.ReferenceAbfIdeal.Read.val_main_v32_eq, a0, a1, a2, a3, a4, a5] at h1
  rw [Cert.ReferenceAbfIdeal.Read.val_main_v13_eq, a1, a2, a3, a5] at h2
  rw [Cert.ReferenceAbfIdeal.Read.val_main_v19_eq, a1, a2, a4, a5] at h3
  have e := wd_eq m d
  exact ⟨(h0.trans (ref_g _ _ _)).trans (by rw [e]), (h1.trans (ref_d _ _ _ _ _ _)).trans (by rw [e]),
    (h2.trans (ref_m _ _ _ _)).trans (by rw [e]), (h3.trans (ref_v _ _ _ _)).trans (by rw [e]), hk⟩

end Cert.Abf

end
-- ==== Proof.Acf.lean ====
/- The final modulation's weight: its gradient over the batch, and its step of AdamW, as the call leaves them. No argument need be finite. -/
module

public import proofs.«01_k».proof.Proof.Adam
public import proofs.«01_k».proof.Defs
public import proofs.«01_k».proof.Proof.Gen.KernelAcf.Frame
public import proofs.«01_k».proof.Proof.Gen.KernelAcfIdeal.Value
public import proofs.«01_k».proof.Proof.Gen.ReferenceAcfIdeal.Run
public import proofs.«01_k».proof.Proof.Gen.ReferenceAcfIdeal.Read
public import Idealize.ShloMosaic.Lib.Pipeline.ReadBack
public import Idealize.ShloMosaic.Lib.StableHlo.RunRead
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Acf

open Cert.KernelAcfIdeal Cert.KernelAcfIdeal.Gen Cert.Prod Cert.Fwd Cert.Reals Cert.Adam

/-- The zero offsets of a whole rank-2 block. -/
theorem hz : (![0, 0] : Fin 2 → Nat) = fun _ => 0 := funext fun a => by fin_cases a <;> rfl

theorem pay_g (C : Vec Ideal S8x1024 .f32) (D : Vec Ideal S8x256 .f32) : k0_pay2 (F := Ideal) C D = tn (fun i => silu (C i)) D := by
  funext i
  pointwise [k0_pay2]
  simp only [lit_half, half_tanh]
  rfl

variable (C : Vec Ideal S8x1024 .f32) (D : Vec Ideal S8x256 .f32) (W M U : Vec Ideal S1024x256 .f32)

theorem pay_m : k0_pay3 (F := Ideal) C D M = fun i => mom1 (M i) (k0_pay2 (F := Ideal) C D i) := by
  funext i
  pointwise [k0_pay3]
  rfl
theorem pay_v : k0_pay4 (F := Ideal) C D U = fun i => mom2 (U i) (k0_pay2 (F := Ideal) C D i) := by
  funext i
  pointwise [k0_pay4]
  rfl
theorem pay_d : k0_pay1 (F := Ideal) (k0_pay5 C D M U) (k0_pay6 W) = fun i => step (W i) (k0_pay3 (F := Ideal) C D M i) (k0_pay4 (F := Ideal) C D U i) := by
  funext i
  pointwise [k0_pay1, k0_pay5, k0_pay6]
  rfl

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = 0 ∧ win0_2.index t 1 = t.val :=
  (by decide +kernel : ∀ t : Fin grid0.N, win0_2.index t 0 = 0 ∧ win0_2.index t 1 = t.val)

variable (m : (ℓ : Loc nD τ sig) → Buf (Elt Ideal) ℓ) (d : Dev nD)

/-- The conditioning vectors of the batch, the gradient of their product with the weight, the weight, and the two moments. -/
abbrev aC : Arr 8 1024 := m ((d : Thread nD τ).loc main_arg0)
abbrev aD : Arr 8 512 := m ((d : Thread nD τ).loc main_arg1)
abbrev aW : Arr 1024 512 := m ((d : Thread nD τ).loc main_arg2)
abbrev aM : Arr 1024 512 := m ((d : Thread nD τ).loc main_arg3)
abbrev aU : Arr 1024 512 := m ((d : Thread nD τ).loc main_arg4)

/-! ## The blocks, read in the arguments -/

/-- Entry `j` of column block `t` is entry `i` of the whole array. -/
def At (t : Fin cfg0.N) {a : ℕ} (j : (⟨2, ![a, 256]⟩ : Shape).Idx) (i : (⟨2, ![a, 512]⟩ : Shape).Idx) : Prop :=
  (i 0).val = (j 0).val ∧ (i 1).val = t.val * 256 + (j 1).val

theorem iblk_c (t : Fin cfg0.N) : iblk m d 0 t = aC m d := by
  funext j
  unfold iblk
  rw [View.read_apply]
  refine congrArg (aC m d) (idx_eq ?_ ?_)
  · show win0_0.index t 0 * 8 + 1 * (j 0).val = (j 0).val; rw [(idx0 t).1]; omega
  · show win0_0.index t 1 * 1024 + 1 * (j 1).val = (j 1).val; rw [(idx0 t).2]; omega
theorem iblk_d (t : Fin cfg0.N) (j : S8x256.Idx) (i : S8x512.Idx) (h : At t j i) : iblk m d 1 t j = aD m d i := by
  unfold iblk
  rw [View.read_apply]
  refine congrArg (aD m d) (idx_eq ?_ ?_)
  · show win0_1.index t 0 * 8 + 1 * (j 0).val = _; rw [(idx1 t).1, h.1]; omega
  · show win0_1.index t 1 * 256 + 1 * (j 1).val = _; rw [(idx1 t).2, h.2]; omega
theorem iblk_w (t : Fin cfg0.N) (j : S1024x256.Idx) (i : S1024x512.Idx) (h : At t j i) : iblk m d 2 t j = aW m d i := by
  unfold iblk
  rw [View.read_apply]
  refine congrArg (aW m d) (idx_eq ?_ ?_)
  · show win0_2.index t 0 * 1024 + 1 * (j 0).val = _; rw [(idx2 t).1, h.1]; omega
  · show win0_2.index t 1 * 256 + 1 * (j 1).val = _; rw [(idx2 t).2, h.2]; omega
/-- The moments' windows, and those of the four arrays that the call leaves, are the weight's. -/
theorem iblk_m (t : Fin cfg0.N) (j : S1024x256.Idx) (i : S1024x512.Idx) (h : At t j i) : iblk m d 3 t j = aM m d i := by
  unfold iblk
  rw [View.read_apply]
  refine congrArg (aM m d) (idx_eq ?_ ?_)
  · show win0_2.index t 0 * 1024 + 1 * (j 0).val = _; rw [(idx2 t).1, h.1]; omega
  · show win0_2.index t 1 * 256 + 1 * (j 1).val = _; rw [(idx2 t).2, h.2]; omega
theorem iblk_u (t : Fin cfg0.N) (j : S1024x256.Idx) (i : S1024x512.Idx) (h : At t j i) : iblk m d 4 t j = aU m d i := by
  unfold iblk
  rw [View.read_apply]
  refine congrArg (aU m d) (idx_eq ?_ ?_)
  · show win0_2.index t 0 * 1024 + 1 * (j 0).val = _; rw [(idx2 t).1, h.1]; omega
  · show win0_2.index t 1 * 256 + 1 * (j 1).val = _; rw [(idx2 t).2, h.2]; omega

/-- The point whose block of columns holds a column. -/
def pt (i : Fin 512) : Fin cfg0.N := ⟨i.val / 256, by rw [show cfg0.N = 2 from N_0]; have := i.isLt; omega⟩

/-- The weight's gradient, the new moments and the weight's change, from the call's arguments. -/
def grad (C : Arr 8 1024) (D : Arr 8 512) : Arr 1024 512 := tn (fun i => silu (C i)) D
def newM (C : Arr 8 1024) (D : Arr 8 512) (M : Arr 1024 512) : Arr 1024 512 := fun i => mom1 (M i) (grad C D i)
def newV (C : Arr 8 1024) (D : Arr 8 512) (U : Arr 1024 512) : Arr 1024 512 := fun i => mom2 (U i) (grad C D i)
def delta (C : Arr 8 1024) (D : Arr 8 512) (W M U : Arr 1024 512) : Arr 1024 512 := fun i => step (W i) (newM C D M i) (newV C D U i)

theorem blk_g (t : Fin cfg0.N) (j : S1024x256.Idx) (i : S1024x512.Idx) (h : At t j i) :
    k0_pay2 (F := Ideal) (iblk m d 0 t) (iblk m d 1 t) j = grad (aC m d) (aD m d) i := by
  rw [pay_g, iblk_c]
  exact tn_congr _ _ _ _ _ _ (fun q => congrArg (fun z => silu (aC m d z)) (idx_eq rfl h.1.symm)) fun q => iblk_d m d t _ _ ⟨rfl, h.2⟩
theorem blk_m (t : Fin cfg0.N) (j : S1024x256.Idx) (i : S1024x512.Idx) (h : At t j i) :
    k0_pay3 (F := Ideal) (iblk m d 0 t) (iblk m d 1 t) (iblk m d 3 t) j = newM (aC m d) (aD m d) (aM m d) i := by
  rw [pay_m]
  exact congrArg₂ mom1 (iblk_m m d t j i h) (blk_g m d t j i h)
theorem blk_v (t : Fin cfg0.N) (j : S1024x256.Idx) (i : S1024x512.Idx) (h : At t j i) :
    k0_pay4 (F := Ideal) (iblk m d 0 t) (iblk m d 1 t) (iblk m d 4 t) j = newV (aC m d) (aD m d) (aU m d) i := by
  rw [pay_v]
  exact congrArg₂ mom2 (iblk_u m d t j i h) (blk_g m d t j i h)
theorem blk_s (t : Fin cfg0.N) (j : S1024x256.Idx) (i : S1024x512.Idx) (h : At t j i) :
    k0_pay1 (F := Ideal) (k0_pay5 (iblk m d 0 t) (iblk m d 1 t) (iblk m d 3 t) (iblk m d 4 t)) (k0_pay6 (iblk m d 2 t)) j
      = delta (aC m d) (aD m d) (aW m d) (aM m d) (aU m d) i := by
  rw [pay_d]
  show step _ _ _ = step _ _ _
  rw [iblk_w m d t j i h, blk_m m d t j i h, blk_v m d t j i h]

/-- Every entry lies in the block of columns of its point. -/
theorem covered (i : S1024x512.Idx) : i ∈ ((View.whole main_v0_0).slice (win0_2.rect (pt (i 1)))).set := by
  rw [View.set_slice_whole, Rect.mem_set_unit]
  intro a
  match a with
  | ⟨0, _⟩ => exact in_whole (i 0) (idx2 _).1
  | ⟨1, _⟩ => exact in_block (i 1).val 256 (by norm_num) (idx2 _).2

/-- A block's entry, in the whole array. -/
theorem at_blk (t : Fin cfg0.N) (j : S1024x256.Idx) : At t j (((View.whole main_v0_0).slice (win0_2.rect t)).emb j) := by
  constructor
  · show win0_2.index t 0 * 1024 + 1 * (j 0).val = _; rw [(idx2 t).1]; omega
  · show win0_2.index t 1 * 256 + 1 * (j 1).val = _; rw [(idx2 t).2]; omega

/-! ## The arrays the call leaves -/

theorem out5 : (dats m 0 d).arrAt 5 cfg0.N = grad (aC m d) (aD m d) :=
  (dats m 0 d).arrAt_eq_of_cover 5 _ (fun t _ => by
      rw [Value.flushed5]
      unfold out0_5
      rw [View.canon_unit_zero (S := S1024x256) hz, View.ld_unit_zero (S := S8x1024) hz, View.ld_unit_zero (S := S8x256) hz]
      funext j
      rw [View.read_apply]
      exact blk_g m d t _ _ (at_blk t j))
    fun i => ⟨pt (i 1), flush0_5 _, covered i⟩

theorem out6 : (dats m 0 d).arrAt 6 cfg0.N = delta (aC m d) (aD m d) (aW m d) (aM m d) (aU m d) :=
  (dats m 0 d).arrAt_eq_of_cover 6 _ (fun t _ => by
      rw [Value.flushed6]
      unfold out0_6
      rw [View.canon_unit_zero (S := S1024x256) hz]
      simp only [View.ld_unit_zero (S := S8x1024) hz, View.ld_unit_zero (S := S8x256) hz, View.ld_unit_zero (S := S1024x256) hz]
      funext j
      rw [View.read_apply]
      exact blk_s m d t _ _ (at_blk t j))
    fun i => ⟨pt (i 1), flush0_6 _, covered i⟩
theorem out7 : (dats m 0 d).arrAt 7 cfg0.N = newM (aC m d) (aD m d) (aM m d) :=
  (dats m 0 d).arrAt_eq_of_cover 7 _ (fun t _ => by
      rw [Value.flushed7]
      unfold out0_7
      rw [View.canon_unit_zero (S := S1024x256) hz]
      simp only [View.ld_unit_zero (S := S8x1024) hz, View.ld_unit_zero (S := S8x256) hz, View.ld_unit_zero (S := S1024x256) hz]
      funext j
      rw [View.read_apply]
      exact blk_m m d t _ _ (at_blk t j))
    fun i => ⟨pt (i 1), flush0_7 _, covered i⟩
theorem out8 : (dats m 0 d).arrAt 8 cfg0.N = newV (aC m d) (aD m d) (aU m d) :=
  (dats m 0 d).arrAt_eq_of_cover 8 _ (fun t _ => by
      rw [Value.flushed8]
      unfold out0_8
      rw [View.canon_unit_zero (S := S1024x256) hz]
      simp only [View.ld_unit_zero (S := S8x1024) hz, View.ld_unit_zero (S := S8x256) hz, View.ld_unit_zero (S := S1024x256) hz]
      funext j
      rw [View.read_apply]
      exact blk_v m d t _ _ (at_blk t j))
    fun i => ⟨pt (i 1), flush0_8 _, covered i⟩

/-! ## The reference's arrays -/

section Reference

open Cert.ReferenceAcfIdeal.Read

variable (X : Arr 8 1024) (Y : Arr 8 512) (w v u : Arr 1024 512)

theorem ref_act : val_main_v0 (F := Ideal) X = fun i => silu (X i) := by
  funext i
  pointwise [val_main_v0, val_main_call0_v5, val_main_call0_v4, val_main_call0_cst_0, val_main_call0_v3, val_main_call0_v2, val_main_call0_cst,
    val_main_call0_v1, val_main_call0_v0]
  rfl
theorem ref_g : val_main_v3 (F := Ideal) X Y = grad X Y := by
  funext i
  pointwise [val_main_v3, val_main_v2, ref_act]
  exact Finset.sum_congr rfl fun q _ => mul_comm _ _
theorem ref_m : val_main_v8 (F := Ideal) X Y v = newM X Y v := by
  funext i
  pointwise [val_main_v8, val_main_v7, val_main_v6, val_main_cst_0, val_main_v5, val_main_v4, val_main_cst, ref_g]
  rfl
theorem ref_v : val_main_v14 (F := Ideal) X Y u = newV X Y u := by
  funext i
  pointwise [val_main_v14, val_main_v13, val_main_v12, val_main_cst_2, val_main_v11, val_main_v10, val_main_v9, val_main_cst_1, ref_g]
  rfl
theorem ref_d : val_main_v27 (F := Ideal) X Y w v u = delta X Y w v u := by
  funext i
  pointwise [val_main_v27, val_main_v26, val_main_cst_7, val_main_v25, val_main_v24, val_main_v23, val_main_cst_6, val_main_v22, val_main_v21, val_main_v20,
    val_main_cst_5, val_main_v19, val_main_v18, val_main_v17, val_main_cst_4, val_main_v16, val_main_v15, val_main_cst_3, ref_m, ref_v]
  rfl

end Reference

theorem frame_ref : Cert.quiescent_ReferenceAcfIdeal := fun m g _ =>
  (θ_run Cert.ReferenceAcfIdeal.defs _ _).mono (fun r h => ⟨fun c => (h c).2.2.2.2, sem_eq_zero_of_no_sems (by decide) r.2⟩)
    (Cert.ReferenceAcfIdeal.Value.run (F := Ideal) m g)

/-- The call's arrays are the reference's. -/
theorem algebraic : Cert.algebraic_KernelAcfIdeal_ReferenceAcfIdeal := by
  intro m g m' g' _ hag
  refine ⟨fun c => (dats m 0 c).arrAt 5 cfg0.N, fun c => (dats m 0 c).arrAt 6 cfg0.N, fun c => (dats m 0 c).arrAt 7 cfg0.N,
    fun c => (dats m 0 c).arrAt 8 cfg0.N, Value.run_blocks m g,
    (θ_run Cert.ReferenceAcfIdeal.defs _ _).mono (fun r h d => ?_) (Cert.ReferenceAcfIdeal.Value.run (F := Ideal) m' g')⟩
  obtain ⟨a0, a1, a2, a3, a4⟩ := hag d
  obtain ⟨h0, h1, h2, h3, hk⟩ := h d
  rw [Cert.ReferenceAcfIdeal.Read.val_main_v3_eq, a0, a1] at h0
  rw [Cert.ReferenceAcfIdeal.Read.val_main_v27_eq, a0, a1, a2, a3, a4] at h1
  rw [Cert.ReferenceAcfIdeal.Read.val_main_v8_eq, a0, a1, a3] at h2
  rw [Cert.ReferenceAcfIdeal.Read.val_main_v14_eq, a0, a1, a4] at h3
  exact ⟨(h0.trans (ref_g _ _)).trans (out5 m d).symm, (h1.trans (ref_d _ _ _ _ _)).trans (out6 m d).symm,
    (h2.trans (ref_m _ _ _)).trans (out7 m d).symm, (h3.trans (ref_v _ _ _)).trans (out8 m d).symm, hk⟩

end Cert.Acf

end
-- ==== Proof.Acm.lean ====
/- The modulation's weight: its gradient over the batch, and its step of AdamW, as the call leaves them. No argument need be finite. -/
module

public import proofs.«01_k».proof.Proof.Adam
public import proofs.«01_k».proof.Defs
public import proofs.«01_k».proof.Proof.Gen.KernelAcm.Frame
public import proofs.«01_k».proof.Proof.Gen.KernelAcmIdeal.Value
public import proofs.«01_k».proof.Proof.Gen.ReferenceAcmIdeal.Run
public import proofs.«01_k».proof.Proof.Gen.ReferenceAcmIdeal.Read
public import Idealize.ShloMosaic.Lib.Pipeline.ReadBack
public import Idealize.ShloMosaic.Lib.StableHlo.RunRead
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Acm

open Cert.KernelAcmIdeal Cert.KernelAcmIdeal.Gen Cert.Prod Cert.Fwd Cert.Reals Cert.Adam

/-- The zero offsets of a whole rank-2 block. -/
theorem hz : (![0, 0] : Fin 2 → Nat) = fun _ => 0 := funext fun a => by fin_cases a <;> rfl

theorem pay_g (C : Vec Ideal S8x1024 .f32) (D : Vec Ideal S8x768 .f32) : k0_pay2 (F := Ideal) C D = tn (fun i => silu (C i)) D := by
  funext i
  pointwise [k0_pay2]
  simp only [lit_half, half_tanh]
  rfl

variable (C : Vec Ideal S8x1024 .f32) (D : Vec Ideal S8x768 .f32) (W M U : Vec Ideal S1024x768 .f32)

theorem pay_m : k0_pay3 (F := Ideal) C D M = fun i => mom1 (M i) (k0_pay2 (F := Ideal) C D i) := by
  funext i
  pointwise [k0_pay3]
  rfl
theorem pay_v : k0_pay4 (F := Ideal) C D U = fun i => mom2 (U i) (k0_pay2 (F := Ideal) C D i) := by
  funext i
  pointwise [k0_pay4]
  rfl
theorem pay_d : k0_pay1 (F := Ideal) (k0_pay5 C D M U) (k0_pay6 W) = fun i => step (W i) (k0_pay3 (F := Ideal) C D M i) (k0_pay4 (F := Ideal) C D U i) := by
  funext i
  pointwise [k0_pay1, k0_pay5, k0_pay6]
  rfl

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = 0 ∧ win0_2.index t 1 = t.val :=
  (by decide +kernel : ∀ t : Fin grid0.N, win0_2.index t 0 = 0 ∧ win0_2.index t 1 = t.val)

variable (m : (ℓ : Loc nD τ sig) → Buf (Elt Ideal) ℓ) (d : Dev nD)

/-- The conditioning vectors of the batch, the gradient of their product with the weight, the weight, and the two moments. -/
abbrev aC : Arr 8 1024 := m ((d : Thread nD τ).loc main_arg0)
abbrev aD : Arr 8 2304 := m ((d : Thread nD τ).loc main_arg1)
abbrev aW : Arr 1024 2304 := m ((d : Thread nD τ).loc main_arg2)
abbrev aM : Arr 1024 2304 := m ((d : Thread nD τ).loc main_arg3)
abbrev aU : Arr 1024 2304 := m ((d : Thread nD τ).loc main_arg4)

/-! ## The blocks, read in the arguments -/

/-- Entry `j` of column block `t` is entry `i` of the whole array. -/
def At (t : Fin cfg0.N) {a : ℕ} (j : (⟨2, ![a, 768]⟩ : Shape).Idx) (i : (⟨2, ![a, 2304]⟩ : Shape).Idx) : Prop :=
  (i 0).val = (j 0).val ∧ (i 1).val = t.val * 768 + (j 1).val

theorem iblk_c (t : Fin cfg0.N) : iblk m d 0 t = aC m d := by
  funext j
  unfold iblk
  rw [View.read_apply]
  refine congrArg (aC m d) (idx_eq ?_ ?_)
  · show win0_0.index t 0 * 8 + 1 * (j 0).val = (j 0).val; rw [(idx0 t).1]; omega
  · show win0_0.index t 1 * 1024 + 1 * (j 1).val = (j 1).val; rw [(idx0 t).2]; omega
theorem iblk_d (t : Fin cfg0.N) (j : S8x768.Idx) (i : S8x2304.Idx) (h : At t j i) : iblk m d 1 t j = aD m d i := by
  unfold iblk
  rw [View.read_apply]
  refine congrArg (aD m d) (idx_eq ?_ ?_)
  · show win0_1.index t 0 * 8 + 1 * (j 0).val = _; rw [(idx1 t).1, h.1]; omega
  · show win0_1.index t 1 * 768 + 1 * (j 1).val = _; rw [(idx1 t).2, h.2]; omega
theorem iblk_w (t : Fin cfg0.N) (j : S1024x768.Idx) (i : S1024x2304.Idx) (h : At t j i) : iblk m d 2 t j = aW m d i := by
  unfold iblk
  rw [View.read_apply]
  refine congrArg (aW m d) (idx_eq ?_ ?_)
  · show win0_2.index t 0 * 1024 + 1 * (j 0).val = _; rw [(idx2 t).1, h.1]; omega
  · show win0_2.index t 1 * 768 + 1 * (j 1).val = _; rw [(idx2 t).2, h.2]; omega
/-- The moments' windows, and those of the four arrays that the call leaves, are the weight's. -/
theorem iblk_m (t : Fin cfg0.N) (j : S1024x768.Idx) (i : S1024x2304.Idx) (h : At t j i) : iblk m d 3 t j = aM m d i := by
  unfold iblk
  rw [View.read_apply]
  refine congrArg (aM m d) (idx_eq ?_ ?_)
  · show win0_2.index t 0 * 1024 + 1 * (j 0).val = _; rw [(idx2 t).1, h.1]; omega
  · show win0_2.index t 1 * 768 + 1 * (j 1).val = _; rw [(idx2 t).2, h.2]; omega
theorem iblk_u (t : Fin cfg0.N) (j : S1024x768.Idx) (i : S1024x2304.Idx) (h : At t j i) : iblk m d 4 t j = aU m d i := by
  unfold iblk
  rw [View.read_apply]
  refine congrArg (aU m d) (idx_eq ?_ ?_)
  · show win0_2.index t 0 * 1024 + 1 * (j 0).val = _; rw [(idx2 t).1, h.1]; omega
  · show win0_2.index t 1 * 768 + 1 * (j 1).val = _; rw [(idx2 t).2, h.2]; omega

/-- The point whose block of columns holds a column. -/
def pt (i : Fin 2304) : Fin cfg0.N := ⟨i.val / 768, by rw [show cfg0.N = 3 from N_0]; have := i.isLt; omega⟩

/-- The weight's gradient, the new moments and the weight's change, from the call's arguments. -/
def grad (C : Arr 8 1024) (D : Arr 8 2304) : Arr 1024 2304 := tn (fun i => silu (C i)) D
def newM (C : Arr 8 1024) (D : Arr 8 2304) (M : Arr 1024 2304) : Arr 1024 2304 := fun i => mom1 (M i) (grad C D i)
def newV (C : Arr 8 1024) (D : Arr 8 2304) (U : Arr 1024 2304) : Arr 1024 2304 := fun i => mom2 (U i) (grad C D i)
def delta (C : Arr 8 1024) (D : Arr 8 2304) (W M U : Arr 1024 2304) : Arr 1024 2304 := fun i => step (W i) (newM C D M i) (newV C D U i)

theorem blk_g (t : Fin cfg0.N) (j : S1024x768.Idx) (i : S1024x2304.Idx) (h : At t j i) :
    k0_pay2 (F := Ideal) (iblk m d 0 t) (iblk m d 1 t) j = grad (aC m d) (aD m d) i := by
  rw [pay_g, iblk_c]
  exact tn_congr _ _ _ _ _ _ (fun q => congrArg (fun z => silu (aC m d z)) (idx_eq rfl h.1.symm)) fun q => iblk_d m d t _ _ ⟨rfl, h.2⟩
theorem blk_m (t : Fin cfg0.N) (j : S1024x768.Idx) (i : S1024x2304.Idx) (h : At t j i) :
    k0_pay3 (F := Ideal) (iblk m d 0 t) (iblk m d 1 t) (iblk m d 3 t) j = newM (aC m d) (aD m d) (aM m d) i := by
  rw [pay_m]
  exact congrArg₂ mom1 (iblk_m m d t j i h) (blk_g m d t j i h)
theorem blk_v (t : Fin cfg0.N) (j : S1024x768.Idx) (i : S1024x2304.Idx) (h : At t j i) :
    k0_pay4 (F := Ideal) (iblk m d 0 t) (iblk m d 1 t) (iblk m d 4 t) j = newV (aC m d) (aD m d) (aU m d) i := by
  rw [pay_v]
  exact congrArg₂ mom2 (iblk_u m d t j i h) (blk_g m d t j i h)
theorem blk_s (t : Fin cfg0.N) (j : S1024x768.Idx) (i : S1024x2304.Idx) (h : At t j i) :
    k0_pay1 (F := Ideal) (k0_pay5 (iblk m d 0 t) (iblk m d 1 t) (iblk m d 3 t) (iblk m d 4 t)) (k0_pay6 (iblk m d 2 t)) j
      = delta (aC m d) (aD m d) (aW m d) (aM m d) (aU m d) i := by
  rw [pay_d]
  show step _ _ _ = step _ _ _
  rw [iblk_w m d t j i h, blk_m m d t j i h, blk_v m d t j i h]

/-- Every entry lies in the block of columns of its point. -/
theorem covered (i : S1024x2304.Idx) : i ∈ ((View.whole main_v0_0).slice (win0_2.rect (pt (i 1)))).set := by
  rw [View.set_slice_whole, Rect.mem_set_unit]
  intro a
  match a with
  | ⟨0, _⟩ => exact in_whole (i 0) (idx2 _).1
  | ⟨1, _⟩ => exact in_block (i 1).val 768 (by norm_num) (idx2 _).2

/-- A block's entry, in the whole array. -/
theorem at_blk (t : Fin cfg0.N) (j : S1024x768.Idx) : At t j (((View.whole main_v0_0).slice (win0_2.rect t)).emb j) := by
  constructor
  · show win0_2.index t 0 * 1024 + 1 * (j 0).val = _; rw [(idx2 t).1]; omega
  · show win0_2.index t 1 * 768 + 1 * (j 1).val = _; rw [(idx2 t).2]; omega

/-! ## The arrays the call leaves -/

theorem out5 : (dats m 0 d).arrAt 5 cfg0.N = grad (aC m d) (aD m d) :=
  (dats m 0 d).arrAt_eq_of_cover 5 _ (fun t _ => by
      rw [Value.flushed5]
      unfold out0_5
      rw [View.canon_unit_zero (S := S1024x768) hz, View.ld_unit_zero (S := S8x1024) hz, View.ld_unit_zero (S := S8x768) hz]
      funext j
      rw [View.read_apply]
      exact blk_g m d t _ _ (at_blk t j))
    fun i => ⟨pt (i 1), flush0_5 _, covered i⟩

theorem out6 : (dats m 0 d).arrAt 6 cfg0.N = delta (aC m d) (aD m d) (aW m d) (aM m d) (aU m d) :=
  (dats m 0 d).arrAt_eq_of_cover 6 _ (fun t _ => by
      rw [Value.flushed6]
      unfold out0_6
      rw [View.canon_unit_zero (S := S1024x768) hz]
      simp only [View.ld_unit_zero (S := S8x1024) hz, View.ld_unit_zero (S := S8x768) hz, View.ld_unit_zero (S := S1024x768) hz]
      funext j
      rw [View.read_apply]
      exact blk_s m d t _ _ (at_blk t j))
    fun i => ⟨pt (i 1), flush0_6 _, covered i⟩
theorem out7 : (dats m 0 d).arrAt 7 cfg0.N = newM (aC m d) (aD m d) (aM m d) :=
  (dats m 0 d).arrAt_eq_of_cover 7 _ (fun t _ => by
      rw [Value.flushed7]
      unfold out0_7
      rw [View.canon_unit_zero (S := S1024x768) hz]
      simp only [View.ld_unit_zero (S := S8x1024) hz, View.ld_unit_zero (S := S8x768) hz, View.ld_unit_zero (S := S1024x768) hz]
      funext j
      rw [View.read_apply]
      exact blk_m m d t _ _ (at_blk t j))
    fun i => ⟨pt (i 1), flush0_7 _, covered i⟩
theorem out8 : (dats m 0 d).arrAt 8 cfg0.N = newV (aC m d) (aD m d) (aU m d) :=
  (dats m 0 d).arrAt_eq_of_cover 8 _ (fun t _ => by
      rw [Value.flushed8]
      unfold out0_8
      rw [View.canon_unit_zero (S := S1024x768) hz]
      simp only [View.ld_unit_zero (S := S8x1024) hz, View.ld_unit_zero (S := S8x768) hz, View.ld_unit_zero (S := S1024x768) hz]
      funext j
      rw [View.read_apply]
      exact blk_v m d t _ _ (at_blk t j))
    fun i => ⟨pt (i 1), flush0_8 _, covered i⟩

/-! ## The reference's arrays -/

section Reference

open Cert.ReferenceAcmIdeal.Read

variable (X : Arr 8 1024) (Y : Arr 8 2304) (w v u : Arr 1024 2304)

theorem ref_act : val_main_v0 (F := Ideal) X = fun i => silu (X i) := by
  funext i
  pointwise [val_main_v0, val_main_call0_v5, val_main_call0_v4, val_main_call0_cst_0, val_main_call0_v3, val_main_call0_v2, val_main_call0_cst,
    val_main_call0_v1, val_main_call0_v0]
  rfl
theorem ref_g : val_main_v3 (F := Ideal) X Y = grad X Y := by
  funext i
  pointwise [val_main_v3, val_main_v2, ref_act]
  exact Finset.sum_congr rfl fun q _ => mul_comm _ _
theorem ref_m : val_main_v8 (F := Ideal) X Y v = newM X Y v := by
  funext i
  pointwise [val_main_v8, val_main_v7, val_main_v6, val_main_cst_0, val_main_v5, val_main_v4, val_main_cst, ref_g]
  rfl
theorem ref_v : val_main_v14 (F := Ideal) X Y u = newV X Y u := by
  funext i
  pointwise [val_main_v14, val_main_v13, val_main_v12, val_main_cst_2, val_main_v11, val_main_v10, val_main_v9, val_main_cst_1, ref_g]
  rfl
theorem ref_d : val_main_v27 (F := Ideal) X Y w v u = delta X Y w v u := by
  funext i
  pointwise [val_main_v27, val_main_v26, val_main_cst_7, val_main_v25, val_main_v24, val_main_v23, val_main_cst_6, val_main_v22, val_main_v21, val_main_v20,
    val_main_cst_5, val_main_v19, val_main_v18, val_main_v17, val_main_cst_4, val_main_v16, val_main_v15, val_main_cst_3, ref_m, ref_v]
  rfl

end Reference

theorem frame_ref : Cert.quiescent_ReferenceAcmIdeal := fun m g _ =>
  (θ_run Cert.ReferenceAcmIdeal.defs _ _).mono (fun r h => ⟨fun c => (h c).2.2.2.2, sem_eq_zero_of_no_sems (by decide) r.2⟩)
    (Cert.ReferenceAcmIdeal.Value.run (F := Ideal) m g)

/-- The call's arrays are the reference's. -/
theorem algebraic : Cert.algebraic_KernelAcmIdeal_ReferenceAcmIdeal := by
  intro m g m' g' _ hag
  refine ⟨fun c => (dats m 0 c).arrAt 5 cfg0.N, fun c => (dats m 0 c).arrAt 6 cfg0.N, fun c => (dats m 0 c).arrAt 7 cfg0.N,
    fun c => (dats m 0 c).arrAt 8 cfg0.N, Value.run_blocks m g,
    (θ_run Cert.ReferenceAcmIdeal.defs _ _).mono (fun r h d => ?_) (Cert.ReferenceAcmIdeal.Value.run (F := Ideal) m' g')⟩
  obtain ⟨a0, a1, a2, a3, a4⟩ := hag d
  obtain ⟨h0, h1, h2, h3, hk⟩ := h d
  rw [Cert.ReferenceAcmIdeal.Read.val_main_v3_eq, a0, a1] at h0
  rw [Cert.ReferenceAcmIdeal.Read.val_main_v27_eq, a0, a1, a2, a3, a4] at h1
  rw [Cert.ReferenceAcmIdeal.Read.val_main_v8_eq, a0, a1, a3] at h2
  rw [Cert.ReferenceAcmIdeal.Read.val_main_v14_eq, a0, a1, a4] at h3
  exact ⟨(h0.trans (ref_g _ _)).trans (out5 m d).symm, (h1.trans (ref_d _ _ _ _ _)).trans (out6 m d).symm,
    (h2.trans (ref_m _ _ _)).trans (out7 m d).symm, (h3.trans (ref_v _ _ _)).trans (out8 m d).symm, hk⟩

end Cert.Acm

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Claims
public import proofs.«01_k».proof.Proof.Dwo
public import proofs.«01_k».proof.Proof.Dwg
public import proofs.«01_k».proof.Proof.Dwu
public import proofs.«01_k».proof.Proof.Proj
public import proofs.«01_k».proof.Proof.Fout
public import proofs.«01_k».proof.Proof.Fin
public import proofs.«01_k».proof.Proof.Mdi
public import proofs.«01_k».proof.Proof.Mdo
public import proofs.«01_k».proof.Proof.Bwd2
public import proofs.«01_k».proof.Proof.Loss
public import proofs.«01_k».proof.Proof.Mix
public import proofs.«01_k».proof.Proof.Abm
public import proofs.«01_k».proof.Proof.Abf
public import proofs.«01_k».proof.Proof.Acf
public import proofs.«01_k».proof.Proof.Acm
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts,
  Cert.KernelDwo.Gen.facts, Cert.KernelDwoIdeal.Gen.facts, Cert.ReferenceDwoIdeal.Gen.facts,
  Cert.KernelDwg.Gen.facts, Cert.KernelDwgIdeal.Gen.facts, Cert.ReferenceDwgIdeal.Gen.facts,
  Cert.KernelDwu.Gen.facts, Cert.KernelDwuIdeal.Gen.facts, Cert.ReferenceDwuIdeal.Gen.facts,
  Cert.KernelMdo.Gen.facts, Cert.KernelMdoIdeal.Gen.facts, Cert.ReferenceMdoIdeal.Gen.facts,
  Cert.KernelMdi.Gen.facts, Cert.KernelMdiIdeal.Gen.facts, Cert.ReferenceMdiIdeal.Gen.facts,
  Cert.KernelFin.Gen.facts, Cert.KernelFinIdeal.Gen.facts, Cert.ReferenceFinIdeal.Gen.facts,
  Cert.KernelFout.Gen.facts, Cert.KernelFoutIdeal.Gen.facts, Cert.ReferenceFoutIdeal.Gen.facts,
  Cert.KernelProj.Gen.facts, Cert.KernelProjIdeal.Gen.facts, Cert.ReferenceProjIdeal.Gen.facts,
  Cert.Kernel2.Gen.facts, Cert.Kernel2Ideal.Gen.facts,
  Cert.KernelLoss.Gen.facts, Cert.KernelLossIdeal.Gen.facts, Cert.ReferenceLossIdeal.Gen.facts,
  Cert.KernelMix.Gen.facts, Cert.KernelMixIdeal.Gen.facts, Cert.ReferenceMixIdeal.Gen.facts,
  Cert.KernelAcm.Gen.facts, Cert.KernelAcmIdeal.Gen.facts, Cert.ReferenceAcmIdeal.Gen.facts,
  Cert.KernelAcf.Gen.facts, Cert.KernelAcfIdeal.Gen.facts, Cert.ReferenceAcfIdeal.Gen.facts,
  Cert.KernelAbm.Gen.facts, Cert.KernelAbmIdeal.Gen.facts, Cert.ReferenceAbmIdeal.Gen.facts,
  Cert.KernelAbf.Gen.facts, Cert.KernelAbfIdeal.Gen.facts, Cert.ReferenceAbfIdeal.Gen.facts,
  Cert.Pre_finite.Gen.facts, Cert.Pre_finite_loss.Gen.facts, Cert.On_gate_columns.Gen.facts,
  fun m g _ => Cert.Kernel.Gen.frame m g, fun m g _ => Cert.KernelIdeal.Gen.frame m g, fun m g _ => Cert.KernelIdeal.Gen.frame m g,
  Cert.Claims.frame_ref, fun m g _ => Cert.Claims.frame_ref m g trivial,
  fun m g _ => Cert.KernelDwo.Gen.frame m g, fun m g _ => Cert.KernelDwoIdeal.Gen.frame m g, Cert.Dwo.frame_ref,
  fun m g _ => Cert.KernelDwg.Gen.frame m g, fun m g _ => Cert.KernelDwgIdeal.Gen.frame m g, Cert.Dwg.frame_ref,
  fun m g _ => Cert.KernelDwu.Gen.frame m g, fun m g _ => Cert.KernelDwuIdeal.Gen.frame m g, Cert.Dwu.frame_ref,
  fun m g _ => Cert.KernelMdo.Gen.frame m g, fun m g _ => Cert.KernelMdoIdeal.Gen.frame m g, Cert.Mdo.frame_ref,
  fun m g _ => Cert.KernelMdi.Gen.frame m g, fun m g _ => Cert.KernelMdiIdeal.Gen.frame m g, Cert.Mdi.frame_ref,
  fun m g _ => Cert.KernelFin.Gen.frame m g, fun m g _ => Cert.KernelFinIdeal.Gen.frame m g, Cert.FwdIn.frame_ref,
  fun m g _ => Cert.KernelFout.Gen.frame m g, fun m g _ => Cert.KernelFoutIdeal.Gen.frame m g, Cert.FwdOut.frame_ref,
  fun m g _ => Cert.KernelProj.Gen.frame m g, fun m g _ => Cert.KernelProjIdeal.Gen.frame m g, Cert.MixIn.frame_ref,
  fun m g _ => Cert.Kernel2.Gen.frame m g, fun m g _ => Cert.Kernel2Ideal.Gen.frame m g, fun m g _ => Cert.Kernel2Ideal.Gen.frame m g,
  fun m g _ => Cert.KernelLoss.Gen.frame m g, fun m g _ => Cert.KernelLossIdeal.Gen.frame m g, fun m g _ => Cert.KernelLossIdeal.Gen.frame m g,
  Cert.Loss.frame_ref, fun m g _ => Cert.Loss.frame_ref m g trivial,
  fun m g _ => Cert.KernelMix.Gen.frame m g, fun m g _ => Cert.KernelMixIdeal.Gen.frame m g, Cert.MixOut.frame_ref,
  fun m g _ => Cert.KernelAcm.Gen.frame m g, fun m g _ => Cert.KernelAcmIdeal.Gen.frame m g, Cert.Acm.frame_ref,
  fun m g _ => Cert.KernelAcf.Gen.frame m g, fun m g _ => Cert.KernelAcfIdeal.Gen.frame m g, Cert.Acf.frame_ref,
  fun m g _ => Cert.KernelAbm.Gen.frame m g (Cert.Abm.ok_frame m), fun m g _ => Cert.KernelAbmIdeal.Gen.frame m g (Cert.Abm.ok m), Cert.Abm.frame_ref,
  fun m g _ => Cert.KernelAbf.Gen.frame m g (Cert.Abf.ok_frame m), fun m g _ => Cert.KernelAbfIdeal.Gen.frame m g (Cert.Abf.ok m), Cert.Abf.frame_ref,
  trivial, Cert.Claims.algebraic, trivial, Cert.Dwo.algebraic, trivial, Cert.Dwg.algebraic, trivial, Cert.Dwu.algebraic,
  trivial, Cert.Mdo.algebraic, trivial, Cert.Mdi.algebraic, trivial, Cert.FwdIn.algebraic, trivial, Cert.FwdOut.algebraic, trivial, Cert.MixIn.algebraic,
  trivial, Cert.Bwd2.algebraic, trivial, Cert.Loss.algebraic, trivial, Cert.MixOut.algebraic,
  trivial, Cert.Acm.algebraic, trivial, Cert.Acf.algebraic, trivial, Cert.Abm.algebraic, trivial, Cert.Abf.algebraic⟩

end Cert.Proof

end
